-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)) (v3 : (c : Dev Cert.KernelIdeal.nD) → Buf (Elt Ideal) ((c.tc : Thread Cert.KernelIdeal.nD Cert.KernelIdeal.τ).loc Cert.KernelIdeal.main_v62_3)) (v4 : (c : Dev Cert.KernelIdeal.nD) → Buf (Elt Ideal) ((c.tc : Thread Cert.KernelIdeal.nD Cert.KernelIdeal.τ).loc Cert.KernelIdeal.main_v62_4)) (v5 : (c : Dev Cert.KernelIdeal.nD) → Buf (Elt Ideal) ((c.tc : Thread Cert.KernelIdeal.nD Cert.KernelIdeal.τ).loc Cert.KernelIdeal.main_v62_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_v62_3) = v3 c
          ∧ r.2.mem ((c.tc : Thread Cert.KernelIdeal.nD Cert.KernelIdeal.τ).loc Cert.KernelIdeal.main_v62_4) = v4 c
          ∧ r.2.mem ((c.tc : Thread Cert.KernelIdeal.nD Cert.KernelIdeal.τ).loc Cert.KernelIdeal.main_v62_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_v161) = v3 c
          ∧ r.2.mem ((c.tc : Thread Cert.ReferenceIdeal.nD Cert.ReferenceIdeal.τ).loc Cert.ReferenceIdeal.main_v163) = v4 c
          ∧ r.2.mem ((c.tc : Thread Cert.ReferenceIdeal.nD Cert.ReferenceIdeal.τ).loc Cert.ReferenceIdeal.main_v165) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v18) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v18) = v1 c
          ∧ r.2.mem ((c.tc : Thread Cert.Reference15Ideal.nD Cert.Reference15Ideal.τ).loc Cert.Reference15Ideal.main_v33) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S2048x3200 : Shape := ⟨2, ![2048, 3200]⟩
abbrev S16x2048 : Shape := ⟨2, ![16, 2048]⟩
abbrev S64 : Shape := ⟨1, ![64]⟩
abbrev S2048x1024 : Shape := ⟨2, ![2048, 1024]⟩
abbrev S_ : Shape := ⟨0, ![]⟩

class Facts : Prop where
  bcast_S_S2048x3200 : S_.BroadcastsInDim S2048x3200 (![] : Fin 0 → Fin S2048x3200.rank)
  reducesTo_S2048x3200_S_d0_1 : S2048x3200.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S64 : S_.BroadcastsInDim S64 (![] : Fin 0 → Fin S64.rank)
  reducesTo_S64_S_d0 : S64.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x3200 .f32) (main_arg1 : FVec F S16x2048 .f32) (main_arg2 : FVec F S64 .f32) (main_arg3 : FVec F S64 .f32) (main_arg4 : FVec F S2048x1024 .f32) : IVec S_ 1 :=
  let main_v0 : FVec F S2048x3200 .f32 := Host.absf main_arg0
  let main_cst : FVec F S_ .f32 := constant S_ .f32 0x7F800000#32
  let main_v1 : FVec F S2048x3200 .f32 := broadcastInDim S2048x3200 ![] bcast_S_S2048x3200 main_cst
  let main_v2 : IVec S2048x3200 1 := cmpf .olt main_v0 main_v1
  let main_c : IVec S_ 1 := constantI S_ 1 1#1
  let main_v3 : IVec S_ 1 := (fun x v => Host.reduce IntOp.andi x v reducesTo_S2048x3200_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S2048x3200 : Shape := ⟨2, ![2048, 3200]⟩
abbrev S16x2048 : Shape := ⟨2, ![16, 2048]⟩
abbrev S64 : Shape := ⟨1, ![64]⟩
abbrev S2048x1024 : Shape := ⟨2, ![2048, 1024]⟩
abbrev S2048x16x64 : Shape := ⟨3, ![2048, 16, 64]⟩
abbrev S_ : Shape := ⟨0, ![]⟩
abbrev S2048x16 : Shape := ⟨2, ![2048, 16]⟩
abbrev S2048x16x1 : Shape := ⟨3, ![2048, 16, 1]⟩
abbrev S1x1x64 : Shape := ⟨3, ![1, 1, 64]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S2048x2048 : Shape := ⟨2, ![2048, 2048]⟩
abbrev S1x2048x2048 : Shape := ⟨3, ![1, 2048, 2048]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S2048x128 : Shape := ⟨2, ![2048, 128]⟩
abbrev S2x1x2048 : Shape := ⟨3, ![2, 1, 2048]⟩
abbrev S2x2048x128 : Shape := ⟨3, ![2, 2048, 128]⟩
abbrev S2x128x2048 : Shape := ⟨3, ![2, 128, 2048]⟩
abbrev S2x2048x1 : Shape := ⟨3, ![2, 2048, 1]⟩
abbrev S1x1x512 : Shape := ⟨3, ![1, 1, 512]⟩
abbrev S1x512 : Shape := ⟨2, ![1, 512]⟩
abbrev S128x512 : Shape := ⟨2, ![128, 512]⟩
abbrev S512x128 : Shape := ⟨2, ![512, 128]⟩
abbrev S512x1 : Shape := ⟨2, ![512, 1]⟩
abbrev S1x512x1 : Shape := ⟨3, ![1, 512, 1]⟩
abbrev S2048 : Shape := ⟨1, ![2048]⟩
abbrev S2048x1 : Shape := ⟨2, ![2048, 1]⟩
abbrev S1x2048x128 : Shape := ⟨3, ![1, 2048, 128]⟩
abbrev S128x2048 : Shape := ⟨2, ![128, 2048]⟩
abbrev S1x128x2048 : Shape := ⟨3, ![1, 128, 2048]⟩
abbrev S512x512 : Shape := ⟨2, ![512, 512]⟩
abbrev S1x512x128 : Shape := ⟨3, ![1, 512, 128]⟩
abbrev S512 : Shape := ⟨1, ![512]⟩
abbrev S1x128x512 : Shape := ⟨3, ![1, 128, 512]⟩
abbrev S1024x128 : Shape := ⟨2, ![1024, 128]⟩
abbrev S1024x512 : Shape := ⟨2, ![1024, 512]⟩
abbrev S1x1024x1 : Shape := ⟨3, ![1, 1024, 1]⟩
abbrev S1024x1 : Shape := ⟨2, ![1024, 1]⟩
abbrev S1x128x1024 : Shape := ⟨3, ![1, 128, 1024]⟩
abbrev S128x1024 : Shape := ⟨2, ![128, 1024]⟩
abbrev S1x1024x128 : Shape := ⟨3, ![1, 1024, 128]⟩
abbrev S1536x128 : Shape := ⟨2, ![1536, 128]⟩
abbrev S1536x512 : Shape := ⟨2, ![1536, 512]⟩
abbrev S1x1536x1 : Shape := ⟨3, ![1, 1536, 1]⟩
abbrev S1536x1 : Shape := ⟨2, ![1536, 1]⟩
abbrev S1x128x1536 : Shape := ⟨3, ![1, 128, 1536]⟩
abbrev S128x1536 : Shape := ⟨2, ![128, 1536]⟩
abbrev S1x1536x128 : Shape := ⟨3, ![1, 1536, 128]⟩
abbrev S128 : Shape := ⟨1, ![128]⟩
abbrev S8x128 : Shape := ⟨2, ![8, 128]⟩
abbrev S128x128 : Shape := ⟨2, ![128, 128]⟩

abbrev nBuf : Space → Nat
  | .hbm => 86
  | .vmem => 34
  | .smem => 0
  | _ => 0

abbrev bufTy : (tb : Table) → Fin (tcTables nBuf tb) → BufTy
  | .hbm, ⟨0, _⟩ => ⟨S2048x3200, .f32⟩
  | .hbm, ⟨1, _⟩ => ⟨S16x2048, .f32⟩
  | .hbm, ⟨2, _⟩ => ⟨S64, .f32⟩
  | .hbm, ⟨3, _⟩ => ⟨S64, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x16x64, .f32⟩
  | .hbm, ⟨8, _⟩ => ⟨S2048x16x64, .f32⟩
  | .hbm, ⟨9, _⟩ => ⟨S_, .f32⟩
  | .hbm, ⟨10, _⟩ => ⟨S2048x16, .f32⟩
  | .hbm, ⟨11, _⟩ => ⟨S2048x16x1, .f32⟩
  | .hbm, ⟨12, _⟩ => ⟨S_, .f32⟩
  | .hbm, ⟨13, _⟩ => ⟨S2048x16x1, .f32⟩
  | .hbm, ⟨14, _⟩ => ⟨S2048x16x1, .f32⟩
  | .hbm, ⟨15, _⟩ => ⟨S_, .f32⟩
  | .hbm, ⟨16, _⟩ => ⟨S2048x16x1, .f32⟩
  | .hbm, ⟨17, _⟩ => ⟨S2048x16x1, .f32⟩
  | .hbm, ⟨18, _⟩ => ⟨S2048x16x1, .f32⟩
  | .hbm, ⟨19, _⟩ => ⟨S2048x16x64, .f32⟩
  | .hbm, ⟨20, _⟩ => ⟨S2048x16x64, .f32⟩
  | .hbm, ⟨21, _⟩ => ⟨S1x1x64, .f32⟩
  | .hbm, ⟨22, _⟩ => ⟨S2048x16x64, .f32⟩
  | .hbm, ⟨23, _⟩ => ⟨S2048x16x64, .f32⟩
  | .hbm, ⟨24, _⟩ => ⟨S2048x16x64, .f32⟩
  | .hbm, ⟨25, _⟩ => ⟨S2048x16x64, .f32⟩
  | .hbm, ⟨26, _⟩ => ⟨S_, .f32⟩
  | .hbm, ⟨27, _⟩ => ⟨S2048x16, .f32⟩
  | .hbm, ⟨28, _⟩ => ⟨S2048x16x1, .f32⟩
  | .hbm, ⟨29, _⟩ => ⟨S_, .f32⟩
  | .hbm, ⟨30, _⟩ => ⟨S2048x16x1, .f32⟩
  | .hbm, ⟨31, _⟩ => ⟨S2048x16x1, .f32⟩
  | .hbm, ⟨32, _⟩ => ⟨S_, .f32⟩
  | .hbm, ⟨33, _⟩ => ⟨S2048x16x1, .f32⟩
  | .hbm, ⟨34, _⟩ => ⟨S2048x16x1, .f32⟩
  | .hbm, ⟨35, _⟩ => ⟨S2048x16x1, .f32⟩
  | .hbm, ⟨36, _⟩ => ⟨S2048x16x64, .f32⟩
  | .hbm, ⟨37, _⟩ => ⟨S2048x16x64, .f32⟩
  | .hbm, ⟨38, _⟩ => ⟨S1x1x64, .f32⟩
  | .hbm, ⟨39, _⟩ => ⟨S2048x16x64, .f32⟩
  | .hbm, ⟨40, _⟩ => ⟨S2048x16x64, .f32⟩
  | .hbm, ⟨41, _⟩ => ⟨S16x2048x2048, .f32⟩
  | .hbm, ⟨42, _⟩ => ⟨S_, .f32⟩
  | .hbm, ⟨43, _⟩ => ⟨S16x2048x2048, .f32⟩
  | .hbm, ⟨44, _⟩ => ⟨S16x2048x2048, .f32⟩
  | .hbm, ⟨45, _⟩ => ⟨S16x2048x1, .f32⟩
  | .hbm, ⟨46, _⟩ => ⟨S16x2048x2048, .f32⟩
  | .hbm, ⟨47, _⟩ => ⟨S16x2048x2048, .f32⟩
  | .hbm, ⟨48, _⟩ => ⟨S16x1x2048, .f32⟩
  | .hbm, ⟨49, _⟩ => ⟨S16x2048x2048, .f32⟩
  | .hbm, ⟨50, _⟩ => ⟨S16x2048x2048, .f32⟩
  | .hbm, ⟨51, _⟩ => ⟨S2048x2048, .i32⟩
  | .hbm, ⟨52, _⟩ => ⟨S2048x2048, .i32⟩
  | .hbm, ⟨53, _⟩ => ⟨S2048x2048, .i1⟩
  | .hbm, ⟨54, _⟩ => ⟨S1x2048x2048, .i1⟩
  | .hbm, ⟨55, _⟩ => ⟨S_, .f32⟩
  | .hbm, ⟨56, _⟩ => ⟨S_, .f32⟩
  | .hbm, ⟨57, _⟩ => ⟨S16x2048x2048, .i1⟩
  | .hbm, ⟨58, _⟩ => ⟨S16x2048x2048, .f32⟩
  | .hbm, ⟨59, _⟩ => ⟨S16x2048x2048, .f32⟩
  | .hbm, ⟨60, _⟩ => ⟨S_, .f32⟩
  | .hbm, ⟨61, _⟩ => ⟨S16x2048, .f32⟩
  | .hbm, ⟨62, _⟩ => ⟨S16x2048x1, .f32⟩
  | .hbm, ⟨63, _⟩ => ⟨S16x2048x2048, .f32⟩
  | .hbm, ⟨64, _⟩ => ⟨S16x2048x2048, .f32⟩
  | .hbm, ⟨65, _⟩ => ⟨S16x2048x2048, .f32⟩
  | .hbm, ⟨66, _⟩ => ⟨S_, .f32⟩
  | .hbm, ⟨67, _⟩ => ⟨S16x2048, .f32⟩
  | .hbm, ⟨68, _⟩ => ⟨S16x2048, .f32⟩
  | .hbm, ⟨69, _⟩ => ⟨S16x2048, .f32⟩
  | .hbm, ⟨70, _⟩ => ⟨S16x1x2048, .f32⟩
  | .hbm, ⟨71, _⟩ => ⟨S1x64, .f32⟩
  | .hbm, ⟨72, _⟩ => ⟨S1x1x1x64, .f32⟩
  | .hbm, ⟨73, _⟩ => ⟨S1x1x2x64, .f32⟩
  | .hbm, ⟨74, _⟩ => ⟨S1x128, .f32⟩
  | .hbm, ⟨75, _⟩ => ⟨S1x64, .f32⟩
  | .hbm, ⟨76, _⟩ => ⟨S1x1x1x64, .f32⟩
  | .hbm, ⟨77, _⟩ => ⟨S1x1x2x64, .f32⟩
  | .hbm, ⟨78, _⟩ => ⟨S1x128, .f32⟩
  | .hbm, ⟨79, _⟩ => ⟨S16x1x2048, .f32⟩
  | .hbm, ⟨80, _⟩ => ⟨S2048x1024, .bf16⟩
  | .hbm, ⟨81, _⟩ => ⟨S2048x1024, .bf16⟩
  | .hbm, ⟨82, _⟩ => ⟨S2048x1024, .bf16⟩
  | .hbm, ⟨83, _⟩ => ⟨S16x1x2048, .f32⟩
  | .hbm, ⟨84, _⟩ => ⟨S1x128, .f32⟩
  | .hbm, ⟨85, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2x1x2048, .f32⟩
  | .local _ .vmem, ⟨7, _⟩ => ⟨S2x1x2048, .f32⟩
  | .local _ .vmem, ⟨8, _⟩ => ⟨S1x128, .f32⟩
  | .local _ .vmem, ⟨9, _⟩ => ⟨S1x128, .f32⟩
  | .local _ .vmem, ⟨10, _⟩ => ⟨S2x1x2048, .f32⟩
  | .local _ .vmem, ⟨11, _⟩ => ⟨S2x1x2048, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2x1x2048, .f32⟩
  | .local _ .vmem, ⟨21, _⟩ => ⟨S2x1x2048, .f32⟩
  | .local _ .vmem, ⟨22, _⟩ => ⟨S1x128, .f32⟩
  | .local _ .vmem, ⟨23, _⟩ => ⟨S1x128, .f32⟩
  | .local _ .vmem, ⟨24, _⟩ => ⟨S2x2048x128, .bf16⟩
  | .local _ .vmem, ⟨25, _⟩ => ⟨S2048x128, .bf16⟩
  | .local _ .vmem, ⟨26, _⟩ => ⟨S2x128x2048, .bf16⟩
  | .local _ .vmem, ⟨27, _⟩ => ⟨S2048x128, .bf16⟩
  | .local _ .vmem, ⟨28, _⟩ => ⟨S2x2048x128, .bf16⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2x2048x128, .f32⟩
  | .local _ .vmem, ⟨33, _⟩ => ⟨S2x2048x1, .f32⟩
  | _, _ => ⟨S2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62_0 : Ref sig .tc := ⟨.hbm, 80, rfl⟩
abbrev main_v62_1 : Ref sig .tc := ⟨.hbm, 81, rfl⟩
abbrev main_v62_2 : Ref sig .tc := ⟨.hbm, 82, rfl⟩
abbrev main_v62_3 : Ref sig .tc := ⟨.hbm, 83, rfl⟩
abbrev main_v62_4 : Ref sig .tc := ⟨.hbm, 84, rfl⟩
abbrev main_v62_5 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1064 : BitVec 1 := Scalar.cmpi .eq arg0 c0_i32
  let v1130 : BitVec 32 := Scalar.extui v1064
  let c0_i32_684 : BitVec 32 := 0#32
  let v1131 : BitVec 1 := Scalar.cmpi .ne v1130 c0_i32_684
  v1131

def k0_cond2 (i : grid0.Coords) : BitVec 1 :=
  let arg0 : BitVec 32 := BitVec.ofNat 32 (i 0).val
  let c0_i32 : BitVec 32 := 0#32
  let v1064 : BitVec 1 := Scalar.cmpi .eq arg0 c0_i32
  let v_true : BitVec 1 := 1#1
  let v1132 : BitVec 1 := Scalar.xori v1064 v_true
  let v1133 : BitVec 32 := Scalar.extui v1132
  let c0_i32_685 : BitVec 32 := 0#32
  let v1134 : BitVec 1 := Scalar.cmpi .ne v1133 c0_i32_685
  v1134

def k0_cond5 (i : grid0.Coords) : BitVec 1 :=
  let arg0 : BitVec 32 := BitVec.ofNat 32 (i 0).val
  let c7_i32 : BitVec 32 := 7#32
  let v1065 : BitVec 1 := Scalar.cmpi .eq arg0 c7_i32
  let v1309 : BitVec 32 := Scalar.extui v1065
  let c0_i32_777 : BitVec 32 := 0#32
  let v1310 : BitVec 1 := Scalar.cmpi .ne v1309 c0_i32_777
  v1310

def k0_cond3 (i : grid0.Coords) : BitVec 1 :=
  let arg0 : BitVec 32 := BitVec.ofNat 32 (i 0).val
  let c0_i32 : BitVec 32 := 0#32
  let v1064 : BitVec 1 := Scalar.cmpi .eq arg0 c0_i32
  let v1197 : BitVec 32 := Scalar.extui v1064
  let c0_i32_706 : BitVec 32 := 0#32
  let v1198 : BitVec 1 := Scalar.cmpi .ne v1197 c0_i32_706
  v1198

def k0_cond4 (i : grid0.Coords) : BitVec 1 :=
  let arg0 : BitVec 32 := BitVec.ofNat 32 (i 0).val
  let c0_i32 : BitVec 32 := 0#32
  let v1064 : BitVec 1 := Scalar.cmpi .eq arg0 c0_i32
  let true_707 : BitVec 1 := 1#1
  let v1199 : BitVec 1 := Scalar.xori v1064 true_707
  let v1200 : BitVec 32 := Scalar.extui v1199
  let c0_i32_708 : BitVec 32 := 0#32
  let v1201 : BitVec 1 := Scalar.cmpi .ne v1200 c0_i32_708
  v1201

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S2048x3200 : Shape := ⟨2, ![2048, 3200]⟩
abbrev S16x2048 : Shape := ⟨2, ![16, 2048]⟩
abbrev S64 : Shape := ⟨1, ![64]⟩
abbrev S2048x1024 : Shape := ⟨2, ![2048, 1024]⟩
abbrev S2048x16x64 : Shape := ⟨3, ![2048, 16, 64]⟩
abbrev S_ : Shape := ⟨0, ![]⟩
abbrev S2048x16 : Shape := ⟨2, ![2048, 16]⟩
abbrev S2048x16x1 : Shape := ⟨3, ![2048, 16, 1]⟩
abbrev S1x1x64 : Shape := ⟨3, ![1, 1, 64]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S2048x2048 : Shape := ⟨2, ![2048, 2048]⟩
abbrev S1x2048x2048 : Shape := ⟨3, ![1, 2048, 2048]⟩
abbrev S16x64x2048 : Shape := ⟨3, ![16, 64, 2048]⟩
abbrev S16x2048x64 : Shape := ⟨3, ![16, 2048, 64]⟩
abbrev S128 : Shape := ⟨1, ![128]⟩
abbrev S1x128 : Shape := ⟨2, ![1, 128]⟩

abbrev nBuf : Space → Nat
  | .hbm => 215
  | .vmem => 0
  | .smem => 0
  | _ => 0

abbrev hbmTy0_0 (i : Nat) : BufTy := match i % 128 with
  | 0 => ⟨S2048x3200, .f32⟩
  | 1 => ⟨S16x2048, .f32⟩
  | 2 => ⟨S64, .f32⟩
  | 3 => ⟨S64, .f32⟩
  | 4 => ⟨S2048x1024, .f32⟩
  | 5 => ⟨S2048x1024, .f32⟩
  | 6 => ⟨S2048x1024, .f32⟩
  | 7 => ⟨S2048x1024, .f32⟩
  | 8 => ⟨S2048x16x64, .f32⟩
  | 9 => ⟨S2048x16x64, .f32⟩
  | 10 => ⟨S_, .f32⟩
  | 11 => ⟨S2048x16, .f32⟩
  | 12 => ⟨S2048x16x1, .f32⟩
  | 13 => ⟨S_, .f32⟩
  | 14 => ⟨S2048x16x1, .f32⟩
  | 15 => ⟨S2048x16x1, .f32⟩
  | 16 => ⟨S_, .f32⟩
  | 17 => ⟨S2048x16x1, .f32⟩
  | 18 => ⟨S2048x16x1, .f32⟩
  | 19 => ⟨S2048x16x1, .f32⟩
  | 20 => ⟨S2048x16x1, .f32⟩
  | 21 => ⟨S_, .f32⟩
  | 22 => ⟨S2048x16x1, .f32⟩
  | 23 => ⟨S2048x16x1, .f32⟩
  | 24 => ⟨S2048x16x64, .f32⟩
  | 25 => ⟨S2048x16x64, .f32⟩
  | 26 => ⟨S1x1x64, .f32⟩
  | 27 => ⟨S2048x16x64, .f32⟩
  | 28 => ⟨S2048x16x64, .f32⟩
  | 29 => ⟨S2048x16x64, .f32⟩
  | 30 => ⟨S2048x16x64, .f32⟩
  | 31 => ⟨S_, .f32⟩
  | 32 => ⟨S2048x16, .f32⟩
  | 33 => ⟨S2048x16x1, .f32⟩
  | 34 => ⟨S_, .f32⟩
  | 35 => ⟨S2048x16x1, .f32⟩
  | 36 => ⟨S2048x16x1, .f32⟩
  | 37 => ⟨S_, .f32⟩
  | 38 => ⟨S2048x16x1, .f32⟩
  | 39 => ⟨S2048x16x1, .f32⟩
  | 40 => ⟨S2048x16x1, .f32⟩
  | 41 => ⟨S2048x16x1, .f32⟩
  | 42 => ⟨S_, .f32⟩
  | 43 => ⟨S2048x16x1, .f32⟩
  | 44 => ⟨S2048x16x1, .f32⟩
  | 45 => ⟨S2048x16x64, .f32⟩
  | 46 => ⟨S2048x16x64, .f32⟩
  | 47 => ⟨S1x1x64, .f32⟩
  | 48 => ⟨S2048x16x64, .f32⟩
  | 49 => ⟨S2048x16x64, .f32⟩
  | 50 => ⟨S16x2048x2048, .f32⟩
  | 51 => ⟨S_, .f32⟩
  | 52 => ⟨S16x2048x2048, .f32⟩
  | 53 => ⟨S16x2048x2048, .f32⟩
  | 54 => ⟨S16x2048x1, .f32⟩
  | 55 => ⟨S16x2048x2048, .f32⟩
  | 56 => ⟨S16x2048x2048, .f32⟩
  | 57 => ⟨S16x1x2048, .f32⟩
  | 58 => ⟨S16x2048x2048, .f32⟩
  | 59 => ⟨S16x2048x2048, .f32⟩
  | 60 => ⟨S2048x2048, .i32⟩
  | 61 => ⟨S2048x2048, .i32⟩
  | 62 => ⟨S2048x2048, .i1⟩
  | 63 => ⟨S1x2048x2048, .i1⟩
  | 64 => ⟨S_, .f32⟩
  | 65 => ⟨S_, .f32⟩
  | 66 => ⟨S16x2048x2048, .i1⟩
  | 67 => ⟨S16x2048x2048, .f32⟩
  | 68 => ⟨S16x2048x2048, .f32⟩
  | 69 => ⟨S_, .f32⟩
  | 70 => ⟨S16x2048x2048, .f32⟩
  | 71 => ⟨S_, .f32⟩
  | 72 => ⟨S16x2048, .f32⟩
  | 73 => ⟨S16x2048x1, .f32⟩
  | 74 => ⟨S16x2048x2048, .f32⟩
  | 75 => ⟨S16x2048x2048, .i1⟩
  | 76 => ⟨S16x2048x2048, .f32⟩
  | 77 => ⟨S_, .f32⟩
  | 78 => ⟨S16x2048, .f32⟩
  | 79 => ⟨S_, .f32⟩
  | 80 => ⟨S16x2048, .f32⟩
  | 81 => ⟨S16x2048, .f32⟩
  | 82 => ⟨S_, .f32⟩
  | 83 => ⟨S16x2048, .f32⟩
  | 84 => ⟨S16x2048, .i1⟩
  | 85 => ⟨S_, .f32⟩
  | 86 => ⟨S16x2048, .f32⟩
  | 87 => ⟨S16x2048, .i1⟩
  | 88 => ⟨S_, .f32⟩
  | 89 => ⟨S16x2048, .f32⟩
  | 90 => ⟨S_, .f32⟩
  | 91 => ⟨S16x2048, .f32⟩
  | 92 => ⟨S_, .f32⟩
  | 93 => ⟨S16x2048, .f32⟩
  | 94 => ⟨S16x2048, .f32⟩
  | 95 => ⟨S16x2048, .f32⟩
  | 96 => ⟨S16x2048x1, .f32⟩
  | 97 => ⟨S16x2048x2048, .f32⟩
  | 98 => ⟨S16x2048x2048, .f32⟩
  | 99 => ⟨S16x2048x2048, .f32⟩
  | 100 => ⟨S_, .f32⟩
  | 101 => ⟨S16x2048, .f32⟩
  | 102 => ⟨S16x2048x1, .f32⟩
  | 103 => ⟨S16x2048x2048, .f32⟩
  | 104 => ⟨S16x2048x2048, .f32⟩
  | 105 => ⟨S16x2048x1, .f32⟩
  | 106 => ⟨S_, .f32⟩
  | 107 => ⟨S16x2048x1, .f32⟩
  | 108 => ⟨S16x2048x1, .f32⟩
  | 109 => ⟨S2048x16x64, .f32⟩
  | 110 => ⟨S16x64x2048, .f32⟩
  | 111 => ⟨S2048x16x64, .f32⟩
  | 112 => ⟨S2048x1024, .f32⟩
  | 113 => ⟨S2048x16x64, .f32⟩
  | 114 => ⟨S16x64x2048, .f32⟩
  | 115 => ⟨S16x2048x2048, .f32⟩
  | 116 => ⟨S16x64x2048, .f32⟩
  | 117 => ⟨S2048x16x64, .f32⟩
  | 118 => ⟨S2048x1024, .f32⟩
  | 119 => ⟨S16x2048x2048, .f32⟩
  | 120 => ⟨S16x2048x2048, .f32⟩
  | 121 => ⟨S16x2048x2048, .f32⟩
  | 122 => ⟨S_, .f32⟩
  | 123 => ⟨S16x2048, .f32⟩
  | 124 => ⟨S16x2048x1, .f32⟩
  | 125 => ⟨S16x2048x1, .f32⟩
  | 126 => ⟨S16x2048x2048, .f32⟩
  | 127 => ⟨S16x2048x2048, .f32⟩
  | _ => ⟨S2048x3200, .f32⟩

abbrev hbmTy0_1 (i : Nat) : BufTy := match i % 128 with
  | 0 => ⟨S_, .f32⟩
  | 1 => ⟨S16x2048, .f32⟩
  | 2 => ⟨S16x2048x2048, .f32⟩
  | 3 => ⟨S16x2048x2048, .f32⟩
  | 4 => ⟨S16x2048x2048, .f32⟩
  | 5 => ⟨S_, .f32⟩
  | 6 => ⟨S16x2048x2048, .f32⟩
  | 7 => ⟨S16x2048x2048, .f32⟩
  | 8 => ⟨S16x2048x2048, .f32⟩
  | 9 => ⟨S_, .f32⟩
  | 10 => ⟨S16x2048, .f32⟩
  | 11 => ⟨S16x1x2048, .f32⟩
  | 12 => ⟨S_, .f32⟩
  | 13 => ⟨S16x2048, .f32⟩
  | 14 => ⟨S_, .f32⟩
  | 15 => ⟨S16x2048, .f32⟩
  | 16 => ⟨S16x2048x1, .f32⟩
  | 17 => ⟨S_, .f32⟩
  | 18 => ⟨S16x2048, .f32⟩
  | 19 => ⟨S16x2048, .f32⟩
  | 20 => ⟨S_, .f32⟩
  | 21 => ⟨S16x2048x2048, .f32⟩
  | 22 => ⟨S16x2048x2048, .f32⟩
  | 23 => ⟨S16x2048x64, .f32⟩
  | 24 => ⟨S2048x16x64, .f32⟩
  | 25 => ⟨S16x2048x64, .f32⟩
  | 26 => ⟨S2048x16x64, .f32⟩
  | 27 => ⟨S2048x16x64, .f32⟩
  | 28 => ⟨S_, .f32⟩
  | 29 => ⟨S64, .f32⟩
  | 30 => ⟨S1x1x64, .f32⟩
  | 31 => ⟨S2048x16x64, .f32⟩
  | 32 => ⟨S2048x16x64, .f32⟩
  | 33 => ⟨S_, .f32⟩
  | 34 => ⟨S64, .f32⟩
  | 35 => ⟨S2048x16x64, .f32⟩
  | 36 => ⟨S_, .f32⟩
  | 37 => ⟨S2048x16, .f32⟩
  | 38 => ⟨S2048x16x1, .f32⟩
  | 39 => ⟨S2048x16x64, .f32⟩
  | 40 => ⟨S2048x16x64, .f32⟩
  | 41 => ⟨S2048x16x1, .f32⟩
  | 42 => ⟨S_, .f32⟩
  | 43 => ⟨S2048x16x1, .f32⟩
  | 44 => ⟨S2048x16x1, .f32⟩
  | 45 => ⟨S_, .f32⟩
  | 46 => ⟨S2048x16, .f32⟩
  | 47 => ⟨S2048x16x64, .f32⟩
  | 48 => ⟨S2048x16x64, .f32⟩
  | 49 => ⟨S2048x16x64, .f32⟩
  | 50 => ⟨S2048x16x64, .f32⟩
  | 51 => ⟨S2048x16x64, .f32⟩
  | 52 => ⟨S2048x1024, .f32⟩
  | 53 => ⟨S2048x16x64, .f32⟩
  | 54 => ⟨S_, .f32⟩
  | 55 => ⟨S64, .f32⟩
  | 56 => ⟨S1x1x64, .f32⟩
  | 57 => ⟨S2048x16x64, .f32⟩
  | 58 => ⟨S2048x16x64, .f32⟩
  | 59 => ⟨S_, .f32⟩
  | 60 => ⟨S64, .f32⟩
  | 61 => ⟨S2048x16x64, .f32⟩
  | 62 => ⟨S_, .f32⟩
  | 63 => ⟨S2048x16, .f32⟩
  | 64 => ⟨S2048x16x1, .f32⟩
  | 65 => ⟨S2048x16x64, .f32⟩
  | 66 => ⟨S2048x16x64, .f32⟩
  | 67 => ⟨S2048x16x1, .f32⟩
  | 68 => ⟨S_, .f32⟩
  | 69 => ⟨S2048x16x1, .f32⟩
  | 70 => ⟨S2048x16x1, .f32⟩
  | 71 => ⟨S_, .f32⟩
  | 72 => ⟨S2048x16, .f32⟩
  | 73 => ⟨S2048x16x64, .f32⟩
  | 74 => ⟨S2048x16x64, .f32⟩
  | 75 => ⟨S2048x16x64, .f32⟩
  | 76 => ⟨S2048x16x64, .f32⟩
  | 77 => ⟨S2048x16x64, .f32⟩
  | 78 => ⟨S2048x1024, .f32⟩
  | 79 => ⟨S2048x1024, .bf16⟩
  | 80 => ⟨S2048x1024, .bf16⟩
  | 81 => ⟨S2048x1024, .bf16⟩
  | 82 => ⟨S16x1x2048, .f32⟩
  | 83 => ⟨S128, .f32⟩
  | 84 => ⟨S1x128, .f32⟩
  | 85 => ⟨S128, .f32⟩
  | 86 => ⟨S1x128, .f32⟩
  | _ => ⟨S2048x3200, .f32⟩

abbrev hbmTy (i : Nat) : BufTy := match i / 128 with
  | 0 => hbmTy0_0 i
  | 1 => hbmTy0_1 i
  | _ => ⟨S2048x3200, .f32⟩

abbrev bufTy : (tb : Table) → Fin (tcTables nBuf tb) → BufTy
  | .hbm, ⟨i, _⟩ => hbmTy i
  | _, _ => ⟨S2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_call0_v0 : Ref sig .tc := ⟨.hbm, 65, rfl⟩
abbrev main_v50_1 : Ref sig .tc := ⟨.hbm, 66, rfl⟩
abbrev main_call0_v2 : Ref sig .tc := ⟨.hbm, 67, rfl⟩
abbrev main_v50_0 : Ref sig .tc := ⟨.hbm, 68, rfl⟩
abbrev main_call0_cst : Ref sig .tc := ⟨.hbm, 69, rfl⟩
abbrev main_v50_2 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_cst_15 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_17 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_18 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_19 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_20 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_call1_cst : Ref sig .tc := ⟨.hbm, 133, rfl⟩
abbrev main_call1_v0 : Ref sig .tc := ⟨.hbm, 134, rfl⟩
abbrev main_v101 : Ref sig .tc := ⟨.hbm, 135, rfl⟩
abbrev main_v102 : Ref sig .tc := ⟨.hbm, 136, rfl⟩
abbrev main_cst_21 : Ref sig .tc := ⟨.hbm, 137, rfl⟩
abbrev main_v103 : Ref sig .tc := ⟨.hbm, 138, rfl⟩
abbrev main_v104 : Ref sig .tc := ⟨.hbm, 139, rfl⟩
abbrev main_cst_22 : Ref sig .tc := ⟨.hbm, 140, rfl⟩
abbrev main_v105 : Ref sig .tc := ⟨.hbm, 141, rfl⟩
abbrev main_cst_23 : Ref sig .tc := ⟨.hbm, 142, rfl⟩
abbrev main_v106 : Ref sig .tc := ⟨.hbm, 143, rfl⟩
abbrev main_v107 : Ref sig .tc := ⟨.hbm, 144, rfl⟩
abbrev main_cst_24 : Ref sig .tc := ⟨.hbm, 145, rfl⟩
abbrev main_v108 : Ref sig .tc := ⟨.hbm, 146, rfl⟩
abbrev main_v109 : Ref sig .tc := ⟨.hbm, 147, rfl⟩
abbrev main_cst_25 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_26 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_27 : Ref sig .tc := ⟨.hbm, 161, rfl⟩
abbrev main_v121 : Ref sig .tc := ⟨.hbm, 162, rfl⟩
abbrev main_v122 : Ref sig .tc := ⟨.hbm, 163, rfl⟩
abbrev main_cst_28 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_29 : Ref sig .tc := ⟨.hbm, 170, rfl⟩
abbrev main_v128 : Ref sig .tc := ⟨.hbm, 171, rfl⟩
abbrev main_v129 : Ref sig .tc := ⟨.hbm, 172, rfl⟩
abbrev main_cst_30 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_cst_31 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_32 : Ref sig .tc := ⟨.hbm, 187, rfl⟩
abbrev main_v142 : Ref sig .tc := ⟨.hbm, 188, rfl⟩
abbrev main_v143 : Ref sig .tc := ⟨.hbm, 189, rfl⟩
abbrev main_cst_33 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_34 : Ref sig .tc := ⟨.hbm, 196, rfl⟩
abbrev main_v149 : Ref sig .tc := ⟨.hbm, 197, rfl⟩
abbrev main_v150 : Ref sig .tc := ⟨.hbm, 198, rfl⟩
abbrev main_cst_35 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩

abbrev nD : Nat := 1
abbrev τ : Topo := Topo.v7x

variable {F : FTy → Type} [FloatOps F]
-- ==== Kernel2.lean ====
abbrev S2048x1024 : Shape := ⟨2, ![2048, 1024]⟩
abbrev S4096x1024 : Shape := ⟨2, ![4096, 1024]⟩
abbrev S2048x4096 : Shape := ⟨2, ![2048, 4096]⟩
abbrev S512x1024 : Shape := ⟨2, ![512, 1024]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .f32⟩
  | .hbm, ⟨3, _⟩ => ⟨S2048x4096, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S4096x1024, .f32⟩
  | .hbm, ⟨16, _⟩ => ⟨S2048x1024, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S2048x4096 : Shape := ⟨2, ![2048, 4096]⟩
abbrev S2048x1024 : Shape := ⟨2, ![2048, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S1024x4096, .f32⟩
  | .hbm, ⟨8, _⟩ => ⟨S4096x1024, .f32⟩
  | .hbm, ⟨9, _⟩ => ⟨S4x1024x1024, .f32⟩
  | .hbm, ⟨10, _⟩ => ⟨S4x1024x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S2048x1024 : Shape := ⟨2, ![2048, 1024]⟩
abbrev S2048x4096 : Shape := ⟨2, ![2048, 4096]⟩
abbrev S4x1024x1024 : Shape := ⟨3, ![4, 1024, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x1024 : Shape := ⟨2, ![2048, 1024]⟩
abbrev S4x1024x1024 : Shape := ⟨3, ![4, 1024, 1024]⟩
abbrev S2048x4096 : Shape := ⟨2, ![2048, 4096]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2048x4096, .f32⟩
  | .hbm, ⟨3, _⟩ => ⟨S2048x4096, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x1024 : Shape := ⟨2, ![2048, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2048x1024, .f32⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S2048x1024 : Shape := ⟨2, ![2048, 1024]⟩
abbrev S3200x1024 : Shape := ⟨2, ![3200, 1024]⟩
abbrev S2048x3200 : Shape := ⟨2, ![2048, 3200]⟩
abbrev S640x1024 : Shape := ⟨2, ![640, 1024]⟩
abbrev S2048x640 : Shape := ⟨2, ![2048, 640]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S3200x1024, .bf16⟩
  | .hbm, ⟨2, _⟩ => ⟨S2048x3200, .f32⟩
  | .local _ .vmem, ⟨0, _⟩ => ⟨S2048x1024, .bf16⟩
  | .local _ .vmem, ⟨1, _⟩ => ⟨S640x1024, .bf16⟩
  | .local _ .vmem, ⟨2, _⟩ => ⟨S640x1024, .bf16⟩
  | .local _ .vmem, ⟨3, _⟩ => ⟨S2048x640, .f32⟩
  | .local _ .vmem, ⟨4, _⟩ => ⟨S2048x640, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S3200x1024 : Shape := ⟨2, ![3200, 1024]⟩
abbrev S1024x3200 : Shape := ⟨2, ![1024, 3200]⟩
abbrev S2048x3200 : Shape := ⟨2, ![2048, 3200]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3200x1024, .bf16⟩
  | .hbm, ⟨2, _⟩ => ⟨S2048x1024, .f32⟩
  | .hbm, ⟨3, _⟩ => ⟨S3200x1024, .f32⟩
  | .hbm, ⟨4, _⟩ => ⟨S1024x3200, .f32⟩
  | .hbm, ⟨5, _⟩ => ⟨S2048x3200, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S2048x3200 : Shape := ⟨2, ![2048, 3200]⟩
abbrev S2048x1024 : Shape := ⟨2, ![2048, 1024]⟩
abbrev S3200x1024 : Shape := ⟨2, ![3200, 1024]⟩
abbrev S2048x640 : Shape := ⟨2, ![2048, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x3200, .bf16⟩
  | .hbm, ⟨1, _⟩ => ⟨S2048x1024, .bf16⟩
  | .hbm, ⟨2, _⟩ => ⟨S3200x1024, .bf16⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S640x1024, .bf16⟩
  | .local _ .vmem, ⟨4, _⟩ => ⟨S640x1024, .bf16⟩
  | _, _ => ⟨S2048x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x3200 : Shape := ⟨2, ![2048, 3200]⟩
abbrev S2048x1024 : Shape := ⟨2, ![2048, 1024]⟩
abbrev S_ : Shape := ⟨0, ![]⟩
abbrev S1024x3200 : Shape := ⟨2, ![1024, 3200]⟩
abbrev S3200x1024 : Shape := ⟨2, ![3200, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x3200, .bf16⟩
  | .hbm, ⟨1, _⟩ => ⟨S2048x1024, .bf16⟩
  | .hbm, ⟨2, _⟩ => ⟨S_, .f32⟩
  | .hbm, ⟨3, _⟩ => ⟨S1024x3200, .f32⟩
  | .hbm, ⟨4, _⟩ => ⟨S2048x1024, .f32⟩
  | .hbm, ⟨5, _⟩ => ⟨S2048x3200, .f32⟩
  | .hbm, ⟨6, _⟩ => ⟨S2048x3200, .f32⟩
  | .hbm, ⟨7, _⟩ => ⟨S3200x1024, .f32⟩
  | .hbm, ⟨8, _⟩ => ⟨S1024x3200, .f32⟩
  | .hbm, ⟨9, _⟩ => ⟨S3200x1024, .f32⟩
  | .hbm, ⟨10, _⟩ => ⟨S3200x1024, .bf16⟩
  | _, _ => ⟨S2048x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S8x128, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S1024x1024 : Shape := ⟨2, ![1024, 1024]⟩
abbrev S8x128 : Shape := ⟨2, ![8, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S8x128, .f32⟩
  | .hbm, ⟨3, _⟩ => ⟨S_, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel12.lean ====
abbrev S2048x1024 : Shape := ⟨2, ![2048, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference13Ideal.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel14.lean ====
abbrev S2048x4096 : Shape := ⟨2, ![2048, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x4096, .f32⟩
  | .hbm, ⟨4, _⟩ => ⟨S4096x1024, .f32⟩
  | .hbm, ⟨5, _⟩ => ⟨S2048x1024, .f32⟩
  | .hbm, ⟨6, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference15Ideal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x4096, .f32⟩
  | .hbm, ⟨6, _⟩ => ⟨S4096x1024, .f32⟩
  | .hbm, ⟨7, _⟩ => ⟨S2048x1024, .f32⟩
  | .hbm, ⟨8, _⟩ => ⟨S2048x1024, .f32⟩
  | .hbm, ⟨9, _⟩ => ⟨S1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | .hbm, ⟨27, _⟩ => ⟨S1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel16.lean ====
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S1024x256, .bf16⟩
  | .hbm, ⟨2, _⟩ => ⟨S2048x256, .f32⟩
  | .local _ .vmem, ⟨0, _⟩ => ⟨S2048x1024, .bf16⟩
  | .local _ .vmem, ⟨1, _⟩ => ⟨S1024x256, .bf16⟩
  | .local _ .vmem, ⟨2, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x256, .bf16⟩
  | .hbm, ⟨2, _⟩ => ⟨S2048x1024, .f32⟩
  | .hbm, ⟨3, _⟩ => ⟨S1024x256, .f32⟩
  | .hbm, ⟨4, _⟩ => ⟨S2048x256, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S2048x1024 : Shape := ⟨2, ![2048, 1024]⟩
abbrev S2048x256 : Shape := ⟨2, ![2048, 256]⟩
abbrev S1024x256 : Shape := ⟨2, ![1024, 256]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S1024x256, .bf16⟩
  | .local _ .vmem, ⟨0, _⟩ => ⟨S2048x1024, .bf16⟩
  | .local _ .vmem, ⟨1, _⟩ => ⟨S2048x256, .bf16⟩
  | .local _ .vmem, ⟨2, _⟩ => ⟨S1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S2048x1024 : Shape := ⟨2, ![2048, 1024]⟩
abbrev S2048x256 : Shape := ⟨2, ![2048, 256]⟩
abbrev S_ : Shape := ⟨0, ![]⟩
abbrev S1024x256 : Shape := ⟨2, ![1024, 256]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S_, .f32⟩
  | .hbm, ⟨3, _⟩ => ⟨S1024x256, .f32⟩
  | .hbm, ⟨4, _⟩ => ⟨S2048x1024, .f32⟩
  | .hbm, ⟨5, _⟩ => ⟨S2048x256, .f32⟩
  | .hbm, ⟨6, _⟩ => ⟨S2048x256, .f32⟩
  | .hbm, ⟨7, _⟩ => ⟨S256x1024, .f32⟩
  | .hbm, ⟨8, _⟩ => ⟨S1024x256, .f32⟩
  | .hbm, ⟨9, _⟩ => ⟨S1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S2048x256 : Shape := ⟨2, ![2048, 256]⟩
abbrev S1024x256 : Shape := ⟨2, ![1024, 256]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S1024x256, .bf16⟩
  | .hbm, ⟨2, _⟩ => ⟨S2048x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x256 : Shape := ⟨2, ![2048, 256]⟩
abbrev S1024x256 : Shape := ⟨2, ![1024, 256]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S1024x256, .bf16⟩
  | .hbm, ⟨2, _⟩ => ⟨S_, .f32⟩
  | .hbm, ⟨3, _⟩ => ⟨S2048x1024, .f32⟩
  | .hbm, ⟨4, _⟩ => ⟨S1024x256, .f32⟩
  | .hbm, ⟨5, _⟩ => ⟨S2048x256, .f32⟩
  | .hbm, ⟨6, _⟩ => ⟨S2048x256, .f32⟩
  | .hbm, ⟨7, _⟩ => ⟨S2048x1024, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Fox.Blocks.lean ====
module

public import proofs.«01_k».proof.Proof.Gen.KernelIdeal.Frame
public import Idealize.ShloMosaic.Lib.Pipeline.ValueKit

/-! What each grid point loads: the columns of one pair of heads. -/

@[expose] public section

set_option maxRecDepth 16384

noncomputable section

namespace Cert.Fox

open Idealize.ShloMosaic Idealize.ShloMosaic.TcCoe Cert.KernelIdeal Cert.KernelIdeal.Gen Idealize.ShloMosaic.StableHlo

variable (m : (ℓ : Loc nD τ sig) → Buf (Elt Ideal) ℓ) (c : Dev nD)

theorem idx : ∀ t : Fin cfg0.N,
    win0_0.index t = ![0, t.val] ∧ win0_1.index t = ![0, 8 + t.val] ∧ win0_2.index t = ![0, 16 + t.val] ∧
    win0_3.index t = ![t.val, 0, 0] ∧ win0_4.index t = ![0, 0] ∧ win0_5.index t = ![0, 0] ∧ win0_6.index t = ![t.val, 0, 0] ∧ win0_7.index t = ![0, t.val] :=
  (by decide +kernel : ∀ t : Fin grid0.N, _)

theorem blk0 (t : Fin cfg0.N) (ρ : Fin 2048) (l : Fin 128) (h : 128 * t.val + l.val < 3200) :
    iblk m c 0 t (ValueIdx.ix2 ρ l) = m ((c : Thread nD τ).loc main_arg0) (ValueIdx.ix2 ρ ⟨128 * t.val + l.val, h⟩) := by
  have e := (idx t).1
  blk_ext [iblk, V, e]
  show t.val * 128 + l.val = 128 * t.val + l.val
  omega

theorem blk1 (t : Fin cfg0.N) (ρ : Fin 2048) (l : Fin 128) (h : 1024 + (128 * t.val + l.val) < 3200) :
    iblk m c 1 t (ValueIdx.ix2 ρ l) = m ((c : Thread nD τ).loc main_arg0) (ValueIdx.ix2 ρ ⟨1024 + (128 * t.val + l.val), h⟩) := by
  have e := (idx t).2.1
  blk_ext [iblk, V, e]
  show (8 + t.val) * 128 + l.val = 1024 + (128 * t.val + l.val)
  omega

theorem blk2 (t : Fin cfg0.N) (ρ : Fin 2048) (l : Fin 128) (h : 2048 + (128 * t.val + l.val) < 3200) :
    iblk m c 2 t (ValueIdx.ix2 ρ l) = m ((c : Thread nD τ).loc main_arg0) (ValueIdx.ix2 ρ ⟨2048 + (128 * t.val + l.val), h⟩) := by
  have e := (idx t).2.2.1
  blk_ext [iblk, V, e]
  show (16 + t.val) * 128 + l.val = 2048 + (128 * t.val + l.val)
  omega

theorem blk7 (t : Fin cfg0.N) (ρ : Fin 2048) (l : Fin 128) (h : 128 * t.val + l.val < 1024) :
    iblk m c 7 t (ValueIdx.ix2 ρ l) = m ((c : Thread nD τ).loc main_arg4) (ValueIdx.ix2 ρ ⟨128 * t.val + l.val, h⟩) := by
  have e := (idx t).2.2.2.2.2.2.2
  blk_ext [iblk, V, e]
  show t.val * 128 + l.val = 128 * t.val + l.val
  omega

theorem blk3 (t : Fin cfg0.N) (a : Fin 2) (b : Fin 1) (ρ : Fin 2048) (h : 2 * t.val + a.val < 16) :
    iblk m c 3 t (ValueIdx.ix3 a b ρ) = V m c main_v52 (ValueIdx.ix3 ⟨2 * t.val + a.val, h⟩ b ρ) := by
  have e := (idx t).2.2.2.1
  blk_ext [iblk, e]
  show t.val * 2 + a.val = 2 * t.val + a.val
  omega

theorem read6 (t : Fin cfg0.N) (a : Fin 2) (b : Fin 1) (ρ : Fin 2048) (h : 2 * t.val + a.val < 16) (A : (⟨S16x1x2048, .f32⟩ : BufTy).Contents (Elt Ideal)) :
    ((cfg0.win 6).blk t).view.read (Elt Ideal) A (ValueIdx.ix3 a b ρ) = A (ValueIdx.ix3 ⟨2 * t.val + a.val, h⟩ b ρ) := by
  have e := (idx t).2.2.2.2.2.2.1
  blk_ext [e]
  show t.val * 2 + a.val = 2 * t.val + a.val
  omega

theorem blk6 (t : Fin cfg0.N) (a : Fin 2) (b : Fin 1) (ρ : Fin 2048) (h : 2 * t.val + a.val < 16) :
    iblk m c 6 t (ValueIdx.ix3 a b ρ) = V m c main_v61 (ValueIdx.ix3 ⟨2 * t.val + a.val, h⟩ b ρ) :=
  read6 t a b ρ h (V m c main_v61)

theorem blk4 (t : Fin cfg0.N) (a : Fin 1) (l : Fin 128) : iblk m c 4 t (ValueIdx.ix2 a l) = V m c main_v56 (ValueIdx.ix2 a l) := by
  have e := (idx t).2.2.2.2.1
  blk_ext [iblk, e]

theorem blk5 (t : Fin cfg0.N) (a : Fin 1) (l : Fin 128) : iblk m c 5 t (ValueIdx.ix2 a l) = V m c main_v60 (ValueIdx.ix2 a l) := by
  have e := (idx t).2.2.2.2.2.1
  blk_ext [iblk, e]

end Cert.Fox
-- ==== Proof.Fox.Real.lean ====
module

public import Idealize.ShloMosaic.Lib.Pointwise

/-! Extended reals that are real: finite sums, and the constants of the norm. -/

@[expose] public section

set_option maxRecDepth 16384

noncomputable section

namespace Cert.Fox

open Idealize.ShloMosaic

/-- A finite sum of reals, summed among the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The number added to the mean square: the f32 nearest to 10⁻⁶. -/
def eps : ℝ := 8796093 / 2 ^ 43

theorem eps_pos : 0 < eps := by unfold eps; positivity

theorem eps_eq : Ideal.ofBits .f32 0x358637BD#32 = ((eps : ℝ) : EReal) := by
  unfold eps
  simp [Ideal.ofBits, Ideal.ieee, -EReal.coe_mul]
  norm_num

theorem c64_eq : Ideal.ofBits .f32 0x42800000#32 = ((64 : ℝ) : EReal) := by
  simp [Ideal.ofBits, Ideal.ieee, -EReal.coe_mul]
  norm_num

theorem c8_eq : Ideal.ofBits .f32 0x3E000000#32 = ((1 / 8 : ℝ) : EReal) := by
  simp [Ideal.ofBits, Ideal.ieee, -EReal.coe_mul]
  norm_num

end Cert.Fox
-- ==== Proof.Fox.Src.lean ====
module

public import proofs.«01_k».proof.Proof.Fox.Real

/-! The gradient as real functions of the entries of the arguments, head by head. -/

@[expose] public section

set_option maxRecDepth 16384

noncomputable section

namespace Cert.Fox

open Idealize.ShloMosaic

/-- The entries of the arguments: the projections by row and column, the cumulative gates by head and row, the gains
by lane, the gradient of the output by row and column; and a maximum of the logits of each head and row. -/
structure Src where
  X : ℕ → ℕ → ℝ
  C : ℕ → ℕ → ℝ
  Gq : ℕ → ℝ
  Gk : ℕ → ℝ
  O : ℕ → ℕ → ℝ
  M : ℕ → ℕ → ℝ

/-- The mean square of a head's row, plus `eps`. -/
def mse (x : ℕ → ℕ → ℕ → ℝ) (ρ h : ℕ) : ℝ := (∑ d : Fin 64, x ρ h d * x ρ h d) / 64 + eps
/-- The reciprocal of its root. -/
def rse (x : ℕ → ℕ → ℕ → ℝ) (ρ h : ℕ) : ℝ := (√(mse x ρ h))⁻¹
/-- The normalised row times the gain. -/
def nme (x : ℕ → ℕ → ℕ → ℝ) (g : ℕ → ℝ) (ρ h d : ℕ) : ℝ := x ρ h d * rse x ρ h * g d
/-- The term common to the entries of a row in the gradient of the normalisation. -/
def tme (x y : ℕ → ℕ → ℕ → ℝ) (g : ℕ → ℝ) (ρ h : ℕ) : ℝ :=
  (∑ d : Fin 64, x ρ h d * (y ρ h d * g d)) * (-(1 / 2) * (rse x ρ h / mse x ρ h)) / 64
/-- The gradient of the normalisation. -/
def nbe (x y : ℕ → ℕ → ℕ → ℝ) (g : ℕ → ℝ) (ρ h d : ℕ) : ℝ :=
  y ρ h d * g d * rse x ρ h + x ρ h d * tme x y g ρ h + tme x y g ρ h * x ρ h d
/-- The gradient of the gain. -/
def gne (x y : ℕ → ℕ → ℕ → ℝ) (d : ℕ) : ℝ := ∑ ρ : Fin 2048, ∑ h : Fin 16, x ρ h d * rse x ρ h * y ρ h d

theorem mse_pos (x : ℕ → ℕ → ℕ → ℝ) (ρ h : ℕ) : 0 < mse x ρ h := by
  unfold mse
  have : 0 ≤ ∑ d : Fin 64, x ρ h d * x ρ h d := Finset.sum_nonneg fun d _ => mul_self_nonneg _
  have := eps_pos
  positivity

namespace Src
variable (S : Src)

def q (ρ h d : ℕ) : ℝ := S.X ρ (64 * h + d)
def k (ρ h d : ℕ) : ℝ := S.X ρ (1024 + (64 * h + d))
def v (ρ h d : ℕ) : ℝ := S.X ρ (2048 + (64 * h + d))
def o (ρ h d : ℕ) : ℝ := S.O ρ (64 * h + d)
/-- The logits. -/
def s (h ρ κ : ℕ) : ℝ := (∑ d : Fin 64, nme S.q S.Gq ρ h d * nme S.k S.Gk κ h d) * (1 / 8) + S.C h ρ - S.C h κ
/-- The exponentials of the logits less the maximum, zero after the query's own place. -/
def w (h ρ κ : ℕ) : ℝ := if κ ≤ ρ then Real.exp (S.s h ρ κ - S.M h ρ) else 0
/-- Their sum over the keys. -/
def L (h ρ : ℕ) : ℝ := ∑ κ : Fin 2048, S.w h ρ κ
/-- The gradient of the weights. -/
def dp (h ρ κ : ℕ) : ℝ := ∑ d : Fin 64, S.o ρ h d * S.v κ h d
/-- The gradient of the logits. -/
def ds (h ρ κ : ℕ) : ℝ :=
  (S.dp h ρ κ / S.L h ρ + -∑ j : Fin 2048, S.dp h ρ j * (1 / (S.L h ρ * S.L h ρ)) * S.w h ρ j) * S.w h ρ κ
/-- The gradient of the cumulative gates. -/
def dc (h j : ℕ) : ℝ := (∑ ρ : Fin 2048, -S.ds h ρ j) + ∑ κ : Fin 2048, S.ds h j κ
/-- The gradients of the normalised keys and queries, and of the values. -/
def dkn (κ h d : ℕ) : ℝ := ∑ ρ : Fin 2048, S.ds h ρ κ * (1 / 8) * nme S.q S.Gq ρ h d
def dqn (ρ h d : ℕ) : ℝ := ∑ κ : Fin 2048, S.ds h ρ κ * (1 / 8) * nme S.k S.Gk κ h d
def dv (κ h d : ℕ) : ℝ := ∑ ρ : Fin 2048, S.o ρ h d * (S.w h ρ κ / S.L h ρ)
def dq : ℕ → ℕ → ℕ → ℝ := nbe S.q S.dqn S.Gq
def dk : ℕ → ℕ → ℕ → ℝ := nbe S.k S.dkn S.Gk
def dgq : ℕ → ℝ := gne S.q S.dqn
def dgk : ℕ → ℝ := gne S.k S.dkn

theorem w_nonneg (h ρ κ : ℕ) : 0 ≤ S.w h ρ κ := by
  unfold w
  split
  · exact (Real.exp_pos _).le
  · exact le_rfl

theorem L_pos (h : ℕ) {ρ : ℕ} (hρ : ρ < 2048) : 0 < S.L h ρ := by
  unfold L
  refine Finset.sum_pos' (fun κ _ => S.w_nonneg h ρ κ) ⟨⟨ρ, hρ⟩, Finset.mem_univ _, ?_⟩
  unfold w
  rw [if_pos le_rfl]
  exact Real.exp_pos _

end Src

end Cert.Fox
-- ==== Proof.Fox.Co.lean ====
module

public import proofs.«01_k».proof.Proof.Fox.Real
public import Idealize.ShloMosaic.PureOps.Ideal.Laws

/-! The operations of a program on extended reals that are real. -/

@[expose] public section

set_option maxRecDepth 16384

noncomputable section

namespace Cert.Fox

open Idealize.ShloMosaic

variable {a b : EReal} {x y : ℝ}

theorem mul_co (ha : a = (x : EReal)) (hb : b = (y : EReal)) : FloatOps.mulf (F := Ideal) (φ := .f32) a b = ((x * y : ℝ) : EReal) := by
  subst ha hb; exact (EReal.coe_mul x y).symm
theorem add_co (ha : a = (x : EReal)) (hb : b = (y : EReal)) : FloatOps.addf (F := Ideal) (φ := .f32) a b = ((x + y : ℝ) : EReal) := by
  subst ha hb; exact (EReal.coe_add x y).symm
theorem sub_co (ha : a = (x : EReal)) (hb : b = (y : EReal)) : FloatOps.subf (F := Ideal) (φ := .f32) a b = ((x - y : ℝ) : EReal) := by
  subst ha hb; exact (EReal.coe_sub x y).symm
theorem neg_co (ha : a = (x : EReal)) : FloatOps.hostNegf (F := Ideal) (φ := .f32) a = ((-x : ℝ) : EReal) := by
  subst ha; exact (EReal.coe_neg x).symm
theorem div_co (hy : y ≠ 0) (ha : a = (x : EReal)) (hb : b = (y : EReal)) :
    FloatOps.hostDivf (F := Ideal) (φ := .f32) a b = ((x / y : ℝ) : EReal) := by
  subst ha hb
  refine (Ideal.div_coe hy (x : EReal)).trans ?_
  rw [← EReal.coe_mul, mul_one_div]
theorem rsqrt_co (hx : 0 < x) (ha : a = (x : EReal)) :
    FloatOps.hostUnary (F := Ideal) (φ := .f32) .rsqrt a = (((√x)⁻¹ : ℝ) : EReal) := by
  subst ha
  refine (Ideal.rsqrt_coe (r := x)).trans ?_
  rw [if_neg (not_lt.mpr hx.le), if_neg hx.ne']
theorem exp_co (ha : a = (x : EReal)) : FloatOps.hostUnary (F := Ideal) (φ := .f32) .exp a = ((Real.exp x : ℝ) : EReal) := by
  subst ha; exact Ideal.exp_coe (r := x)
theorem exp_bo (ha : a = ⊥) : FloatOps.hostUnary (F := Ideal) (φ := .f32) .exp a = ((0 : ℝ) : EReal) := by
  subst ha; exact Ideal.exp_bot
theorem log_co (hx : 0 < x) (ha : a = (x : EReal)) :
    FloatOps.hostUnary (F := Ideal) (φ := .f32) .log a = ((Real.log x : ℝ) : EReal) := by
  subst ha
  refine (Ideal.log_coe (r := x)).trans ?_
  rw [if_neg (not_le.mpr hx)]
theorem sum_co {n : ℕ} {c : EReal} {f : Fin n → EReal} {g : Fin n → ℝ} (hc : c = ((0 : ℝ) : EReal))
    (hf : ∀ i, f i = (g i : EReal)) : c + ∑ i, f i = ((∑ i, g i : ℝ) : EReal) := by
  subst hc
  rw [EReal.coe_zero, zero_add, ← coe_sum]
  exact Finset.sum_congr rfl fun i _ => hf i
theorem one_co {c : EReal} {f : Fin 1 → EReal} {g : ℝ} (hc : c = ((0 : ℝ) : EReal))
    (hf : ∀ i, f i = (g : EReal)) : c + ∑ i, f i = (g : EReal) := by
  subst hc
  rw [EReal.coe_zero, zero_add, Fin.sum_univ_one, hf 0]
theorem dot_co {n : ℕ} {f f' : Fin n → EReal} {g g' : Fin n → ℝ}
    (hf : ∀ i, f i = (g i : EReal)) (hf' : ∀ i, f' i = (g' i : EReal)) :
    ∑ i, f i * f' i = ((∑ i, g i * g' i : ℝ) : EReal) := by
  rw [← coe_sum]
  exact Finset.sum_congr rfl fun i _ => by rw [hf i, hf' i, EReal.coe_mul]

theorem c0_co : Ideal.ofBits .f32 0x00000000#32 = ((0 : ℝ) : EReal) := by
  simp [Ideal.ofBits, Ideal.ieee]
theorem c1_co : Ideal.ofBits .f32 0x3F800000#32 = ((1 : ℝ) : EReal) := by
  simp [Ideal.ofBits, Ideal.ieee, -EReal.coe_mul]
  norm_num
theorem cm_co : Ideal.ofBits .f32 0xBF000000#32 = ((-(1 / 2) : ℝ) : EReal) := by
  simp [Ideal.ofBits, Ideal.ieee, -EReal.coe_mul]
  try norm_num
theorem ci_co : Ideal.ofBits .f32 0xFF800000#32 = ⊥ := by
  simp [Ideal.ofBits, Ideal.ieee]

theorem co1 (f : ℕ → ℝ) {a a' : ℕ} (ha : a = a') : ((f a : ℝ) : EReal) = ((f a' : ℝ) : EReal) := by rw [ha]
theorem co2 (f : ℕ → ℕ → ℝ) {a a' b b' : ℕ} (ha : a = a') (hb : b = b') : ((f a b : ℝ) : EReal) = ((f a' b' : ℝ) : EReal) := by
  rw [ha, hb]
theorem co3 (f : ℕ → ℕ → ℕ → ℝ) {a a' b b' c c' : ℕ} (ha : a = a') (hb : b = b') (hc : c = c') :
    ((f a b c : ℝ) : EReal) = ((f a' b' c' : ℝ) : EReal) := by rw [ha, hb, hc]

section
variable {n0 n1 n2 : ℕ}
open ValueIdx

/-- A sum over the first two of three axes. -/
theorem sum_r3_a01 (h : (⟨3, ![n0, n1, n2]⟩ : Shape).ReducesTo [0, 1] (⟨1, ![n2]⟩ : Shape)) (j : (⟨1, ![n2]⟩ : Shape).Idx)
    (v : (⟨3, ![n0, n1, n2]⟩ : Shape).Idx → EReal) (c : EReal) :
    Ideal.hostReduceAdd h v c j = c + ∑ k0 : Fin n0, ∑ k1 : Fin n1, v (ValueIdx.ix3 k0 k1 (j 0)) := by
  unfold Ideal.hostReduceAdd
  congr 1
  refine (Finset.sum_filter_eq_sum_of_fiber _ (fun k : Fin n0 × Fin n1 => (ValueIdx.ix3 k.1 k.2 (j 0) : (⟨3, ![n0, n1, n2]⟩ : Shape).Idx))
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

end

end Cert.Fox
-- ==== Proof.Fox.Ref1.lean ====
module

public import proofs.«01_k».proof.Proof.Fox.Src
public import proofs.«01_k».proof.Proof.Fox.Co
public import proofs.«01_k».proof.Proof.Gen.ReferenceIdeal.Read

/-! The reference: normalised queries and keys, and the logits. -/

@[expose] public section

set_option maxRecDepth 16384

noncomputable section

namespace Cert.Fox

open Idealize.ShloMosaic Cert.ReferenceIdeal Cert.ReferenceIdeal.Gen Cert.ReferenceIdeal.Read

/-- The arguments hold the entries of `S`. -/
structure Ok (S : Src) (x0 : (⟨S2048x3200, .f32⟩ : BufTy).Contents (Elt Ideal)) (x1 : (⟨S16x2048, .f32⟩ : BufTy).Contents (Elt Ideal))
    (x2 x3 : (⟨S64, .f32⟩ : BufTy).Contents (Elt Ideal)) (x4 : (⟨S2048x1024, .f32⟩ : BufTy).Contents (Elt Ideal)) : Prop where
  x0 : ∀ i, (x0 i : EReal) = ((S.X (i 0).val (i 1).val : ℝ) : EReal)
  x1 : ∀ i, (x1 i : EReal) = ((S.C (i 0).val (i 1).val : ℝ) : EReal)
  x2 : ∀ i, (x2 i : EReal) = ((S.Gq (i 0).val : ℝ) : EReal)
  x3 : ∀ i, (x3 i : EReal) = ((S.Gk (i 0).val : ℝ) : EReal)
  x4 : ∀ i, (x4 i : EReal) = ((S.O (i 0).val (i 1).val : ℝ) : EReal)

variable {S : Src} {x0 : (⟨S2048x3200, .f32⟩ : BufTy).Contents (Elt Ideal)} {x1 : (⟨S16x2048, .f32⟩ : BufTy).Contents (Elt Ideal)}
  {x2 x3 : (⟨S64, .f32⟩ : BufTy).Contents (Elt Ideal)} {x4 : (⟨S2048x1024, .f32⟩ : BufTy).Contents (Elt Ideal)}

theorem rf0 (h : Ok S x0 x1 x2 x3 x4) (i : S2048x1024.Idx) :
    (val_main_v0 (F := Ideal) x0 i : EReal) = ((S.X (i 0).val (i 1).val : ℝ) : EReal) :=
  (val_main_v0_apply x0 i).trans (h.x0 _)

theorem rf1 (h : Ok S x0 x1 x2 x3 x4) (i : S2048x1024.Idx) :
    (val_main_v1 (F := Ideal) x0 i : EReal) = ((S.X (i 0).val (1024 + (i 1).val) : ℝ) : EReal) :=
  (val_main_v1_apply x0 i).trans (h.x0 _)

theorem rf2 (h : Ok S x0 x1 x2 x3 x4) (i : S2048x1024.Idx) :
    (val_main_v2 (F := Ideal) x0 i : EReal) = ((S.X (i 0).val (2048 + (i 1).val) : ℝ) : EReal) :=
  (val_main_v2_apply x0 i).trans (h.x0 _)

theorem rf3 (h : Ok S x0 x1 x2 x3 x4) (i : S2048x16x64.Idx) :
    (val_main_v3 (F := Ideal) x0 i : EReal) = ((S.q (i 0).val (i 1).val (i 2).val : ℝ) : EReal) :=
  by
  have h0 : (i 0).val < 2048 := (i 0).isLt; have h1 : (i 1).val < 16 := (i 1).isLt; have h2 : (i 2).val < 64 := (i 2).isLt
  exact (val_main_v3_apply x0 i).trans ((rf0 h _).trans (co2 S.X (by show ((((i 0).val * 16 + (i 1).val) * 64 + (i 2).val) / 1024) = (i 0).val; omega) (by show ((((i 0).val * 16 + (i 1).val) * 64 + (i 2).val) % 1024) = (64 * (i 1).val + (i 2).val); omega)))

theorem rf4 (h : Ok S x0 x1 x2 x3 x4) (i : S2048x16x64.Idx) :
    (val_main_v4 (F := Ideal) x0 i : EReal) = ((S.q (i 0).val (i 1).val (i 2).val * (S.q (i 0).val (i 1).val (i 2).val) : ℝ) : EReal) :=
  (val_main_v4_apply x0 i).trans (mul_co (rf3 h i) (rf3 h i))

theorem rf5 (h : Ok S x0 x1 x2 x3 x4) (i : S2048x16.Idx) :
    (val_main_v5 (F := Ideal) x0 i : EReal) = ((∑ d : Fin 64, S.q (i 0).val (i 1).val d * S.q (i 0).val (i 1).val d : ℝ) : EReal) :=
  (val_main_v5_apply x0 i).trans (sum_co c0_co fun k => rf4 h _)

theorem rf6 (h : Ok S x0 x1 x2 x3 x4) (i : S2048x16x1.Idx) :
    (val_main_v6 (F := Ideal) x0 i : EReal) = ((∑ d : Fin 64, S.q (i 0).val (i 1).val d * S.q (i 0).val (i 1).val d : ℝ) : EReal) :=
  (val_main_v6_apply x0 i).trans (rf5 h _)

theorem rf7 (h : Ok S x0 x1 x2 x3 x4) (i : S2048x16x1.Idx) :
    (val_main_v7 (F := Ideal) i : EReal) = ((64 : ℝ) : EReal) :=
  (val_main_v7_apply i).trans c64_eq

theorem rf8 (h : Ok S x0 x1 x2 x3 x4) (i : S2048x16x1.Idx) :
    (val_main_v8 (F := Ideal) x0 i : EReal) = (((∑ d : Fin 64, S.q (i 0).val (i 1).val d * S.q (i 0).val (i 1).val d) / 64 : ℝ) : EReal) :=
  (val_main_v8_apply x0 i).trans (div_co (by norm_num) (rf6 h i) (rf7 h i))

theorem rf9 (h : Ok S x0 x1 x2 x3 x4) (i : S2048x16x1.Idx) :
    (val_main_v9 (F := Ideal) i : EReal) = ((eps : ℝ) : EReal) :=
  (val_main_v9_apply i).trans eps_eq

theorem rf10 (h : Ok S x0 x1 x2 x3 x4) (i : S2048x16x1.Idx) :
    (val_main_v10 (F := Ideal) x0 i : EReal) = ((mse S.q (i 0).val (i 1).val : ℝ) : EReal) :=
  (val_main_v10_apply x0 i).trans (add_co (rf8 h i) (rf9 h i))

theorem rf11 (h : Ok S x0 x1 x2 x3 x4) (i : S2048x16x1.Idx) :
    (val_main_v11 (F := Ideal) x0 i : EReal) = ((rse S.q (i 0).val (i 1).val : ℝ) : EReal) :=
  (val_main_v11_apply x0 i).trans (rsqrt_co (mse_pos _ _ _) (rf10 h i))

theorem rf12 (h : Ok S x0 x1 x2 x3 x4) (i : S2048x16x1.Idx) :
    (val_main_v12 (F := Ideal) x0 i : EReal) = ((rse S.q (i 0).val (i 1).val / mse S.q (i 0).val (i 1).val : ℝ) : EReal) :=
  (val_main_v12_apply x0 i).trans (div_co (mse_pos _ _ _).ne' (rf11 h i) (rf10 h i))

theorem rf13 (h : Ok S x0 x1 x2 x3 x4) (i : S2048x16x1.Idx) :
    (val_main_v13 (F := Ideal) i : EReal) = ((-(1 / 2) : ℝ) : EReal) :=
  (val_main_v13_apply i).trans cm_co

theorem rf14 (h : Ok S x0 x1 x2 x3 x4) (i : S2048x16x1.Idx) :
    (val_main_v14 (F := Ideal) x0 i : EReal) = ((-(1 / 2) * (rse S.q (i 0).val (i 1).val / mse S.q (i 0).val (i 1).val) : ℝ) : EReal) :=
  (val_main_v14_apply x0 i).trans (mul_co (rf13 h i) (rf12 h i))

theorem rf15 (h : Ok S x0 x1 x2 x3 x4) (i : S2048x16x64.Idx) :
    (val_main_v15 (F := Ideal) x0 i : EReal) = ((rse S.q (i 0).val (i 1).val : ℝ) : EReal) :=
  (val_main_v15_apply x0 i).trans (rf11 h _)

theorem rf16 (h : Ok S x0 x1 x2 x3 x4) (i : S2048x16x64.Idx) :
    (val_main_v16 (F := Ideal) x0 i : EReal) = ((S.q (i 0).val (i 1).val (i 2).val * rse S.q (i 0).val (i 1).val : ℝ) : EReal) :=
  (val_main_v16_apply x0 i).trans (mul_co (rf3 h i) (rf15 h i))

theorem rf17 (h : Ok S x0 x1 x2 x3 x4) (i : S1x1x64.Idx) :
    (val_main_v17 (F := Ideal) x2 i : EReal) = ((S.Gq (i 2).val : ℝ) : EReal) :=
  (val_main_v17_apply x2 i).trans (h.x2 _)

theorem rf18 (h : Ok S x0 x1 x2 x3 x4) (i : S2048x16x64.Idx) :
    (val_main_v18 (F := Ideal) x2 i : EReal) = ((S.Gq (i 2).val : ℝ) : EReal) :=
  (val_main_v18_apply x2 i).trans (rf17 h _)

theorem rf19 (h : Ok S x0 x1 x2 x3 x4) (i : S2048x16x64.Idx) :
    (val_main_v19 (F := Ideal) x0 x2 i : EReal) = ((nme S.q S.Gq (i 0).val (i 1).val (i 2).val : ℝ) : EReal) :=
  (val_main_v19_apply x0 x2 i).trans (mul_co (rf16 h i) (rf18 h i))

theorem rf20 (h : Ok S x0 x1 x2 x3 x4) (i : S2048x16x64.Idx) :
    (val_main_v20 (F := Ideal) x0 i : EReal) = ((S.k (i 0).val (i 1).val (i 2).val : ℝ) : EReal) :=
  by
  have h0 : (i 0).val < 2048 := (i 0).isLt; have h1 : (i 1).val < 16 := (i 1).isLt; have h2 : (i 2).val < 64 := (i 2).isLt
  exact (val_main_v20_apply x0 i).trans ((rf1 h _).trans (co2 S.X (by show ((((i 0).val * 16 + (i 1).val) * 64 + (i 2).val) / 1024) = (i 0).val; omega) (by show 1024 + ((((i 0).val * 16 + (i 1).val) * 64 + (i 2).val) % 1024) = 1024 + (64 * (i 1).val + (i 2).val); omega)))

theorem rf21 (h : Ok S x0 x1 x2 x3 x4) (i : S2048x16x64.Idx) :
    (val_main_v21 (F := Ideal) x0 i : EReal) = ((S.k (i 0).val (i 1).val (i 2).val * (S.k (i 0).val (i 1).val (i 2).val) : ℝ) : EReal) :=
  (val_main_v21_apply x0 i).trans (mul_co (rf20 h i) (rf20 h i))

theorem rf22 (h : Ok S x0 x1 x2 x3 x4) (i : S2048x16.Idx) :
    (val_main_v22 (F := Ideal) x0 i : EReal) = ((∑ d : Fin 64, S.k (i 0).val (i 1).val d * S.k (i 0).val (i 1).val d : ℝ) : EReal) :=
  (val_main_v22_apply x0 i).trans (sum_co c0_co fun k => rf21 h _)

theorem rf23 (h : Ok S x0 x1 x2 x3 x4) (i : S2048x16x1.Idx) :
    (val_main_v23 (F := Ideal) x0 i : EReal) = ((∑ d : Fin 64, S.k (i 0).val (i 1).val d * S.k (i 0).val (i 1).val d : ℝ) : EReal) :=
  (val_main_v23_apply x0 i).trans (rf22 h _)

theorem rf24 (h : Ok S x0 x1 x2 x3 x4) (i : S2048x16x1.Idx) :
    (val_main_v24 (F := Ideal) i : EReal) = ((64 : ℝ) : EReal) :=
  (val_main_v24_apply i).trans c64_eq

theorem rf25 (h : Ok S x0 x1 x2 x3 x4) (i : S2048x16x1.Idx) :
    (val_main_v25 (F := Ideal) x0 i : EReal) = (((∑ d : Fin 64, S.k (i 0).val (i 1).val d * S.k (i 0).val (i 1).val d) / 64 : ℝ) : EReal) :=
  (val_main_v25_apply x0 i).trans (div_co (by norm_num) (rf23 h i) (rf24 h i))

theorem rf26 (h : Ok S x0 x1 x2 x3 x4) (i : S2048x16x1.Idx) :
    (val_main_v26 (F := Ideal) i : EReal) = ((eps : ℝ) : EReal) :=
  (val_main_v26_apply i).trans eps_eq

theorem rf27 (h : Ok S x0 x1 x2 x3 x4) (i : S2048x16x1.Idx) :
    (val_main_v27 (F := Ideal) x0 i : EReal) = ((mse S.k (i 0).val (i 1).val : ℝ) : EReal) :=
  (val_main_v27_apply x0 i).trans (add_co (rf25 h i) (rf26 h i))

theorem rf28 (h : Ok S x0 x1 x2 x3 x4) (i : S2048x16x1.Idx) :
    (val_main_v28 (F := Ideal) x0 i : EReal) = ((rse S.k (i 0).val (i 1).val : ℝ) : EReal) :=
  (val_main_v28_apply x0 i).trans (rsqrt_co (mse_pos _ _ _) (rf27 h i))

theorem rf29 (h : Ok S x0 x1 x2 x3 x4) (i : S2048x16x1.Idx) :
    (val_main_v29 (F := Ideal) x0 i : EReal) = ((rse S.k (i 0).val (i 1).val / mse S.k (i 0).val (i 1).val : ℝ) : EReal) :=
  (val_main_v29_apply x0 i).trans (div_co (mse_pos _ _ _).ne' (rf28 h i) (rf27 h i))

theorem rf30 (h : Ok S x0 x1 x2 x3 x4) (i : S2048x16x1.Idx) :
    (val_main_v30 (F := Ideal) i : EReal) = ((-(1 / 2) : ℝ) : EReal) :=
  (val_main_v30_apply i).trans cm_co

theorem rf31 (h : Ok S x0 x1 x2 x3 x4) (i : S2048x16x1.Idx) :
    (val_main_v31 (F := Ideal) x0 i : EReal) = ((-(1 / 2) * (rse S.k (i 0).val (i 1).val / mse S.k (i 0).val (i 1).val) : ℝ) : EReal) :=
  (val_main_v31_apply x0 i).trans (mul_co (rf30 h i) (rf29 h i))

theorem rf32 (h : Ok S x0 x1 x2 x3 x4) (i : S2048x16x64.Idx) :
    (val_main_v32 (F := Ideal) x0 i : EReal) = ((rse S.k (i 0).val (i 1).val : ℝ) : EReal) :=
  (val_main_v32_apply x0 i).trans (rf28 h _)

theorem rf33 (h : Ok S x0 x1 x2 x3 x4) (i : S2048x16x64.Idx) :
    (val_main_v33 (F := Ideal) x0 i : EReal) = ((S.k (i 0).val (i 1).val (i 2).val * rse S.k (i 0).val (i 1).val : ℝ) : EReal) :=
  (val_main_v33_apply x0 i).trans (mul_co (rf20 h i) (rf32 h i))

theorem rf34 (h : Ok S x0 x1 x2 x3 x4) (i : S1x1x64.Idx) :
    (val_main_v34 (F := Ideal) x3 i : EReal) = ((S.Gk (i 2).val : ℝ) : EReal) :=
  (val_main_v34_apply x3 i).trans (h.x3 _)

theorem rf35 (h : Ok S x0 x1 x2 x3 x4) (i : S2048x16x64.Idx) :
    (val_main_v35 (F := Ideal) x3 i : EReal) = ((S.Gk (i 2).val : ℝ) : EReal) :=
  (val_main_v35_apply x3 i).trans (rf34 h _)

theorem rf36 (h : Ok S x0 x1 x2 x3 x4) (i : S2048x16x64.Idx) :
    (val_main_v36 (F := Ideal) x0 x3 i : EReal) = ((nme S.k S.Gk (i 0).val (i 1).val (i 2).val : ℝ) : EReal) :=
  (val_main_v36_apply x0 x3 i).trans (mul_co (rf33 h i) (rf35 h i))

theorem rf37 (h : Ok S x0 x1 x2 x3 x4) (i : S16x2048x2048.Idx) :
    (val_main_v37 (F := Ideal) x0 x2 x3 i : EReal) = ((∑ d : Fin 64, nme S.q S.Gq (i 1).val (i 0).val d * nme S.k S.Gk (i 2).val (i 0).val d : ℝ) : EReal) :=
  (val_main_v37_apply x0 x2 x3 i).trans (dot_co (fun k => rf19 h _) (fun k => rf36 h _))

theorem rf38 (h : Ok S x0 x1 x2 x3 x4) (i : S16x2048x2048.Idx) :
    (val_main_v38 (F := Ideal) i : EReal) = ((1 / 8 : ℝ) : EReal) :=
  (val_main_v38_apply i).trans c8_eq

theorem rf39 (h : Ok S x0 x1 x2 x3 x4) (i : S16x2048x2048.Idx) :
    (val_main_v39 (F := Ideal) x0 x2 x3 i : EReal) = (((∑ d : Fin 64, nme S.q S.Gq (i 1).val (i 0).val d * nme S.k S.Gk (i 2).val (i 0).val d) * (1 / 8) : ℝ) : EReal) :=
  (val_main_v39_apply x0 x2 x3 i).trans (mul_co (rf37 h i) (rf38 h i))

theorem rf40 (h : Ok S x0 x1 x2 x3 x4) (i : S16x2048x1.Idx) :
    (val_main_v40 (F := Ideal) x1 i : EReal) = ((S.C (i 0).val (i 1).val : ℝ) : EReal) :=
  (val_main_v40_apply x1 i).trans (h.x1 _)

theorem rf41 (h : Ok S x0 x1 x2 x3 x4) (i : S16x2048x2048.Idx) :
    (val_main_v41 (F := Ideal) x1 i : EReal) = ((S.C (i 0).val (i 1).val : ℝ) : EReal) :=
  (val_main_v41_apply x1 i).trans (rf40 h _)

theorem rf42 (h : Ok S x0 x1 x2 x3 x4) (i : S16x2048x2048.Idx) :
    (val_main_v42 (F := Ideal) x0 x1 x2 x3 i : EReal) = (((∑ d : Fin 64, nme S.q S.Gq (i 1).val (i 0).val d * nme S.k S.Gk (i 2).val (i 0).val d) * (1 / 8) + S.C (i 0).val (i 1).val : ℝ) : EReal) :=
  (val_main_v42_apply x0 x1 x2 x3 i).trans (add_co (rf39 h i) (rf41 h i))

theorem rf43 (h : Ok S x0 x1 x2 x3 x4) (i : S16x1x2048.Idx) :
    (val_main_v43 (F := Ideal) x1 i : EReal) = ((S.C (i 0).val (i 2).val : ℝ) : EReal) :=
  (val_main_v43_apply x1 i).trans (h.x1 _)

theorem rf44 (h : Ok S x0 x1 x2 x3 x4) (i : S16x2048x2048.Idx) :
    (val_main_v44 (F := Ideal) x1 i : EReal) = ((S.C (i 0).val (i 2).val : ℝ) : EReal) :=
  (val_main_v44_apply x1 i).trans (rf43 h _)

theorem rf45 (h : Ok S x0 x1 x2 x3 x4) (i : S16x2048x2048.Idx) :
    (val_main_v45 (F := Ideal) x0 x1 x2 x3 i : EReal) = ((S.s (i 0).val (i 1).val (i 2).val : ℝ) : EReal) :=
  (val_main_v45_apply x0 x1 x2 x3 i).trans (sub_co (rf42 h i) (rf44 h i))

end Cert.Fox
-- ==== Proof.Fox.Ref2.lean ====
module

public import proofs.«01_k».proof.Proof.Fox.Ref1
public import Idealize.ShloMosaic.Lib.Pointwise

/-! The reference: the row maxima of the logits. -/

@[expose] public section

set_option maxRecDepth 16384

noncomputable section

namespace Cert.Fox

open Idealize.ShloMosaic Cert.ReferenceIdeal Cert.ReferenceIdeal.Gen Cert.ReferenceIdeal.Read

variable {S : Src} {x0 : (⟨S2048x3200, .f32⟩ : BufTy).Contents (Elt Ideal)} {x1 : (⟨S16x2048, .f32⟩ : BufTy).Contents (Elt Ideal)}
  {x2 x3 : (⟨S64, .f32⟩ : BufTy).Contents (Elt Ideal)} {x4 : (⟨S2048x1024, .f32⟩ : BufTy).Contents (Elt Ideal)}

theorem sle_ite {a b : ℕ} (ha : a < 2048) (hb : b < 2048) :
    IntOp.cmpi .sle (BitVec.ofNat 32 a) (BitVec.ofNat 32 b) = if a ≤ b then 1#1 else 0#1 := by
  have ea : (BitVec.ofNat 32 a).toInt = a := by
    rw [BitVec.toInt_eq_toNat_of_lt (by rw [BitVec.toNat_ofNat]; omega), BitVec.toNat_ofNat]; omega
  have eb : (BitVec.ofNat 32 b).toInt = b := by
    rw [BitVec.toInt_eq_toNat_of_lt (by rw [BitVec.toNat_ofNat]; omega), BitVec.toNat_ofNat]; omega
  simp only [IntOp.cmpi, BitVec.sle, ea, eb]
  by_cases c : a ≤ b
  · rw [if_pos c]; simp [c]
  · rw [if_neg c]; simp [c]

theorem select_ite {α : Type} {c : BitVec 1} {p : Prop} [Decidable p] (hc : c = if p then 1#1 else 0#1) {a b : α} :
    Scalar.select c a b = if p then a else b := by
  subst hc
  by_cases e : p
  · rw [if_pos e, if_pos e]; rfl
  · rw [if_neg e, if_neg e]; rfl

/-- A maximum of finitely many extended reals below `⊤`, one of them real, is real. -/
theorem fold_real {n : ℕ} {f : Fin n → EReal} (ht : ∀ i, f i < ⊤) (hr : ∃ i, ∃ x : ℝ, f i = (x : EReal)) :
    ∃ m : ℝ, (Finset.univ : Finset (Fin n)).fold max (⊥ : EReal) f = (m : EReal) := by
  obtain ⟨i, x, e⟩ := hr
  have h1 : (Finset.univ : Finset (Fin n)).fold max (⊥ : EReal) f < ⊤ :=
    Finset.fold_max_lt _ |>.mpr ⟨bot_lt_top, fun i _ => ht i⟩
  have h2 : (x : EReal) ≤ (Finset.univ : Finset (Fin n)).fold max (⊥ : EReal) f :=
    Finset.le_fold_max _ |>.mpr (Or.inr ⟨i, Finset.mem_univ _, e.ge⟩)
  exact ⟨_, (EReal.coe_toReal h1.ne (lt_of_lt_of_le (EReal.bot_lt_coe x) h2).ne').symm⟩

theorem m48 (i : S2048x2048.Idx) : val_main_v48 (F := Ideal) i = if (i 1).val ≤ (i 0).val then 1#1 else 0#1 := by
  have h0 : (i 0).val < 2048 := (i 0).isLt
  have h1 : (i 1).val < 2048 := (i 1).isLt
  exact (val_main_v48_apply (F := Ideal) i).trans (sle_ite h1 h0)

theorem m50 (i : S16x2048x2048.Idx) : val_main_v50_1 (F := Ideal) i = if (i 2).val ≤ (i 1).val then 1#1 else 0#1 :=
  ((val_main_v50_1_apply (F := Ideal) i).trans (val_main_v49_apply (F := Ideal) _)).trans (m48 _)

theorem rf50 (h : Ok S x0 x1 x2 x3 x4) (i : S16x2048x2048.Idx) :
    (val_main_v50_0 (F := Ideal) x0 x1 x2 x3 i : EReal) = if (i 2).val ≤ (i 1).val then ((S.s (i 0).val (i 1).val (i 2).val : ℝ) : EReal) else ⊥ := by
  refine (val_main_v50_0_apply x0 x1 x2 x3 i).trans ?_
  refine (select_ite (m50 i)).trans ?_
  split
  · exact rf45 h i
  · exact ((val_main_call0_v2_apply (F := Ideal) i).trans (val_main_call0_v0_apply (F := Ideal) _)).trans ci_co

theorem rf51 (h : Ok S x0 x1 x2 x3 x4) (i : S16x2048.Idx) : ∃ m : ℝ, (val_main_v51 (F := Ideal) x0 x1 x2 x3 i : EReal) = (m : EReal) := by
  have e : (val_main_v51 (F := Ideal) x0 x1 x2 x3 i : EReal)
      = (Finset.univ : Finset (Fin 2048)).fold max (⊥ : EReal) (fun κ => val_main_v50_0 (F := Ideal) x0 x1 x2 x3 (ValueIdx.ix3 (i 0) (i 1) κ)) := by
    unfold val_main_v51
    generalize val_main_v50_0 (F := Ideal) x0 x1 x2 x3 = y
    rw [Host.reduce_eq_fold]
    refine Eq.trans ?_ (reducesTo_S16x2048x2048_S16x2048_d2.fold_fiber_r3_a2 i (max : EReal → EReal → EReal) ⊥ y)
    exact congrArg (fun b => Finset.fold max b y _) ci_co
  rw [e]
  refine fold_real ?_ ⟨⟨(i 1).val, (i 1).isLt⟩, _, (rf50 h _).trans (if_pos le_rfl)⟩
  intro κ
  refine (rf50 h _).trans_lt ?_
  split
  · exact EReal.coe_lt_top _
  · exact bot_lt_top

/-- The arguments hold the entries of `S`, and its maxima are those of the logits. -/
structure Okm (S : Src) (x0 : (⟨S2048x3200, .f32⟩ : BufTy).Contents (Elt Ideal)) (x1 : (⟨S16x2048, .f32⟩ : BufTy).Contents (Elt Ideal))
    (x2 x3 : (⟨S64, .f32⟩ : BufTy).Contents (Elt Ideal)) (x4 : (⟨S2048x1024, .f32⟩ : BufTy).Contents (Elt Ideal)) : Prop where
  ok : Ok S x0 x1 x2 x3 x4
  m : ∀ i, (val_main_v51 (F := Ideal) x0 x1 x2 x3 i : EReal) = ((S.M (i 0).val (i 1).val : ℝ) : EReal)

theorem okm (h : Ok S x0 x1 x2 x3 x4) : ∃ M : ℕ → ℕ → ℝ, Okm { S with M := M } x0 x1 x2 x3 x4 := by
  have e := fun i => rf51 h i
  choose f hf using e
  refine ⟨fun a b => if c : a < 16 ∧ b < 2048 then f (ValueIdx.ix2 ⟨a, c.1⟩ ⟨b, c.2⟩) else 0, ⟨h.x0, h.x1, h.x2, h.x3, h.x4⟩, fun i => ?_⟩
  refine (hf i).trans ?_
  have c : (i 0).val < 16 ∧ (i 1).val < 2048 := ⟨(i 0).isLt, (i 1).isLt⟩
  show _ = ((dite _ _ _ : ℝ) : EReal)
  rw [dif_pos c]
  exact congrArg (fun j => ((f j : ℝ) : EReal)) (ValueIdx.eq_ix2 i)

end Cert.Fox
-- ==== Proof.Fox.Ref3.lean ====
module

public import proofs.«01_k».proof.Proof.Fox.Ref2

/-! The reference: the gradients of the values, logits, gates, and normalised queries and keys. -/

@[expose] public section

set_option maxRecDepth 16384

noncomputable section

namespace Cert.Fox

open Idealize.ShloMosaic Cert.ReferenceIdeal Cert.ReferenceIdeal.Gen Cert.ReferenceIdeal.Read

variable {S : Src} {x0 : (⟨S2048x3200, .f32⟩ : BufTy).Contents (Elt Ideal)} {x1 : (⟨S16x2048, .f32⟩ : BufTy).Contents (Elt Ideal)}
  {x2 x3 : (⟨S64, .f32⟩ : BufTy).Contents (Elt Ideal)} {x4 : (⟨S2048x1024, .f32⟩ : BufTy).Contents (Elt Ideal)}

theorem rf58 (h : Okm S x0 x1 x2 x3 x4) (i : S16x2048.Idx) :
    (val_main_v58 (F := Ideal) x0 x1 x2 x3 i : EReal) = ((S.M (i 0).val (i 1).val : ℝ) : EReal) := by
  refine (val_main_v58_apply x0 x1 x2 x3 i).trans ?_
  rw [h.m i, (val_main_v57_apply (F := Ideal) i).trans ci_co]
  exact max_eq_right bot_le

theorem rf68 (h : Okm S x0 x1 x2 x3 x4) (i : S16x2048x1.Idx) :
    (val_main_v68 (F := Ideal) x0 x1 x2 x3 i : EReal) = ((S.M (i 0).val (i 1).val : ℝ) : EReal) :=
  (val_main_v68_apply x0 x1 x2 x3 i).trans (rf58 h _)

theorem rf69 (h : Okm S x0 x1 x2 x3 x4) (i : S16x2048x2048.Idx) :
    (val_main_v69 (F := Ideal) x0 x1 x2 x3 i : EReal) = ((S.M (i 0).val (i 1).val : ℝ) : EReal) :=
  (val_main_v69_apply x0 x1 x2 x3 i).trans (rf68 h _)

theorem rf70 (h : Okm S x0 x1 x2 x3 x4) (i : S16x2048x2048.Idx) :
    (val_main_v70 (F := Ideal) x0 x1 x2 x3 i : EReal)
      = if (i 2).val ≤ (i 1).val then ((S.s (i 0).val (i 1).val (i 2).val - S.M (i 0).val (i 1).val : ℝ) : EReal) else ⊥ := by
  refine (val_main_v70_apply x0 x1 x2 x3 i).trans ?_
  rw [rf69 h i, rf50 h.ok i]
  split
  · exact sub_co rfl rfl
  · exact EReal.bot_sub _

theorem rf71 (h : Okm S x0 x1 x2 x3 x4) (i : S16x2048x2048.Idx) :
    (val_main_v71 (F := Ideal) x0 x1 x2 x3 i : EReal) = ((S.w (i 0).val (i 1).val (i 2).val : ℝ) : EReal) := by
  refine (val_main_v71_apply x0 x1 x2 x3 i).trans ?_
  unfold Src.w
  by_cases c : (i 2).val ≤ (i 1).val
  · rw [if_pos c]
    exact exp_co ((rf70 h i).trans (if_pos c))
  · rw [if_neg c]
    exact exp_bo ((rf70 h i).trans (if_neg c))

theorem rf72 (h : Okm S x0 x1 x2 x3 x4) (i : S16x2048.Idx) :
    (val_main_v72 (F := Ideal) x0 x1 x2 x3 i : EReal) = ((S.L (i 0).val (i 1).val : ℝ) : EReal) :=
  (val_main_v72_apply x0 x1 x2 x3 i).trans (sum_co c0_co fun k => rf71 h _)

theorem rf73 (h : Okm S x0 x1 x2 x3 x4) (i : S16x2048x1.Idx) :
    (val_main_v73 (F := Ideal) x0 x1 x2 x3 i : EReal) = ((S.L (i 0).val (i 1).val : ℝ) : EReal) :=
  (val_main_v73_apply x0 x1 x2 x3 i).trans (rf72 h _)

theorem rf74 (h : Okm S x0 x1 x2 x3 x4) (i : S16x2048x2048.Idx) :
    (val_main_v74 (F := Ideal) x0 x1 x2 x3 i : EReal) = ((S.L (i 0).val (i 1).val : ℝ) : EReal) :=
  (val_main_v74_apply x0 x1 x2 x3 i).trans (rf73 h _)

theorem rf75 (h : Okm S x0 x1 x2 x3 x4) (i : S16x2048x2048.Idx) :
    (val_main_v75 (F := Ideal) x0 x1 x2 x3 i : EReal) = ((S.w (i 0).val (i 1).val (i 2).val / S.L (i 0).val (i 1).val : ℝ) : EReal) :=
  (val_main_v75_apply x0 x1 x2 x3 i).trans (div_co (S.L_pos _ (i 1).isLt).ne' (rf71 h i) (rf74 h i))

theorem rf76 (h : Okm S x0 x1 x2 x3 x4) (i : S16x2048x1.Idx) :
    (val_main_v76 (F := Ideal) x0 x1 x2 x3 i : EReal) = ((S.L (i 0).val (i 1).val * S.L (i 0).val (i 1).val : ℝ) : EReal) :=
  (val_main_v76_apply x0 x1 x2 x3 i).trans (mul_co (rf73 h i) (rf73 h i))

theorem rf77 (h : Okm S x0 x1 x2 x3 x4) (i : S16x2048x1.Idx) :
    (val_main_v77 (F := Ideal) i : EReal) = ((1 : ℝ) : EReal) :=
  (val_main_v77_apply i).trans c1_co

theorem rf78 (h : Okm S x0 x1 x2 x3 x4) (i : S16x2048x1.Idx) :
    (val_main_v78 (F := Ideal) x0 x1 x2 x3 i : EReal) = ((1 / (S.L (i 0).val (i 1).val * S.L (i 0).val (i 1).val) : ℝ) : EReal) :=
  (val_main_v78_apply x0 x1 x2 x3 i).trans (div_co (mul_self_ne_zero.mpr (S.L_pos _ (i 1).isLt).ne') (rf77 h i) (rf76 h i))

theorem rf79 (h : Okm S x0 x1 x2 x3 x4) (i : S2048x16x64.Idx) :
    (val_main_v79 (F := Ideal) x0 i : EReal) = ((S.v (i 0).val (i 1).val (i 2).val : ℝ) : EReal) :=
  by
  have h0 : (i 0).val < 2048 := (i 0).isLt; have h1 : (i 1).val < 16 := (i 1).isLt; have h2 : (i 2).val < 64 := (i 2).isLt
  exact (val_main_v79_apply x0 i).trans ((rf2 h.ok _).trans (co2 S.X (by show ((((i 0).val * 16 + (i 1).val) * 64 + (i 2).val) / 1024) = (i 0).val; omega) (by show 2048 + ((((i 0).val * 16 + (i 1).val) * 64 + (i 2).val) % 1024) = 2048 + (64 * (i 1).val + (i 2).val); omega)))

theorem rf83 (h : Okm S x0 x1 x2 x3 x4) (i : S2048x16x64.Idx) :
    (val_main_v83 (F := Ideal) x4 i : EReal) = ((S.o (i 0).val (i 1).val (i 2).val : ℝ) : EReal) :=
  by
  have h0 : (i 0).val < 2048 := (i 0).isLt; have h1 : (i 1).val < 16 := (i 1).isLt; have h2 : (i 2).val < 64 := (i 2).isLt
  exact (val_main_v83_apply x4 i).trans ((h.ok.x4 _).trans (co2 S.O (by show ((((i 0).val * 16 + (i 1).val) * 64 + (i 2).val) / 1024) = (i 0).val; omega) (by show ((((i 0).val * 16 + (i 1).val) * 64 + (i 2).val) % 1024) = 64 * (i 1).val + (i 2).val; omega)))

theorem rf84 (h : Okm S x0 x1 x2 x3 x4) (i : S16x64x2048.Idx) :
    (val_main_v84 (F := Ideal) x4 i : EReal) = ((S.o (i 2).val (i 0).val (i 1).val : ℝ) : EReal) :=
  (val_main_v84_apply x4 i).trans (rf83 h _)

theorem rf85 (h : Okm S x0 x1 x2 x3 x4) (i : S16x2048x2048.Idx) :
    (val_main_v85 (F := Ideal) x0 x4 i : EReal) = ((S.dp (i 0).val (i 1).val (i 2).val : ℝ) : EReal) :=
  (val_main_v85_apply x0 x4 i).trans (dot_co (fun k => rf84 h _) (fun k => rf79 h _))

theorem rf86 (h : Okm S x0 x1 x2 x3 x4) (i : S16x64x2048.Idx) :
    (val_main_v86 (F := Ideal) x0 x1 x2 x3 x4 i : EReal) = ((S.dv (i 2).val (i 0).val (i 1).val : ℝ) : EReal) :=
  (val_main_v86_apply x0 x1 x2 x3 x4 i).trans (dot_co (fun k => rf84 h _) (fun k => rf75 h _))

theorem rf87 (h : Okm S x0 x1 x2 x3 x4) (i : S2048x16x64.Idx) :
    (val_main_v87 (F := Ideal) x0 x1 x2 x3 x4 i : EReal) = ((S.dv (i 0).val (i 1).val (i 2).val : ℝ) : EReal) :=
  (val_main_v87_apply x0 x1 x2 x3 x4 i).trans (rf86 h _)

theorem rf88 (h : Okm S x0 x1 x2 x3 x4) (i : S2048x1024.Idx) :
    (val_main_v88 (F := Ideal) x0 x1 x2 x3 x4 i : EReal) = ((S.dv (i 0).val ((i 1).val / 64) ((i 1).val % 64) : ℝ) : EReal) :=
  by
  have h0 : (i 0).val < 2048 := (i 0).isLt; have h1 : (i 1).val < 1024 := (i 1).isLt
  exact (val_main_v88_apply x0 x1 x2 x3 x4 i).trans ((rf87 h _).trans (co3 S.dv (by show (((i 0).val * 1024 + (i 1).val) / 1024) = (i 0).val; omega) (by show (((i 0).val * 1024 + (i 1).val) / 64 % 16) = (i 1).val / 64; omega) (by show (((i 0).val * 1024 + (i 1).val) % 64) = (i 1).val % 64; omega)))

theorem rf89 (h : Okm S x0 x1 x2 x3 x4) (i : S16x2048x2048.Idx) :
    (val_main_v89 (F := Ideal) x0 x1 x2 x3 i : EReal) = ((1 / (S.L (i 0).val (i 1).val * S.L (i 0).val (i 1).val) : ℝ) : EReal) :=
  (val_main_v89_apply x0 x1 x2 x3 i).trans (rf78 h _)

theorem rf90 (h : Okm S x0 x1 x2 x3 x4) (i : S16x2048x2048.Idx) :
    (val_main_v90 (F := Ideal) x0 x1 x2 x3 x4 i : EReal) = ((S.dp (i 0).val (i 1).val (i 2).val * (1 / (S.L (i 0).val (i 1).val * S.L (i 0).val (i 1).val)) : ℝ) : EReal) :=
  (val_main_v90_apply x0 x1 x2 x3 x4 i).trans (mul_co (rf85 h i) (rf89 h i))

theorem rf91 (h : Okm S x0 x1 x2 x3 x4) (i : S16x2048x2048.Idx) :
    (val_main_v91 (F := Ideal) x0 x1 x2 x3 x4 i : EReal) = ((S.dp (i 0).val (i 1).val (i 2).val * (1 / (S.L (i 0).val (i 1).val * S.L (i 0).val (i 1).val)) * S.w (i 0).val (i 1).val (i 2).val : ℝ) : EReal) :=
  (val_main_v91_apply x0 x1 x2 x3 x4 i).trans (mul_co (rf90 h i) (rf71 h i))

theorem rf92 (h : Okm S x0 x1 x2 x3 x4) (i : S16x2048.Idx) :
    (val_main_v92 (F := Ideal) x0 x1 x2 x3 x4 i : EReal) = ((∑ j : Fin 2048, S.dp (i 0).val (i 1).val j * (1 / (S.L (i 0).val (i 1).val * S.L (i 0).val (i 1).val)) * S.w (i 0).val (i 1).val j : ℝ) : EReal) :=
  (val_main_v92_apply x0 x1 x2 x3 x4 i).trans (sum_co c0_co fun k => rf91 h _)

/-- The sum over the keys in the gradient of the logits. -/
def tt (S : Src) (h ρ : ℕ) : ℝ := ∑ j : Fin 2048, S.dp h ρ j * (1 / (S.L h ρ * S.L h ρ)) * S.w h ρ j

theorem rf93 (h : Okm S x0 x1 x2 x3 x4) (i : S16x2048x1.Idx) :
    (val_main_v93 (F := Ideal) x0 x1 x2 x3 x4 i : EReal) = ((tt S (i 0).val (i 1).val : ℝ) : EReal) :=
  by
  have h0 : (i 0).val < 16 := (i 0).isLt; have h1 : (i 1).val < 2048 := (i 1).isLt; have h2 : (i 2).val < 1 := (i 2).isLt
  exact (val_main_v93_apply x0 x1 x2 x3 x4 i).trans ((rf92 h _).trans (co2 (tt S) (by show ((((i 0).val * 2048 + (i 1).val) * 1 + (i 2).val) / 2048) = (i 0).val; omega) (by show ((((i 0).val * 2048 + (i 1).val) * 1 + (i 2).val) % 2048) = (i 1).val; omega)))

theorem rf94 (h : Okm S x0 x1 x2 x3 x4) (i : S16x2048x1.Idx) :
    (val_main_v94 (F := Ideal) x0 x1 x2 x3 x4 i : EReal) = ((-tt S (i 0).val (i 1).val : ℝ) : EReal) :=
  (val_main_v94_apply x0 x1 x2 x3 x4 i).trans (neg_co (rf93 h i))

theorem rf95 (h : Okm S x0 x1 x2 x3 x4) (i : S16x2048x2048.Idx) :
    (val_main_v95 (F := Ideal) x0 x1 x2 x3 i : EReal) = ((S.L (i 0).val (i 1).val : ℝ) : EReal) :=
  (val_main_v95_apply x0 x1 x2 x3 i).trans (rf73 h _)

theorem rf96 (h : Okm S x0 x1 x2 x3 x4) (i : S16x2048x2048.Idx) :
    (val_main_v96 (F := Ideal) x0 x1 x2 x3 x4 i : EReal) = ((S.dp (i 0).val (i 1).val (i 2).val / S.L (i 0).val (i 1).val : ℝ) : EReal) :=
  (val_main_v96_apply x0 x1 x2 x3 x4 i).trans (div_co (S.L_pos _ (i 1).isLt).ne' (rf85 h i) (rf95 h i))

theorem rf97 (h : Okm S x0 x1 x2 x3 x4) (i : S16x2048.Idx) :
    (val_main_v97 (F := Ideal) x0 x1 x2 x3 x4 i : EReal) = ((-tt S (i 0).val (i 1).val : ℝ) : EReal) :=
  (val_main_v97_apply x0 x1 x2 x3 x4 i).trans (one_co c0_co fun k => rf94 h _)

theorem rf98 (h : Okm S x0 x1 x2 x3 x4) (i : S16x2048x2048.Idx) :
    (val_main_v98 (F := Ideal) x0 x1 x2 x3 x4 i : EReal) = ((-tt S (i 0).val (i 1).val : ℝ) : EReal) :=
  (val_main_v98_apply x0 x1 x2 x3 x4 i).trans (rf97 h _)

theorem rf99 (h : Okm S x0 x1 x2 x3 x4) (i : S16x2048x2048.Idx) :
    (val_main_v99 (F := Ideal) x0 x1 x2 x3 x4 i : EReal) = ((S.dp (i 0).val (i 1).val (i 2).val / S.L (i 0).val (i 1).val + -tt S (i 0).val (i 1).val : ℝ) : EReal) :=
  (val_main_v99_apply x0 x1 x2 x3 x4 i).trans (add_co (rf96 h i) (rf98 h i))

theorem rf100 (h : Okm S x0 x1 x2 x3 x4) (i : S16x2048x2048.Idx) :
    (val_main_v100 (F := Ideal) x0 x1 x2 x3 x4 i : EReal) = ((S.ds (i 0).val (i 1).val (i 2).val : ℝ) : EReal) :=
  (val_main_v100_apply x0 x1 x2 x3 x4 i).trans (mul_co (rf99 h i) (rf71 h i))

theorem rf101 (h : Okm S x0 x1 x2 x3 x4) (i : S16x2048x2048.Idx) :
    (val_main_v101 (F := Ideal) x0 x1 x2 x3 x4 i : EReal) = ((S.ds (i 0).val (i 1).val (i 2).val : ℝ) : EReal) := by
  refine (val_main_v101_apply x0 x1 x2 x3 x4 i).trans ?_
  refine (select_ite (m50 i)).trans ?_
  by_cases c : (i 2).val ≤ (i 1).val
  · rw [if_pos c]
    exact rf100 h i
  · rw [if_neg c]
    refine ((val_main_call1_v0_apply (F := Ideal) i).trans c0_co).trans ?_
    unfold Src.ds Src.w
    rw [if_neg c, mul_zero]

theorem rf102 (h : Okm S x0 x1 x2 x3 x4) (i : S16x2048x2048.Idx) :
    (val_main_v102 (F := Ideal) x0 x1 x2 x3 x4 i : EReal) = ((-S.ds (i 0).val (i 1).val (i 2).val : ℝ) : EReal) :=
  (val_main_v102_apply x0 x1 x2 x3 x4 i).trans (neg_co (rf101 h i))

theorem rf103 (h : Okm S x0 x1 x2 x3 x4) (i : S16x2048.Idx) :
    (val_main_v103 (F := Ideal) x0 x1 x2 x3 x4 i : EReal) = ((∑ ρ : Fin 2048, -S.ds (i 0).val ρ (i 1).val : ℝ) : EReal) :=
  (val_main_v103_apply x0 x1 x2 x3 x4 i).trans (sum_co c0_co fun k => rf102 h _)

/-- The sum over the queries in the gradient of the gates. -/
def tq (S : Src) (h j : ℕ) : ℝ := ∑ ρ : Fin 2048, -S.ds h ρ j
/-- The sum over the keys in the gradient of the gates. -/
def tk (S : Src) (h j : ℕ) : ℝ := ∑ κ : Fin 2048, S.ds h j κ

theorem rf104 (h : Okm S x0 x1 x2 x3 x4) (i : S16x1x2048.Idx) :
    (val_main_v104 (F := Ideal) x0 x1 x2 x3 x4 i : EReal) = ((tq S (i 0).val (i 2).val : ℝ) : EReal) :=
  by
  have h0 : (i 0).val < 16 := (i 0).isLt; have h1 : (i 1).val < 1 := (i 1).isLt; have h2 : (i 2).val < 2048 := (i 2).isLt
  exact (val_main_v104_apply x0 x1 x2 x3 x4 i).trans ((rf103 h _).trans (co2 (tq S) (by show ((((i 0).val * 1 + (i 1).val) * 2048 + (i 2).val) / 2048) = (i 0).val; omega) (by show ((((i 0).val * 1 + (i 1).val) * 2048 + (i 2).val) % 2048) = (i 2).val; omega)))

theorem rf105 (h : Okm S x0 x1 x2 x3 x4) (i : S16x2048.Idx) :
    (val_main_v105 (F := Ideal) x0 x1 x2 x3 x4 i : EReal) = ((tq S (i 0).val (i 1).val : ℝ) : EReal) :=
  (val_main_v105_apply x0 x1 x2 x3 x4 i).trans (one_co c0_co fun k => rf104 h _)

theorem rf106 (h : Okm S x0 x1 x2 x3 x4) (i : S16x2048.Idx) :
    (val_main_v106 (F := Ideal) x0 x1 x2 x3 x4 i : EReal) = ((∑ κ : Fin 2048, S.ds (i 0).val (i 1).val κ : ℝ) : EReal) :=
  (val_main_v106_apply x0 x1 x2 x3 x4 i).trans (sum_co c0_co fun k => rf101 h _)

theorem rf107 (h : Okm S x0 x1 x2 x3 x4) (i : S16x2048x1.Idx) :
    (val_main_v107 (F := Ideal) x0 x1 x2 x3 x4 i : EReal) = ((tk S (i 0).val (i 1).val : ℝ) : EReal) :=
  by
  have h0 : (i 0).val < 16 := (i 0).isLt; have h1 : (i 1).val < 2048 := (i 1).isLt; have h2 : (i 2).val < 1 := (i 2).isLt
  exact (val_main_v107_apply x0 x1 x2 x3 x4 i).trans ((rf106 h _).trans (co2 (tk S) (by show ((((i 0).val * 2048 + (i 1).val) * 1 + (i 2).val) / 2048) = (i 0).val; omega) (by show ((((i 0).val * 2048 + (i 1).val) * 1 + (i 2).val) % 2048) = (i 1).val; omega)))

theorem rf108 (h : Okm S x0 x1 x2 x3 x4) (i : S16x2048.Idx) :
    (val_main_v108 (F := Ideal) x0 x1 x2 x3 x4 i : EReal) = ((tk S (i 0).val (i 1).val : ℝ) : EReal) :=
  (val_main_v108_apply x0 x1 x2 x3 x4 i).trans (one_co c0_co fun k => rf107 h _)

theorem rf109 (h : Okm S x0 x1 x2 x3 x4) (i : S16x2048.Idx) :
    (val_main_v109 (F := Ideal) x0 x1 x2 x3 x4 i : EReal) = ((S.dc (i 0).val (i 1).val : ℝ) : EReal) :=
  (val_main_v109_apply x0 x1 x2 x3 x4 i).trans (add_co (rf105 h i) (rf108 h i))

theorem rf110 (h : Okm S x0 x1 x2 x3 x4) (i : S16x2048x2048.Idx) :
    (val_main_v110 (F := Ideal) i : EReal) = ((1 / 8 : ℝ) : EReal) :=
  (val_main_v110_apply i).trans c8_eq

theorem rf111 (h : Okm S x0 x1 x2 x3 x4) (i : S16x2048x2048.Idx) :
    (val_main_v111 (F := Ideal) x0 x1 x2 x3 x4 i : EReal) = ((S.ds (i 0).val (i 1).val (i 2).val * (1 / 8) : ℝ) : EReal) :=
  (val_main_v111_apply x0 x1 x2 x3 x4 i).trans (mul_co (rf101 h i) (rf110 h i))

theorem rf112 (h : Okm S x0 x1 x2 x3 x4) (i : S16x2048x64.Idx) :
    (val_main_v112 (F := Ideal) x0 x1 x2 x3 x4 i : EReal) = ((S.dkn (i 1).val (i 0).val (i 2).val : ℝ) : EReal) :=
  (val_main_v112_apply x0 x1 x2 x3 x4 i).trans (dot_co (fun k => rf111 h _) (fun k => rf19 h.ok _))

theorem rf113 (h : Okm S x0 x1 x2 x3 x4) (i : S2048x16x64.Idx) :
    (val_main_v113 (F := Ideal) x0 x1 x2 x3 x4 i : EReal) = ((S.dkn (i 0).val (i 1).val (i 2).val : ℝ) : EReal) :=
  (val_main_v113_apply x0 x1 x2 x3 x4 i).trans (rf112 h _)

theorem rf114 (h : Okm S x0 x1 x2 x3 x4) (i : S16x2048x64.Idx) :
    (val_main_v114 (F := Ideal) x0 x1 x2 x3 x4 i : EReal) = ((S.dqn (i 1).val (i 0).val (i 2).val : ℝ) : EReal) :=
  (val_main_v114_apply x0 x1 x2 x3 x4 i).trans (dot_co (fun k => rf111 h _) (fun k => rf36 h.ok _))

theorem rf115 (h : Okm S x0 x1 x2 x3 x4) (i : S2048x16x64.Idx) :
    (val_main_v115 (F := Ideal) x0 x1 x2 x3 x4 i : EReal) = ((S.dqn (i 0).val (i 1).val (i 2).val : ℝ) : EReal) :=
  (val_main_v115_apply x0 x1 x2 x3 x4 i).trans (rf114 h _)

end Cert.Fox
-- ==== Proof.Fox.Ops.lean ====
module

public import proofs.«01_k».proof.Proof.Gen.KernelIdeal.Skeleton
public import proofs.«01_k».proof.Proof.Fox.Real

/-! The vectors one half-step computes, of a block of n keys and 512 queries of one head, and their entries where the
entries of what is read are real. -/

@[expose] public section

set_option maxRecDepth 16384

noncomputable section

namespace Cert.Fox

open Idealize.ShloMosaic Cert.KernelIdeal Cert.KernelIdeal.Gen

/-- A rank-2 vector holds the reals `f a b`. -/
def Is2 {n0 n1 : ℕ} (x : (⟨2, ![n0, n1]⟩ : Shape).Idx → EReal) (f : ℕ → ℕ → ℝ) : Prop :=
  ∀ j, x j = ((f (j 0).val (j 1).val : ℝ) : EReal)

/-- A rank-3 vector whose first axis has one place holds the reals `f a b`. -/
def Is3 {n0 n1 : ℕ} (x : (⟨3, ![1, n0, n1]⟩ : Shape).Idx → EReal) (f : ℕ → ℕ → ℝ) : Prop :=
  ∀ j, x j = ((f (j 1).val (j 2).val : ℝ) : EReal)

theorem Is2.of {n0 n1 : ℕ} {x : (⟨2, ![n0, n1]⟩ : Shape).Idx → EReal} {f : ℕ → ℕ → ℝ}
    (h : ∀ a b, x (ValueIdx.ix2 a b) = ((f a b : ℝ) : EReal)) : Is2 x f := fun j =>
  (congrArg x (ValueIdx.eq_ix2 j)).trans (h (j 0) (j 1))

theorem Is3.of {n0 n1 : ℕ} {x : (⟨3, ![1, n0, n1]⟩ : Shape).Idx → EReal} {f : ℕ → ℕ → ℝ}
    (h : ∀ a b, x (ValueIdx.ix3 0 a b) = ((f a b : ℝ) : EReal)) : Is3 x f := fun j =>
  (congrArg x (show j = ValueIdx.ix3 0 (j 1) (j 2) by
    funext a
    match a with
    | ⟨0, _⟩ => exact Fin.ext (Nat.lt_one_iff.mp (j 0).isLt)
    | ⟨1, _⟩ => rfl
    | ⟨2, _⟩ => rfl)).trans (h (j 1) (j 2))

/-- The mask of the diagonal blocks: the key does not come after the query. -/
theorem causal_eq (κ r : Fin 512) : k0_pay31 (ValueIdx.ix2 κ r) = if (κ : ℕ) ≤ r then 1#1 else 0#1 := by
  unfold k0_pay31
  pointwise []
  have e : ∀ a : Fin 512, (BitVec.ofNat 32 a).toInt = (a : ℕ) := fun a => by
    rw [BitVec.toInt_eq_toNat_of_lt (by rw [BitVec.toNat_ofNat]; have := a.isLt; omega), BitVec.toNat_ofNat]
    have := a.isLt
    omega
  show BitVec.ofBool (decide ((BitVec.ofNat 32 κ).toInt ≤ (BitVec.ofNat 32 r).toInt)) = _
  rw [e, e]
  by_cases h : (κ : ℕ) ≤ r
  · rw [if_pos h, decide_eq_true (by exact_mod_cast h)]; rfl
  · rw [if_neg h, decide_eq_false (by exact_mod_cast h)]; rfl

/-- The weights of a diagonal block, masked. -/
def pm (p : FVec Ideal S512x512 .f32) : FVec Ideal S512x512 .f32 :=
  select k0_pay31 p (broadcast S512x512 (Scalar.ofBits .f32 0x00000000#32))

theorem pm_is {p : FVec Ideal S512x512 .f32} {P : ℕ → ℕ → ℝ} (hp : Is2 p P) :
    Is2 (pm p) (fun κ r => if κ ≤ r then P κ r else 0) := by
  refine Is2.of fun κ r => ?_
  unfold pm
  pointwise [causal_eq]
  by_cases h : (κ : ℕ) ≤ r
  · rw [if_pos h, if_pos h]; exact hp _
  · rw [if_neg h, if_neg h]; exact EReal.coe_zero.symm

/-- A row of zeros. -/
theorem zrow_is : Is2 (broadcast S1x512 (Scalar.ofBits (F := Ideal) .f32 0x00000000#32)) (fun _ _ => 0) := by
  refine Is2.of fun a b => ?_
  pointwise []
  exact EReal.coe_zero.symm

/-- The zero the transposed gradient of the queries starts from. -/
theorem zdq_is : Is2 (k0_pay32 (F := Ideal)) (fun _ _ => 0) := by
  refine Is2.of fun a b => ?_
  unfold k0_pay32
  pointwise []
  exact EReal.coe_zero.symm

/-- The weights of 512 keys by 512 queries, unmasked. -/
def p512 (kb : FVec Ideal S512x128 .bf16) (qi : FVec Ideal S1x512x128 .bf16) (cri lri : FVec Ideal S1x1x512 .f32)
    (cc : FVec Ideal S1x512x1 .f32) : FVec Ideal S512x512 .f32 :=
  exp (subf (subf (addf (matmul dot_S512x128_S512x128_S512x512_1_1_0_0_n_n none kb
    (shapeCast S512x128 qi shapeCasts_S1x512x128_S512x128) (constant S512x512 .f32 0x00000000#32))
    (broadcastTo S512x512 (shapeCast S1x512 cri shapeCasts_S1x1x512_S1x512) broadcasts_S1x512_S512x512))
    (broadcastTo S512x512 (shapeCast S512x1 cc shapeCasts_S1x512x1_S512x1) broadcasts_S512x1_S512x512))
    (broadcastTo S512x512 (shapeCast S1x512 lri shapeCasts_S1x1x512_S1x512) broadcasts_S1x512_S512x512))

theorem p512_is {kb : FVec Ideal S512x128 .bf16} {qi : FVec Ideal S1x512x128 .bf16} {cri lri : FVec Ideal S1x1x512 .f32}
    {cc : FVec Ideal S1x512x1 .f32} {K Q C L D : ℕ → ℕ → ℝ} (hk : Is2 kb K) (hq : Is3 qi Q) (hc : Is3 cri C)
    (hl : Is3 lri L) (hd : Is3 cc D) :
    Is2 (p512 kb qi cri lri cc)
      (fun κ r => Real.exp (∑ l : Fin 128, K κ l * Q r l + C 0 r - D κ 0 - L 0 r)) := by
  refine Is2.of fun κ r => ?_
  unfold p512
  pointwise []
  simp only [hk _, hq _, hc _, hl _, hd _, ← EReal.coe_mul, ← EReal.coe_add, ← EReal.coe_sub, coe_sum, Ideal.exp_coe]
  rfl

/-- The products of the values with the gradient of the output. -/
def dp512 (vb : FVec Ideal S512x128 .bf16) (doi : FVec Ideal S1x512x128 .bf16) : FVec Ideal S512x512 .f32 :=
  matmul dot_S512x128_S512x128_S512x512_1_1_0_0_n_n none vb (shapeCast S512x128 doi shapeCasts_S1x512x128_S512x128)
    (constant S512x512 .f32 0x00000000#32)

theorem dp512_is {vb : FVec Ideal S512x128 .bf16} {doi : FVec Ideal S1x512x128 .bf16} {V D : ℕ → ℕ → ℝ}
    (hv : Is2 vb V) (hd : Is3 doi D) : Is2 (dp512 vb doi) (fun κ r => ∑ l : Fin 128, V κ l * D r l) := by
  refine Is2.of fun κ r => ?_
  unfold dp512
  pointwise []
  simp only [hv _, hd _, ← EReal.coe_mul, ← EReal.coe_add, ← EReal.coe_sub, coe_sum, Ideal.exp_coe]
  rfl

/-- A row of sums over the 512 keys added to a row. -/
def sum512 (z : FVec Ideal S1x512 .f32) (p dp : FVec Ideal S512x512 .f32) : FVec Ideal S1x512 .f32 :=
  addf z (shapeCast S1x512 (multiReduction .add [0] S512 (mulf p dp) 0x00000000#32 reduces_S512x512_S512 (.inl rfl) rfl)
    shapeCasts_S512_S1x512)

theorem sum512_is {z : FVec Ideal S1x512 .f32} {p dp : FVec Ideal S512x512 .f32} {Z P E : ℕ → ℕ → ℝ}
    (hz : Is2 z Z) (hp : Is2 p P) (he : Is2 dp E) :
    Is2 (sum512 z p dp) (fun _ r => Z 0 r + ∑ κ : Fin 512, P κ r * E κ r) := by
  refine Is2.of fun u r => ?_
  obtain rfl : u = 0 := Subsingleton.elim _ _
  unfold sum512
  pointwise []
  simp only [hz _, hp _, he _, ← EReal.coe_mul, ← EReal.coe_add, ← EReal.coe_sub, coe_sum, Ideal.exp_coe]
  rfl

/-- The gradient of the scores. -/
def ds512 (p dp : FVec Ideal S512x512 .f32) (d : FVec Ideal S1x512 .f32) : FVec Ideal S512x512 .f32 :=
  mulf p (subf dp (broadcastTo S512x512 d broadcasts_S1x512_S512x512))

theorem ds512_is {p dp : FVec Ideal S512x512 .f32} {d : FVec Ideal S1x512 .f32} {P E D : ℕ → ℕ → ℝ}
    (hp : Is2 p P) (he : Is2 dp E) (hd : Is2 d D) :
    Is2 (ds512 p dp d) (fun κ r => P κ r * (E κ r - D 0 r)) := by
  refine Is2.of fun κ r => ?_
  unfold ds512
  pointwise []
  simp only [hd _, hp _, he _, ← EReal.coe_mul, ← EReal.coe_add, ← EReal.coe_sub, coe_sum, Ideal.exp_coe]
  rfl

/-- A sum over 512 queries added to 512 rows. -/
def acc512 (w : FVec Ideal S512x128 .f32) (p : FVec Ideal S512x512 .f32) (x : FVec Ideal S1x512x128 .bf16) :
    FVec Ideal S512x128 .f32 :=
  shapeCast S512x128 (addf w (matmul dot_S512x512_S512x128_S512x128_1_0_0_1_n_n none (truncf .bf16 p bitsLt_bf16_f32)
    (shapeCast S512x128 x shapeCasts_S1x512x128_S512x128) (constant S512x128 .f32 0x00000000#32)))
    shapeCasts_S512x128_S512x128

theorem acc512_is {w : FVec Ideal S512x128 .f32} {p : FVec Ideal S512x512 .f32} {x : FVec Ideal S1x512x128 .bf16}
    {W P X : ℕ → ℕ → ℝ} (hw : Is2 w W) (hp : Is2 p P) (hx : Is3 x X) :
    Is2 (acc512 w p x) (fun κ l => W κ l + ∑ r : Fin 512, P κ r * X r l) := by
  refine Is2.of fun κ l => ?_
  unfold acc512
  pointwise []
  simp only [hw _, hp _, hx _, ← EReal.coe_mul, ← EReal.coe_add, ← EReal.coe_sub, coe_sum, Ideal.exp_coe]
  rfl

/-- A sum over 512 keys added to the transposed gradient of the queries. -/
def dq512 (z : FVec Ideal S128x512 .f32) (kt : FVec Ideal S1x128x512 .bf16) (s : FVec Ideal S512x512 .f32) :
    FVec Ideal S128x512 .f32 :=
  addf z (matmul dot_S128x512_S512x512_S128x512_1_0_0_1_n_n none
    (shapeCast S128x512 kt shapeCasts_S1x128x512_S128x512) (truncf .bf16 s bitsLt_bf16_f32)
    (constant S128x512 .f32 0x00000000#32))

theorem dq512_is {z : FVec Ideal S128x512 .f32} {kt : FVec Ideal S1x128x512 .bf16} {s : FVec Ideal S512x512 .f32}
    {Z K D : ℕ → ℕ → ℝ} (hz : Is2 z Z) (hk : Is3 kt K) (hs : Is2 s D) :
    Is2 (dq512 z kt s) (fun l r => Z l r + ∑ κ : Fin 512, K l κ * D κ r) := by
  refine Is2.of fun l r => ?_
  unfold dq512
  pointwise []
  simp only [hz _, hk _, hs _, ← EReal.coe_mul, ← EReal.coe_add, ← EReal.coe_sub, coe_sum, Ideal.exp_coe]
  rfl

/-- The four groups of 128 queries added to 512 rows of 128 lanes. -/
def dc512 (w : FVec Ideal S1x512x128 .f32) (s : FVec Ideal S512x512 .f32) : FVec Ideal S1x512x128 .f32 :=
  shapeCast S1x512x128 (addf (shapeCast S512x128 w shapeCasts_S1x512x128_S512x128)
    (addf (addf (addf (addf (broadcast S512x128 (Scalar.ofBits .f32 0x00000000#32))
      (extractStridedSlice S512x128 ![0, 0] s slices_S512x512_o0_0_S512x128))
      (extractStridedSlice S512x128 ![0, 128] s slices_S512x512_o0_128_S512x128))
      (extractStridedSlice S512x128 ![0, 256] s slices_S512x512_o0_256_S512x128))
      (extractStridedSlice S512x128 ![0, 384] s slices_S512x512_o0_384_S512x128)))
    shapeCasts_S512x128_S1x512x128

theorem dc512_is {w : FVec Ideal S1x512x128 .f32} {s : FVec Ideal S512x512 .f32} {W D : ℕ → ℕ → ℝ}
    (hw : Is3 w W) (hs : Is2 s D) :
    Is3 (dc512 w s) (fun κ m => W κ m + (D κ m + D κ (128 + m) + D κ (256 + m) + D κ (384 + m))) := by
  refine Is3.of fun κ m => ?_
  unfold dc512
  pointwise []
  simp only [hw _, hs _, ← EReal.coe_mul, ← EReal.coe_add, ← EReal.coe_sub, coe_sum, Ideal.exp_coe]
  rfl

/-- The weights of 1024 keys by 512 queries, unmasked. -/
def p1024 (kb : FVec Ideal S1024x128 .bf16) (qi : FVec Ideal S1x512x128 .bf16) (cri lri : FVec Ideal S1x1x512 .f32)
    (cc : FVec Ideal S1x1024x1 .f32) : FVec Ideal S1024x512 .f32 :=
  exp (subf (subf (addf (matmul dot_S1024x128_S512x128_S1024x512_1_1_0_0_n_n none kb
    (shapeCast S512x128 qi shapeCasts_S1x512x128_S512x128) (constant S1024x512 .f32 0x00000000#32))
    (broadcastTo S1024x512 (shapeCast S1x512 cri shapeCasts_S1x1x512_S1x512) broadcasts_S1x512_S1024x512))
    (broadcastTo S1024x512 (shapeCast S1024x1 cc shapeCasts_S1x1024x1_S1024x1) broadcasts_S1024x1_S1024x512))
    (broadcastTo S1024x512 (shapeCast S1x512 lri shapeCasts_S1x1x512_S1x512) broadcasts_S1x512_S1024x512))

theorem p1024_is {kb : FVec Ideal S1024x128 .bf16} {qi : FVec Ideal S1x512x128 .bf16} {cri lri : FVec Ideal S1x1x512 .f32}
    {cc : FVec Ideal S1x1024x1 .f32} {K Q C L D : ℕ → ℕ → ℝ} (hk : Is2 kb K) (hq : Is3 qi Q) (hc : Is3 cri C)
    (hl : Is3 lri L) (hd : Is3 cc D) :
    Is2 (p1024 kb qi cri lri cc)
      (fun κ r => Real.exp (∑ l : Fin 128, K κ l * Q r l + C 0 r - D κ 0 - L 0 r)) := by
  refine Is2.of fun κ r => ?_
  unfold p1024
  pointwise []
  simp only [hk _, hq _, hc _, hl _, hd _, ← EReal.coe_mul, ← EReal.coe_add, ← EReal.coe_sub, coe_sum, Ideal.exp_coe]
  rfl

/-- The products of the values with the gradient of the output. -/
def dp1024 (vb : FVec Ideal S1024x128 .bf16) (doi : FVec Ideal S1x512x128 .bf16) : FVec Ideal S1024x512 .f32 :=
  matmul dot_S1024x128_S512x128_S1024x512_1_1_0_0_n_n none vb (shapeCast S512x128 doi shapeCasts_S1x512x128_S512x128)
    (constant S1024x512 .f32 0x00000000#32)

theorem dp1024_is {vb : FVec Ideal S1024x128 .bf16} {doi : FVec Ideal S1x512x128 .bf16} {V D : ℕ → ℕ → ℝ}
    (hv : Is2 vb V) (hd : Is3 doi D) : Is2 (dp1024 vb doi) (fun κ r => ∑ l : Fin 128, V κ l * D r l) := by
  refine Is2.of fun κ r => ?_
  unfold dp1024
  pointwise []
  simp only [hv _, hd _, ← EReal.coe_mul, ← EReal.coe_add, ← EReal.coe_sub, coe_sum, Ideal.exp_coe]
  rfl

/-- A row of sums over the 1024 keys added to a row. -/
def sum1024 (z : FVec Ideal S1x512 .f32) (p dp : FVec Ideal S1024x512 .f32) : FVec Ideal S1x512 .f32 :=
  addf z (shapeCast S1x512 (multiReduction .add [0] S512 (mulf p dp) 0x00000000#32 reduces_S1024x512_S512 (.inl rfl) rfl)
    shapeCasts_S512_S1x512)

theorem sum1024_is {z : FVec Ideal S1x512 .f32} {p dp : FVec Ideal S1024x512 .f32} {Z P E : ℕ → ℕ → ℝ}
    (hz : Is2 z Z) (hp : Is2 p P) (he : Is2 dp E) :
    Is2 (sum1024 z p dp) (fun _ r => Z 0 r + ∑ κ : Fin 1024, P κ r * E κ r) := by
  refine Is2.of fun u r => ?_
  obtain rfl : u = 0 := Subsingleton.elim _ _
  unfold sum1024
  pointwise []
  simp only [hz _, hp _, he _, ← EReal.coe_mul, ← EReal.coe_add, ← EReal.coe_sub, coe_sum, Ideal.exp_coe]
  rfl

/-- The gradient of the scores. -/
def ds1024 (p dp : FVec Ideal S1024x512 .f32) (d : FVec Ideal S1x512 .f32) : FVec Ideal S1024x512 .f32 :=
  mulf p (subf dp (broadcastTo S1024x512 d broadcasts_S1x512_S1024x512))

theorem ds1024_is {p dp : FVec Ideal S1024x512 .f32} {d : FVec Ideal S1x512 .f32} {P E D : ℕ → ℕ → ℝ}
    (hp : Is2 p P) (he : Is2 dp E) (hd : Is2 d D) :
    Is2 (ds1024 p dp d) (fun κ r => P κ r * (E κ r - D 0 r)) := by
  refine Is2.of fun κ r => ?_
  unfold ds1024
  pointwise []
  simp only [hd _, hp _, he _, ← EReal.coe_mul, ← EReal.coe_add, ← EReal.coe_sub, coe_sum, Ideal.exp_coe]
  rfl

/-- A sum over 512 queries added to 1024 rows. -/
def acc1024 (w : FVec Ideal S1024x128 .f32) (p : FVec Ideal S1024x512 .f32) (x : FVec Ideal S1x512x128 .bf16) :
    FVec Ideal S1024x128 .f32 :=
  shapeCast S1024x128 (addf w (matmul dot_S1024x512_S512x128_S1024x128_1_0_0_1_n_n none (truncf .bf16 p bitsLt_bf16_f32)
    (shapeCast S512x128 x shapeCasts_S1x512x128_S512x128) (constant S1024x128 .f32 0x00000000#32)))
    shapeCasts_S1024x128_S1024x128

theorem acc1024_is {w : FVec Ideal S1024x128 .f32} {p : FVec Ideal S1024x512 .f32} {x : FVec Ideal S1x512x128 .bf16}
    {W P X : ℕ → ℕ → ℝ} (hw : Is2 w W) (hp : Is2 p P) (hx : Is3 x X) :
    Is2 (acc1024 w p x) (fun κ l => W κ l + ∑ r : Fin 512, P κ r * X r l) := by
  refine Is2.of fun κ l => ?_
  unfold acc1024
  pointwise []
  simp only [hw _, hp _, hx _, ← EReal.coe_mul, ← EReal.coe_add, ← EReal.coe_sub, coe_sum, Ideal.exp_coe]
  rfl

/-- A sum over 1024 keys added to the transposed gradient of the queries. -/
def dq1024 (z : FVec Ideal S128x512 .f32) (kt : FVec Ideal S1x128x1024 .bf16) (s : FVec Ideal S1024x512 .f32) :
    FVec Ideal S128x512 .f32 :=
  addf z (matmul dot_S128x1024_S1024x512_S128x512_1_0_0_1_n_n none
    (shapeCast S128x1024 kt shapeCasts_S1x128x1024_S128x1024) (truncf .bf16 s bitsLt_bf16_f32)
    (constant S128x512 .f32 0x00000000#32))

theorem dq1024_is {z : FVec Ideal S128x512 .f32} {kt : FVec Ideal S1x128x1024 .bf16} {s : FVec Ideal S1024x512 .f32}
    {Z K D : ℕ → ℕ → ℝ} (hz : Is2 z Z) (hk : Is3 kt K) (hs : Is2 s D) :
    Is2 (dq1024 z kt s) (fun l r => Z l r + ∑ κ : Fin 1024, K l κ * D κ r) := by
  refine Is2.of fun l r => ?_
  unfold dq1024
  pointwise []
  simp only [hz _, hk _, hs _, ← EReal.coe_mul, ← EReal.coe_add, ← EReal.coe_sub, coe_sum, Ideal.exp_coe]
  rfl

/-- The four groups of 128 queries added to 1024 rows of 128 lanes. -/
def dc1024 (w : FVec Ideal S1x1024x128 .f32) (s : FVec Ideal S1024x512 .f32) : FVec Ideal S1x1024x128 .f32 :=
  shapeCast S1x1024x128 (addf (shapeCast S1024x128 w shapeCasts_S1x1024x128_S1024x128)
    (addf (addf (addf (addf (broadcast S1024x128 (Scalar.ofBits .f32 0x00000000#32))
      (extractStridedSlice S1024x128 ![0, 0] s slices_S1024x512_o0_0_S1024x128))
      (extractStridedSlice S1024x128 ![0, 128] s slices_S1024x512_o0_128_S1024x128))
      (extractStridedSlice S1024x128 ![0, 256] s slices_S1024x512_o0_256_S1024x128))
      (extractStridedSlice S1024x128 ![0, 384] s slices_S1024x512_o0_384_S1024x128)))
    shapeCasts_S1024x128_S1x1024x128

theorem dc1024_is {w : FVec Ideal S1x1024x128 .f32} {s : FVec Ideal S1024x512 .f32} {W D : ℕ → ℕ → ℝ}
    (hw : Is3 w W) (hs : Is2 s D) :
    Is3 (dc1024 w s) (fun κ m => W κ m + (D κ m + D κ (128 + m) + D κ (256 + m) + D κ (384 + m))) := by
  refine Is3.of fun κ m => ?_
  unfold dc1024
  pointwise []
  simp only [hw _, hs _, ← EReal.coe_mul, ← EReal.coe_add, ← EReal.coe_sub, coe_sum, Ideal.exp_coe]
  rfl

/-- The weights of 1536 keys by 512 queries, unmasked. -/
def p1536 (kb : FVec Ideal S1536x128 .bf16) (qi : FVec Ideal S1x512x128 .bf16) (cri lri : FVec Ideal S1x1x512 .f32)
    (cc : FVec Ideal S1x1536x1 .f32) : FVec Ideal S1536x512 .f32 :=
  exp (subf (subf (addf (matmul dot_S1536x128_S512x128_S1536x512_1_1_0_0_n_n none kb
    (shapeCast S512x128 qi shapeCasts_S1x512x128_S512x128) (constant S1536x512 .f32 0x00000000#32))
    (broadcastTo S1536x512 (shapeCast S1x512 cri shapeCasts_S1x1x512_S1x512) broadcasts_S1x512_S1536x512))
    (broadcastTo S1536x512 (shapeCast S1536x1 cc shapeCasts_S1x1536x1_S1536x1) broadcasts_S1536x1_S1536x512))
    (broadcastTo S1536x512 (shapeCast S1x512 lri shapeCasts_S1x1x512_S1x512) broadcasts_S1x512_S1536x512))

theorem p1536_is {kb : FVec Ideal S1536x128 .bf16} {qi : FVec Ideal S1x512x128 .bf16} {cri lri : FVec Ideal S1x1x512 .f32}
    {cc : FVec Ideal S1x1536x1 .f32} {K Q C L D : ℕ → ℕ → ℝ} (hk : Is2 kb K) (hq : Is3 qi Q) (hc : Is3 cri C)
    (hl : Is3 lri L) (hd : Is3 cc D) :
    Is2 (p1536 kb qi cri lri cc)
      (fun κ r => Real.exp (∑ l : Fin 128, K κ l * Q r l + C 0 r - D κ 0 - L 0 r)) := by
  refine Is2.of fun κ r => ?_
  unfold p1536
  pointwise []
  simp only [hk _, hq _, hc _, hl _, hd _, ← EReal.coe_mul, ← EReal.coe_add, ← EReal.coe_sub, coe_sum, Ideal.exp_coe]
  rfl

/-- The products of the values with the gradient of the output. -/
def dp1536 (vb : FVec Ideal S1536x128 .bf16) (doi : FVec Ideal S1x512x128 .bf16) : FVec Ideal S1536x512 .f32 :=
  matmul dot_S1536x128_S512x128_S1536x512_1_1_0_0_n_n none vb (shapeCast S512x128 doi shapeCasts_S1x512x128_S512x128)
    (constant S1536x512 .f32 0x00000000#32)

theorem dp1536_is {vb : FVec Ideal S1536x128 .bf16} {doi : FVec Ideal S1x512x128 .bf16} {V D : ℕ → ℕ → ℝ}
    (hv : Is2 vb V) (hd : Is3 doi D) : Is2 (dp1536 vb doi) (fun κ r => ∑ l : Fin 128, V κ l * D r l) := by
  refine Is2.of fun κ r => ?_
  unfold dp1536
  pointwise []
  simp only [hv _, hd _, ← EReal.coe_mul, ← EReal.coe_add, ← EReal.coe_sub, coe_sum, Ideal.exp_coe]
  rfl

/-- A row of sums over the 1536 keys added to a row. -/
def sum1536 (z : FVec Ideal S1x512 .f32) (p dp : FVec Ideal S1536x512 .f32) : FVec Ideal S1x512 .f32 :=
  addf z (shapeCast S1x512 (multiReduction .add [0] S512 (mulf p dp) 0x00000000#32 reduces_S1536x512_S512 (.inl rfl) rfl)
    shapeCasts_S512_S1x512)

theorem sum1536_is {z : FVec Ideal S1x512 .f32} {p dp : FVec Ideal S1536x512 .f32} {Z P E : ℕ → ℕ → ℝ}
    (hz : Is2 z Z) (hp : Is2 p P) (he : Is2 dp E) :
    Is2 (sum1536 z p dp) (fun _ r => Z 0 r + ∑ κ : Fin 1536, P κ r * E κ r) := by
  refine Is2.of fun u r => ?_
  obtain rfl : u = 0 := Subsingleton.elim _ _
  unfold sum1536
  pointwise []
  simp only [hz _, hp _, he _, ← EReal.coe_mul, ← EReal.coe_add, ← EReal.coe_sub, coe_sum, Ideal.exp_coe]
  rfl

/-- The gradient of the scores. -/
def ds1536 (p dp : FVec Ideal S1536x512 .f32) (d : FVec Ideal S1x512 .f32) : FVec Ideal S1536x512 .f32 :=
  mulf p (subf dp (broadcastTo S1536x512 d broadcasts_S1x512_S1536x512))

theorem ds1536_is {p dp : FVec Ideal S1536x512 .f32} {d : FVec Ideal S1x512 .f32} {P E D : ℕ → ℕ → ℝ}
    (hp : Is2 p P) (he : Is2 dp E) (hd : Is2 d D) :
    Is2 (ds1536 p dp d) (fun κ r => P κ r * (E κ r - D 0 r)) := by
  refine Is2.of fun κ r => ?_
  unfold ds1536
  pointwise []
  simp only [hd _, hp _, he _, ← EReal.coe_mul, ← EReal.coe_add, ← EReal.coe_sub, coe_sum, Ideal.exp_coe]
  rfl

/-- A sum over 512 queries added to 1536 rows. -/
def acc1536 (w : FVec Ideal S1536x128 .f32) (p : FVec Ideal S1536x512 .f32) (x : FVec Ideal S1x512x128 .bf16) :
    FVec Ideal S1536x128 .f32 :=
  shapeCast S1536x128 (addf w (matmul dot_S1536x512_S512x128_S1536x128_1_0_0_1_n_n none (truncf .bf16 p bitsLt_bf16_f32)
    (shapeCast S512x128 x shapeCasts_S1x512x128_S512x128) (constant S1536x128 .f32 0x00000000#32)))
    shapeCasts_S1536x128_S1536x128

theorem acc1536_is {w : FVec Ideal S1536x128 .f32} {p : FVec Ideal S1536x512 .f32} {x : FVec Ideal S1x512x128 .bf16}
    {W P X : ℕ → ℕ → ℝ} (hw : Is2 w W) (hp : Is2 p P) (hx : Is3 x X) :
    Is2 (acc1536 w p x) (fun κ l => W κ l + ∑ r : Fin 512, P κ r * X r l) := by
  refine Is2.of fun κ l => ?_
  unfold acc1536
  pointwise []
  simp only [hw _, hp _, hx _, ← EReal.coe_mul, ← EReal.coe_add, ← EReal.coe_sub, coe_sum, Ideal.exp_coe]
  rfl

/-- A sum over 1536 keys added to the transposed gradient of the queries. -/
def dq1536 (z : FVec Ideal S128x512 .f32) (kt : FVec Ideal S1x128x1536 .bf16) (s : FVec Ideal S1536x512 .f32) :
    FVec Ideal S128x512 .f32 :=
  addf z (matmul dot_S128x1536_S1536x512_S128x512_1_0_0_1_n_n none
    (shapeCast S128x1536 kt shapeCasts_S1x128x1536_S128x1536) (truncf .bf16 s bitsLt_bf16_f32)
    (constant S128x512 .f32 0x00000000#32))

theorem dq1536_is {z : FVec Ideal S128x512 .f32} {kt : FVec Ideal S1x128x1536 .bf16} {s : FVec Ideal S1536x512 .f32}
    {Z K D : ℕ → ℕ → ℝ} (hz : Is2 z Z) (hk : Is3 kt K) (hs : Is2 s D) :
    Is2 (dq1536 z kt s) (fun l r => Z l r + ∑ κ : Fin 1536, K l κ * D κ r) := by
  refine Is2.of fun l r => ?_
  unfold dq1536
  pointwise []
  simp only [hz _, hk _, hs _, ← EReal.coe_mul, ← EReal.coe_add, ← EReal.coe_sub, coe_sum, Ideal.exp_coe]
  rfl

/-- The four groups of 128 queries added to 1536 rows of 128 lanes. -/
def dc1536 (w : FVec Ideal S1x1536x128 .f32) (s : FVec Ideal S1536x512 .f32) : FVec Ideal S1x1536x128 .f32 :=
  shapeCast S1x1536x128 (addf (shapeCast S1536x128 w shapeCasts_S1x1536x128_S1536x128)
    (addf (addf (addf (addf (broadcast S1536x128 (Scalar.ofBits .f32 0x00000000#32))
      (extractStridedSlice S1536x128 ![0, 0] s slices_S1536x512_o0_0_S1536x128))
      (extractStridedSlice S1536x128 ![0, 128] s slices_S1536x512_o0_128_S1536x128))
      (extractStridedSlice S1536x128 ![0, 256] s slices_S1536x512_o0_256_S1536x128))
      (extractStridedSlice S1536x128 ![0, 384] s slices_S1536x512_o0_384_S1536x128)))
    shapeCasts_S1536x128_S1x1536x128

theorem dc1536_is {w : FVec Ideal S1x1536x128 .f32} {s : FVec Ideal S1536x512 .f32} {W D : ℕ → ℕ → ℝ}
    (hw : Is3 w W) (hs : Is2 s D) :
    Is3 (dc1536 w s) (fun κ m => W κ m + (D κ m + D κ (128 + m) + D κ (256 + m) + D κ (384 + m))) := by
  refine Is3.of fun κ m => ?_
  unfold dc1536
  pointwise []
  simp only [hw _, hs _, ← EReal.coe_mul, ← EReal.coe_add, ← EReal.coe_sub, coe_sum, Ideal.exp_coe]
  rfl

end Cert.Fox
-- ==== Proof.Fox.Norm.lean ====
module

public import proofs.«01_k».proof.Proof.Fox.Ops

/-! The norm of a pair of heads and its backward pass, as vectors and as reals. -/

@[expose] public section

set_option maxRecDepth 16384

noncomputable section

namespace Cert.Fox

open Idealize.ShloMosaic Cert.KernelIdeal Cert.KernelIdeal.Gen

/-- The sum over the lanes of the head the lane `m` belongs to. -/
def hsum (f : ℕ → ℝ) (m : ℕ) : ℝ :=
  if m < 64 then ∑ j : Fin 128, (if (j : ℕ) < 64 then f j else 0) else ∑ j : Fin 128, (if (j : ℕ) < 64 then 0 else f j)

/-- A lane of the head `a` keeps its entry, a lane of the other head holds zero. -/
def half (a m : ℕ) (x : ℝ) : ℝ := if a = 0 then (if m < 64 then x else 0) else (if m < 64 then 0 else x)

/-- The mask of the lanes of the first head. -/
theorem isa_eq (u : Fin 1) (m : Fin 128) : k0_pay4 (ValueIdx.ix2 u m) = if (m : ℕ) < 64 then 1#1 else 0#1 := by
  unfold k0_pay4
  pointwise []
  have e : (BitVec.ofNat 32 m).toInt = (m : ℕ) := by
    rw [BitVec.toInt_eq_toNat_of_lt (by rw [BitVec.toNat_ofNat]; have := m.isLt; omega), BitVec.toNat_ofNat]
    have := m.isLt
    omega
  show BitVec.ofBool (decide ((BitVec.ofNat 32 m).toInt < (64#32 : BitVec 32).toInt)) = _
  rw [e, show (64#32 : BitVec 32).toInt = 64 from rfl]
  by_cases h : (m : ℕ) < 64
  · rw [if_pos h, decide_eq_true (show ((m : ℕ) : ℤ) < 64 by omega)]; rfl
  · rw [if_neg h, decide_eq_false (show ¬((m : ℕ) : ℤ) < 64 by omega)]; rfl

/-- The mask, over the rows. -/
def isa : IVec S2048x128 1 :=
  broadcastTo S2048x128 (shapeCast S1x128 k0_pay4 shapeCasts_S1x128_S1x128) broadcasts_S1x128_S2048x128

theorem isa_at (j : S2048x128.Idx) : isa j = if (j 1).val < 64 then 1#1 else 0#1 := by
  rw [ValueIdx.eq_ix2 j]
  unfold isa
  pointwise []
  exact isa_eq _ _

/-- The vector with the lanes of the second head set to zero. -/
def selA (x : FVec Ideal S2048x128 .f32) : FVec Ideal S2048x128 .f32 :=
  select isa x (broadcast S2048x128 (Scalar.ofBits .f32 0x00000000#32))

/-- The vector with the lanes of the first head set to zero. -/
def selB (x : FVec Ideal S2048x128 .f32) : FVec Ideal S2048x128 .f32 :=
  select isa (broadcast S2048x128 (Scalar.ofBits .f32 0x00000000#32)) x

theorem selA_is {x : FVec Ideal S2048x128 .f32} {X : ℕ → ℕ → ℝ} (hx : Is2 x X) :
    Is2 (selA x) (fun ρ m => half 0 m (X ρ m)) := by
  refine Is2.of fun ρ m => ?_
  unfold selA half
  pointwise [isa_at]
  by_cases h : (m : ℕ) < 64
  · rw [if_pos h, if_pos (show (ValueIdx.ix2 ρ m 1 : Fin 128).val < 64 from h)]; exact hx _
  · rw [if_neg h, if_neg (show ¬(ValueIdx.ix2 ρ m 1 : Fin 128).val < 64 from h)]; exact EReal.coe_zero.symm

theorem selB_is {x : FVec Ideal S2048x128 .f32} {X : ℕ → ℕ → ℝ} (hx : Is2 x X) :
    Is2 (selB x) (fun ρ m => half 1 m (X ρ m)) := by
  refine Is2.of fun ρ m => ?_
  unfold selB half
  pointwise [isa_at]
  by_cases h : (m : ℕ) < 64
  · rw [if_pos h, if_pos (show (ValueIdx.ix2 ρ m 1 : Fin 128).val < 64 from h)]; exact EReal.coe_zero.symm
  · rw [if_neg h, if_neg (show ¬(ValueIdx.ix2 ρ m 1 : Fin 128).val < 64 from h)]; exact hx _

/-- The sums of the rows, as a column. -/
def rsum (x : FVec Ideal S2048x128 .f32) : FVec Ideal S2048x1 .f32 :=
  shapeCast S2048x1 (multiReduction .add [1] S2048 x 0x00000000#32 reduces_S2048x128_S2048 (.inl rfl) rfl)
    shapeCasts_S2048_S2048x1

theorem rsum_is {x : FVec Ideal S2048x128 .f32} {X : ℕ → ℕ → ℝ} (hx : Is2 x X) :
    Is2 (rsum x) (fun ρ _ => ∑ j : Fin 128, X ρ j) := by
  refine Is2.of fun ρ u => ?_
  unfold rsum
  pointwise []
  simp only [hx _, coe_sum]
  rfl

/-- The mean over the lanes of a head. -/
def hmean (x : FVec Ideal S2048x128 .f32) : FVec Ideal S2048x128 .f32 :=
  divf (select isa
    (broadcastTo S2048x128 (shapeCast S2048x1 (rsum (selA x)) shapeCasts_S2048x1_S2048x1) broadcasts_S2048x1_S2048x128)
    (broadcastTo S2048x128 (shapeCast S2048x1 (rsum (selB x)) shapeCasts_S2048x1_S2048x1) broadcasts_S2048x1_S2048x128))
    (broadcast S2048x128 (Scalar.ofBits .f32 0x42800000#32))

theorem hmean_is {x : FVec Ideal S2048x128 .f32} {X : ℕ → ℕ → ℝ} (hx : Is2 x X) :
    Is2 (hmean x) (fun ρ m => hsum (X ρ) m * (1 / 64)) := by
  refine Is2.of fun ρ m => ?_
  have hA := rsum_is (selA_is hx)
  have hB := rsum_is (selB_is hx)
  unfold hmean
  pointwise [isa_at]
  unfold hsum
  have e : ∀ y : EReal, Ideal.div y (Ideal.ofBits .f32 0x42800000#32) = y * ((1 / 64 : ℝ) : EReal) := fun y => by
    rw [c64_eq, Ideal.div_coe (by norm_num)]
  rw [e]
  by_cases h : (m : ℕ) < 64
  · rw [if_pos (show (ValueIdx.ix2 ρ m 1 : Fin 128).val < 64 from h), if_pos h]
    simp only [hA _, ← EReal.coe_mul]
    rfl
  · rw [if_neg (show ¬(ValueIdx.ix2 ρ m 1 : Fin 128).val < 64 from h), if_neg h]
    simp only [hB _, ← EReal.coe_mul]
    rfl

/-- The reciprocal root mean square of a head. -/
def rn (X : ℕ → ℕ → ℝ) (ρ m : ℕ) : ℝ := (√(hsum (fun j => X ρ j * X ρ j) m * (1 / 64) + eps))⁻¹

theorem hsum_nonneg {f : ℕ → ℝ} (h : ∀ j, 0 ≤ f j) (m : ℕ) : 0 ≤ hsum f m := by
  unfold hsum
  split
  · exact Finset.sum_nonneg fun j _ => by split; exacts [h _, le_rfl]
  · exact Finset.sum_nonneg fun j _ => by split; exacts [le_rfl, h _]

theorem ms_pos (X : ℕ → ℕ → ℝ) (ρ m : ℕ) : 0 < hsum (fun j => X ρ j * X ρ j) m * (1 / 64) + eps :=
  add_pos_of_nonneg_of_pos (mul_nonneg (hsum_nonneg (fun _ => mul_self_nonneg _) m) (by norm_num)) eps_pos

/-- The reciprocal root of the mean square plus the small number. -/
def rinv (x : FVec Ideal S2048x128 .f32) : FVec Ideal S2048x128 .f32 :=
  rsqrt (addf (hmean (mulf x x)) (broadcast S2048x128 (Scalar.ofBits .f32 0x358637BD#32)))

theorem mul_is {n0 n1 : ℕ} {φ : FTy} {x y : FVec Ideal ⟨2, ![n0, n1]⟩ φ} {X Y : ℕ → ℕ → ℝ} (hx : Is2 x X) (hy : Is2 y Y) :
    Is2 (mulf x y) (fun a b => X a b * Y a b) := fun j => by
  show x j * y j = _
  rw [hx, hy, ← EReal.coe_mul]

theorem sub_is {n0 n1 : ℕ} {φ : FTy} {x y : FVec Ideal ⟨2, ![n0, n1]⟩ φ} {X Y : ℕ → ℕ → ℝ} (hx : Is2 x X) (hy : Is2 y Y) :
    Is2 (subf x y) (fun a b => X a b - Y a b) := fun j => by
  show x j - y j = _
  rw [hx, hy, ← EReal.coe_sub]

theorem rinv_is {x : FVec Ideal S2048x128 .f32} {X : ℕ → ℕ → ℝ} (hx : Is2 x X) : Is2 (rinv x) (rn X) := by
  have h := hmean_is (mul_is hx hx)
  refine Is2.of fun ρ m => ?_
  unfold rinv rn
  pointwise []
  rw [eps_eq]
  simp only [h _, ← EReal.coe_add]
  rw [Ideal.rsqrt_coe]
  have hp := ms_pos X ρ m
  exact (if_neg (not_lt.mpr hp.le)).trans (if_neg hp.ne')

/-- A row over the rows. -/
def rowb (g : FVec Ideal S1x128 .f32) : FVec Ideal S2048x128 .f32 :=
  broadcastTo S2048x128 (shapeCast S1x128 g shapeCasts_S1x128_S1x128) broadcasts_S1x128_S2048x128

theorem rowb_is {g : FVec Ideal S1x128 .f32} {G : ℕ → ℕ → ℝ} (hg : Is2 g G) : Is2 (rowb g) (fun _ m => G 0 m) := by
  refine Is2.of fun ρ m => ?_
  unfold rowb
  pointwise []
  exact hg _

/-- The normalised vector times the gain. -/
def normed (x : FVec Ideal S2048x128 .f32) (g : FVec Ideal S1x128 .f32) : FVec Ideal S2048x128 .f32 :=
  mulf (mulf x (rinv x)) (rowb g)

theorem normed_is {x : FVec Ideal S2048x128 .f32} {g : FVec Ideal S1x128 .f32} {X G : ℕ → ℕ → ℝ} (hx : Is2 x X) (hg : Is2 g G) :
    Is2 (normed x g) (fun ρ m => X ρ m * rn X ρ m * G 0 m) :=
  mul_is (mul_is hx (rinv_is hx)) (rowb_is hg)

/-- An eighth of a vector. -/
def eighth (x : FVec Ideal S2048x128 .f32) : FVec Ideal S2048x128 .f32 :=
  mulf x (broadcast S2048x128 (Scalar.ofBits .f32 0x3E000000#32))

theorem eighth_is {x : FVec Ideal S2048x128 .f32} {X : ℕ → ℕ → ℝ} (hx : Is2 x X) :
    Is2 (eighth x) (fun ρ m => X ρ m * (1 / 8)) := fun j => by
  show x j * Ideal.ofBits .f32 0x3E000000#32 = _
  rw [hx, c8_eq, ← EReal.coe_mul]

/-- The backward pass of the norm. -/
def nbwd (x : FVec Ideal S2048x128 .f32) (g : FVec Ideal S1x128 .f32) (d : FVec Ideal S2048x128 .f32) :
    FVec Ideal S2048x128 .bf16 :=
  truncf .bf16 (mulf (rinv x) (subf (mulf d (rowb g)) (mulf (mulf x (rinv x))
    (hmean (mulf (mulf d (rowb g)) (mulf x (rinv x))))))) bitsLt_bf16_f32

/-- The backward pass of the norm, as reals. -/
def nbwdR (X G D : ℕ → ℕ → ℝ) (ρ m : ℕ) : ℝ :=
  rn X ρ m * (D ρ m * G 0 m - X ρ m * rn X ρ m * (hsum (fun j => D ρ j * G 0 j * (X ρ j * rn X ρ j)) m * (1 / 64)))

theorem nbwd_is {x d : FVec Ideal S2048x128 .f32} {g : FVec Ideal S1x128 .f32} {X G D : ℕ → ℕ → ℝ} (hx : Is2 x X) (hg : Is2 g G)
    (hd : Is2 d D) : Is2 (nbwd x g d) (nbwdR X G D) :=
  mul_is (rinv_is hx) (sub_is (mul_is hd (rowb_is hg)) (mul_is (mul_is hx (rinv_is hx))
    (hmean_is (mul_is (mul_is hd (rowb_is hg)) (mul_is hx (rinv_is hx))))))

/-- The gradient of the gain: a row of sums over the rows. -/
def gsum (x d : FVec Ideal S2048x128 .f32) : FVec Ideal S1x128 .f32 :=
  shapeCast S1x128 (multiReduction .add [0] S128 (mulf d (mulf x (rinv x))) 0x00000000#32 reduces_S2048x128_S128 (.inl rfl) rfl)
    shapeCasts_S128_S1x128

theorem gsum_is {x d : FVec Ideal S2048x128 .f32} {X D : ℕ → ℕ → ℝ} (hx : Is2 x X) (hd : Is2 d D) :
    Is2 (gsum x d) (fun _ m => ∑ ρ : Fin 2048, D ρ m * (X ρ m * rn X ρ m)) := by
  have h := mul_is hd (mul_is hx (rinv_is hx))
  refine Is2.of fun u m => ?_
  unfold gsum
  have e : ∀ y : FVec Ideal S2048x128 .f32, shapeCast S1x128 (multiReduction .add [0] S128 y 0x00000000#32 reduces_S2048x128_S128 (.inl rfl) rfl)
    shapeCasts_S128_S1x128 (ValueIdx.ix2 u m) = ∑ ρ : Fin 2048, y (ValueIdx.ix2 ρ m) := fun y => by
    pointwise []
    rfl
  rw [e]
  simp only [h _, coe_sum]

/-- A column turned into a row, as it is stored. -/
def asrow (w : FVec Ideal S1x512x128 .f32) : FVec Ideal S1x1x512 .f32 :=
  shapeCast S1x1x512 (extractStridedSlice S1x512 ![0, 0] (transpose S128x512 [1, 0] (broadcastTo S512x128
    (shapeCast S512x1 (subf (broadcast S512x1 (Scalar.ofBits .f32 0x00000000#32)) (shapeCast S512x1
      (multiReduction .add [1] S512 (shapeCast S512x128 w shapeCasts_S1x512x128_S512x128) 0x00000000#32
        reduces_S512x128_S512 (.inl rfl) rfl) shapeCasts_S512_S512x1)) shapeCasts_S512x1_S512x1)
    broadcasts_S512x1_S512x128) transposes_S512x128_p1_0_S128x512) slices_S128x512_o0_0_S1x512) shapeCasts_S1x512_S1x1x512

theorem asrow_is {w : FVec Ideal S1x512x128 .f32} {W : ℕ → ℕ → ℝ} (hw : Is3 w W) :
    Is3 (asrow w) (fun _ κ => 0 - ∑ m : Fin 128, W κ m) := by
  refine Is3.of fun u κ => ?_
  unfold asrow
  pointwise []
  simp only [hw _, coe_sum, ← EReal.coe_sub, ← EReal.coe_neg, zero_sub]
  rfl

/-- A row turned into a column. -/
def ascol (w : FVec Ideal S1x1x512 .f32) : FVec Ideal S1x512x1 .f32 :=
  shapeCast S1x512x1 (extractStridedSlice S512x1 ![0, 0] (transpose S512x128 [1, 0] (broadcastTo S128x512
    (shapeCast S1x512 (shapeCast S1x512 w shapeCasts_S1x1x512_S1x512) shapeCasts_S1x512_S1x512)
    broadcasts_S1x512_S128x512) transposes_S128x512_p1_0_S512x128) slices_S512x128_o0_0_S512x1) shapeCasts_S512x1_S1x512x1

theorem ascol_is {w : FVec Ideal S1x1x512 .f32} {W : ℕ → ℕ → ℝ} (hw : Is3 w W) :
    Is3 (ascol w) (fun κ _ => W 0 κ) := by
  refine Is3.of fun κ u => ?_
  unfold ascol
  pointwise []
  exact hw _

end Cert.Fox
-- ==== Proof.Fox.Block.lean ====
module

public import proofs.«01_k».proof.Proof.Fox.Norm

/-! What one grid point of the kernel computes, as real functions of the entries of its blocks. -/

@[expose] public section

set_option maxRecDepth 16384

noncomputable section

namespace Cert.Fox

open Idealize.ShloMosaic

/-- The entries of the blocks of one pair of heads: queries, keys, values and the gradient of the output by row and
lane; the cumulative gates and the logarithms of the row sums by head and row; the gains by lane. -/
structure Blk where
  q : ℕ → ℕ → ℝ
  k : ℕ → ℕ → ℝ
  v : ℕ → ℕ → ℝ
  d : ℕ → ℕ → ℝ
  c : ℕ → ℕ → ℝ
  e : ℕ → ℕ → ℝ
  gq : ℕ → ℕ → ℝ
  gk : ℕ → ℕ → ℝ

namespace Blk

variable (B : Blk)

/-- The normalised keys. -/
def kn (κ m : ℕ) : ℝ := B.k κ m * rn B.k κ m * B.gk 0 m
/-- The normalised queries, an eighth of them. -/
def qn (ρ m : ℕ) : ℝ := B.q ρ m * rn B.q ρ m * B.gq 0 m * (1 / 8)
/-- The queries of the head `a`. -/
def Q (a ρ m : ℕ) : ℝ := half a m (B.qn ρ m)
/-- The keys of the head `a`, transposed. -/
def KT (a m κ : ℕ) : ℝ := half a m (B.kn κ m)
/-- The gradient of the output of the head `a`. -/
def D (a ρ m : ℕ) : ℝ := half a m (B.d ρ m)
/-- The weight of the key `κ` for the query `ρ`, unmasked. -/
def E (a κ ρ : ℕ) : ℝ := Real.exp (∑ l : Fin 128, B.kn κ l * B.Q a ρ l + B.c a ρ - B.c a κ - B.e a ρ)
/-- The weight of the key `κ` for the query `ρ`. -/
def PP (a κ ρ : ℕ) : ℝ := if κ ≤ ρ then B.E a κ ρ else 0
/-- The gradient of the weight. -/
def DP (a κ ρ : ℕ) : ℝ := ∑ l : Fin 128, B.v κ l * B.D a ρ l
/-- The mean gradient of the weights of a query. -/
def dl (a ρ : ℕ) : ℝ := ∑ κ : Fin 2048, B.PP a κ ρ * B.DP a κ ρ
/-- The gradient of the score. -/
def DS (a κ ρ : ℕ) : ℝ := B.PP a κ ρ * (B.DP a κ ρ - B.dl a ρ)
/-- Four groups of queries of a half-step, lane by lane. -/
def um (s κ m : ℕ) : ℝ :=
  B.DS (s % 2) κ (512 * (s / 2) + m) + B.DS (s % 2) κ (512 * (s / 2) + (128 + m)) +
    B.DS (s % 2) κ (512 * (s / 2) + (256 + m)) + B.DS (s % 2) κ (512 * (s / 2) + (384 + m))
/-- The sum of the scores' gradients after `s` half-steps, of the head `a`. -/
def cs (s a κ m : ℕ) : ℝ := ∑ j ∈ Finset.range s, if j % 2 = a then B.um j κ m else 0
/-- The transposed gradient of the queries of the block `i` of rows, from the first `s` heads. -/
def dqt (i s l r : ℕ) : ℝ := ∑ a ∈ Finset.range s, ∑ κ : Fin 2048, B.KT a l κ * B.DS a κ (512 * i + r)

end Blk

/-- What a half-step adds: a sum over 512 queries of one head. -/
def tm (W X : ℕ → ℕ → ℕ → ℝ) (s κ l : ℕ) : ℝ :=
  ∑ r : Fin 512, W (s % 2) κ (512 * (s / 2) + r) * X (s % 2) (512 * (s / 2) + r) l

/-- The sum after `s` half-steps. -/
def ac (W X : ℕ → ℕ → ℕ → ℝ) (s κ l : ℕ) : ℝ := ∑ j ∈ Finset.range s, tm W X j κ l

theorem ac_succ (W X : ℕ → ℕ → ℕ → ℝ) (s κ l : ℕ) : ac W X (s + 1) κ l = ac W X s κ l + tm W X s κ l :=
  Finset.sum_range_succ _ _

theorem Blk.PP_zero (B : Blk) {a κ ρ : ℕ} (h : ρ < κ) : B.PP a κ ρ = 0 := if_neg (not_le.mpr h)
theorem Blk.DS_zero (B : Blk) {a κ ρ : ℕ} (h : ρ < κ) : B.DS a κ ρ = 0 := by unfold Blk.DS; rw [B.PP_zero h, zero_mul]

theorem tm_zero {W X : ℕ → ℕ → ℕ → ℝ} (hW : ∀ a κ ρ, ρ < κ → W a κ ρ = 0) {s κ : ℕ} (h : 512 * (s / 2) + 512 ≤ κ) (l : ℕ) :
    tm W X s κ l = 0 := Finset.sum_eq_zero fun r _ => by rw [hW _ _ _ (by have := r.isLt; omega), zero_mul]

theorem Blk.um_zero (B : Blk) {s κ m : ℕ} (hm : m < 128) (h : 512 * (s / 2) + 512 ≤ κ) : B.um s κ m = 0 := by
  unfold Blk.um
  rw [B.DS_zero (by omega), B.DS_zero (by omega), B.DS_zero (by omega), B.DS_zero (by omega)]; norm_num

theorem Blk.cs_succ (B : Blk) (s a κ m : ℕ) : B.cs (s + 1) a κ m = B.cs s a κ m + if s % 2 = a then B.um s κ m else 0 :=
  Finset.sum_range_succ _ _

theorem Blk.dqt_succ (B : Blk) (i s l r : ℕ) :
    B.dqt i (s + 1) l r = B.dqt i s l r + ∑ κ : Fin 2048, B.KT s l κ * B.DS s κ (512 * i + r) :=
  Finset.sum_range_succ _ _

/-- A sum over the rows, of which those from `n + m` on are zero, is the sum over `m` rows from `n` on and the first `n`. -/
theorem sum_split {n m N : ℕ} (h : n + m ≤ N) (f : ℕ → ℝ) (h0 : ∀ κ, n + m ≤ κ → f κ = 0) :
    ∑ κ : Fin N, f κ = ∑ κ : Fin m, f (n + κ) + ∑ κ : Fin n, f κ := by
  rw [Fin.sum_univ_eq_sum_range, Fin.sum_univ_eq_sum_range, Fin.sum_univ_eq_sum_range (fun κ => f (n + κ)),
    ← Finset.sum_range_add_sum_Ico f h, Finset.sum_eq_zero (s := Finset.Ico (n + m) N)
      (fun κ hκ => h0 κ (Finset.mem_Ico.mp hκ).1), add_zero, Finset.sum_range_add, add_comm]

theorem sum_first {m N : ℕ} (h : m ≤ N) (f : ℕ → ℝ) (h0 : ∀ κ, m ≤ κ → f κ = 0) :
    ∑ κ : Fin N, f κ = ∑ κ : Fin m, f κ := by
  rw [Fin.sum_univ_eq_sum_range, Fin.sum_univ_eq_sum_range, ← Finset.sum_range_add_sum_Ico f h,
    Finset.sum_eq_zero (s := Finset.Ico m N) (fun κ hκ => h0 κ (Finset.mem_Ico.mp hκ).1), add_zero]

theorem Is2.congr {n0 n1 : ℕ} {x : (⟨2, ![n0, n1]⟩ : Shape).Idx → EReal} {f g : ℕ → ℕ → ℝ} (h : Is2 x f)
    (e : ∀ a b, a < n0 → b < n1 → f a b = g a b) : Is2 x g := fun j => by rw [h, e _ _ (j 0).isLt (j 1).isLt]

theorem Is3.congr {n0 n1 : ℕ} {x : (⟨3, ![1, n0, n1]⟩ : Shape).Idx → EReal} {f g : ℕ → ℕ → ℝ} (h : Is3 x f)
    (e : ∀ a b, a < n0 → b < n1 → f a b = g a b) : Is3 x g := fun j => by rw [h, e _ _ (j 1).isLt (j 2).isLt]

end Cert.Fox
-- ==== Proof.Fox.Res.lean ====
module

public import proofs.«01_k».proof.Proof.Fox.Block

/-! What one grid point of the kernel stores, as real functions of the entries of its blocks. -/

@[expose] public section

set_option maxRecDepth 16384

noncomputable section

namespace Cert.Fox

/-- The queries' gradient before the scale, by row and lane. -/
def Blk.qs (B : Blk) (ρ l : ℕ) : ℝ := ∑ a ∈ Finset.range 2, ∑ κ : Fin 2048, B.KT a l κ * B.DS a κ ρ
/-- The gradient of the queries, by row and lane. -/
def Blk.dqR (B : Blk) : ℕ → ℕ → ℝ := nbwdR B.q B.gq (fun ρ l => B.qs ρ l * (1 / 8))
/-- The gradient of the keys, by row and lane. -/
def Blk.dkR (B : Blk) : ℕ → ℕ → ℝ := nbwdR B.k B.gk (ac B.DS B.Q 8)
/-- The gradient of the gates, by head and row. -/
def Blk.dcR (B : Blk) (a κ : ℕ) : ℝ := 0 - ∑ m : Fin 128, B.cs 8 a κ m
/-- What a pair of heads adds to the gradient of the queries' gain, by lane. -/
def Blk.gqR (B : Blk) (m : ℕ) : ℝ := ∑ ρ : Fin 2048, B.qs ρ m * (1 / 8) * (B.q ρ m * rn B.q ρ m)
/-- What a pair of heads adds to the gradient of the keys' gain, by lane. -/
def Blk.gkR (B : Blk) (m : ℕ) : ℝ := ∑ ρ : Fin 2048, ac B.DS B.Q 8 ρ m * (B.k ρ m * rn B.k ρ m)
/-- The same lane of the other head. -/
def other (m : ℕ) : ℕ := if m < 64 then m + 64 else m - 64

end Cert.Fox
-- ==== Proof.Fox.Mat.lean ====
module

public import proofs.«01_k».proof.Proof.Fox.Res
public import proofs.«01_k».proof.Proof.Fox.Src

/-! The blocks of one pair of heads, and what is computed of them, as the functions of the whole. -/

@[expose] public section

set_option maxRecDepth 16384

noncomputable section

namespace Cert.Fox

theorem sum_lo (f : ℕ → ℝ) : (∑ j : Fin 128, if (j : ℕ) < 64 then f j else 0) = ∑ j : Fin 64, f (64 * 0 + j) := by
  rw [Fin.sum_univ_eq_sum_range (fun j => if j < 64 then f j else 0) 128, Fin.sum_univ_eq_sum_range (fun j => f (64 * 0 + j)) 64,
    show (128 : ℕ) = 64 + 64 from rfl, Finset.sum_range_add, Finset.sum_eq_zero (s := Finset.range 64) (f := fun x => if 64 + x < 64 then f (64 + x) else 0)
      (fun x _ => if_neg (by omega)), add_zero]
  exact Finset.sum_congr rfl fun x hx => by rw [if_pos (Finset.mem_range.mp hx), Nat.mul_zero, Nat.zero_add]

theorem sum_hi (f : ℕ → ℝ) : (∑ j : Fin 128, if (j : ℕ) < 64 then 0 else f j) = ∑ j : Fin 64, f (64 * 1 + j) := by
  rw [Fin.sum_univ_eq_sum_range (fun j => if j < 64 then 0 else f j) 128, Fin.sum_univ_eq_sum_range (fun j => f (64 * 1 + j)) 64,
    show (128 : ℕ) = 64 + 64 from rfl, Finset.sum_range_add, Finset.sum_eq_zero (s := Finset.range 64) (f := fun x => if x < 64 then 0 else f x)
      (fun x hx => if_pos (Finset.mem_range.mp hx)), zero_add]
  exact Finset.sum_congr rfl fun x _ => by rw [if_neg (by omega), Nat.mul_one]

theorem hsum_head (f : ℕ → ℝ) {a d : ℕ} (ha : a < 2) (hd : d < 64) : hsum f (64 * a + d) = ∑ j : Fin 64, f (64 * a + j) := by
  unfold hsum
  rcases (by omega : a = 0 ∨ a = 1) with rfl | rfl
  · rw [if_pos (by omega), sum_lo]
  · rw [if_neg (by omega), sum_hi]

theorem half_same {a d : ℕ} (ha : a < 2) (hd : d < 64) (x : ℝ) : half a (64 * a + d) x = x := by
  unfold half
  rcases (by omega : a = 0 ∨ a = 1) with rfl | rfl
  · rw [if_pos rfl, if_pos (by omega)]
  · rw [if_neg (by omega), if_neg (by omega)]

theorem half_other {a b d : ℕ} (ha : a < 2) (hb : b < 2) (hab : a ≠ b) (hd : d < 64) (x : ℝ) : half a (64 * b + d) x = 0 := by
  unfold half
  rcases (by omega : a = 0 ∧ b = 1 ∨ a = 1 ∧ b = 0) with ⟨rfl, rfl⟩ | ⟨rfl, rfl⟩
  · rw [if_pos rfl, if_neg (by omega)]
  · rw [if_neg (by omega), if_pos (by omega)]

theorem sum_half (f g : ℕ → ℝ) {a : ℕ} (ha : a < 2) : ∑ l : Fin 128, f l * half a l (g l) = ∑ j : Fin 64, f (64 * a + j) * g (64 * a + j) := by
  rcases (by omega : a = 0 ∨ a = 1) with rfl | rfl
  · rw [← sum_lo (fun l => f l * g l)]
    refine Finset.sum_congr rfl fun l _ => ?_
    unfold half
    rw [if_pos rfl]
    split
    · rfl
    · rw [mul_zero]
  · rw [← sum_hi (fun l => f l * g l)]
    refine Finset.sum_congr rfl fun l _ => ?_
    unfold half
    rw [if_neg (by omega)]
    split
    · rw [mul_zero]
    · rfl

/-- A sum over two heads of which only one counts. -/
theorem sum_two (f : ℕ → ℝ) {a : ℕ} (ha : a < 2) (h0 : ∀ b, b < 2 → b ≠ a → f b = 0) : ∑ b ∈ Finset.range 2, f b = f a :=
  Finset.sum_eq_single a (fun b hb hne => h0 b (Finset.mem_range.mp hb) hne) fun h => absurd (Finset.mem_range.mpr ha) h

/-- A sum over the rows, in four blocks of 512. -/
theorem sum_rows (f : ℕ → ℝ) : ∑ ρ : Fin 2048, f ρ = (∑ r : Fin 512, f (512 * 0 + r)) + (∑ r : Fin 512, f (512 * 1 + r))
    + (∑ r : Fin 512, f (512 * 2 + r)) + ∑ r : Fin 512, f (512 * 3 + r) := by
  have e : ∀ n, (∑ r : Fin 512, f (n + r)) = ∑ r ∈ Finset.range 512, f (n + r) := fun n => Fin.sum_univ_eq_sum_range (fun r => f (n + r)) 512
  rw [Fin.sum_univ_eq_sum_range, e, e, e, e, show (2048 : ℕ) = 512 + 512 + 512 + 512 from rfl, Finset.sum_range_add, Finset.sum_range_add,
    Finset.sum_range_add]
  norm_num

/-- A block of 512, in four groups of 128. -/
theorem sum_block (f : ℕ → ℝ) : ∑ r : Fin 512, f r = ∑ m : Fin 128, (f m + f (128 + m) + f (256 + m) + f (384 + m)) := by
  have e : ∀ n, (∑ r : Fin 128, f (n + r)) = ∑ r ∈ Finset.range 128, f (n + r) := fun n => Fin.sum_univ_eq_sum_range (fun r => f (n + r)) 128
  rw [Finset.sum_add_distrib, Finset.sum_add_distrib, Finset.sum_add_distrib, Fin.sum_univ_eq_sum_range, Fin.sum_univ_eq_sum_range f 128,
    e, e, e, show (512 : ℕ) = 128 + 128 + 128 + 128 from rfl, Finset.sum_range_add, Finset.sum_range_add, Finset.sum_range_add]

/-- The sums of the half-steps are the sums over all queries of the two heads. -/
theorem ac_eq (W X : ℕ → ℕ → ℕ → ℝ) (κ l : ℕ) : ac W X 8 κ l = ∑ a ∈ Finset.range 2, ∑ ρ : Fin 2048, W a κ ρ * X a ρ l := by
  unfold ac tm
  rw [Finset.sum_range_succ, Finset.sum_range_succ, Finset.sum_range_succ, Finset.sum_range_succ, Finset.sum_range_succ, Finset.sum_range_succ,
    Finset.sum_range_succ, Finset.sum_range_succ, Finset.sum_range_zero, Finset.sum_range_succ, Finset.sum_range_succ, Finset.sum_range_zero,
    sum_rows (fun ρ => W 0 κ ρ * X 0 ρ l), sum_rows (fun ρ => W 1 κ ρ * X 1 ρ l)]
  norm_num
  ring

theorem cs_eq (B : Blk) {a : ℕ} (ha : a < 2) (κ : ℕ) : ∑ m : Fin 128, B.cs 8 a κ m = ∑ ρ : Fin 2048, B.DS a κ ρ := by
  have hu : ∀ i, ∑ m : Fin 128, B.um (2 * i + a) κ m = ∑ r : Fin 512, B.DS a κ (512 * i + r) := fun i => by
    rw [sum_block (fun r => B.DS a κ (512 * i + r))]
    unfold Blk.um
    rw [show (2 * i + a) % 2 = a by omega, show (2 * i + a) / 2 = i by omega]
  rw [sum_rows (fun ρ => B.DS a κ ρ), ← hu, ← hu, ← hu, ← hu, ← Finset.sum_add_distrib, ← Finset.sum_add_distrib, ← Finset.sum_add_distrib]
  refine Finset.sum_congr rfl fun m _ => ?_
  unfold Blk.cs
  rcases (by omega : a = 0 ∨ a = 1) with rfl | rfl <;> simp [Finset.sum_range_succ]

namespace Src
variable (S : Src)

/-- The blocks of the pair `p` of heads. -/
def blk (p : ℕ) : Blk where
  q ρ m := S.X ρ (128 * p + m)
  k ρ m := S.X ρ (1024 + (128 * p + m))
  v ρ m := S.X ρ (2048 + (128 * p + m))
  d ρ m := S.O ρ (128 * p + m)
  c a ρ := S.C (2 * p + a) ρ
  e a ρ := S.M (2 * p + a) ρ + Real.log (S.L (2 * p + a) ρ)
  gq _ m := S.Gq (m % 64)
  gk _ m := S.Gk (m % 64)

variable {p a : ℕ}

theorem lane (p a d : ℕ) : 128 * p + (64 * a + d) = 64 * (2 * p + a) + d := by omega

theorem blk_q (p a ρ d : ℕ) : (S.blk p).q ρ (64 * a + d) = S.q ρ (2 * p + a) d := congrArg (S.X ρ) (lane p a d)
theorem blk_k (p a ρ d : ℕ) : (S.blk p).k ρ (64 * a + d) = S.k ρ (2 * p + a) d := congrArg (fun n => S.X ρ (1024 + n)) (lane p a d)
theorem blk_v (p a ρ d : ℕ) : (S.blk p).v ρ (64 * a + d) = S.v ρ (2 * p + a) d := congrArg (fun n => S.X ρ (2048 + n)) (lane p a d)
theorem blk_d (p a ρ d : ℕ) : (S.blk p).d ρ (64 * a + d) = S.o ρ (2 * p + a) d := congrArg (S.O ρ) (lane p a d)

theorem gain (G : ℕ → ℝ) (a : ℕ) {d : ℕ} (hd : d < 64) : G ((64 * a + d) % 64) = G d := congrArg G (by omega)

theorem rn_eq {X : ℕ → ℕ → ℝ} {x : ℕ → ℕ → ℕ → ℝ} {h : ℕ} (e : ∀ ρ d, X ρ (64 * a + d) = x ρ h d) (ha : a < 2) (ρ : ℕ) {d : ℕ} (hd : d < 64) :
    rn X ρ (64 * a + d) = rse x ρ h := by
  unfold rn rse mse
  rw [hsum_head _ ha hd, mul_one_div]
  simp only [e]

theorem blk_kn (ha : a < 2) (κ : ℕ) {d : ℕ} (hd : d < 64) : (S.blk p).kn κ (64 * a + d) = nme S.k S.Gk κ (2 * p + a) d := by
  unfold Blk.kn nme
  rw [S.blk_k, rn_eq (fun ρ d => S.blk_k p a ρ d) ha κ hd]
  exact congrArg _ (gain S.Gk a hd)

theorem blk_qn (ha : a < 2) (ρ : ℕ) {d : ℕ} (hd : d < 64) : (S.blk p).qn ρ (64 * a + d) = nme S.q S.Gq ρ (2 * p + a) d * (1 / 8) := by
  unfold Blk.qn nme
  rw [S.blk_q, rn_eq (fun ρ d => S.blk_q p a ρ d) ha ρ hd]
  exact congrArg (fun g => S.q ρ (2 * p + a) d * rse S.q ρ (2 * p + a) * g * (1 / 8)) (gain S.Gq a hd)

theorem blk_PP (ha : a < 2) (κ : ℕ) {ρ : ℕ} (hρ : ρ < 2048) : (S.blk p).PP a κ ρ = S.w (2 * p + a) ρ κ / S.L (2 * p + a) ρ := by
  unfold Blk.PP w
  split
  · unfold Blk.E
    have e : ∑ l : Fin 128, (S.blk p).kn κ l * (S.blk p).Q a ρ l
        = (∑ d : Fin 64, nme S.q S.Gq ρ (2 * p + a) d * nme S.k S.Gk κ (2 * p + a) d) * (1 / 8) := by
      unfold Blk.Q
      rw [sum_half (fun l => (S.blk p).kn κ l) (fun l => (S.blk p).qn ρ l) ha, Finset.sum_mul]
      refine Finset.sum_congr rfl fun d _ => ?_
      rw [S.blk_kn ha κ d.isLt, S.blk_qn ha ρ d.isLt]
      ring
    rw [e]
    show Real.exp (S.s (2 * p + a) ρ κ - (S.M (2 * p + a) ρ + Real.log (S.L (2 * p + a) ρ))) = _
    rw [← sub_sub, Real.exp_sub, Real.exp_log (S.L_pos _ hρ)]
  · rw [zero_div]

theorem blk_DP (ha : a < 2) (κ ρ : ℕ) : (S.blk p).DP a κ ρ = S.dp (2 * p + a) ρ κ := by
  unfold Blk.DP Blk.D dp
  rw [sum_half (fun l => (S.blk p).v κ l) (fun l => (S.blk p).d ρ l) ha]
  refine Finset.sum_congr rfl fun d _ => ?_
  rw [S.blk_v, S.blk_d, mul_comm]

theorem blk_DS (ha : a < 2) (κ : ℕ) {ρ : ℕ} (hρ : ρ < 2048) : (S.blk p).DS a κ ρ = S.ds (2 * p + a) ρ κ := by
  have hL := (S.L_pos (2 * p + a) hρ).ne'
  unfold Blk.DS Blk.dl ds
  have e : ∑ j : Fin 2048, S.dp (2 * p + a) ρ j * (1 / (S.L (2 * p + a) ρ * S.L (2 * p + a) ρ)) * S.w (2 * p + a) ρ j
      = (1 / S.L (2 * p + a) ρ) * ∑ j : Fin 2048, (S.blk p).PP a j ρ * (S.blk p).DP a j ρ := by
    rw [Finset.mul_sum]
    refine Finset.sum_congr rfl fun j _ => ?_
    rw [S.blk_PP ha _ hρ, S.blk_DP ha]
    field_simp
  rw [e, S.blk_PP ha _ hρ, S.blk_DP ha]
  field_simp
  ring

/-- The gradients of a row's logits sum to zero. -/
theorem ds_sum (h : ℕ) {ρ : ℕ} (hρ : ρ < 2048) : ∑ κ : Fin 2048, S.ds h ρ κ = 0 := by
  have hL := (S.L_pos h hρ).ne'
  unfold ds
  have e : ∑ j : Fin 2048, S.dp h ρ j * (1 / (S.L h ρ * S.L h ρ)) * S.w h ρ j
      = (1 / (S.L h ρ * S.L h ρ)) * ∑ j : Fin 2048, S.dp h ρ j * S.w h ρ j := by
    rw [Finset.mul_sum]
    exact Finset.sum_congr rfl fun j _ => by ring
  rw [e]
  have e2 : ∀ κ : Fin 2048, (S.dp h ρ κ / S.L h ρ + -(1 / (S.L h ρ * S.L h ρ) * ∑ j : Fin 2048, S.dp h ρ j * S.w h ρ j)) * S.w h ρ κ
      = (1 / S.L h ρ) * (S.dp h ρ κ * S.w h ρ κ) - (1 / (S.L h ρ * S.L h ρ) * ∑ j : Fin 2048, S.dp h ρ j * S.w h ρ j) * S.w h ρ κ := fun κ => by ring
  rw [Finset.sum_congr rfl fun κ _ => e2 κ, Finset.sum_sub_distrib, ← Finset.mul_sum, ← Finset.mul_sum]
  rw [show ∑ κ : Fin 2048, S.w h ρ κ = S.L h ρ from rfl]
  field_simp
  ring

theorem blk_qs (ha : a < 2) {ρ : ℕ} (hρ : ρ < 2048) {d : ℕ} (hd : d < 64) :
    (S.blk p).qs ρ (64 * a + d) * (1 / 8) = S.dqn ρ (2 * p + a) d := by
  unfold Blk.qs
  rw [sum_two (fun b => ∑ κ : Fin 2048, (S.blk p).KT b (64 * a + d) κ * (S.blk p).DS b κ ρ) ha]
  · unfold dqn
    rw [Finset.sum_mul]
    refine Finset.sum_congr rfl fun κ _ => ?_
    unfold Blk.KT
    rw [half_same ha hd, S.blk_kn ha _ hd, S.blk_DS ha _ hρ]
    ring
  · intro b hb hne
    refine Finset.sum_eq_zero fun κ _ => ?_
    unfold Blk.KT
    rw [half_other hb ha hne hd, zero_mul]

theorem blk_kac (ha : a < 2) (κ : ℕ) {d : ℕ} (hd : d < 64) : ac (S.blk p).DS (S.blk p).Q 8 κ (64 * a + d) = S.dkn κ (2 * p + a) d := by
  rw [ac_eq, sum_two (fun b => ∑ ρ : Fin 2048, (S.blk p).DS b κ ρ * (S.blk p).Q b ρ (64 * a + d)) ha]
  · unfold dkn
    refine Finset.sum_congr rfl fun ρ _ => ?_
    unfold Blk.Q
    rw [half_same ha hd, S.blk_qn ha _ hd, S.blk_DS ha _ ρ.isLt]
    ring
  · intro b hb hne
    refine Finset.sum_eq_zero fun ρ _ => ?_
    unfold Blk.Q
    rw [half_other hb ha hne hd, mul_zero]

/-- The gradient of the values of a pair of heads. -/
theorem blk_dv (ha : a < 2) (κ : ℕ) {d : ℕ} (hd : d < 64) : ac (S.blk p).PP (S.blk p).D 8 κ (64 * a + d) = S.dv κ (2 * p + a) d := by
  rw [ac_eq, sum_two (fun b => ∑ ρ : Fin 2048, (S.blk p).PP b κ ρ * (S.blk p).D b ρ (64 * a + d)) ha]
  · unfold dv
    refine Finset.sum_congr rfl fun ρ _ => ?_
    unfold Blk.D
    rw [half_same ha hd, S.blk_d, S.blk_PP ha _ ρ.isLt, mul_comm]
  · intro b hb hne
    refine Finset.sum_eq_zero fun ρ _ => ?_
    unfold Blk.D
    rw [half_other hb ha hne hd, mul_zero]

/-- The gradient of the gates of a pair of heads. -/
theorem blk_dc (ha : a < 2) {κ : ℕ} (hκ : κ < 2048) : (S.blk p).dcR a κ = S.dc (2 * p + a) κ := by
  unfold Blk.dcR dc
  rw [cs_eq _ ha, S.ds_sum _ hκ, add_zero, zero_sub, Finset.sum_neg_distrib]
  exact congrArg _ (Finset.sum_congr rfl fun ρ _ => S.blk_DS ha _ ρ.isLt)

theorem nb_eq {X D G : ℕ → ℕ → ℝ} {x y : ℕ → ℕ → ℕ → ℝ} {g : ℕ → ℝ} {h ρ : ℕ} (e : ∀ ρ d, X ρ (64 * a + d) = x ρ h d)
    (ey : ∀ d, d < 64 → D ρ (64 * a + d) = y ρ h d) (eg : ∀ d, d < 64 → G 0 (64 * a + d) = g d) (ha : a < 2) {d : ℕ} (hd : d < 64) :
    nbwdR X G D ρ (64 * a + d) = nbe x y g ρ h d := by
  unfold nbwdR nbe tme
  rw [hsum_head _ ha hd, rn_eq e ha ρ hd, e, ey d hd, eg d hd]
  have e1 : ∑ j : Fin 64, D ρ (64 * a + j) * G 0 (64 * a + j) * (X ρ (64 * a + j) * rn X ρ (64 * a + j))
      = rse x ρ h * ∑ j : Fin 64, x ρ h j * (y ρ h j * g j) := by
    rw [Finset.mul_sum]
    refine Finset.sum_congr rfl fun j _ => ?_
    rw [rn_eq e ha ρ j.isLt, e, ey j j.isLt, eg j j.isLt]
    ring
  rw [e1]
  have e2 : rse x ρ h / mse x ρ h = rse x ρ h * (rse x ρ h * rse x ρ h) := by
    have : rse x ρ h * rse x ρ h = (mse x ρ h)⁻¹ := by
      unfold rse
      rw [← mul_inv, Real.mul_self_sqrt (mse_pos x ρ h).le]
    rw [this, div_eq_mul_inv]
  rw [e2]
  ring

/-- The gradients of the queries and keys of a pair of heads. -/
theorem blk_dq (ha : a < 2) {ρ : ℕ} (hρ : ρ < 2048) {d : ℕ} (hd : d < 64) : (S.blk p).dqR ρ (64 * a + d) = S.dq ρ (2 * p + a) d :=
  nb_eq (fun ρ d => S.blk_q p a ρ d) (fun d hd => S.blk_qs ha hρ hd) (fun d hd => gain S.Gq a hd) ha hd
theorem blk_dk (ha : a < 2) (κ : ℕ) {d : ℕ} (hd : d < 64) : (S.blk p).dkR κ (64 * a + d) = S.dk κ (2 * p + a) d :=
  nb_eq (fun ρ d => S.blk_k p a ρ d) (fun d hd => S.blk_kac ha κ hd) (fun d hd => gain S.Gk a hd) ha hd

theorem blk_gq (ha : a < 2) {d : ℕ} (hd : d < 64) :
    (S.blk p).gqR (64 * a + d) = ∑ ρ : Fin 2048, S.q ρ (2 * p + a) d * rse S.q ρ (2 * p + a) * S.dqn ρ (2 * p + a) d := by
  unfold Blk.gqR
  refine Finset.sum_congr rfl fun ρ _ => ?_
  rw [S.blk_qs ha ρ.isLt hd, S.blk_q, rn_eq (fun ρ d => S.blk_q p a ρ d) ha ρ hd, mul_comm]
theorem blk_gk (ha : a < 2) {d : ℕ} (hd : d < 64) :
    (S.blk p).gkR (64 * a + d) = ∑ ρ : Fin 2048, S.k ρ (2 * p + a) d * rse S.k ρ (2 * p + a) * S.dkn ρ (2 * p + a) d := by
  unfold Blk.gkR
  refine Finset.sum_congr rfl fun ρ _ => ?_
  rw [S.blk_kac ha _ hd, S.blk_k, rn_eq (fun ρ d => S.blk_k p a ρ d) ha ρ hd, mul_comm]

theorem sum_heads (F : ℕ → ℝ) : (∑ p ∈ Finset.range 8, F (2 * p + 0)) + (∑ p ∈ Finset.range 8, F (2 * p + 1)) = ∑ h ∈ Finset.range 16, F h := by
  simp only [Finset.sum_range_succ, Finset.sum_range_zero]
  norm_num
  ring

theorem gn_eq {x y : ℕ → ℕ → ℕ → ℝ} {R : ℕ → ℕ → ℝ}
    (e : ∀ p a d, a < 2 → d < 64 → R p (64 * a + d) = ∑ ρ : Fin 2048, x ρ (2 * p + a) d * rse x ρ (2 * p + a) * y ρ (2 * p + a) d)
    {m : ℕ} (hm : m < 128) : (∑ p ∈ Finset.range 8, R p m) + (∑ p ∈ Finset.range 8, R p (other m)) = gne x y (m % 64) := by
  have key : ∀ d, d < 64 → (∑ p ∈ Finset.range 8, R p (64 * 0 + d)) + (∑ p ∈ Finset.range 8, R p (64 * 1 + d)) = gne x y d := fun d hd => by
    unfold gne
    rw [Finset.sum_comm, Fin.sum_univ_eq_sum_range (fun h => ∑ ρ : Fin 2048, x ρ h d * rse x ρ h * y ρ h d) 16]
    simp only [e _ 0 d (by omega) hd, e _ 1 d (by omega) hd]
    exact sum_heads fun h => ∑ ρ : Fin 2048, x ρ h d * rse x ρ h * y ρ h d
  unfold other
  by_cases c : m < 64
  · rw [if_pos c, Nat.mod_eq_of_lt c, ← key m c, Nat.mul_zero, Nat.zero_add, Nat.mul_one, Nat.add_comm m 64]
  · rw [if_neg c, show m % 64 = m - 64 by omega, ← key (m - 64) (by omega), Nat.mul_zero, Nat.zero_add, Nat.mul_one,
      show 64 + (m - 64) = m by omega, add_comm]

end Src

end Cert.Fox
-- ==== Proof.Fox.Entry.lean ====
module

public import proofs.«01_k».proof.Proof.Fox.Ref3
public import proofs.«01_k».proof.Proof.Fox.Mat
public import proofs.«01_k».proof.Proof.Gen.KernelIdeal.Frame
public import Idealize.ShloMosaic.Lib.Pointwise
public import Idealize.ShloMosaic.Lib.StableHlo.RunRead

/-! The arrays the host hands to the kernel: the gates, the gains put twice end to end, and the log of each row's sum. -/

@[expose] public section

set_option maxRecDepth 16384

noncomputable section

namespace Cert.Fox

open Idealize.ShloMosaic Idealize.ShloMosaic.TcCoe Cert.KernelIdeal Cert.KernelIdeal.Gen Idealize.ShloMosaic.StableHlo
open Cert.ReferenceIdeal.Read (val_main_v50_0 val_main_v51)

section Words
variable (x0 : (⟨S2048x3200, .f32⟩ : BufTy).Contents (Elt Ideal)) (x1 : (⟨S16x2048, .f32⟩ : BufTy).Contents (Elt Ideal))
  (x2 x3 : (⟨S64, .f32⟩ : BufTy).Contents (Elt Ideal))

/-- The row maxima, put along the keys. -/
def kmx : FVec Ideal S16x2048x2048 .f32 :=
  broadcastInDim S16x2048x2048 ![0, 1, 2] bcast_S16x2048x1_S16x2048x2048_0_1_2
    (broadcastInDim S16x2048x1 ![0, 1] bcast_S16x2048_S16x2048x1_0_1 (val_main_v51 (F := Ideal) x0 x1 x2 x3))

/-- The exponentials of the masked logits less their row's maximum. -/
def kexp : FVec Ideal S16x2048x2048 .f32 :=
  Host.exp (subf (val_main_v50_0 (F := Ideal) x0 x1 x2 x3 : FVec Ideal S16x2048x2048 .f32) (kmx x0 x1 x2 x3))

/-- The log of the rows' sums of exponentials. -/
def klse : FVec Ideal S16x2048 .f32 :=
  addf (val_main_v51 (F := Ideal) x0 x1 x2 x3 : FVec Ideal S16x2048 .f32)
    (Host.log (Host.reduceAdd (kexp x0 x1 x2 x3) (constant S_ .f32 0#32) reducesTo_S16x2048x2048_S16x2048_d2 h_S_))

/-- A vector of 64 entries put twice end to end. -/
def ktwice (x2 : (⟨S64, .f32⟩ : BufTy).Contents (Elt Ideal)) : FVec Ideal S1x128 .f32 :=
  shapeCast S1x128 (broadcastInDim S1x1x2x64 ![0, 1, 2, 3] bcast_S1x1x1x64_S1x1x2x64_0_1_2_3
    (shapeCast S1x1x1x64 (shapeCast S1x64 (x2 : FVec Ideal S64 .f32) shapeCasts_S64_S1x64) shapeCasts_S1x64_S1x1x1x64))
    shapeCasts_S1x1x2x64_S1x128
end Words

variable (m : (ℓ : Loc nD τ sig) → Buf (Elt Ideal) ℓ) (c : Dev nD)

theorem v52 : V m c main_v52 = shapeCast S16x1x2048 (m ((c : Thread nD τ).loc main_arg1) : FVec Ideal S16x2048 .f32) shapeCasts_S16x2048_S16x1x2048 := by
  unfold V
  simp only [hostOps0, hostOps0_1, hostOps0_2, List.flatten_cons, List.flatten_nil, List.append_nil, List.cons_append, List.nil_append]
  after_reads_simp
  rfl

theorem v56 : V m c main_v56 = ktwice (m ((c : Thread nD τ).loc main_arg2)) := by
  unfold V
  simp only [hostOps0, hostOps0_1, hostOps0_2, List.flatten_cons, List.flatten_nil, List.append_nil, List.cons_append, List.nil_append]
  after_reads_simp
  rfl

theorem v60 : V m c main_v60 = ktwice (m ((c : Thread nD τ).loc main_arg3)) := by
  unfold V
  simp only [hostOps0, hostOps0_1, hostOps0_2, List.flatten_cons, List.flatten_nil, List.append_nil, List.cons_append, List.nil_append]
  after_reads_simp
  rfl

theorem v61 : V m c main_v61 = shapeCast S16x1x2048 (klse (m ((c : Thread nD τ).loc main_arg0)) (m ((c : Thread nD τ).loc main_arg1))
    (m ((c : Thread nD τ).loc main_arg2)) (m ((c : Thread nD τ).loc main_arg3))) shapeCasts_S16x2048_S16x1x2048 := by
  unfold V
  simp only [hostOps0, hostOps0_1, hostOps0_2, List.flatten_cons, List.flatten_nil, List.append_nil, List.cons_append, List.nil_append]
  after_reads_simp
  rfl

end Cert.Fox
-- ==== Proof.Fox.Entry2.lean ====
module

public import proofs.«01_k».proof.Proof.Fox.Ref3
public import proofs.«01_k».proof.Proof.Fox.Mat
public import proofs.«01_k».proof.Proof.Fox.Entry
public import Idealize.ShloMosaic.Lib.Pointwise
public import Idealize.ShloMosaic.Lib.StableHlo.RunRead

/-! The entries of the gains put twice end to end and of the log of each row's sum. -/

@[expose] public section

set_option maxRecDepth 16384

noncomputable section

namespace Cert.Fox

open Idealize.ShloMosaic Idealize.ShloMosaic.TcCoe Cert.KernelIdeal Cert.KernelIdeal.Gen Idealize.ShloMosaic.StableHlo
open Cert.ReferenceIdeal.Read (val_main_v50_0 val_main_v51)

section Reals
variable {S : Src} {x0 : (⟨S2048x3200, .f32⟩ : BufTy).Contents (Elt Ideal)} {x1 : (⟨S16x2048, .f32⟩ : BufTy).Contents (Elt Ideal)}
  {x2 x3 : (⟨S64, .f32⟩ : BufTy).Contents (Elt Ideal)} {x4 : (⟨S2048x1024, .f32⟩ : BufTy).Contents (Elt Ideal)}

theorem kmx_is (h : Okm S x0 x1 x2 x3 x4) (i : S16x2048x2048.Idx) :
    (kmx x0 x1 x2 x3 i : EReal) = ((S.M (i 0).val (i 1).val : ℝ) : EReal) := by
  unfold kmx
  generalize hy : val_main_v51 (F := Ideal) x0 x1 x2 x3 = y
  have hm := h.m
  rw [hy] at hm
  exact (by pointwise []; rfl : _ = y (ValueIdx.ix2 (i 0) (i 1))).trans (hm _)

theorem kexp_is (h : Okm S x0 x1 x2 x3 x4) (i : S16x2048x2048.Idx) :
    (kexp x0 x1 x2 x3 i : EReal) = ((S.w (i 0).val (i 1).val (i 2).val : ℝ) : EReal) := by
  show FloatOps.hostUnary (F := Ideal) (φ := .f32) .exp (FloatOps.subf (F := Ideal) (φ := .f32) (val_main_v50_0 (F := Ideal) x0 x1 x2 x3 i) (kmx x0 x1 x2 x3 i)) = _
  rw [kmx_is h i, rf50 h.ok i]
  unfold Src.w
  by_cases c : (i 2).val ≤ (i 1).val
  · rw [if_pos c, if_pos c]
    exact exp_co (sub_co rfl rfl)
  · rw [if_neg c, if_neg c]
    exact exp_bo (EReal.bot_sub _)

theorem ksum_is (h : Okm S x0 x1 x2 x3 x4) (i : S16x2048.Idx) :
    (Host.reduceAdd (kexp x0 x1 x2 x3) (constant S_ .f32 0#32) reducesTo_S16x2048x2048_S16x2048_d2 h_S_ i : EReal)
      = ((S.L (i 0).val (i 1).val : ℝ) : EReal) := by
  have hk := kexp_is h
  generalize kexp x0 x1 x2 x3 = y at hk ⊢
  refine (by pointwise []; exact Finset.sum_congr rfl fun _ _ => rfl : _ = (FloatOps.ofBits .f32 0#32 : Ideal .f32) + ∑ k : Fin 2048, y (ValueIdx.ix3 (i 0) (i 1) k)).trans ?_
  exact sum_co c0_co fun k => hk _

theorem lse_of (y z : FVec Ideal S16x2048 .f32) (i : S16x2048.Idx) {a b : ℝ} (hb : 0 < b) (hy : (y i : EReal) = (a : EReal)) (hz : (z i : EReal) = (b : EReal)) :
    (addf y (Host.log z) i : EReal) = ((a + Real.log b : ℝ) : EReal) :=
  add_co hy (log_co hb hz)

theorem klse_is (h : Okm S x0 x1 x2 x3 x4) (i : S16x2048.Idx) :
    (klse x0 x1 x2 x3 i : EReal) = ((S.M (i 0).val (i 1).val + Real.log (S.L (i 0).val (i 1).val) : ℝ) : EReal) := by
  have h1 : (i 1).val < 2048 := (i 1).isLt
  exact lse_of _ _ i (S.L_pos (i 0).val h1) (h.m i) (ksum_is h i)

theorem ktwice_is {f : ℕ → ℝ} (hx : ∀ i, (x2 i : EReal) = ((f (i 0).val : ℝ) : EReal)) (i : S1x128.Idx) :
    (ktwice x2 i : EReal) = ((f ((i 1).val % 64) : ℝ) : EReal) := by
  have h0 : (i 0).val < 1 := (i 0).isLt
  have h1 : (i 1).val < 128 := (i 1).isLt
  unfold ktwice
  refine (by pointwise []; rfl : _ = x2 (ValueIdx.ix1 ⟨(i 1).val % 64, Nat.mod_lt _ (by decide)⟩)).trans (hx _)
end Reals

end Cert.Fox
-- ==== Proof.Fox.Half.lean ====
module

public import proofs.«01_k».proof.Proof.Fox.Block

/-! One half-step: 512 queries of one head against the keys of their own block and of the blocks before it. -/

@[expose] public section

set_option maxRecDepth 16384

noncomputable section

namespace Cert.Fox

open Idealize.ShloMosaic Cert.KernelIdeal Cert.KernelIdeal.Gen

/-- The row of zeros a sum over keys starts from. -/
def zrow : FVec Ideal S1x512 .f32 := broadcast S1x512 (Scalar.ofBits .f32 0x00000000#32)

/-- The vectors a half-step of the block 0 of rows loads. -/
structure Ld0 where
  kbD : FVec Ideal S512x128 .bf16
  vbD : FVec Ideal S512x128 .bf16
  qi : FVec Ideal S1x512x128 .bf16
  doi : FVec Ideal S1x512x128 .bf16
  cri : FVec Ideal S1x1x512 .f32
  lri : FVec Ideal S1x1x512 .f32
  ccD : FVec Ideal S1x512x1 .f32

/-- The vectors loaded by the half-step `s` hold the entries they should. -/
structure Ld0.Ok (x : Ld0) (B : Blk) (s : ℕ) : Prop where
  kbD : Is2 x.kbD (fun κ l => B.kn κ l)
  vbD : Is2 x.vbD (fun κ l => B.v κ l)
  qi : Is3 x.qi (fun r l => B.Q (s % 2) r l)
  doi : Is3 x.doi (fun r l => B.D (s % 2) r l)
  cri : Is3 x.cri (fun _ r => B.c (s % 2) r)
  lri : Is3 x.lri (fun _ r => B.e (s % 2) r)
  ccD : Is3 x.ccD (fun κ _ => B.c (s % 2) κ)

namespace Ld0

/-- The weights of the diagonal block. -/
def pD (x : Ld0) : FVec Ideal S512x512 .f32 := pm (p512 x.kbD x.qi x.cri x.lri x.ccD)
/-- Their gradients. -/
def eD (x : Ld0) : FVec Ideal S512x512 .f32 := dp512 x.vbD x.doi
/-- The mean gradients of the queries. -/
def dl (x : Ld0) : FVec Ideal S1x512 .f32 := sum512 zrow x.pD x.eD
/-- The gradients of the scores of the diagonal block. -/
def sD (x : Ld0) : FVec Ideal S512x512 .f32 := ds512 x.pD x.eD x.dl

variable {x : Ld0} {B : Blk} {s : ℕ}

theorem pD_is (h : x.Ok B s) : Is2 x.pD (fun κ r => B.PP (s % 2) κ r) :=
  (pm_is (p512_is h.kbD h.qi h.cri h.lri h.ccD)).congr fun κ r _ _ => by
    unfold Blk.PP Blk.E
    by_cases hκ : κ ≤ r
    · rw [if_pos hκ]
    · rw [if_neg hκ]

theorem eD_is (h : x.Ok B s) : Is2 x.eD (fun κ r => B.DP (s % 2) κ r) := dp512_is h.vbD h.doi

theorem dl_is (h : x.Ok B s) : Is2 x.dl (fun _ r => B.dl (s % 2) r) :=
  (sum512_is zrow_is (pD_is h) (eD_is h)).congr fun _ r _ hr => by
    unfold Blk.dl
    rw [zero_add, sum_first (N := 2048) (m := 512) (by norm_num) (fun κ => B.PP (s % 2) κ r * B.DP (s % 2) κ r)
      (fun κ hκ => by rw [B.PP_zero (by omega), zero_mul])]

theorem sD_is (h : x.Ok B s) : Is2 x.sD (fun κ r => B.DS (s % 2) κ r) :=
  ds512_is (pD_is h) (eD_is h) (dl_is h)

theorem dvD_is (h : x.Ok B s) (hs : s / 2 = 0) {w : FVec Ideal S512x128 .f32}
    (hw : Is2 w (fun κ l => ac B.PP B.D s κ l)) :
    Is2 (acc512 w x.pD x.doi) (fun κ l => ac B.PP B.D (s + 1) κ l) :=
  (acc512_is hw (pD_is h) h.doi).congr fun κ l _ _ => by
    rw [ac_succ, tm, hs]
    try simp only [Nat.reduceMul, Nat.zero_add]

theorem dkD_is (h : x.Ok B s) (hs : s / 2 = 0) {w : FVec Ideal S512x128 .f32}
    (hw : Is2 w (fun κ l => ac B.DS B.Q s κ l)) :
    Is2 (acc512 w x.sD x.qi) (fun κ l => ac B.DS B.Q (s + 1) κ l) :=
  (acc512_is hw (sD_is h) h.qi).congr fun κ l _ _ => by
    rw [ac_succ, tm, hs]
    try simp only [Nat.reduceMul, Nat.zero_add]

theorem dcD_is (h : x.Ok B s) (hs : s / 2 = 0) {w : FVec Ideal S1x512x128 .f32}
    (hw : Is3 w (fun κ m => B.cs s (s % 2) κ m)) :
    Is3 (dc512 w x.sD) (fun κ m => B.cs (s + 1) (s % 2) κ m) :=
  (dc512_is hw (sD_is h)).congr fun κ m _ _ => by
    rw [B.cs_succ, if_pos rfl, Blk.um, hs]
    try simp only [Nat.reduceMul, Nat.zero_add]

theorem dq_is (h : x.Ok B s) {z : FVec Ideal S128x512 .f32} (hz : Is2 z (B.dqt 0 (s % 2)))
    {ktD : FVec Ideal S1x128x512 .bf16} (hD : Is3 ktD (fun l κ => B.KT (s % 2) l κ)) :
    Is2 (dq512 z ktD x.sD) (B.dqt 0 (s % 2 + 1)) :=
  (dq512_is hz hD (sD_is h)).congr fun l r _ _ => by
    rw [B.dqt_succ, sum_first (N := 2048) (m := 512) (by norm_num) (fun κ => B.KT (s % 2) l κ * B.DS (s % 2) κ (512 * 0 + r))
      (fun κ hκ => by rw [B.DS_zero (by omega), mul_zero])]
    try simp only [Nat.reduceMul, Nat.zero_add]

end Ld0

/-- The vectors a half-step of the block 1 of rows loads. -/
structure Ld512 where
  kbD : FVec Ideal S512x128 .bf16
  vbD : FVec Ideal S512x128 .bf16
  qi : FVec Ideal S1x512x128 .bf16
  doi : FVec Ideal S1x512x128 .bf16
  cri : FVec Ideal S1x1x512 .f32
  lri : FVec Ideal S1x1x512 .f32
  ccD : FVec Ideal S1x512x1 .f32
  kbO : FVec Ideal S512x128 .bf16
  vbO : FVec Ideal S512x128 .bf16
  ccO : FVec Ideal S1x512x1 .f32

/-- The vectors loaded by the half-step `s` hold the entries they should. -/
structure Ld512.Ok (x : Ld512) (B : Blk) (s : ℕ) : Prop where
  kbD : Is2 x.kbD (fun κ l => B.kn (512 + κ) l)
  vbD : Is2 x.vbD (fun κ l => B.v (512 + κ) l)
  qi : Is3 x.qi (fun r l => B.Q (s % 2) (512 + r) l)
  doi : Is3 x.doi (fun r l => B.D (s % 2) (512 + r) l)
  cri : Is3 x.cri (fun _ r => B.c (s % 2) (512 + r))
  lri : Is3 x.lri (fun _ r => B.e (s % 2) (512 + r))
  ccD : Is3 x.ccD (fun κ _ => B.c (s % 2) (512 + κ))
  kbO : Is2 x.kbO (fun κ l => B.kn κ l)
  vbO : Is2 x.vbO (fun κ l => B.v κ l)
  ccO : Is3 x.ccO (fun κ _ => B.c (s % 2) κ)

namespace Ld512

/-- The weights of the diagonal block. -/
def pD (x : Ld512) : FVec Ideal S512x512 .f32 := pm (p512 x.kbD x.qi x.cri x.lri x.ccD)
/-- Their gradients. -/
def eD (x : Ld512) : FVec Ideal S512x512 .f32 := dp512 x.vbD x.doi
/-- The weights of the keys before the block. -/
def pO (x : Ld512) : FVec Ideal S512x512 .f32 := p512 x.kbO x.qi x.cri x.lri x.ccO
/-- Their gradients. -/
def eO (x : Ld512) : FVec Ideal S512x512 .f32 := dp512 x.vbO x.doi
/-- The mean gradients of the queries. -/
def dl (x : Ld512) : FVec Ideal S1x512 .f32 := sum512 (sum512 zrow x.pD x.eD) x.pO x.eO
/-- The gradients of the scores of the diagonal block. -/
def sD (x : Ld512) : FVec Ideal S512x512 .f32 := ds512 x.pD x.eD x.dl
/-- The gradients of the scores of the keys before the block. -/
def sO (x : Ld512) : FVec Ideal S512x512 .f32 := ds512 x.pO x.eO x.dl

variable {x : Ld512} {B : Blk} {s : ℕ}

theorem pD_is (h : x.Ok B s) : Is2 x.pD (fun κ r => B.PP (s % 2) (512 + κ) (512 + r)) :=
  (pm_is (p512_is h.kbD h.qi h.cri h.lri h.ccD)).congr fun κ r _ _ => by
    unfold Blk.PP Blk.E
    by_cases hκ : κ ≤ r
    · rw [if_pos hκ, if_pos (by omega)]
    · rw [if_neg hκ, if_neg (by omega)]

theorem eD_is (h : x.Ok B s) : Is2 x.eD (fun κ r => B.DP (s % 2) (512 + κ) (512 + r)) := dp512_is h.vbD h.doi

theorem pO_is (h : x.Ok B s) : Is2 x.pO (fun κ r => B.PP (s % 2) κ (512 + r)) :=
  (p512_is h.kbO h.qi h.cri h.lri h.ccO).congr fun κ r hκ _ => by
    unfold Blk.PP Blk.E
    rw [if_pos (by omega)]

theorem eO_is (h : x.Ok B s) : Is2 x.eO (fun κ r => B.DP (s % 2) κ (512 + r)) := dp512_is h.vbO h.doi

theorem dl_is (h : x.Ok B s) : Is2 x.dl (fun _ r => B.dl (s % 2) (512 + r)) :=
  (sum512_is (sum512_is zrow_is (pD_is h) (eD_is h)) (pO_is h) (eO_is h)).congr fun _ r _ hr => by
    unfold Blk.dl
    rw [zero_add, sum_split (N := 2048) (n := 512) (m := 512) (by norm_num) (fun κ => B.PP (s % 2) κ (512 + r) * B.DP (s % 2) κ (512 + r))
      (fun κ hκ => by rw [B.PP_zero (by omega), zero_mul])]

theorem sD_is (h : x.Ok B s) : Is2 x.sD (fun κ r => B.DS (s % 2) (512 + κ) (512 + r)) :=
  ds512_is (pD_is h) (eD_is h) (dl_is h)

theorem dvD_is (h : x.Ok B s) (hs : s / 2 = 1) {w : FVec Ideal S512x128 .f32}
    (hw : Is2 w (fun κ l => ac B.PP B.D s (512 + κ) l)) :
    Is2 (acc512 w x.pD x.doi) (fun κ l => ac B.PP B.D (s + 1) (512 + κ) l) :=
  (acc512_is hw (pD_is h) h.doi).congr fun κ l _ _ => by
    rw [ac_succ, tm, hs]
    try simp only [Nat.reduceMul, Nat.zero_add]

theorem dkD_is (h : x.Ok B s) (hs : s / 2 = 1) {w : FVec Ideal S512x128 .f32}
    (hw : Is2 w (fun κ l => ac B.DS B.Q s (512 + κ) l)) :
    Is2 (acc512 w x.sD x.qi) (fun κ l => ac B.DS B.Q (s + 1) (512 + κ) l) :=
  (acc512_is hw (sD_is h) h.qi).congr fun κ l _ _ => by
    rw [ac_succ, tm, hs]
    try simp only [Nat.reduceMul, Nat.zero_add]

theorem dcD_is (h : x.Ok B s) (hs : s / 2 = 1) {w : FVec Ideal S1x512x128 .f32}
    (hw : Is3 w (fun κ m => B.cs s (s % 2) (512 + κ) m)) :
    Is3 (dc512 w x.sD) (fun κ m => B.cs (s + 1) (s % 2) (512 + κ) m) :=
  (dc512_is hw (sD_is h)).congr fun κ m _ _ => by
    rw [B.cs_succ, if_pos rfl, Blk.um, hs]
    try simp only [Nat.reduceMul, Nat.zero_add]

theorem sO_is (h : x.Ok B s) : Is2 x.sO (fun κ r => B.DS (s % 2) κ (512 + r)) :=
  ds512_is (pO_is h) (eO_is h) (dl_is h)

theorem dvO_is (h : x.Ok B s) (hs : s / 2 = 1) {w : FVec Ideal S512x128 .f32}
    (hw : Is2 w (fun κ l => ac B.PP B.D s κ l)) :
    Is2 (acc512 w x.pO x.doi) (fun κ l => ac B.PP B.D (s + 1) κ l) :=
  (acc512_is hw (pO_is h) h.doi).congr fun κ l _ _ => by
    rw [ac_succ, tm, hs]
    try simp only [Nat.reduceMul, Nat.zero_add]

theorem dkO_is (h : x.Ok B s) (hs : s / 2 = 1) {w : FVec Ideal S512x128 .f32}
    (hw : Is2 w (fun κ l => ac B.DS B.Q s κ l)) :
    Is2 (acc512 w x.sO x.qi) (fun κ l => ac B.DS B.Q (s + 1) κ l) :=
  (acc512_is hw (sO_is h) h.qi).congr fun κ l _ _ => by
    rw [ac_succ, tm, hs]
    try simp only [Nat.reduceMul, Nat.zero_add]

theorem dcO_is (h : x.Ok B s) (hs : s / 2 = 1) {w : FVec Ideal S1x512x128 .f32}
    (hw : Is3 w (fun κ m => B.cs s (s % 2) κ m)) :
    Is3 (dc512 w x.sO) (fun κ m => B.cs (s + 1) (s % 2) κ m) :=
  (dc512_is hw (sO_is h)).congr fun κ m _ _ => by
    rw [B.cs_succ, if_pos rfl, Blk.um, hs]
    try simp only [Nat.reduceMul, Nat.zero_add]

theorem dq_is (h : x.Ok B s) {z : FVec Ideal S128x512 .f32} (hz : Is2 z (B.dqt 1 (s % 2)))
    {ktD : FVec Ideal S1x128x512 .bf16} (hD : Is3 ktD (fun l κ => B.KT (s % 2) l (512 + κ)))
    {ktO : FVec Ideal S1x128x512 .bf16} (hO : Is3 ktO (fun l κ => B.KT (s % 2) l κ)) :
    Is2 (dq512 (dq512 z ktD x.sD) ktO x.sO) (B.dqt 1 (s % 2 + 1)) :=
  (dq512_is (dq512_is hz hD (sD_is h)) hO (sO_is h)).congr fun l r _ _ => by
    rw [B.dqt_succ, sum_split (N := 2048) (n := 512) (m := 512) (by norm_num) (fun κ => B.KT (s % 2) l κ * B.DS (s % 2) κ (512 * 1 + r))
      (fun κ hκ => by rw [B.DS_zero (by omega), mul_zero]), add_assoc]

end Ld512

/-- The vectors a half-step of the block 2 of rows loads. -/
structure Ld1024 where
  kbD : FVec Ideal S512x128 .bf16
  vbD : FVec Ideal S512x128 .bf16
  qi : FVec Ideal S1x512x128 .bf16
  doi : FVec Ideal S1x512x128 .bf16
  cri : FVec Ideal S1x1x512 .f32
  lri : FVec Ideal S1x1x512 .f32
  ccD : FVec Ideal S1x512x1 .f32
  kbO : FVec Ideal S1024x128 .bf16
  vbO : FVec Ideal S1024x128 .bf16
  ccO : FVec Ideal S1x1024x1 .f32

/-- The vectors loaded by the half-step `s` hold the entries they should. -/
structure Ld1024.Ok (x : Ld1024) (B : Blk) (s : ℕ) : Prop where
  kbD : Is2 x.kbD (fun κ l => B.kn (1024 + κ) l)
  vbD : Is2 x.vbD (fun κ l => B.v (1024 + κ) l)
  qi : Is3 x.qi (fun r l => B.Q (s % 2) (1024 + r) l)
  doi : Is3 x.doi (fun r l => B.D (s % 2) (1024 + r) l)
  cri : Is3 x.cri (fun _ r => B.c (s % 2) (1024 + r))
  lri : Is3 x.lri (fun _ r => B.e (s % 2) (1024 + r))
  ccD : Is3 x.ccD (fun κ _ => B.c (s % 2) (1024 + κ))
  kbO : Is2 x.kbO (fun κ l => B.kn κ l)
  vbO : Is2 x.vbO (fun κ l => B.v κ l)
  ccO : Is3 x.ccO (fun κ _ => B.c (s % 2) κ)

namespace Ld1024

/-- The weights of the diagonal block. -/
def pD (x : Ld1024) : FVec Ideal S512x512 .f32 := pm (p512 x.kbD x.qi x.cri x.lri x.ccD)
/-- Their gradients. -/
def eD (x : Ld1024) : FVec Ideal S512x512 .f32 := dp512 x.vbD x.doi
/-- The weights of the keys before the block. -/
def pO (x : Ld1024) : FVec Ideal S1024x512 .f32 := p1024 x.kbO x.qi x.cri x.lri x.ccO
/-- Their gradients. -/
def eO (x : Ld1024) : FVec Ideal S1024x512 .f32 := dp1024 x.vbO x.doi
/-- The mean gradients of the queries. -/
def dl (x : Ld1024) : FVec Ideal S1x512 .f32 := sum1024 (sum512 zrow x.pD x.eD) x.pO x.eO
/-- The gradients of the scores of the diagonal block. -/
def sD (x : Ld1024) : FVec Ideal S512x512 .f32 := ds512 x.pD x.eD x.dl
/-- The gradients of the scores of the keys before the block. -/
def sO (x : Ld1024) : FVec Ideal S1024x512 .f32 := ds1024 x.pO x.eO x.dl

variable {x : Ld1024} {B : Blk} {s : ℕ}

theorem pD_is (h : x.Ok B s) : Is2 x.pD (fun κ r => B.PP (s % 2) (1024 + κ) (1024 + r)) :=
  (pm_is (p512_is h.kbD h.qi h.cri h.lri h.ccD)).congr fun κ r _ _ => by
    unfold Blk.PP Blk.E
    by_cases hκ : κ ≤ r
    · rw [if_pos hκ, if_pos (by omega)]
    · rw [if_neg hκ, if_neg (by omega)]

theorem eD_is (h : x.Ok B s) : Is2 x.eD (fun κ r => B.DP (s % 2) (1024 + κ) (1024 + r)) := dp512_is h.vbD h.doi

theorem pO_is (h : x.Ok B s) : Is2 x.pO (fun κ r => B.PP (s % 2) κ (1024 + r)) :=
  (p1024_is h.kbO h.qi h.cri h.lri h.ccO).congr fun κ r hκ _ => by
    unfold Blk.PP Blk.E
    rw [if_pos (by omega)]

theorem eO_is (h : x.Ok B s) : Is2 x.eO (fun κ r => B.DP (s % 2) κ (1024 + r)) := dp1024_is h.vbO h.doi

theorem dl_is (h : x.Ok B s) : Is2 x.dl (fun _ r => B.dl (s % 2) (1024 + r)) :=
  (sum1024_is (sum512_is zrow_is (pD_is h) (eD_is h)) (pO_is h) (eO_is h)).congr fun _ r _ hr => by
    unfold Blk.dl
    rw [zero_add, sum_split (N := 2048) (n := 1024) (m := 512) (by norm_num) (fun κ => B.PP (s % 2) κ (1024 + r) * B.DP (s % 2) κ (1024 + r))
      (fun κ hκ => by rw [B.PP_zero (by omega), zero_mul])]

theorem sD_is (h : x.Ok B s) : Is2 x.sD (fun κ r => B.DS (s % 2) (1024 + κ) (1024 + r)) :=
  ds512_is (pD_is h) (eD_is h) (dl_is h)

theorem dvD_is (h : x.Ok B s) (hs : s / 2 = 2) {w : FVec Ideal S512x128 .f32}
    (hw : Is2 w (fun κ l => ac B.PP B.D s (1024 + κ) l)) :
    Is2 (acc512 w x.pD x.doi) (fun κ l => ac B.PP B.D (s + 1) (1024 + κ) l) :=
  (acc512_is hw (pD_is h) h.doi).congr fun κ l _ _ => by
    rw [ac_succ, tm, hs]
    try simp only [Nat.reduceMul, Nat.zero_add]

theorem dkD_is (h : x.Ok B s) (hs : s / 2 = 2) {w : FVec Ideal S512x128 .f32}
    (hw : Is2 w (fun κ l => ac B.DS B.Q s (1024 + κ) l)) :
    Is2 (acc512 w x.sD x.qi) (fun κ l => ac B.DS B.Q (s + 1) (1024 + κ) l) :=
  (acc512_is hw (sD_is h) h.qi).congr fun κ l _ _ => by
    rw [ac_succ, tm, hs]
    try simp only [Nat.reduceMul, Nat.zero_add]

theorem dcD_is (h : x.Ok B s) (hs : s / 2 = 2) {w : FVec Ideal S1x512x128 .f32}
    (hw : Is3 w (fun κ m => B.cs s (s % 2) (1024 + κ) m)) :
    Is3 (dc512 w x.sD) (fun κ m => B.cs (s + 1) (s % 2) (1024 + κ) m) :=
  (dc512_is hw (sD_is h)).congr fun κ m _ _ => by
    rw [B.cs_succ, if_pos rfl, Blk.um, hs]
    try simp only [Nat.reduceMul, Nat.zero_add]

theorem sO_is (h : x.Ok B s) : Is2 x.sO (fun κ r => B.DS (s % 2) κ (1024 + r)) :=
  ds1024_is (pO_is h) (eO_is h) (dl_is h)

theorem dvO_is (h : x.Ok B s) (hs : s / 2 = 2) {w : FVec Ideal S1024x128 .f32}
    (hw : Is2 w (fun κ l => ac B.PP B.D s κ l)) :
    Is2 (acc1024 w x.pO x.doi) (fun κ l => ac B.PP B.D (s + 1) κ l) :=
  (acc1024_is hw (pO_is h) h.doi).congr fun κ l _ _ => by
    rw [ac_succ, tm, hs]
    try simp only [Nat.reduceMul, Nat.zero_add]

theorem dkO_is (h : x.Ok B s) (hs : s / 2 = 2) {w : FVec Ideal S1024x128 .f32}
    (hw : Is2 w (fun κ l => ac B.DS B.Q s κ l)) :
    Is2 (acc1024 w x.sO x.qi) (fun κ l => ac B.DS B.Q (s + 1) κ l) :=
  (acc1024_is hw (sO_is h) h.qi).congr fun κ l _ _ => by
    rw [ac_succ, tm, hs]
    try simp only [Nat.reduceMul, Nat.zero_add]

theorem dcO_is (h : x.Ok B s) (hs : s / 2 = 2) {w : FVec Ideal S1x1024x128 .f32}
    (hw : Is3 w (fun κ m => B.cs s (s % 2) κ m)) :
    Is3 (dc1024 w x.sO) (fun κ m => B.cs (s + 1) (s % 2) κ m) :=
  (dc1024_is hw (sO_is h)).congr fun κ m _ _ => by
    rw [B.cs_succ, if_pos rfl, Blk.um, hs]
    try simp only [Nat.reduceMul, Nat.zero_add]

theorem dq_is (h : x.Ok B s) {z : FVec Ideal S128x512 .f32} (hz : Is2 z (B.dqt 2 (s % 2)))
    {ktD : FVec Ideal S1x128x512 .bf16} (hD : Is3 ktD (fun l κ => B.KT (s % 2) l (1024 + κ)))
    {ktO : FVec Ideal S1x128x1024 .bf16} (hO : Is3 ktO (fun l κ => B.KT (s % 2) l κ)) :
    Is2 (dq1024 (dq512 z ktD x.sD) ktO x.sO) (B.dqt 2 (s % 2 + 1)) :=
  (dq1024_is (dq512_is hz hD (sD_is h)) hO (sO_is h)).congr fun l r _ _ => by
    rw [B.dqt_succ, sum_split (N := 2048) (n := 1024) (m := 512) (by norm_num) (fun κ => B.KT (s % 2) l κ * B.DS (s % 2) κ (512 * 2 + r))
      (fun κ hκ => by rw [B.DS_zero (by omega), mul_zero]), add_assoc]

end Ld1024

/-- The vectors a half-step of the block 3 of rows loads. -/
structure Ld1536 where
  kbD : FVec Ideal S512x128 .bf16
  vbD : FVec Ideal S512x128 .bf16
  qi : FVec Ideal S1x512x128 .bf16
  doi : FVec Ideal S1x512x128 .bf16
  cri : FVec Ideal S1x1x512 .f32
  lri : FVec Ideal S1x1x512 .f32
  ccD : FVec Ideal S1x512x1 .f32
  kbO : FVec Ideal S1536x128 .bf16
  vbO : FVec Ideal S1536x128 .bf16
  ccO : FVec Ideal S1x1536x1 .f32

/-- The vectors loaded by the half-step `s` hold the entries they should. -/
structure Ld1536.Ok (x : Ld1536) (B : Blk) (s : ℕ) : Prop where
  kbD : Is2 x.kbD (fun κ l => B.kn (1536 + κ) l)
  vbD : Is2 x.vbD (fun κ l => B.v (1536 + κ) l)
  qi : Is3 x.qi (fun r l => B.Q (s % 2) (1536 + r) l)
  doi : Is3 x.doi (fun r l => B.D (s % 2) (1536 + r) l)
  cri : Is3 x.cri (fun _ r => B.c (s % 2) (1536 + r))
  lri : Is3 x.lri (fun _ r => B.e (s % 2) (1536 + r))
  ccD : Is3 x.ccD (fun κ _ => B.c (s % 2) (1536 + κ))
  kbO : Is2 x.kbO (fun κ l => B.kn κ l)
  vbO : Is2 x.vbO (fun κ l => B.v κ l)
  ccO : Is3 x.ccO (fun κ _ => B.c (s % 2) κ)

namespace Ld1536

/-- The weights of the diagonal block. -/
def pD (x : Ld1536) : FVec Ideal S512x512 .f32 := pm (p512 x.kbD x.qi x.cri x.lri x.ccD)
/-- Their gradients. -/
def eD (x : Ld1536) : FVec Ideal S512x512 .f32 := dp512 x.vbD x.doi
/-- The weights of the keys before the block. -/
def pO (x : Ld1536) : FVec Ideal S1536x512 .f32 := p1536 x.kbO x.qi x.cri x.lri x.ccO
/-- Their gradients. -/
def eO (x : Ld1536) : FVec Ideal S1536x512 .f32 := dp1536 x.vbO x.doi
/-- The mean gradients of the queries. -/
def dl (x : Ld1536) : FVec Ideal S1x512 .f32 := sum1536 (sum512 zrow x.pD x.eD) x.pO x.eO
/-- The gradients of the scores of the diagonal block. -/
def sD (x : Ld1536) : FVec Ideal S512x512 .f32 := ds512 x.pD x.eD x.dl
/-- The gradients of the scores of the keys before the block. -/
def sO (x : Ld1536) : FVec Ideal S1536x512 .f32 := ds1536 x.pO x.eO x.dl

variable {x : Ld1536} {B : Blk} {s : ℕ}

theorem pD_is (h : x.Ok B s) : Is2 x.pD (fun κ r => B.PP (s % 2) (1536 + κ) (1536 + r)) :=
  (pm_is (p512_is h.kbD h.qi h.cri h.lri h.ccD)).congr fun κ r _ _ => by
    unfold Blk.PP Blk.E
    by_cases hκ : κ ≤ r
    · rw [if_pos hκ, if_pos (by omega)]
    · rw [if_neg hκ, if_neg (by omega)]

theorem eD_is (h : x.Ok B s) : Is2 x.eD (fun κ r => B.DP (s % 2) (1536 + κ) (1536 + r)) := dp512_is h.vbD h.doi

theorem pO_is (h : x.Ok B s) : Is2 x.pO (fun κ r => B.PP (s % 2) κ (1536 + r)) :=
  (p1536_is h.kbO h.qi h.cri h.lri h.ccO).congr fun κ r hκ _ => by
    unfold Blk.PP Blk.E
    rw [if_pos (by omega)]

theorem eO_is (h : x.Ok B s) : Is2 x.eO (fun κ r => B.DP (s % 2) κ (1536 + r)) := dp1536_is h.vbO h.doi

theorem dl_is (h : x.Ok B s) : Is2 x.dl (fun _ r => B.dl (s % 2) (1536 + r)) :=
  (sum1536_is (sum512_is zrow_is (pD_is h) (eD_is h)) (pO_is h) (eO_is h)).congr fun _ r _ hr => by
    unfold Blk.dl
    rw [zero_add, sum_split (N := 2048) (n := 1536) (m := 512) (by norm_num) (fun κ => B.PP (s % 2) κ (1536 + r) * B.DP (s % 2) κ (1536 + r))
      (fun κ hκ => by rw [B.PP_zero (by omega), zero_mul])]

theorem sD_is (h : x.Ok B s) : Is2 x.sD (fun κ r => B.DS (s % 2) (1536 + κ) (1536 + r)) :=
  ds512_is (pD_is h) (eD_is h) (dl_is h)

theorem dvD_is (h : x.Ok B s) (hs : s / 2 = 3) {w : FVec Ideal S512x128 .f32}
    (hw : Is2 w (fun κ l => ac B.PP B.D s (1536 + κ) l)) :
    Is2 (acc512 w x.pD x.doi) (fun κ l => ac B.PP B.D (s + 1) (1536 + κ) l) :=
  (acc512_is hw (pD_is h) h.doi).congr fun κ l _ _ => by
    rw [ac_succ, tm, hs]
    try simp only [Nat.reduceMul, Nat.zero_add]

theorem dkD_is (h : x.Ok B s) (hs : s / 2 = 3) {w : FVec Ideal S512x128 .f32}
    (hw : Is2 w (fun κ l => ac B.DS B.Q s (1536 + κ) l)) :
    Is2 (acc512 w x.sD x.qi) (fun κ l => ac B.DS B.Q (s + 1) (1536 + κ) l) :=
  (acc512_is hw (sD_is h) h.qi).congr fun κ l _ _ => by
    rw [ac_succ, tm, hs]
    try simp only [Nat.reduceMul, Nat.zero_add]

theorem dcD_is (h : x.Ok B s) (hs : s / 2 = 3) {w : FVec Ideal S1x512x128 .f32}
    (hw : Is3 w (fun κ m => B.cs s (s % 2) (1536 + κ) m)) :
    Is3 (dc512 w x.sD) (fun κ m => B.cs (s + 1) (s % 2) (1536 + κ) m) :=
  (dc512_is hw (sD_is h)).congr fun κ m _ _ => by
    rw [B.cs_succ, if_pos rfl, Blk.um, hs]
    try simp only [Nat.reduceMul, Nat.zero_add]

theorem sO_is (h : x.Ok B s) : Is2 x.sO (fun κ r => B.DS (s % 2) κ (1536 + r)) :=
  ds1536_is (pO_is h) (eO_is h) (dl_is h)

theorem dvO_is (h : x.Ok B s) (hs : s / 2 = 3) {w : FVec Ideal S1536x128 .f32}
    (hw : Is2 w (fun κ l => ac B.PP B.D s κ l)) :
    Is2 (acc1536 w x.pO x.doi) (fun κ l => ac B.PP B.D (s + 1) κ l) :=
  (acc1536_is hw (pO_is h) h.doi).congr fun κ l _ _ => by
    rw [ac_succ, tm, hs]
    try simp only [Nat.reduceMul, Nat.zero_add]

theorem dkO_is (h : x.Ok B s) (hs : s / 2 = 3) {w : FVec Ideal S1536x128 .f32}
    (hw : Is2 w (fun κ l => ac B.DS B.Q s κ l)) :
    Is2 (acc1536 w x.sO x.qi) (fun κ l => ac B.DS B.Q (s + 1) κ l) :=
  (acc1536_is hw (sO_is h) h.qi).congr fun κ l _ _ => by
    rw [ac_succ, tm, hs]
    try simp only [Nat.reduceMul, Nat.zero_add]

theorem dcO_is (h : x.Ok B s) (hs : s / 2 = 3) {w : FVec Ideal S1x1536x128 .f32}
    (hw : Is3 w (fun κ m => B.cs s (s % 2) κ m)) :
    Is3 (dc1536 w x.sO) (fun κ m => B.cs (s + 1) (s % 2) κ m) :=
  (dc1536_is hw (sO_is h)).congr fun κ m _ _ => by
    rw [B.cs_succ, if_pos rfl, Blk.um, hs]
    try simp only [Nat.reduceMul, Nat.zero_add]

theorem dq_is (h : x.Ok B s) {z : FVec Ideal S128x512 .f32} (hz : Is2 z (B.dqt 3 (s % 2)))
    {ktD : FVec Ideal S1x128x512 .bf16} (hD : Is3 ktD (fun l κ => B.KT (s % 2) l (1536 + κ)))
    {ktO : FVec Ideal S1x128x1536 .bf16} (hO : Is3 ktO (fun l κ => B.KT (s % 2) l κ)) :
    Is2 (dq1536 (dq512 z ktD x.sD) ktO x.sO) (B.dqt 3 (s % 2 + 1)) :=
  (dq1536_is (dq512_is hz hD (sD_is h)) hO (sO_is h)).congr fun l r _ _ => by
    rw [B.dqt_succ, sum_split (N := 2048) (n := 1536) (m := 512) (by norm_num) (fun κ => B.KT (s % 2) l κ * B.DS (s % 2) κ (512 * 3 + r))
      (fun κ hκ => by rw [B.DS_zero (by omega), mul_zero]), add_assoc]

end Ld1536

end Cert.Fox
-- ==== Proof.Held.lean ====
module

public import Idealize.ShloMosaic.Lib.Pipeline.ReadBack
public import Idealize.ShloMosaic.Lib.Pointwise

/-! What a buffer holds, at coordinates: a list of stores leaves at every index the value of a function of the
index's coordinates. A store inside a rectangle and a load of a rectangle are followed at coordinates. -/

@[expose] public section

set_option maxRecDepth 16384

noncomputable section

namespace Cert.Held

open Idealize.ShloMosaic

/-- The stores `L`, last first, leave `G a b` in a rank-2 buffer. -/
def Held2 {n0 n1 : ℕ} {e : EltTy} (L : List (View.Piece (Elt Ideal) (⟨2, ![n0, n1]⟩ : Shape) e))
    (G : Fin n0 → Fin n1 → Elt Ideal e) : Prop :=
  ∀ a b, View.canon (Val := Elt Ideal) L (ValueIdx.ix2 a b) = G a b

/-- The stores `L`, last first, leave `G a b c` in a rank-3 buffer. -/
def Held3 {n0 n1 n2 : ℕ} {e : EltTy} (L : List (View.Piece (Elt Ideal) (⟨3, ![n0, n1, n2]⟩ : Shape) e))
    (G : Fin n0 → Fin n1 → Fin n2 → Elt Ideal e) : Prop :=
  ∀ a b c, View.canon (Val := Elt Ideal) L (ValueIdx.ix3 a b c) = G a b c

/-- A load of a rectangle of a rank-2 buffer reads what the stores left there. -/
theorem Held2.load {n0 n1 m0 m1 o0 o1 : ℕ} {e : EltTy} {L : List (View.Piece (Elt Ideal) (⟨2, ![n0, n1]⟩ : Shape) e)}
    {G : Fin n0 → Fin n1 → Elt Ideal e} (h : Held2 L G) {sig : RefSig} {κ : Kind} {sp : Space}
    (v : View sig κ sp (⟨2, ![n0, n1]⟩ : Shape) e) (inb : ∀ a, (![o0, o1] : Fin 2 → ℕ) a + (![m0, m1] : Fin 2 → ℕ) a ≤ (![n0, n1] : Fin 2 → ℕ) a)
    (a : Fin m0) (b : Fin m1) :
    v.readCov L (Rect.unit (s := (⟨2, ![n0, n1]⟩ : Shape)) ![o0, o1] ![m0, m1] inb).toLoadRect (ValueIdx.ix2 a b)
      = G ⟨o0 + a, by have := inb 0; simp at this; omega⟩ ⟨o1 + b, by have := inb 1; simp at this; omega⟩ := by
  refine (congrFun (View.readCov_eq_canon' v L _) _).trans (Eq.trans (congrArg (View.canon (Val := Elt Ideal) L) ?_) (h _ _))
  funext d
  match d with
  | ⟨0, _⟩ => exact Fin.ext (show o0 + 1 * a.val = o0 + a.val by omega)
  | ⟨1, _⟩ => exact Fin.ext (show o1 + 1 * b.val = o1 + b.val by omega)

/-- A load of a rectangle of a rank-3 buffer reads what the stores left there. -/
theorem Held3.load {n0 n1 n2 m0 m1 m2 o0 o1 o2 : ℕ} {e : EltTy}
    {L : List (View.Piece (Elt Ideal) (⟨3, ![n0, n1, n2]⟩ : Shape) e)}
    {G : Fin n0 → Fin n1 → Fin n2 → Elt Ideal e} (h : Held3 L G) {sig : RefSig} {κ : Kind} {sp : Space}
    (v : View sig κ sp (⟨3, ![n0, n1, n2]⟩ : Shape) e)
    (inb : ∀ a, (![o0, o1, o2] : Fin 3 → ℕ) a + (![m0, m1, m2] : Fin 3 → ℕ) a ≤ (![n0, n1, n2] : Fin 3 → ℕ) a)
    (a : Fin m0) (b : Fin m1) (c : Fin m2) :
    v.readCov L (Rect.unit (s := (⟨3, ![n0, n1, n2]⟩ : Shape)) ![o0, o1, o2] ![m0, m1, m2] inb).toLoadRect (ValueIdx.ix3 a b c)
      = G ⟨o0 + a, by have := inb 0; simp at this; omega⟩ ⟨o1 + b, by have := inb 1; simp at this; omega⟩
          ⟨o2 + c, by have := inb 2; simp at this; omega⟩ := by
  refine (congrFun (View.readCov_eq_canon' v L _) _).trans (Eq.trans (congrArg (View.canon (Val := Elt Ideal) L) ?_) (h _ _ _))
  funext d
  match d with
  | ⟨0, _⟩ => exact Fin.ext (show o0 + 1 * a.val = o0 + a.val by omega)
  | ⟨1, _⟩ => exact Fin.ext (show o1 + 1 * b.val = o1 + b.val by omega)
  | ⟨2, _⟩ => exact Fin.ext (show o2 + 1 * c.val = o2 + c.val by omega)

/-- One more store into a rank-2 buffer: its payload inside the rectangle, the earlier contents outside. -/
theorem held2_cons {n0 n1 m0 m1 o0 o1 : ℕ} {e : EltTy} {L : List (View.Piece (Elt Ideal) (⟨2, ![n0, n1]⟩ : Shape) e)}
    (inb : ∀ a, (![o0, o1] : Fin 2 → ℕ) a + (![m0, m1] : Fin 2 → ℕ) a ≤ (![n0, n1] : Fin 2 → ℕ) a)
    (w : (⟨2, ![m0, m1]⟩ : Shape).Idx → Elt Ideal e) (G' : Fin n0 → Fin n1 → Elt Ideal e)
    (hin : ∀ (a : Fin m0) (b : Fin m1), w (ValueIdx.ix2 a b) = G' ⟨o0 + a, by have := inb 0; simp at this; omega⟩ ⟨o1 + b, by have := inb 1; simp at this; omega⟩)
    (hout : ∀ (a : Fin n0) (b : Fin n1), ¬ ((o0 ≤ a.val ∧ a.val < o0 + m0) ∧ (o1 ≤ b.val ∧ b.val < o1 + m1)) →
      View.canon (Val := Elt Ideal) L (ValueIdx.ix2 a b) = G' a b) :
    Held2 (⟨Rect.unit (s := (⟨2, ![n0, n1]⟩ : Shape)) ![o0, o1] ![m0, m1] inb, w⟩ :: L) G' := by
  intro a b
  by_cases hab : (o0 ≤ a.val ∧ a.val < o0 + m0) ∧ (o1 ≤ b.val ∧ b.val < o1 + m1)
  · have e0 : (ValueIdx.ix2 a b : (⟨2, ![n0, n1]⟩ : Shape).Idx)
        = (Rect.unit (s := (⟨2, ![n0, n1]⟩ : Shape)) ![o0, o1] ![m0, m1] inb).emb
            (ValueIdx.ix2 (⟨a.val - o0, by omega⟩ : Fin m0) (⟨b.val - o1, by omega⟩ : Fin m1)) := by
      funext d
      match d with
      | ⟨0, _⟩ => exact Fin.ext (show a.val = o0 + 1 * (a.val - o0) by omega)
      | ⟨1, _⟩ => exact Fin.ext (show b.val = o1 + 1 * (b.val - o1) by omega)
    rw [e0]
    refine Eq.trans (View.canon_cons_emb (Val := Elt Ideal) (Rect.unit (s := (⟨2, ![n0, n1]⟩ : Shape)) ![o0, o1] ![m0, m1] inb) w L
      (ValueIdx.ix2 (⟨a.val - o0, by omega⟩ : Fin m0) (⟨b.val - o1, by omega⟩ : Fin m1))) (Eq.trans (hin ⟨a.val - o0, by omega⟩ ⟨b.val - o1, by omega⟩) ?_)
    congr 1 <;> exact Fin.ext (by simp; omega)
  · refine (View.canon_cons_of_not_mem _ L ?_).trans (hout a b hab)
    rw [Rect.mem_set_unit]
    intro hm
    exact hab ⟨hm 0, hm 1⟩

/-- One more store into a rank-3 buffer: its payload inside the rectangle, the earlier contents outside. -/
theorem held3_cons {n0 n1 n2 m0 m1 m2 o0 o1 o2 : ℕ} {e : EltTy}
    {L : List (View.Piece (Elt Ideal) (⟨3, ![n0, n1, n2]⟩ : Shape) e)}
    (inb : ∀ a, (![o0, o1, o2] : Fin 3 → ℕ) a + (![m0, m1, m2] : Fin 3 → ℕ) a ≤ (![n0, n1, n2] : Fin 3 → ℕ) a)
    (w : (⟨3, ![m0, m1, m2]⟩ : Shape).Idx → Elt Ideal e) (G' : Fin n0 → Fin n1 → Fin n2 → Elt Ideal e)
    (hin : ∀ (a : Fin m0) (b : Fin m1) (c : Fin m2), w (ValueIdx.ix3 a b c)
      = G' ⟨o0 + a, by have := inb 0; simp at this; omega⟩ ⟨o1 + b, by have := inb 1; simp at this; omega⟩
          ⟨o2 + c, by have := inb 2; simp at this; omega⟩)
    (hout : ∀ (a : Fin n0) (b : Fin n1) (c : Fin n2),
      ¬ ((o0 ≤ a.val ∧ a.val < o0 + m0) ∧ (o1 ≤ b.val ∧ b.val < o1 + m1) ∧ (o2 ≤ c.val ∧ c.val < o2 + m2)) →
      View.canon (Val := Elt Ideal) L (ValueIdx.ix3 a b c) = G' a b c) :
    Held3 (⟨Rect.unit (s := (⟨3, ![n0, n1, n2]⟩ : Shape)) ![o0, o1, o2] ![m0, m1, m2] inb, w⟩ :: L) G' := by
  intro a b c
  by_cases hab : (o0 ≤ a.val ∧ a.val < o0 + m0) ∧ (o1 ≤ b.val ∧ b.val < o1 + m1) ∧ (o2 ≤ c.val ∧ c.val < o2 + m2)
  · have e0 : (ValueIdx.ix3 a b c : (⟨3, ![n0, n1, n2]⟩ : Shape).Idx)
        = (Rect.unit (s := (⟨3, ![n0, n1, n2]⟩ : Shape)) ![o0, o1, o2] ![m0, m1, m2] inb).emb
            (ValueIdx.ix3 (⟨a.val - o0, by omega⟩ : Fin m0) (⟨b.val - o1, by omega⟩ : Fin m1) (⟨c.val - o2, by omega⟩ : Fin m2)) := by
      funext d
      match d with
      | ⟨0, _⟩ => exact Fin.ext (show a.val = o0 + 1 * (a.val - o0) by omega)
      | ⟨1, _⟩ => exact Fin.ext (show b.val = o1 + 1 * (b.val - o1) by omega)
      | ⟨2, _⟩ => exact Fin.ext (show c.val = o2 + 1 * (c.val - o2) by omega)
    rw [e0]
    refine Eq.trans (View.canon_cons_emb (Val := Elt Ideal) (Rect.unit (s := (⟨3, ![n0, n1, n2]⟩ : Shape)) ![o0, o1, o2] ![m0, m1, m2] inb) w L
      (ValueIdx.ix3 (⟨a.val - o0, by omega⟩ : Fin m0) (⟨b.val - o1, by omega⟩ : Fin m1) (⟨c.val - o2, by omega⟩ : Fin m2))) (Eq.trans (hin ⟨a.val - o0, by omega⟩ ⟨b.val - o1, by omega⟩ ⟨c.val - o2, by omega⟩) ?_)
    congr 1 <;> exact Fin.ext (by simp; omega)
  · refine (View.canon_cons_of_not_mem _ L ?_).trans (hout a b c hab)
    rw [Rect.mem_set_unit]
    intro hm
    exact hab ⟨hm 0, hm 1, hm 2⟩

end Cert.Held
-- ==== Proof.Fox.Store.lean ====
module

public import proofs.«01_k».proof.Proof.Fox.Half
public import proofs.«01_k».proof.Proof.Held
public import Idealize.ShloMosaic.Lib.WholeRead

/-! Loads and stores of the scratch arrays, as real functions of the row, the lane and the head. -/

@[expose] public section

set_option maxRecDepth 16384

noncomputable section

namespace Cert.Fox

open Idealize.ShloMosaic Cert.KernelIdeal Cert.Held

/-- A rank-2 vector of any element type holds the real function `f`, read by `r`. -/
def R2 {n0 n1 : ℕ} {e : EltTy} (r : ℝ → Elt Ideal e) (x : (⟨2, ![n0, n1]⟩ : Shape).Idx → Elt Ideal e) (f : ℕ → ℕ → ℝ) : Prop :=
  ∀ j, x j = r (f (j 0).val (j 1).val)

/-- A rank-3 vector of any element type, its first axis of one element, holds the real function `f`, read by `r`. -/
def R3 {n0 n1 : ℕ} {e : EltTy} (r : ℝ → Elt Ideal e) (x : (⟨3, ![1, n0, n1]⟩ : Shape).Idx → Elt Ideal e) (f : ℕ → ℕ → ℝ) : Prop :=
  ∀ j, x j = r (f (j 1).val (j 2).val)

/-- A rank-3 vector of any element type holds the real function `f` of its three coordinates, read by `r`. -/
def R3f {n0 n1 n2 : ℕ} {e : EltTy} (r : ℝ → Elt Ideal e) (x : (⟨3, ![n0, n1, n2]⟩ : Shape).Idx → Elt Ideal e)
    (f : ℕ → ℕ → ℕ → ℝ) : Prop := ∀ j, x j = r (f (j 0).val (j 1).val (j 2).val)

variable {n0 n1 n2 m0 m1 m2 o0 o1 o2 : ℕ} {e : EltTy} {r : ℝ → Elt Ideal e}

/-- The stores `L` leave the real function `f` in a rank-2 array. -/
def H2 (L : List (View.Piece (Elt Ideal) (⟨2, ![n0, n1]⟩ : Shape) e)) (r : ℝ → Elt Ideal e) (f : ℕ → ℕ → ℝ) : Prop :=
  Held2 L (fun a b => r (f a b))

/-- The stores `L` leave the real function `f` in a rank-3 array. -/
def H3 (L : List (View.Piece (Elt Ideal) (⟨3, ![n0, n1, n2]⟩ : Shape) e)) (r : ℝ → Elt Ideal e) (f : ℕ → ℕ → ℕ → ℝ) : Prop :=
  Held3 L (fun a b c => r (f a b c))

/-- A load of a part of a rank-2 array. -/
theorem H2.load {L : List (View.Piece (Elt Ideal) (⟨2, ![n0, n1]⟩ : Shape) e)} {f : ℕ → ℕ → ℝ} (h : H2 L r f)
    (g : ℕ → ℕ → ℝ) {sig : RefSig} {κ : Kind} {sp : Space} {v : View sig κ sp (⟨2, ![n0, n1]⟩ : Shape) e}
    {inb : ∀ a, (![o0, o1] : Fin 2 → ℕ) a + (![m0, m1] : Fin 2 → ℕ) a ≤ (![n0, n1] : Fin 2 → ℕ) a}
    (he : ∀ a b, a < m0 → b < m1 → f (o0 + a) (o1 + b) = g a b) :
    R2 (n0 := m0) (n1 := m1) r
      (v.readCov L (Rect.unit (s := (⟨2, ![n0, n1]⟩ : Shape)) ![o0, o1] ![m0, m1] inb).toLoadRect) g := fun j => by
  rw [ValueIdx.eq_ix2 j]
  exact (Held2.load h v inb (j 0) (j 1)).trans (congrArg r (he _ _ (j 0).isLt (j 1).isLt))

/-- A load of a part of one plane of a rank-3 array. -/
theorem H3.load {L : List (View.Piece (Elt Ideal) (⟨3, ![n0, n1, n2]⟩ : Shape) e)} {f : ℕ → ℕ → ℕ → ℝ} (h : H3 L r f)
    (g : ℕ → ℕ → ℝ) {sig : RefSig} {κ : Kind} {sp : Space} {v : View sig κ sp (⟨3, ![n0, n1, n2]⟩ : Shape) e}
    {inb : ∀ a, (![o0, o1, o2] : Fin 3 → ℕ) a + (![1, m1, m2] : Fin 3 → ℕ) a ≤ (![n0, n1, n2] : Fin 3 → ℕ) a}
    (he : ∀ a b, a < m1 → b < m2 → f o0 (o1 + a) (o2 + b) = g a b) :
    R3 (n0 := m1) (n1 := m2) r
      (v.readCov L (Rect.unit (s := (⟨3, ![n0, n1, n2]⟩ : Shape)) ![o0, o1, o2] ![1, m1, m2] inb).toLoadRect) g := fun j => by
  have h0 : (j 0).val = 0 := by have : (j 0).val < 1 := (j 0).isLt; omega
  rw [ValueIdx.eq_ix3 j]
  refine (Held3.load h v inb (j 0) (j 1) (j 2)).trans (congrArg r ((?_ : _ = _).trans (he _ _ (j 1).isLt (j 2).isLt)))
  simp only [h0, add_zero]
  rfl

/-- One more store into a rank-2 array. -/
theorem H2.cons {L : List (View.Piece (Elt Ideal) (⟨2, ![n0, n1]⟩ : Shape) e)}
    {inb : ∀ a, (![o0, o1] : Fin 2 → ℕ) a + (![m0, m1] : Fin 2 → ℕ) a ≤ (![n0, n1] : Fin 2 → ℕ) a}
    {w : (⟨2, ![m0, m1]⟩ : Shape).Idx → Elt Ideal e} {f : ℕ → ℕ → ℝ} {g : ℕ → ℕ → ℝ} (h : H2 L r f) (hw : R2 r w g)
    (f' : ℕ → ℕ → ℝ) (hin : ∀ a b, a < m0 → b < m1 → g a b = f' (o0 + a) (o1 + b))
    (hout : ∀ a b, a < n0 → b < n1 → ¬ ((o0 ≤ a ∧ a < o0 + m0) ∧ (o1 ≤ b ∧ b < o1 + m1)) → f a b = f' a b) :
    H2 (⟨Rect.unit (s := (⟨2, ![n0, n1]⟩ : Shape)) ![o0, o1] ![m0, m1] inb, w⟩ :: L) r f' :=
  held2_cons inb w _ (fun a b => (hw (ValueIdx.ix2 a b)).trans (congrArg r (hin a b a.isLt b.isLt)))
    fun a b hab => (h a b).trans (congrArg r (hout _ _ a.isLt b.isLt hab))

/-- A store of a whole rank-2 array. -/
theorem H2.whole {L : List (View.Piece (Elt Ideal) (⟨2, ![n0, n1]⟩ : Shape) e)}
    {inb : ∀ a, (![0, 0] : Fin 2 → ℕ) a + (![n0, n1] : Fin 2 → ℕ) a ≤ (![n0, n1] : Fin 2 → ℕ) a}
    {w : (⟨2, ![n0, n1]⟩ : Shape).Idx → Elt Ideal e} {g : ℕ → ℕ → ℝ} (hw : R2 r w g) :
    H2 (⟨Rect.unit (s := (⟨2, ![n0, n1]⟩ : Shape)) ![0, 0] ![n0, n1] inb, w⟩ :: L) r g :=
  held2_cons inb w _ (fun a b => (hw (ValueIdx.ix2 a b)).trans (congrArg r (by simp only [Nat.zero_add]; rfl)))
    fun a b hab => absurd ⟨⟨Nat.zero_le _, by have := a.isLt; omega⟩, ⟨Nat.zero_le _, by have := b.isLt; omega⟩⟩ hab

/-- One more store into a plane of a rank-3 array. -/
theorem H3.cons {L : List (View.Piece (Elt Ideal) (⟨3, ![n0, n1, n2]⟩ : Shape) e)}
    {inb : ∀ a, (![o0, o1, o2] : Fin 3 → ℕ) a + (![1, m1, m2] : Fin 3 → ℕ) a ≤ (![n0, n1, n2] : Fin 3 → ℕ) a}
    {w : (⟨3, ![1, m1, m2]⟩ : Shape).Idx → Elt Ideal e} {f : ℕ → ℕ → ℕ → ℝ} {g : ℕ → ℕ → ℝ} (h : H3 L r f) (hw : R3 r w g)
    (f' : ℕ → ℕ → ℕ → ℝ) (hin : ∀ a b, a < m1 → b < m2 → g a b = f' o0 (o1 + a) (o2 + b))
    (hout : ∀ a b c, a < n0 → b < n1 → c < n2 → ¬ (a = o0 ∧ (o1 ≤ b ∧ b < o1 + m1) ∧ (o2 ≤ c ∧ c < o2 + m2)) →
      f a b c = f' a b c) :
    H3 (⟨Rect.unit (s := (⟨3, ![n0, n1, n2]⟩ : Shape)) ![o0, o1, o2] ![1, m1, m2] inb, w⟩ :: L) r f' :=
  held3_cons inb w _ (fun a b c => (hw (ValueIdx.ix3 a b c)).trans (congrArg r ((hin b c b.isLt c.isLt).trans (by
      have : a.val = 0 := by omega
      simp only [this, add_zero]))))
    fun a b c hab => (h a b c).trans (congrArg r
      (hout _ _ _ a.isLt b.isLt c.isLt fun hm => hab ⟨by omega, hm.2⟩))

/-- A store of a whole rank-3 array. -/
theorem H3.whole {L : List (View.Piece (Elt Ideal) (⟨3, ![n0, n1, n2]⟩ : Shape) e)}
    {inb : ∀ a, (![0, 0, 0] : Fin 3 → ℕ) a + (![n0, n1, n2] : Fin 3 → ℕ) a ≤ (![n0, n1, n2] : Fin 3 → ℕ) a}
    {w : (⟨3, ![n0, n1, n2]⟩ : Shape).Idx → Elt Ideal e} {g : ℕ → ℕ → ℕ → ℝ} (hw : R3f r w g) :
    H3 (⟨Rect.unit (s := (⟨3, ![n0, n1, n2]⟩ : Shape)) ![0, 0, 0] ![n0, n1, n2] inb, w⟩ :: L) r g :=
  held3_cons inb w _ (fun a b c => (hw (ValueIdx.ix3 a b c)).trans (congrArg r (by simp only [Nat.zero_add]; rfl)))
    fun a b c hab => absurd ⟨⟨Nat.zero_le _, by have := a.isLt; omega⟩, ⟨Nat.zero_le _, by have := b.isLt; omega⟩,
      ⟨Nat.zero_le _, by have := c.isLt; omega⟩⟩ hab

/-- The stores `L` leave the real function `f` in the entries of a rank-3 array for which `p` holds. -/
def P3 (L : List (View.Piece (Elt Ideal) (⟨3, ![n0, n1, n2]⟩ : Shape) e)) (r : ℝ → Elt Ideal e) (p : ℕ → ℕ → ℕ → Prop)
    (f : ℕ → ℕ → ℕ → ℝ) : Prop :=
  ∀ (a : Fin n0) (b : Fin n1) (c : Fin n2), p a b c → View.canon (Val := Elt Ideal) L (ValueIdx.ix3 a b c) = r (f a b c)

theorem P3.nil {f : ℕ → ℕ → ℕ → ℝ} : P3 (n0 := n0) (n1 := n1) (n2 := n2) [] r (fun _ _ _ => False) f := fun _ _ _ h => h.elim

open Classical in
/-- One more store into a plane, towards stores that together fill a rank-3 array. -/
theorem P3.cons {L : List (View.Piece (Elt Ideal) (⟨3, ![n0, n1, n2]⟩ : Shape) e)}
    {inb : ∀ a, (![o0, o1, o2] : Fin 3 → ℕ) a + (![1, m1, m2] : Fin 3 → ℕ) a ≤ (![n0, n1, n2] : Fin 3 → ℕ) a}
    {w : (⟨3, ![1, m1, m2]⟩ : Shape).Idx → Elt Ideal e} {p : ℕ → ℕ → ℕ → Prop} {f : ℕ → ℕ → ℕ → ℝ} {g : ℕ → ℕ → ℝ}
    (h : P3 L r p f) (hw : R3 r w g) (hin : ∀ a b, a < m1 → b < m2 → g a b = f o0 (o1 + a) (o2 + b)) :
    P3 (⟨Rect.unit (s := (⟨3, ![n0, n1, n2]⟩ : Shape)) ![o0, o1, o2] ![1, m1, m2] inb, w⟩ :: L) r
      (fun a b c => p a b c ∨ (a = o0 ∧ (o1 ≤ b ∧ b < o1 + m1) ∧ o2 ≤ c ∧ c < o2 + m2)) f := fun a b c hp => by
  refine (held3_cons inb w (fun a b c => if a.val = o0 ∧ (o1 ≤ b.val ∧ b.val < o1 + m1) ∧ o2 ≤ c.val ∧ c.val < o2 + m2 then r (f a b c)
    else View.canon (Val := Elt Ideal) L (ValueIdx.ix3 a b c)) (fun a b c => ?_) (fun a b c hab => ?_) a b c).trans ?_
  · have ha : a.val = 0 := by omega
    refine (hw (ValueIdx.ix3 a b c)).trans ?_
    rw [if_pos ⟨by show o0 + a.val = o0; omega, ⟨Nat.le_add_right _ _, Nat.add_lt_add_left b.isLt _⟩,
      Nat.le_add_right _ _, Nat.add_lt_add_left c.isLt _⟩]
    refine congrArg r ((hin b c b.isLt c.isLt).trans ?_)
    simp only [ha, add_zero]
  · rw [if_neg fun hm => hab ⟨by omega, ⟨by omega, by omega⟩, ⟨by omega, by omega⟩⟩]
  · by_cases hm : a.val = o0 ∧ (o1 ≤ b.val ∧ b.val < o1 + m1) ∧ o2 ≤ c.val ∧ c.val < o2 + m2
    · exact if_pos hm
    · exact (if_neg hm).trans (h a b c (hp.resolve_right hm))

/-- Stores that leave `f` in every entry. -/
theorem P3.all {L : List (View.Piece (Elt Ideal) (⟨3, ![n0, n1, n2]⟩ : Shape) e)} {p : ℕ → ℕ → ℕ → Prop} {f : ℕ → ℕ → ℕ → ℝ}
    (h : P3 L r p f) (hp : ∀ a b c, a < n0 → b < n1 → c < n2 → p a b c) : H3 L r f :=
  fun a b c => h a b c (hp _ _ _ a.isLt b.isLt c.isLt)

/-- The stores `L` leave the real function `f` in the rows of a rank-2 array for which `p` holds. -/
def P2 (L : List (View.Piece (Elt Ideal) (⟨2, ![n0, n1]⟩ : Shape) e)) (r : ℝ → Elt Ideal e) (p : ℕ → Prop)
    (f : ℕ → ℕ → ℝ) : Prop :=
  ∀ (a : Fin n0) (b : Fin n1), p a → View.canon (Val := Elt Ideal) L (ValueIdx.ix2 a b) = r (f a b)

theorem P2.nil {f : ℕ → ℕ → ℝ} : P2 (n0 := n0) (n1 := n1) [] r (fun _ => False) f := fun _ _ h => h.elim

open Classical in
/-- One more store of whole rows, towards stores that together fill a rank-2 array. -/
theorem P2.cons {L : List (View.Piece (Elt Ideal) (⟨2, ![n0, n1]⟩ : Shape) e)}
    {inb : ∀ a, (![o0, 0] : Fin 2 → ℕ) a + (![m0, n1] : Fin 2 → ℕ) a ≤ (![n0, n1] : Fin 2 → ℕ) a}
    {w : (⟨2, ![m0, n1]⟩ : Shape).Idx → Elt Ideal e} {p : ℕ → Prop} {f g : ℕ → ℕ → ℝ}
    (h : P2 L r p f) (hw : R2 r w g) (hin : ∀ a b, a < m0 → b < n1 → g a b = f (o0 + a) b) :
    P2 (⟨Rect.unit (s := (⟨2, ![n0, n1]⟩ : Shape)) ![o0, 0] ![m0, n1] inb, w⟩ :: L) r
      (fun a => p a ∨ (o0 ≤ a ∧ a < o0 + m0)) f := fun a b hp => by
  refine (held2_cons inb w (fun a b => if o0 ≤ a.val ∧ a.val < o0 + m0 then r (f a b)
    else View.canon (Val := Elt Ideal) L (ValueIdx.ix2 a b)) (fun a b => ?_) (fun a b hab => ?_) a b).trans ?_
  · refine (hw (ValueIdx.ix2 a b)).trans ?_
    rw [if_pos ⟨Nat.le_add_right _ _, Nat.add_lt_add_left a.isLt _⟩]
    refine congrArg r ((hin a b a.isLt b.isLt).trans ?_)
    simp only [Nat.zero_add]
  · rw [if_neg fun hm => hab ⟨⟨by omega, by omega⟩, ⟨Nat.zero_le _, by have := b.isLt; omega⟩⟩]
  · by_cases hm : o0 ≤ a.val ∧ a.val < o0 + m0
    · exact if_pos hm
    · exact (if_neg hm).trans (h a b (hp.resolve_right hm))

/-- Stores that leave `f` in every row. -/
theorem P2.all {L : List (View.Piece (Elt Ideal) (⟨2, ![n0, n1]⟩ : Shape) e)} {p : ℕ → Prop} {f : ℕ → ℕ → ℝ}
    (h : P2 L r p f) (hp : ∀ a, a < n0 → p a) : H2 L r f := fun a b => h a b (hp _ a.isLt)

/-- A load of a part of a whole rank-2 block. -/
theorem R2.window {sig : RefSig} {κ : Kind} {sp : Space} {m : Memref sig κ sp (⟨2, ![n0, n1]⟩ : Shape) e} (hm : m.IsWhole)
    {X : (⟨2, ![n0, n1]⟩ : Shape).Idx → Elt Ideal e} {f : ℕ → ℕ → ℝ} (h : R2 r X f) (g : ℕ → ℕ → ℝ)
    {inb : ∀ a, (![o0, o1] : Fin 2 → ℕ) a + (![m0, m1] : Fin 2 → ℕ) a ≤ (![n0, n1] : Fin 2 → ℕ) a}
    (he : ∀ a b, a < m0 → b < m1 → f (o0 + a) (o1 + b) = g a b) :
    R2 (n0 := m0) (n1 := m1) r (View.readAt (Elt Ideal) m.view
      (Rect.unit (s := (⟨2, ![n0, n1]⟩ : Shape)) ![o0, o1] ![m0, m1] inb).toLoadRect (hm.unread (Val := Elt Ideal) X)) g := fun j => by
  refine (hm.readAt_unread (Val := Elt Ideal) X (Rect.unit (s := (⟨2, ![n0, n1]⟩ : Shape)) ![o0, o1] ![m0, m1] inb).toLoadRect j).trans ((h _).trans (Eq.trans ?_ (congrArg r (he _ _ (j 0).isLt (j 1).isLt))))
  show r (f (o0 + 1 * (j 0).val) (o1 + 1 * (j 1).val)) = _
  rw [one_mul, one_mul]

/-- A load of a part of one plane of a whole rank-3 block. -/
theorem R3f.window {sig : RefSig} {κ : Kind} {sp : Space} {m : Memref sig κ sp (⟨3, ![n0, n1, n2]⟩ : Shape) e} (hm : m.IsWhole)
    {X : (⟨3, ![n0, n1, n2]⟩ : Shape).Idx → Elt Ideal e} {f : ℕ → ℕ → ℕ → ℝ} (h : R3f r X f) (g : ℕ → ℕ → ℝ)
    {inb : ∀ a, (![o0, o1, o2] : Fin 3 → ℕ) a + (![1, m1, m2] : Fin 3 → ℕ) a ≤ (![n0, n1, n2] : Fin 3 → ℕ) a}
    (he : ∀ a b, a < m1 → b < m2 → f o0 (o1 + a) (o2 + b) = g a b) :
    R3 (n0 := m1) (n1 := m2) r (View.readAt (Elt Ideal) m.view
      (Rect.unit (s := (⟨3, ![n0, n1, n2]⟩ : Shape)) ![o0, o1, o2] ![1, m1, m2] inb).toLoadRect (hm.unread (Val := Elt Ideal) X)) g := fun j => by
  have h0 : (j 0).val = 0 := by have : (j 0).val < 1 := (j 0).isLt; omega
  refine (hm.readAt_unread (Val := Elt Ideal) X (Rect.unit (s := (⟨3, ![n0, n1, n2]⟩ : Shape)) ![o0, o1, o2] ![1, m1, m2] inb).toLoadRect j).trans ((h _).trans (Eq.trans ?_ (congrArg r (he _ _ (j 1).isLt (j 2).isLt))))
  show r (f (o0 + 1 * (j 0).val) (o1 + 1 * (j 1).val) (o2 + 1 * (j 2).val)) = _
  rw [one_mul, one_mul, one_mul, h0, add_zero]

end Cert.Fox
-- ==== Proof.Fox.Setup.lean ====
module

public import proofs.«01_k».proof.Proof.Fox.Store
public import proofs.«01_k».proof.Proof.Gen.KernelIdeal.Frame.RunA

/-! What the scratch arrays of normalised queries, keys, values, output gradients and gates hold. -/

@[expose] public section

set_option maxRecDepth 16384

noncomputable section

namespace Cert.Fox

open Idealize.ShloMosaic Cert.KernelIdeal Cert.KernelIdeal.Gen

/-- A real number as an entry of a 32-bit array. -/
def r32 (x : ℝ) : Elt Ideal .f32 := (x : EReal)
/-- A real number as an entry of a 16-bit array. -/
def r16 (x : ℝ) : Elt Ideal .bf16 := (x : EReal)

theorem Is2.r32 {n0 n1 : ℕ} {x : FVec Ideal (⟨2, ![n0, n1]⟩ : Shape) .f32} {f : ℕ → ℕ → ℝ} (h : Is2 x f) : R2 r32 x f := h
theorem Is2.r16 {n0 n1 : ℕ} {x : FVec Ideal (⟨2, ![n0, n1]⟩ : Shape) .bf16} {f : ℕ → ℕ → ℝ} (h : Is2 x f) : R2 r16 x f := h
theorem Is3.r32 {n0 n1 : ℕ} {x : FVec Ideal (⟨3, ![1, n0, n1]⟩ : Shape) .f32} {f : ℕ → ℕ → ℝ} (h : Is3 x f) : R3 r32 x f := h
theorem Is3.r16 {n0 n1 : ℕ} {x : FVec Ideal (⟨3, ![1, n0, n1]⟩ : Shape) .bf16} {f : ℕ → ℕ → ℝ} (h : Is3 x f) : R3 r16 x f := h

/-- The blocks a grid point loads hold the entries of `B`. -/
structure In (B : Blk) (x0 x1 x2 : Vec Ideal S2048x128 .f32) (x3 : Vec Ideal S2x1x2048 .f32) (x4 x5 : Vec Ideal S1x128 .f32)
    (x6 : Vec Ideal S2x1x2048 .f32) (x7 : Vec Ideal S2048x128 .f32) : Prop where
  q : Is2 x0 B.q
  k : Is2 x1 B.k
  v : Is2 x2 B.v
  c : R3f r32 x3 (fun a _ ρ => B.c a ρ)
  gq : Is2 x4 B.gq
  gk : Is2 x5 B.gk
  e : R3f r32 x6 (fun a _ ρ => B.e a ρ)
  d : Is2 x7 B.d

/-- A vector of 2048 rows with an axis of one element put before it. -/
def up (x : FVec Ideal S2048x128 .f32) : FVec Ideal S1x2048x128 .bf16 :=
  shapeCast S1x2048x128 (truncf .bf16 x bitsLt_bf16_f32) shapeCasts_S2048x128_S1x2048x128

theorem up_is {x : FVec Ideal S2048x128 .f32} {X : ℕ → ℕ → ℝ} (hx : Is2 x X) : Is3 (up x) X := by
  refine Is3.of fun ρ m => ?_
  unfold up
  pointwise []
  exact hx _

/-- A vector of 2048 rows transposed, with an axis of one element put before it. -/
def upT (x : FVec Ideal S2048x128 .f32) : FVec Ideal S1x128x2048 .bf16 :=
  shapeCast S1x128x2048 (truncf .bf16 (transpose S128x2048 [1, 0] x transposes_S2048x128_p1_0_S128x2048) bitsLt_bf16_f32)
    shapeCasts_S128x2048_S1x128x2048

theorem upT_is {x : FVec Ideal S2048x128 .f32} {X : ℕ → ℕ → ℝ} (hx : Is2 x X) : Is3 (upT x) (fun m ρ => X ρ m) := by
  refine Is3.of fun m ρ => ?_
  unfold upT
  pointwise []
  exact hx _

/-- A vector of 2048 rows stored as it is. -/
def same (x : FVec Ideal S2048x128 .f32) : FVec Ideal S2048x128 .bf16 :=
  shapeCast S2048x128 (truncf .bf16 x bitsLt_bf16_f32) shapeCasts_S2048x128_S2048x128

theorem same_is {x : FVec Ideal S2048x128 .f32} {X : ℕ → ℕ → ℝ} (hx : Is2 x X) : Is2 (same x) X := by
  refine Is2.of fun ρ m => ?_
  unfold same
  pointwise []
  exact hx _

theorem zero2_is : Is2 (k0_pay28 (F := Ideal)) (fun _ _ => 0) := by
  refine Is2.of fun ρ m => ?_
  unfold k0_pay28
  pointwise []
  simp [Ideal.ofBits, Ideal.ieee]

theorem zero3_is : R3f r32 (k0_pay30 (F := Ideal)) (fun _ _ _ => 0) := fun j => by
  rw [ValueIdx.eq_ix3 j]
  unfold k0_pay30 r32
  pointwise []
  simp [Ideal.ofBits, Ideal.ieee]

variable {c : Dev nD}
  {arg1 : Memref sig .tc .vmem S2048x128 .f32} {harg1 : arg1.IsWhole}
  {arg2 : Memref sig .tc .vmem S2048x128 .f32} {harg2 : arg2.IsWhole}
  {arg3 : Memref sig .tc .vmem S2048x128 .f32} {harg3 : arg3.IsWhole}
  {arg4 : Memref sig .tc .vmem S2x1x2048 .f32} {harg4 : arg4.IsWhole}
  {arg5 : Memref sig .tc .vmem S1x128 .f32} {harg5 : arg5.IsWhole}
  {arg6 : Memref sig .tc .vmem S1x128 .f32} {harg6 : arg6.IsWhole}
  {arg7 : Memref sig .tc .vmem S2x1x2048 .f32} {harg7 : arg7.IsWhole}
  {arg8 : Memref sig .tc .vmem S2048x128 .f32} {harg8 : arg8.IsWhole}
  {arg15 : Memref sig .tc .vmem S2x2048x128 .bf16}
  {arg16 : Memref sig .tc .vmem S2048x128 .bf16}
  {arg17 : Memref sig .tc .vmem S2x128x2048 .bf16}
  {arg18 : Memref sig .tc .vmem S2048x128 .bf16}
  {arg19 : Memref sig .tc .vmem S2x2048x128 .bf16}
  {arg20 : Memref sig .tc .vmem S2048x128 .f32}
  {arg21 : Memref sig .tc .vmem S2048x128 .f32}
  {arg22 : Memref sig .tc .vmem S2048x128 .f32}
  {arg23 : Memref sig .tc .vmem S2x2048x128 .f32}
  {arg24 : Memref sig .tc .vmem S2x2048x1 .f32}
  {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {B : Blk}
variable (h : In B x0 x1 x2 x3 x4 x5 x6 x7)
include h

omit h in
theorem win_is {m : Memref sig .tc .vmem S2048x128 .f32} (hm : m.IsWhole) {x : Vec Ideal S2048x128 .f32} {X : ℕ → ℕ → ℝ}
    (hx : Is2 x X) : Is2 (View.readAt (Elt Ideal) m.view
      (Rect.unit ![0, 0] S2048x128.size inb_S2048x128_S2048x128_0_0).toLoadRect (hm.unread x)) X :=
  R2.window (r := r32) hm hx.r32 X fun _ _ _ _ => by simp only [Nat.zero_add]

omit h in
theorem gain_is {m : Memref sig .tc .vmem S1x128 .f32} (hm : m.IsWhole) {x : Vec Ideal S1x128 .f32} {X : ℕ → ℕ → ℝ}
    (hx : Is2 x X) : Is2 (View.readAt (Elt Ideal) m.view
      (Rect.unit ![0, 0] S1x128.size inb_S1x128_S1x128_0_0).toLoadRect (hm.unread x)) X :=
  R2.window (r := r32) hm hx.r32 X fun _ _ _ _ => by simp only [Nat.zero_add]

/-- The normalised queries, an eighth of them, by head. -/
theorem qs_held : H3 (kernelRun0_A.sl.HS0_2 c arg1 harg1 arg5 harg5 x0 x4) r16 B.Q := by
  have hq := eighth_is (normed_is (win_is harg1 h.q) (gain_is harg5 h.gq))
  exact ((P3.nil.cons (up_is (selA_is hq)).r16 fun a b _ _ => by simp only [Nat.zero_add]; rfl).cons (up_is (selB_is hq)).r16
    fun a b _ _ => by simp only [Nat.zero_add]; rfl).all fun a b c ha hb hc => by omega

omit h in
theorem kn_is (h : In B x0 x1 x2 x3 x4 x5 x6 x7) : Is2 (normed (View.readAt (Elt Ideal) arg2.view (Rect.unit ![0, 0] S2048x128.size inb_S2048x128_S2048x128_0_0).toLoadRect (harg2.unread x1)) (View.readAt (Elt Ideal) arg6.view (Rect.unit ![0, 0] S1x128.size inb_S1x128_S1x128_0_0).toLoadRect (harg6.unread x5))) B.kn :=
  normed_is (win_is harg2 h.k) (gain_is harg6 h.gk)

/-- The normalised keys. -/
theorem kb_held : H2 (kernelRun0_A.sl.HS1_1 c arg2 harg2 arg6 harg6 x1 x5) r16 B.kn := H2.whole (same_is (kn_is h)).r16

/-- The normalised keys, transposed, by head. -/
theorem kt_held : H3 (kernelRun0_A.sl.HS2_2 c arg2 harg2 arg6 harg6 x1 x5) r16 B.KT := by
  have hk := kn_is (harg2 := harg2) (harg6 := harg6) h
  exact ((P3.nil.cons (upT_is (selA_is hk)).r16 fun a b _ _ => by simp only [Nat.zero_add]; rfl).cons (upT_is (selB_is hk)).r16
    fun a b _ _ => by simp only [Nat.zero_add]; rfl).all fun a b c ha hb hc => by omega

/-- The values. -/
theorem vb_held : H2 (kernelRun0_A.sl.HS3_1 c arg3 harg3 x2) r16 B.v := H2.whole (same_is (win_is harg3 h.v)).r16

/-- The gradient of the output, by head. -/
theorem do_held : H3 (kernelRun0_A.sl.HS4_2 c arg8 harg8 x7) r16 B.D := by
  have hd := win_is harg8 h.d
  exact ((P3.nil.cons (up_is (selA_is hd)).r16 fun a b _ _ => by simp only [Nat.zero_add]; rfl).cons (up_is (selB_is hd)).r16
    fun a b _ _ => by simp only [Nat.zero_add]; rfl).all fun a b c ha hb hc => by omega

omit h in
theorem row_is {m : Memref sig .tc .vmem S2x1x2048 .f32} (hm : m.IsWhole) {x : Vec Ideal S2x1x2048 .f32} {X : ℕ → ℕ → ℝ}
    (hx : R3f r32 x (fun a _ ρ => X a ρ)) (a o : ℕ) {inb : ∀ i, (![a, 0, o] : Fin 3 → ℕ) i + (![1, 1, 512] : Fin 3 → ℕ) i ≤ (![2, 1, 2048] : Fin 3 → ℕ) i} :
    Is3 (n0 := 1) (n1 := 512) (View.readAt (Elt Ideal) m.view (Rect.unit (s := S2x1x2048) ![a, 0, o] ![1, 1, 512] inb).toLoadRect (hm.unread x))
      (fun _ r => X a (o + r)) :=
  R3f.window (r := r32) hm hx (fun _ r => X a (o + r)) fun _ _ _ _ => rfl

/-- The cumulative gates, as columns, by head. -/
theorem cc_held : H3 (kernelRun0_A.sl.HS9_8 c arg4 harg4 x3) r32 (fun a κ _ => B.c a κ) :=
  ((((((((P3.nil.cons (ascol_is (row_is harg4 h.c 0 0)).r32
    fun _ _ _ _ => rfl).cons (ascol_is (row_is harg4 h.c 0 512)).r32
    fun _ _ _ _ => rfl).cons (ascol_is (row_is harg4 h.c 0 1024)).r32
    fun _ _ _ _ => rfl).cons (ascol_is (row_is harg4 h.c 0 1536)).r32
    fun _ _ _ _ => rfl).cons (ascol_is (row_is harg4 h.c 1 0)).r32
    fun _ _ _ _ => rfl).cons (ascol_is (row_is harg4 h.c 1 512)).r32
    fun _ _ _ _ => rfl).cons (ascol_is (row_is harg4 h.c 1 1024)).r32
    fun _ _ _ _ => rfl).cons (ascol_is (row_is harg4 h.c 1 1536)).r32
    fun _ _ _ _ => rfl).all fun a b c ha hb hc => by omega

end Cert.Fox
-- ==== Proof.Fox.Loaded.lean ====
module

public import proofs.«01_k».proof.Proof.Fox.Blocks
public import proofs.«01_k».proof.Proof.Fox.Entry2
public import proofs.«01_k».proof.Proof.Fox.Setup
public import Idealize.ShloMosaic.Lib.Pipeline.ValueKit

/-! The blocks a grid point loads hold the entries of the arguments. -/

@[expose] public section

set_option maxRecDepth 16384

noncomputable section

namespace Cert.Fox

open Idealize.ShloMosaic Idealize.ShloMosaic.TcCoe Cert.KernelIdeal Cert.KernelIdeal.Gen Idealize.ShloMosaic.StableHlo

variable (m : (ℓ : Loc nD τ sig) → Buf (Elt Ideal) ℓ) (c : Dev nD)

theorem cast_mid (y : FVec Ideal S16x2048 .f32) (a : Fin 16) (b : Fin 1) (ρ : Fin 2048) :
    shapeCast S16x1x2048 y shapeCasts_S16x2048_S16x1x2048 (ValueIdx.ix3 a b ρ) = y (ValueIdx.ix2 a ρ) := by
  pointwise []
  all_goals rfl

theorem ix2_of {n0 n1 : ℕ} (j : (⟨2, ![n0, n1]⟩ : Shape).Idx) : ∃ (a : Fin n0) (b : Fin n1), j = ValueIdx.ix2 a b :=
  ⟨j 0, j 1, ValueIdx.eq_ix2 j⟩

theorem ix3_of {n0 n1 n2 : ℕ} (j : (⟨3, ![n0, n1, n2]⟩ : Shape).Idx) :
    ∃ (a : Fin n0) (b : Fin n1) (d : Fin n2), j = ValueIdx.ix3 a b d :=
  ⟨j 0, j 1, j 2, ValueIdx.eq_ix3 j⟩

variable {S : Src}

/-- The arguments of one device hold the entries of `S`. -/
abbrev Held (S : Src) : Prop := Okm S (m ((c : Thread nD τ).loc main_arg0)) (m ((c : Thread nD τ).loc main_arg1))
    (m ((c : Thread nD τ).loc main_arg2)) (m ((c : Thread nD τ).loc main_arg3)) (m ((c : Thread nD τ).loc main_arg4))

variable {m c}

theorem in_blk (h : Held m c S) (t : Fin cfg0.N) :
    In (S.blk t.val) (iblk m c 0 t) (iblk m c 1 t) (iblk m c 2 t) (iblk m c 3 t) (iblk m c 4 t) (iblk m c 5 t) (iblk m c 6 t) (iblk m c 7 t) := by
  have ht : t.val < 8 := t.isLt
  refine ⟨fun j => ?_, fun j => ?_, fun j => ?_, fun j => ?_, fun j => ?_, fun j => ?_, fun j => ?_, fun j => ?_⟩
  · have hj : (j 1).val < 128 := (j 1).isLt
    obtain ⟨a, b, rfl⟩ := ix2_of j
    exact (blk0 m c t a b (by have := b.isLt; omega)).trans (h.ok.x0 _)
  · obtain ⟨a, b, rfl⟩ := ix2_of j
    exact (blk1 m c t a b (by have := b.isLt; omega)).trans (h.ok.x0 _)
  · obtain ⟨a, b, rfl⟩ := ix2_of j
    exact (blk2 m c t a b (by have := b.isLt; omega)).trans (h.ok.x0 _)
  · obtain ⟨a, b, d, rfl⟩ := ix3_of j
    refine (blk3 m c t a b d (by have := a.isLt; omega)).trans ?_
    rw [v52]
    exact (cast_mid _ _ _ _).trans (h.ok.x1 _)
  · obtain ⟨a, b, rfl⟩ := ix2_of j
    refine (blk4 m c t a b).trans ?_
    rw [v56]
    exact ktwice_is h.ok.x2 _
  · obtain ⟨a, b, rfl⟩ := ix2_of j
    refine (blk5 m c t a b).trans ?_
    rw [v60]
    exact ktwice_is h.ok.x3 _
  · obtain ⟨a, b, d, rfl⟩ := ix3_of j
    refine (blk6 m c t a b d (by have := a.isLt; omega)).trans ?_
    rw [v61]
    exact (cast_mid _ _ _ _).trans (klse_is h _)
  · obtain ⟨a, b, rfl⟩ := ix2_of j
    exact (blk7 m c t a b (by have := b.isLt; omega)).trans (h.ok.x4 _)

end Cert.Fox
-- ==== Proof.Fox.Lists.lean ====
module

public import proofs.«01_k».proof.Proof.Fox.Setup
public import proofs.«01_k».proof.Proof.Gen.KernelIdeal.Frame

/-! The stores into the output blocks in the three cases of a grid point, in the words of the first case. -/

@[expose] public section

set_option maxRecDepth 16384

noncomputable section

namespace Cert.Fox

open Idealize.ShloMosaic Cert.KernelIdeal Cert.KernelIdeal.Gen

/-- The vectors as a block of the gradient of the gates. -/
def dcL (a0 a1 a2 a3 b0 b1 b2 b3 : FVec Ideal S1x512x128 .f32) : List (View.Piece (Elt Ideal) S2x1x2048 .f32) :=
  [⟨Rect.unit (s := S2x1x2048) ![1, 0, 1536] S1x1x512.size inb_S2x1x2048_S1x1x512_1_0_1536, asrow b3⟩,
   ⟨Rect.unit (s := S2x1x2048) ![1, 0, 1024] S1x1x512.size inb_S2x1x2048_S1x1x512_1_0_1024, asrow b2⟩,
   ⟨Rect.unit (s := S2x1x2048) ![1, 0, 512] S1x1x512.size inb_S2x1x2048_S1x1x512_1_0_512, asrow b1⟩,
   ⟨Rect.unit (s := S2x1x2048) ![1, 0, 0] S1x1x512.size inb_S2x1x2048_S1x1x512_1_0_0, asrow b0⟩,
   ⟨Rect.unit (s := S2x1x2048) ![0, 0, 1536] S1x1x512.size inb_S2x1x2048_S1x1x512_0_0_1536, asrow a3⟩,
   ⟨Rect.unit (s := S2x1x2048) ![0, 0, 1024] S1x1x512.size inb_S2x1x2048_S1x1x512_0_0_1024, asrow a2⟩,
   ⟨Rect.unit (s := S2x1x2048) ![0, 0, 512] S1x1x512.size inb_S2x1x2048_S1x1x512_0_0_512, asrow a1⟩,
   ⟨Rect.unit (s := S2x1x2048) ![0, 0, 0] S1x1x512.size inb_S2x1x2048_S1x1x512_0_0_0, asrow a0⟩]

/-- A narrowed vector. -/
def nar (x : FVec Ideal S2048x128 .f32) : FVec Ideal S2048x128 .bf16 := truncf .bf16 x bitsLt_bf16_f32

/-- A stored row added to a row. -/
def acc (x y : FVec Ideal S1x128 .f32) : FVec Ideal S1x128 .f32 := addf (shapeCast S1x128 x shapeCasts_S1x128_S1x128) y

variable {c : Dev nD} {i : grid0.Coords}
  {arg1 : Memref sig .tc .vmem S2048x128 .f32} {harg1 : arg1.IsWhole}
  {arg2 : Memref sig .tc .vmem S2048x128 .f32} {harg2 : arg2.IsWhole}
  {arg3 : Memref sig .tc .vmem S2048x128 .f32} {harg3 : arg3.IsWhole}
  {arg4 : Memref sig .tc .vmem S2x1x2048 .f32} {harg4 : arg4.IsWhole}
  {arg5 : Memref sig .tc .vmem S1x128 .f32} {harg5 : arg5.IsWhole}
  {arg6 : Memref sig .tc .vmem S1x128 .f32} {harg6 : arg6.IsWhole}
  {arg7 : Memref sig .tc .vmem S2x1x2048 .f32} {harg7 : arg7.IsWhole}
  {arg8 : Memref sig .tc .vmem S2048x128 .f32} {harg8 : arg8.IsWhole}
  {arg9 : Memref sig .tc .vmem S2048x128 .bf16} {harg9 : arg9.IsWhole}
  {arg10 : Memref sig .tc .vmem S2048x128 .bf16} {harg10 : arg10.IsWhole}
  {arg11 : Memref sig .tc .vmem S2048x128 .bf16} {harg11 : arg11.IsWhole}
  {arg12 : Memref sig .tc .vmem S2x1x2048 .f32} {harg12 : arg12.IsWhole}
  {arg13 : Memref sig .tc .vmem S1x128 .f32} {harg13 : arg13.IsWhole}
  {arg14 : Memref sig .tc .vmem S1x128 .f32} {harg14 : arg14.IsWhole}
  {arg15 : Memref sig .tc .vmem S2x2048x128 .bf16} {harg15 : arg15.IsWhole}
  {arg16 : Memref sig .tc .vmem S2048x128 .bf16} {harg16 : arg16.IsWhole}
  {arg17 : Memref sig .tc .vmem S2x128x2048 .bf16} {harg17 : arg17.IsWhole}
  {arg18 : Memref sig .tc .vmem S2048x128 .bf16} {harg18 : arg18.IsWhole}
  {arg19 : Memref sig .tc .vmem S2x2048x128 .bf16} {harg19 : arg19.IsWhole}
  {arg20 : Memref sig .tc .vmem S2048x128 .f32} {harg20 : arg20.IsWhole}
  {arg21 : Memref sig .tc .vmem S2048x128 .f32} {harg21 : arg21.IsWhole}
  {arg22 : Memref sig .tc .vmem S2048x128 .f32} {harg22 : arg22.IsWhole}
  {arg23 : Memref sig .tc .vmem S2x2048x128 .f32} {harg23 : arg23.IsWhole}
  {arg24 : Memref sig .tc .vmem S2x2048x1 .f32} {harg24 : arg24.IsWhole}
  {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {xo12 xo13 : Vec Ideal S1x128 .f32} {B : Blk}

/-- The stores of the gradient of the queries at a first point. -/
theorem list8_A (hc0 : cond0_0 i) (hc1 : ¬cond0_1 i) (hc2 : cond0_2 i) (hc3 : ¬cond0_3 i) (hc4 : ¬cond0_4 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7).1
    = [⟨Rect.unit (s := S2048x128) ![0, 0] S2048x128.size inb_S2048x128_S2048x128_0_0, nbwd (View.readAt (Elt Ideal) arg1.view (Rect.unit ![0, 0] S2048x128.size inb_S2048x128_S2048x128_0_0).toLoadRect (harg1.unread x0)) (View.readAt (Elt Ideal) arg5.view (Rect.unit ![0, 0] S1x128.size inb_S1x128_S1x128_0_0).toLoadRect (harg5.unread x4)) (eighth (kernelRun0_A.sl.v1069 c arg1 harg1 arg2 harg2 arg3 harg3 arg4 harg4 arg5 harg5 arg6 harg6 arg7 harg7 arg8 harg8 arg15 arg16 arg17 arg18 arg19 arg20 arg24 x0 x1 x2 x3 x4 x5 x6 x7))⟩] := (rfl)

/-- The stores of the gradient of the keys at a first point. -/
theorem list9_A (hc0 : cond0_0 i) (hc1 : ¬cond0_1 i) (hc2 : cond0_2 i) (hc3 : ¬cond0_3 i) (hc4 : ¬cond0_4 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7).2.1
    = [⟨Rect.unit (s := S2048x128) ![0, 0] S2048x128.size inb_S2048x128_S2048x128_0_0, nbwd (View.readAt (Elt Ideal) arg2.view (Rect.unit ![0, 0] S2048x128.size inb_S2048x128_S2048x128_0_0).toLoadRect (harg2.unread x1)) (View.readAt (Elt Ideal) arg6.view (Rect.unit ![0, 0] S1x128.size inb_S1x128_S1x128_0_0).toLoadRect (harg6.unread x5)) (kernelRun0_A.sl.v1138 c arg1 harg1 arg2 harg2 arg3 harg3 arg4 harg4 arg5 harg5 arg6 harg6 arg7 harg7 arg8 harg8 arg15 arg16 arg18 arg19 arg21 arg24 x0 x1 x2 x3 x4 x5 x6 x7)⟩] := (rfl)

/-- The stores of the gradient of the values at a first point. -/
theorem list10_A (hc0 : cond0_0 i) (hc1 : ¬cond0_1 i) (hc2 : cond0_2 i) (hc3 : ¬cond0_3 i) (hc4 : ¬cond0_4 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7).2.2.1
    = [⟨Rect.unit (s := S2048x128) ![0, 0] S2048x128.size inb_S2048x128_S2048x128_0_0, nar (kernelRun0_A.sl.v1202 c arg1 harg1 arg2 harg2 arg4 harg4 arg5 harg5 arg6 harg6 arg7 harg7 arg8 harg8 arg15 arg16 arg19 arg22 arg24 x0 x1 x3 x4 x5 x6 x7)⟩] := (rfl)

/-- The stores of the gradient of the gates at a first point. -/
theorem list11_A (hc0 : cond0_0 i) (hc1 : ¬cond0_1 i) (hc2 : cond0_2 i) (hc3 : ¬cond0_3 i) (hc4 : ¬cond0_4 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7).2.2.2.1
    = dcL (kernelRun0_A.sl.v1205 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1218 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1231 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1244 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1257 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1270 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1283 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1296 c arg1 harg1 arg2 harg2 arg3 harg3 arg4 harg4 arg5 harg5 arg6 harg6 arg7 harg7 arg8 harg8 arg15 arg16 arg18 arg19 arg23 arg24 x0 x1 x2 x3 x4 x5 x6 x7) := (rfl)

/-- The stores of the gradient of the queries' gain at a first point. -/
theorem list12_A (hc0 : cond0_0 i) (hc1 : ¬cond0_1 i) (hc2 : cond0_2 i) (hc3 : ¬cond0_3 i) (hc4 : ¬cond0_4 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7).2.2.2.2.1
    = [⟨Rect.unit (s := S1x128) ![0, 0] S1x128.size inb_S1x128_S1x128_0_0, (gsum (View.readAt (Elt Ideal) arg1.view (Rect.unit ![0, 0] S2048x128.size inb_S2048x128_S2048x128_0_0).toLoadRect (harg1.unread x0)) (eighth (kernelRun0_A.sl.v1069 c arg1 harg1 arg2 harg2 arg3 harg3 arg4 harg4 arg5 harg5 arg6 harg6 arg7 harg7 arg8 harg8 arg15 arg16 arg17 arg18 arg19 arg20 arg24 x0 x1 x2 x3 x4 x5 x6 x7)))⟩] := (rfl)

/-- The stores of the gradient of the keys' gain at a first point. -/
theorem list13_A (hc0 : cond0_0 i) (hc1 : ¬cond0_1 i) (hc2 : cond0_2 i) (hc3 : ¬cond0_3 i) (hc4 : ¬cond0_4 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7).2.2.2.2.2.1
    = [⟨Rect.unit (s := S1x128) ![0, 0] S1x128.size inb_S1x128_S1x128_0_0, (gsum (View.readAt (Elt Ideal) arg2.view (Rect.unit ![0, 0] S2048x128.size inb_S2048x128_S2048x128_0_0).toLoadRect (harg2.unread x1)) (kernelRun0_A.sl.v1138 c arg1 harg1 arg2 harg2 arg3 harg3 arg4 harg4 arg5 harg5 arg6 harg6 arg7 harg7 arg8 harg8 arg15 arg16 arg18 arg19 arg21 arg24 x0 x1 x2 x3 x4 x5 x6 x7))⟩] := (rfl)

/-- The stores of the gradient of the queries at a middle point. -/
theorem list8_B (hc0 : ¬cond0_0 i) (hc1 : cond0_1 i) (hc2 : ¬cond0_2 i) (hc3 : cond0_3 i) (hc4 : ¬cond0_4 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13).1
    = [⟨Rect.unit (s := S2048x128) ![0, 0] S2048x128.size inb_S2048x128_S2048x128_0_0, nbwd (View.readAt (Elt Ideal) arg1.view (Rect.unit ![0, 0] S2048x128.size inb_S2048x128_S2048x128_0_0).toLoadRect (harg1.unread x0)) (View.readAt (Elt Ideal) arg5.view (Rect.unit ![0, 0] S1x128.size inb_S1x128_S1x128_0_0).toLoadRect (harg5.unread x4)) (eighth (kernelRun0_A.sl.v1069 c arg1 harg1 arg2 harg2 arg3 harg3 arg4 harg4 arg5 harg5 arg6 harg6 arg7 harg7 arg8 harg8 arg15 arg16 arg17 arg18 arg19 arg20 arg24 x0 x1 x2 x3 x4 x5 x6 x7))⟩] := (rfl)

/-- The stores of the gradient of the keys at a middle point. -/
theorem list9_B (hc0 : ¬cond0_0 i) (hc1 : cond0_1 i) (hc2 : ¬cond0_2 i) (hc3 : cond0_3 i) (hc4 : ¬cond0_4 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13).2.1
    = [⟨Rect.unit (s := S2048x128) ![0, 0] S2048x128.size inb_S2048x128_S2048x128_0_0, nbwd (View.readAt (Elt Ideal) arg2.view (Rect.unit ![0, 0] S2048x128.size inb_S2048x128_S2048x128_0_0).toLoadRect (harg2.unread x1)) (View.readAt (Elt Ideal) arg6.view (Rect.unit ![0, 0] S1x128.size inb_S1x128_S1x128_0_0).toLoadRect (harg6.unread x5)) (kernelRun0_A.sl.v1138 c arg1 harg1 arg2 harg2 arg3 harg3 arg4 harg4 arg5 harg5 arg6 harg6 arg7 harg7 arg8 harg8 arg15 arg16 arg18 arg19 arg21 arg24 x0 x1 x2 x3 x4 x5 x6 x7)⟩] := (rfl)

/-- The stores of the gradient of the values at a middle point. -/
theorem list10_B (hc0 : ¬cond0_0 i) (hc1 : cond0_1 i) (hc2 : ¬cond0_2 i) (hc3 : cond0_3 i) (hc4 : ¬cond0_4 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13).2.2.1
    = [⟨Rect.unit (s := S2048x128) ![0, 0] S2048x128.size inb_S2048x128_S2048x128_0_0, nar (kernelRun0_A.sl.v1202 c arg1 harg1 arg2 harg2 arg4 harg4 arg5 harg5 arg6 harg6 arg7 harg7 arg8 harg8 arg15 arg16 arg19 arg22 arg24 x0 x1 x3 x4 x5 x6 x7)⟩] := (rfl)

/-- The stores of the gradient of the gates at a middle point. -/
theorem list11_B (hc0 : ¬cond0_0 i) (hc1 : cond0_1 i) (hc2 : ¬cond0_2 i) (hc3 : cond0_3 i) (hc4 : ¬cond0_4 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13).2.2.2.1
    = dcL (kernelRun0_A.sl.v1205 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1218 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1231 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1244 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1257 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1270 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1283 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1296 c arg1 harg1 arg2 harg2 arg3 harg3 arg4 harg4 arg5 harg5 arg6 harg6 arg7 harg7 arg8 harg8 arg15 arg16 arg18 arg19 arg23 arg24 x0 x1 x2 x3 x4 x5 x6 x7) := (rfl)

/-- The stores of the gradient of the queries' gain at a middle point. -/
theorem list12_B (hc0 : ¬cond0_0 i) (hc1 : cond0_1 i) (hc2 : ¬cond0_2 i) (hc3 : cond0_3 i) (hc4 : ¬cond0_4 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13).2.2.2.2.1
    = [⟨Rect.unit (s := S1x128) ![0, 0] S1x128.size inb_S1x128_S1x128_0_0, acc (View.readAt (Elt Ideal) arg13.view (Rect.unit ![0, 0] S1x128.size inb_S1x128_S1x128_0_0).toLoadRect (harg13.unread xo12)) (gsum (View.readAt (Elt Ideal) arg1.view (Rect.unit ![0, 0] S2048x128.size inb_S2048x128_S2048x128_0_0).toLoadRect (harg1.unread x0)) (eighth (kernelRun0_A.sl.v1069 c arg1 harg1 arg2 harg2 arg3 harg3 arg4 harg4 arg5 harg5 arg6 harg6 arg7 harg7 arg8 harg8 arg15 arg16 arg17 arg18 arg19 arg20 arg24 x0 x1 x2 x3 x4 x5 x6 x7)))⟩] := (rfl)

/-- The stores of the gradient of the keys' gain at a middle point. -/
theorem list13_B (hc0 : ¬cond0_0 i) (hc1 : cond0_1 i) (hc2 : ¬cond0_2 i) (hc3 : cond0_3 i) (hc4 : ¬cond0_4 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13).2.2.2.2.2.1
    = [⟨Rect.unit (s := S1x128) ![0, 0] S1x128.size inb_S1x128_S1x128_0_0, acc (View.readAt (Elt Ideal) arg14.view (Rect.unit ![0, 0] S1x128.size inb_S1x128_S1x128_0_0).toLoadRect (harg14.unread xo13)) (gsum (View.readAt (Elt Ideal) arg2.view (Rect.unit ![0, 0] S2048x128.size inb_S2048x128_S2048x128_0_0).toLoadRect (harg2.unread x1)) (kernelRun0_A.sl.v1138 c arg1 harg1 arg2 harg2 arg3 harg3 arg4 harg4 arg5 harg5 arg6 harg6 arg7 harg7 arg8 harg8 arg15 arg16 arg18 arg19 arg21 arg24 x0 x1 x2 x3 x4 x5 x6 x7))⟩] := (rfl)

/-- The stores of the gradient of the queries at a last point. -/
theorem list8_C (hc0 : ¬cond0_0 i) (hc1 : cond0_1 i) (hc2 : ¬cond0_2 i) (hc3 : cond0_3 i) (hc4 : cond0_4 i) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13).1
    = [⟨Rect.unit (s := S2048x128) ![0, 0] S2048x128.size inb_S2048x128_S2048x128_0_0, nbwd (View.readAt (Elt Ideal) arg1.view (Rect.unit ![0, 0] S2048x128.size inb_S2048x128_S2048x128_0_0).toLoadRect (harg1.unread x0)) (View.readAt (Elt Ideal) arg5.view (Rect.unit ![0, 0] S1x128.size inb_S1x128_S1x128_0_0).toLoadRect (harg5.unread x4)) (eighth (kernelRun0_A.sl.v1069 c arg1 harg1 arg2 harg2 arg3 harg3 arg4 harg4 arg5 harg5 arg6 harg6 arg7 harg7 arg8 harg8 arg15 arg16 arg17 arg18 arg19 arg20 arg24 x0 x1 x2 x3 x4 x5 x6 x7))⟩] := (rfl)

/-- The stores of the gradient of the keys at a last point. -/
theorem list9_C (hc0 : ¬cond0_0 i) (hc1 : cond0_1 i) (hc2 : ¬cond0_2 i) (hc3 : cond0_3 i) (hc4 : cond0_4 i) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13).2.1
    = [⟨Rect.unit (s := S2048x128) ![0, 0] S2048x128.size inb_S2048x128_S2048x128_0_0, nbwd (View.readAt (Elt Ideal) arg2.view (Rect.unit ![0, 0] S2048x128.size inb_S2048x128_S2048x128_0_0).toLoadRect (harg2.unread x1)) (View.readAt (Elt Ideal) arg6.view (Rect.unit ![0, 0] S1x128.size inb_S1x128_S1x128_0_0).toLoadRect (harg6.unread x5)) (kernelRun0_A.sl.v1138 c arg1 harg1 arg2 harg2 arg3 harg3 arg4 harg4 arg5 harg5 arg6 harg6 arg7 harg7 arg8 harg8 arg15 arg16 arg18 arg19 arg21 arg24 x0 x1 x2 x3 x4 x5 x6 x7)⟩] := (rfl)

/-- The stores of the gradient of the values at a last point. -/
theorem list10_C (hc0 : ¬cond0_0 i) (hc1 : cond0_1 i) (hc2 : ¬cond0_2 i) (hc3 : cond0_3 i) (hc4 : cond0_4 i) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13).2.2.1
    = [⟨Rect.unit (s := S2048x128) ![0, 0] S2048x128.size inb_S2048x128_S2048x128_0_0, nar (kernelRun0_A.sl.v1202 c arg1 harg1 arg2 harg2 arg4 harg4 arg5 harg5 arg6 harg6 arg7 harg7 arg8 harg8 arg15 arg16 arg19 arg22 arg24 x0 x1 x3 x4 x5 x6 x7)⟩] := (rfl)

/-- The stores of the gradient of the gates at a last point. -/
theorem list11_C (hc0 : ¬cond0_0 i) (hc1 : cond0_1 i) (hc2 : ¬cond0_2 i) (hc3 : cond0_3 i) (hc4 : cond0_4 i) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13).2.2.2.1
    = dcL (kernelRun0_A.sl.v1205 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1218 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1231 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1244 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1257 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1270 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1283 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1296 c arg1 harg1 arg2 harg2 arg3 harg3 arg4 harg4 arg5 harg5 arg6 harg6 arg7 harg7 arg8 harg8 arg15 arg16 arg18 arg19 arg23 arg24 x0 x1 x2 x3 x4 x5 x6 x7) := (rfl)

/-- The stores of the gradient of the queries' gain at a last point. -/
theorem list12_C (hc0 : ¬cond0_0 i) (hc1 : cond0_1 i) (hc2 : ¬cond0_2 i) (hc3 : cond0_3 i) (hc4 : cond0_4 i) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13).2.2.2.2.1
    = [⟨Rect.unit (s := S1x128) ![0, 0] S1x128.size inb_S1x128_S1x128_0_0, k0_pay2 (F := Ideal) (arg13.view.readCov [⟨Rect.unit (s := S1x128) ![0, 0] S1x128.size inb_S1x128_S1x128_0_0, acc (View.readAt (Elt Ideal) arg13.view (Rect.unit ![0, 0] S1x128.size inb_S1x128_S1x128_0_0).toLoadRect (harg13.unread xo12)) (gsum (View.readAt (Elt Ideal) arg1.view (Rect.unit ![0, 0] S2048x128.size inb_S2048x128_S2048x128_0_0).toLoadRect (harg1.unread x0)) (eighth (kernelRun0_A.sl.v1069 c arg1 harg1 arg2 harg2 arg3 harg3 arg4 harg4 arg5 harg5 arg6 harg6 arg7 harg7 arg8 harg8 arg15 arg16 arg17 arg18 arg19 arg20 arg24 x0 x1 x2 x3 x4 x5 x6 x7)))⟩] (Rect.unit (s := S1x128) ![0, 0] S1x128.size inb_S1x128_S1x128_0_0).toLoadRect)⟩, ⟨Rect.unit (s := S1x128) ![0, 0] S1x128.size inb_S1x128_S1x128_0_0, acc (View.readAt (Elt Ideal) arg13.view (Rect.unit ![0, 0] S1x128.size inb_S1x128_S1x128_0_0).toLoadRect (harg13.unread xo12)) (gsum (View.readAt (Elt Ideal) arg1.view (Rect.unit ![0, 0] S2048x128.size inb_S2048x128_S2048x128_0_0).toLoadRect (harg1.unread x0)) (eighth (kernelRun0_A.sl.v1069 c arg1 harg1 arg2 harg2 arg3 harg3 arg4 harg4 arg5 harg5 arg6 harg6 arg7 harg7 arg8 harg8 arg15 arg16 arg17 arg18 arg19 arg20 arg24 x0 x1 x2 x3 x4 x5 x6 x7)))⟩] := (rfl)

/-- The stores of the gradient of the keys' gain at a last point. -/
theorem list13_C (hc0 : ¬cond0_0 i) (hc1 : cond0_1 i) (hc2 : ¬cond0_2 i) (hc3 : cond0_3 i) (hc4 : cond0_4 i) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13).2.2.2.2.2.1
    = [⟨Rect.unit (s := S1x128) ![0, 0] S1x128.size inb_S1x128_S1x128_0_0, k0_pay3 (F := Ideal) (arg14.view.readCov [⟨Rect.unit (s := S1x128) ![0, 0] S1x128.size inb_S1x128_S1x128_0_0, acc (View.readAt (Elt Ideal) arg14.view (Rect.unit ![0, 0] S1x128.size inb_S1x128_S1x128_0_0).toLoadRect (harg14.unread xo13)) (gsum (View.readAt (Elt Ideal) arg2.view (Rect.unit ![0, 0] S2048x128.size inb_S2048x128_S2048x128_0_0).toLoadRect (harg2.unread x1)) (kernelRun0_A.sl.v1138 c arg1 harg1 arg2 harg2 arg3 harg3 arg4 harg4 arg5 harg5 arg6 harg6 arg7 harg7 arg8 harg8 arg15 arg16 arg18 arg19 arg21 arg24 x0 x1 x2 x3 x4 x5 x6 x7))⟩] (Rect.unit (s := S1x128) ![0, 0] S1x128.size inb_S1x128_S1x128_0_0).toLoadRect)⟩, ⟨Rect.unit (s := S1x128) ![0, 0] S1x128.size inb_S1x128_S1x128_0_0, acc (View.readAt (Elt Ideal) arg14.view (Rect.unit ![0, 0] S1x128.size inb_S1x128_S1x128_0_0).toLoadRect (harg14.unread xo13)) (gsum (View.readAt (Elt Ideal) arg2.view (Rect.unit ![0, 0] S2048x128.size inb_S2048x128_S2048x128_0_0).toLoadRect (harg2.unread x1)) (kernelRun0_A.sl.v1138 c arg1 harg1 arg2 harg2 arg3 harg3 arg4 harg4 arg5 harg5 arg6 harg6 arg7 harg7 arg8 harg8 arg15 arg16 arg18 arg19 arg21 arg24 x0 x1 x2 x3 x4 x5 x6 x7))⟩] := (rfl)

end Cert.Fox
-- ==== Proof.Fox.Fold.lean ====
module

public import proofs.«01_k».proof.Proof.Fox.Res
public import proofs.«01_k».proof.Proof.Fox.Setup

/-! The last step of the gains' gradients: the two halves of a row of 128 lanes are added to each other. -/

@[expose] public section

set_option maxRecDepth 16384

noncomputable section

namespace Cert.Fox

open Idealize.ShloMosaic Cert.KernelIdeal Cert.KernelIdeal.Gen

theorem bv_eq (a b : ℕ) (ha : a < 1000) (hb : b < 1000) : (BitVec.ofNat 32 a == BitVec.ofNat 32 b) = decide (a = b) := by
  rw [Bool.eq_iff_iff]
  simp only [beq_iff_eq, decide_eq_true_eq, ← BitVec.toNat_inj, BitVec.toNat_ofNat]
  omega

theorem bit_eq (k m : Fin 128) :
    ((BitVec.ofBool (BitVec.ofNat 32 k == BitVec.ofNat 32 m) ||| BitVec.ofBool (BitVec.ofNat 32 k == BitVec.ofNat 32 m + 64#32)) |||
      BitVec.ofBool (BitVec.ofNat 32 k + 64#32 == BitVec.ofNat 32 m)) = if (k : ℕ) = m ∨ (k : ℕ) = other m then 1#1 else 0#1 := by
  have e : ∀ n : ℕ, BitVec.ofNat 32 n + 64#32 = BitVec.ofNat 32 (n + 64) := fun n => by
    rw [BitVec.ofNat_add]
  have hk := k.isLt
  have hm := m.isLt
  rw [e, e, bv_eq _ _ (by omega) (by omega), bv_eq _ _ (by omega) (by omega), bv_eq _ _ (by omega) (by omega)]
  have o : ∀ a b : Bool, BitVec.ofBool a ||| BitVec.ofBool b = BitVec.ofBool (a || b) := by decide
  have f : ∀ p : Prop, [Decidable p] → (if p then 1#1 else 0#1) = BitVec.ofBool (decide p) := fun p _ => by
    by_cases h : p
    · rw [if_pos h, decide_eq_true h]; rfl
    · rw [if_neg h, decide_eq_false h]; rfl
  rw [o, o, f, ← Bool.decide_or, ← Bool.decide_or]
  congr 1
  rw [decide_eq_decide]
  unfold other
  split <;> omega

theorem fold_sum (X : ℕ → ℝ) (m : Fin 128) :
    (∑ k : Fin 128, X k * (if (k : ℕ) = m ∨ (k : ℕ) = other m then 1 else 0)) = X m + X (other m) := by
  have hm := m.isLt
  have ho : other m < 128 := by unfold other; split <;> omega
  have hne : (m : ℕ) ≠ other m := by unfold other; split <;> omega
  have e : ∀ k : Fin 128, X k * (if (k : ℕ) = m ∨ (k : ℕ) = other m then 1 else 0)
      = (if k = m then X m else 0) + (if k = ⟨other m, ho⟩ then X (other m) else 0) := fun k => by
    by_cases h1 : k = m
    · subst h1
      rw [if_pos (Or.inl rfl), if_pos rfl, if_neg (fun h => hne (congrArg Fin.val h)), mul_one, add_zero]
    · by_cases h2 : k = ⟨other m, ho⟩
      · subst h2
        rw [if_pos (Or.inr rfl), if_neg h1, if_pos rfl, mul_one, zero_add]
      · rw [if_neg (fun h => h.elim (fun h => h1 (Fin.ext h)) (fun h => h2 (Fin.ext h))), if_neg h1, if_neg h2, mul_zero, add_zero]
  simp only [e, Finset.sum_add_distrib, Finset.sum_ite_eq', Finset.mem_univ, if_true]

theorem fold_is {x : FVec Ideal S1x128 .f32} {X : ℕ → ℕ → ℝ} (hx : Is2 x X) :
    Is2 (k0_pay2 (F := Ideal) x) (fun a m => X 0 m + X 0 (other m)) := by
  refine Is2.of fun u m => ?_
  unfold k0_pay2
  pointwise []
  refine Eq.trans (Finset.sum_congr rfl fun k _ => ?_) ((coe_sum Finset.univ fun k : Fin 128 => X 0 k * (if (k : ℕ) = m ∨ (k : ℕ) = other m then 1 else 0)).trans
    (congrArg _ (fold_sum (X 0) m)))
  have e : IntOp.ori (IntOp.ori (IntOp.cmpi CmpIPredicate.eq (BitVec.ofNat 32 k) (BitVec.ofNat 32 (m : ℕ)))
      (IntOp.cmpi CmpIPredicate.eq (BitVec.ofNat 32 k) (IntOp.addi (BitVec.ofNat 32 (m : ℕ)) 64#32)))
      (IntOp.cmpi CmpIPredicate.eq (IntOp.addi (BitVec.ofNat 32 k) 64#32) (BitVec.ofNat 32 (m : ℕ)))
      = if (k : ℕ) = m ∨ (k : ℕ) = other m then 1#1 else 0#1 := bit_eq k m
  rw [EReal.coe_mul]
  refine congr_arg₂ (· * ·) (hx _) (Eq.trans (congrArg (fun b : BitVec 1 => (FloatOps.sitofp FTy.f32 (BitVec.setWidth 32 b) : Ideal .f32)) e) ?_)
  by_cases h : (k : ℕ) = m ∨ (k : ℕ) = other m
  · rw [if_pos h, if_pos h]
    show (((BitVec.setWidth 32 1#1).toInt : ℝ) : EReal) = _
    rw [show (BitVec.setWidth 32 1#1).toInt = 1 from rfl]; norm_num
  · rw [if_neg h, if_neg h]
    show (((BitVec.setWidth 32 0#1).toInt : ℝ) : EReal) = _
    rw [show (BitVec.setWidth 32 0#1).toInt = 0 from rfl]; norm_num

theorem fold'_is {x : FVec Ideal S1x128 .f32} {X : ℕ → ℕ → ℝ} (hx : Is2 x X) :
    Is2 (k0_pay3 (F := Ideal) x) (fun a m => X 0 m + X 0 (other m)) := fold_is hx

end Cert.Fox
-- ==== Proof.Fox.Loads.lean ====
module

public import proofs.«01_k».proof.Proof.Fox.Setup

/-! The vectors each half-step loads from the scratch arrays. -/

@[expose] public section

set_option maxRecDepth 16384

noncomputable section

namespace Cert.Fox

open Idealize.ShloMosaic Cert.KernelIdeal Cert.KernelIdeal.Gen

/-- The vectors of the half-step 0. -/
def ld0 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2x1x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2x1x2048 .f32) (harg7 : arg7.IsWhole) (arg8 : Memref sig .tc .vmem S2048x128 .f32) (harg8 : arg8.IsWhole) (arg15 : Memref sig .tc .vmem S2x2048x128 .bf16) (arg16 : Memref sig .tc .vmem S2048x128 .bf16) (arg18 : Memref sig .tc .vmem S2048x128 .bf16) (arg19 : Memref sig .tc .vmem S2x2048x128 .bf16) (arg24 : Memref sig .tc .vmem S2x2048x1 .f32) (x0 : Vec Ideal S2048x128 .f32) (x1 : Vec Ideal S2048x128 .f32) (x2 : Vec Ideal S2048x128 .f32) (x3 : Vec Ideal S2x1x2048 .f32) (x4 : Vec Ideal S1x128 .f32) (x5 : Vec Ideal S1x128 .f32) (x6 : Vec Ideal S2x1x2048 .f32) (x7 : Vec Ideal S2048x128 .f32) : Ld0 :=
  ⟨arg16.view.readCov (kernelRun0_A.sl.HS1_1 c arg2 harg2 arg6 harg6 x1 x5) (Rect.unit (s := S2048x128) ![0, 0] S512x128.size inb_S2048x128_S512x128_0_0).toLoadRect,
    arg18.view.readCov (kernelRun0_A.sl.HS3_1 c arg3 harg3 x2) (Rect.unit (s := S2048x128) ![0, 0] S512x128.size inb_S2048x128_S512x128_0_0).toLoadRect,
    arg15.view.readCov (kernelRun0_A.sl.HS0_2 c arg1 harg1 arg5 harg5 x0 x4) (Rect.unit (s := S2x2048x128) ![0, 0, 0] S1x512x128.size inb_S2x2048x128_S1x512x128_0_0_0).toLoadRect,
    arg19.view.readCov (kernelRun0_A.sl.HS4_2 c arg8 harg8 x7) (Rect.unit (s := S2x2048x128) ![0, 0, 0] S1x512x128.size inb_S2x2048x128_S1x512x128_0_0_0).toLoadRect,
    View.readAt (Elt Ideal) arg4.view (Rect.unit (s := S2x1x2048) ![0, 0, 0] S1x1x512.size inb_S2x1x2048_S1x1x512_0_0_0).toLoadRect (harg4.unread x3),
    View.readAt (Elt Ideal) arg7.view (Rect.unit (s := S2x1x2048) ![0, 0, 0] S1x1x512.size inb_S2x1x2048_S1x1x512_0_0_0).toLoadRect (harg7.unread x6),
    arg24.view.readCov (kernelRun0_A.sl.HS9_8 c arg4 harg4 x3) (Rect.unit (s := S2x2048x1) ![0, 0, 0] S1x512x1.size inb_S2x2048x1_S1x512x1_0_0_0).toLoadRect⟩

theorem ld0_ok {c : Dev nD} {arg1 : Memref sig .tc .vmem S2048x128 .f32} {harg1 : arg1.IsWhole} {arg2 : Memref sig .tc .vmem S2048x128 .f32} {harg2 : arg2.IsWhole} {arg3 : Memref sig .tc .vmem S2048x128 .f32} {harg3 : arg3.IsWhole} {arg4 : Memref sig .tc .vmem S2x1x2048 .f32} {harg4 : arg4.IsWhole} {arg5 : Memref sig .tc .vmem S1x128 .f32} {harg5 : arg5.IsWhole} {arg6 : Memref sig .tc .vmem S1x128 .f32} {harg6 : arg6.IsWhole} {arg7 : Memref sig .tc .vmem S2x1x2048 .f32} {harg7 : arg7.IsWhole} {arg8 : Memref sig .tc .vmem S2048x128 .f32} {harg8 : arg8.IsWhole} {arg15 : Memref sig .tc .vmem S2x2048x128 .bf16} {arg16 : Memref sig .tc .vmem S2048x128 .bf16} {arg18 : Memref sig .tc .vmem S2048x128 .bf16} {arg19 : Memref sig .tc .vmem S2x2048x128 .bf16} {arg24 : Memref sig .tc .vmem S2x2048x1 .f32} {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {B : Blk} (h : In B x0 x1 x2 x3 x4 x5 x6 x7) :
    (ld0 c arg1 harg1 arg2 harg2 arg3 harg3 arg4 harg4 arg5 harg5 arg6 harg6 arg7 harg7 arg8 harg8 arg15 arg16 arg18 arg19 arg24 x0 x1 x2 x3 x4 x5 x6 x7).Ok B 0 :=
  ⟨(kb_held h).load (fun κ l => B.kn κ l) fun _ _ _ _ => by simp only [Nat.zero_add],
    (vb_held h).load (fun κ l => B.v κ l) fun _ _ _ _ => by simp only [Nat.zero_add],
    (qs_held h).load (fun r l => B.Q 0 r l) fun _ _ _ _ => by simp only [Nat.zero_add],
    (do_held h).load (fun r l => B.D 0 r l) fun _ _ _ _ => by simp only [Nat.zero_add],
    R3f.window harg4 h.c (fun _ r => B.c 0 r) fun _ _ _ _ => by simp only [Nat.zero_add],
    R3f.window harg7 h.e (fun _ r => B.e 0 r) fun _ _ _ _ => by simp only [Nat.zero_add],
    (cc_held h).load (fun κ _ => B.c 0 κ) fun _ _ _ _ => by simp only [Nat.zero_add]⟩

/-- The vectors of the half-step 1. -/
def ld1 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2x1x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2x1x2048 .f32) (harg7 : arg7.IsWhole) (arg8 : Memref sig .tc .vmem S2048x128 .f32) (harg8 : arg8.IsWhole) (arg15 : Memref sig .tc .vmem S2x2048x128 .bf16) (arg16 : Memref sig .tc .vmem S2048x128 .bf16) (arg18 : Memref sig .tc .vmem S2048x128 .bf16) (arg19 : Memref sig .tc .vmem S2x2048x128 .bf16) (arg24 : Memref sig .tc .vmem S2x2048x1 .f32) (x0 : Vec Ideal S2048x128 .f32) (x1 : Vec Ideal S2048x128 .f32) (x2 : Vec Ideal S2048x128 .f32) (x3 : Vec Ideal S2x1x2048 .f32) (x4 : Vec Ideal S1x128 .f32) (x5 : Vec Ideal S1x128 .f32) (x6 : Vec Ideal S2x1x2048 .f32) (x7 : Vec Ideal S2048x128 .f32) : Ld0 :=
  ⟨arg16.view.readCov (kernelRun0_A.sl.HS1_1 c arg2 harg2 arg6 harg6 x1 x5) (Rect.unit (s := S2048x128) ![0, 0] S512x128.size inb_S2048x128_S512x128_0_0).toLoadRect,
    arg18.view.readCov (kernelRun0_A.sl.HS3_1 c arg3 harg3 x2) (Rect.unit (s := S2048x128) ![0, 0] S512x128.size inb_S2048x128_S512x128_0_0).toLoadRect,
    arg15.view.readCov (kernelRun0_A.sl.HS0_2 c arg1 harg1 arg5 harg5 x0 x4) (Rect.unit (s := S2x2048x128) ![1, 0, 0] S1x512x128.size inb_S2x2048x128_S1x512x128_1_0_0).toLoadRect,
    arg19.view.readCov (kernelRun0_A.sl.HS4_2 c arg8 harg8 x7) (Rect.unit (s := S2x2048x128) ![1, 0, 0] S1x512x128.size inb_S2x2048x128_S1x512x128_1_0_0).toLoadRect,
    View.readAt (Elt Ideal) arg4.view (Rect.unit (s := S2x1x2048) ![1, 0, 0] S1x1x512.size inb_S2x1x2048_S1x1x512_1_0_0).toLoadRect (harg4.unread x3),
    View.readAt (Elt Ideal) arg7.view (Rect.unit (s := S2x1x2048) ![1, 0, 0] S1x1x512.size inb_S2x1x2048_S1x1x512_1_0_0).toLoadRect (harg7.unread x6),
    arg24.view.readCov (kernelRun0_A.sl.HS9_8 c arg4 harg4 x3) (Rect.unit (s := S2x2048x1) ![1, 0, 0] S1x512x1.size inb_S2x2048x1_S1x512x1_1_0_0).toLoadRect⟩

theorem ld1_ok {c : Dev nD} {arg1 : Memref sig .tc .vmem S2048x128 .f32} {harg1 : arg1.IsWhole} {arg2 : Memref sig .tc .vmem S2048x128 .f32} {harg2 : arg2.IsWhole} {arg3 : Memref sig .tc .vmem S2048x128 .f32} {harg3 : arg3.IsWhole} {arg4 : Memref sig .tc .vmem S2x1x2048 .f32} {harg4 : arg4.IsWhole} {arg5 : Memref sig .tc .vmem S1x128 .f32} {harg5 : arg5.IsWhole} {arg6 : Memref sig .tc .vmem S1x128 .f32} {harg6 : arg6.IsWhole} {arg7 : Memref sig .tc .vmem S2x1x2048 .f32} {harg7 : arg7.IsWhole} {arg8 : Memref sig .tc .vmem S2048x128 .f32} {harg8 : arg8.IsWhole} {arg15 : Memref sig .tc .vmem S2x2048x128 .bf16} {arg16 : Memref sig .tc .vmem S2048x128 .bf16} {arg18 : Memref sig .tc .vmem S2048x128 .bf16} {arg19 : Memref sig .tc .vmem S2x2048x128 .bf16} {arg24 : Memref sig .tc .vmem S2x2048x1 .f32} {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {B : Blk} (h : In B x0 x1 x2 x3 x4 x5 x6 x7) :
    (ld1 c arg1 harg1 arg2 harg2 arg3 harg3 arg4 harg4 arg5 harg5 arg6 harg6 arg7 harg7 arg8 harg8 arg15 arg16 arg18 arg19 arg24 x0 x1 x2 x3 x4 x5 x6 x7).Ok B 1 :=
  ⟨(kb_held h).load (fun κ l => B.kn κ l) fun _ _ _ _ => by simp only [Nat.zero_add],
    (vb_held h).load (fun κ l => B.v κ l) fun _ _ _ _ => by simp only [Nat.zero_add],
    (qs_held h).load (fun r l => B.Q 1 r l) fun _ _ _ _ => by simp only [Nat.zero_add],
    (do_held h).load (fun r l => B.D 1 r l) fun _ _ _ _ => by simp only [Nat.zero_add],
    R3f.window harg4 h.c (fun _ r => B.c 1 r) fun _ _ _ _ => by simp only [Nat.zero_add],
    R3f.window harg7 h.e (fun _ r => B.e 1 r) fun _ _ _ _ => by simp only [Nat.zero_add],
    (cc_held h).load (fun κ _ => B.c 1 κ) fun _ _ _ _ => by simp only [Nat.zero_add]⟩

/-- The vectors of the half-step 2. -/
def ld2 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2x1x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2x1x2048 .f32) (harg7 : arg7.IsWhole) (arg8 : Memref sig .tc .vmem S2048x128 .f32) (harg8 : arg8.IsWhole) (arg15 : Memref sig .tc .vmem S2x2048x128 .bf16) (arg16 : Memref sig .tc .vmem S2048x128 .bf16) (arg18 : Memref sig .tc .vmem S2048x128 .bf16) (arg19 : Memref sig .tc .vmem S2x2048x128 .bf16) (arg24 : Memref sig .tc .vmem S2x2048x1 .f32) (x0 : Vec Ideal S2048x128 .f32) (x1 : Vec Ideal S2048x128 .f32) (x2 : Vec Ideal S2048x128 .f32) (x3 : Vec Ideal S2x1x2048 .f32) (x4 : Vec Ideal S1x128 .f32) (x5 : Vec Ideal S1x128 .f32) (x6 : Vec Ideal S2x1x2048 .f32) (x7 : Vec Ideal S2048x128 .f32) : Ld512 :=
  ⟨arg16.view.readCov (kernelRun0_A.sl.HS1_1 c arg2 harg2 arg6 harg6 x1 x5) (Rect.unit (s := S2048x128) ![512, 0] S512x128.size inb_S2048x128_S512x128_512_0).toLoadRect,
    arg18.view.readCov (kernelRun0_A.sl.HS3_1 c arg3 harg3 x2) (Rect.unit (s := S2048x128) ![512, 0] S512x128.size inb_S2048x128_S512x128_512_0).toLoadRect,
    arg15.view.readCov (kernelRun0_A.sl.HS0_2 c arg1 harg1 arg5 harg5 x0 x4) (Rect.unit (s := S2x2048x128) ![0, 512, 0] S1x512x128.size inb_S2x2048x128_S1x512x128_0_512_0).toLoadRect,
    arg19.view.readCov (kernelRun0_A.sl.HS4_2 c arg8 harg8 x7) (Rect.unit (s := S2x2048x128) ![0, 512, 0] S1x512x128.size inb_S2x2048x128_S1x512x128_0_512_0).toLoadRect,
    View.readAt (Elt Ideal) arg4.view (Rect.unit (s := S2x1x2048) ![0, 0, 512] S1x1x512.size inb_S2x1x2048_S1x1x512_0_0_512).toLoadRect (harg4.unread x3),
    View.readAt (Elt Ideal) arg7.view (Rect.unit (s := S2x1x2048) ![0, 0, 512] S1x1x512.size inb_S2x1x2048_S1x1x512_0_0_512).toLoadRect (harg7.unread x6),
    arg24.view.readCov (kernelRun0_A.sl.HS9_8 c arg4 harg4 x3) (Rect.unit (s := S2x2048x1) ![0, 512, 0] S1x512x1.size inb_S2x2048x1_S1x512x1_0_512_0).toLoadRect,
    arg16.view.readCov (kernelRun0_A.sl.HS1_1 c arg2 harg2 arg6 harg6 x1 x5) (Rect.unit (s := S2048x128) ![0, 0] S512x128.size inb_S2048x128_S512x128_0_0).toLoadRect,
    arg18.view.readCov (kernelRun0_A.sl.HS3_1 c arg3 harg3 x2) (Rect.unit (s := S2048x128) ![0, 0] S512x128.size inb_S2048x128_S512x128_0_0).toLoadRect,
    arg24.view.readCov (kernelRun0_A.sl.HS9_8 c arg4 harg4 x3) (Rect.unit (s := S2x2048x1) ![0, 0, 0] S1x512x1.size inb_S2x2048x1_S1x512x1_0_0_0).toLoadRect⟩

theorem ld2_ok {c : Dev nD} {arg1 : Memref sig .tc .vmem S2048x128 .f32} {harg1 : arg1.IsWhole} {arg2 : Memref sig .tc .vmem S2048x128 .f32} {harg2 : arg2.IsWhole} {arg3 : Memref sig .tc .vmem S2048x128 .f32} {harg3 : arg3.IsWhole} {arg4 : Memref sig .tc .vmem S2x1x2048 .f32} {harg4 : arg4.IsWhole} {arg5 : Memref sig .tc .vmem S1x128 .f32} {harg5 : arg5.IsWhole} {arg6 : Memref sig .tc .vmem S1x128 .f32} {harg6 : arg6.IsWhole} {arg7 : Memref sig .tc .vmem S2x1x2048 .f32} {harg7 : arg7.IsWhole} {arg8 : Memref sig .tc .vmem S2048x128 .f32} {harg8 : arg8.IsWhole} {arg15 : Memref sig .tc .vmem S2x2048x128 .bf16} {arg16 : Memref sig .tc .vmem S2048x128 .bf16} {arg18 : Memref sig .tc .vmem S2048x128 .bf16} {arg19 : Memref sig .tc .vmem S2x2048x128 .bf16} {arg24 : Memref sig .tc .vmem S2x2048x1 .f32} {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {B : Blk} (h : In B x0 x1 x2 x3 x4 x5 x6 x7) :
    (ld2 c arg1 harg1 arg2 harg2 arg3 harg3 arg4 harg4 arg5 harg5 arg6 harg6 arg7 harg7 arg8 harg8 arg15 arg16 arg18 arg19 arg24 x0 x1 x2 x3 x4 x5 x6 x7).Ok B 2 :=
  ⟨(kb_held h).load (fun κ l => B.kn (512 + κ) l) fun _ _ _ _ => by simp only [Nat.zero_add],
    (vb_held h).load (fun κ l => B.v (512 + κ) l) fun _ _ _ _ => by simp only [Nat.zero_add],
    (qs_held h).load (fun r l => B.Q 0 (512 + r) l) fun _ _ _ _ => by simp only [Nat.zero_add],
    (do_held h).load (fun r l => B.D 0 (512 + r) l) fun _ _ _ _ => by simp only [Nat.zero_add],
    R3f.window harg4 h.c (fun _ r => B.c 0 (512 + r)) fun _ _ _ _ => rfl,
    R3f.window harg7 h.e (fun _ r => B.e 0 (512 + r)) fun _ _ _ _ => rfl,
    (cc_held h).load (fun κ _ => B.c 0 (512 + κ)) fun _ _ _ _ => rfl,
    (kb_held h).load (fun κ l => B.kn κ l) fun _ _ _ _ => by simp only [Nat.zero_add],
    (vb_held h).load (fun κ l => B.v κ l) fun _ _ _ _ => by simp only [Nat.zero_add],
    (cc_held h).load (fun κ _ => B.c 0 κ) fun _ _ _ _ => by simp only [Nat.zero_add]⟩

/-- The vectors of the half-step 3. -/
def ld3 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2x1x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2x1x2048 .f32) (harg7 : arg7.IsWhole) (arg8 : Memref sig .tc .vmem S2048x128 .f32) (harg8 : arg8.IsWhole) (arg15 : Memref sig .tc .vmem S2x2048x128 .bf16) (arg16 : Memref sig .tc .vmem S2048x128 .bf16) (arg18 : Memref sig .tc .vmem S2048x128 .bf16) (arg19 : Memref sig .tc .vmem S2x2048x128 .bf16) (arg24 : Memref sig .tc .vmem S2x2048x1 .f32) (x0 : Vec Ideal S2048x128 .f32) (x1 : Vec Ideal S2048x128 .f32) (x2 : Vec Ideal S2048x128 .f32) (x3 : Vec Ideal S2x1x2048 .f32) (x4 : Vec Ideal S1x128 .f32) (x5 : Vec Ideal S1x128 .f32) (x6 : Vec Ideal S2x1x2048 .f32) (x7 : Vec Ideal S2048x128 .f32) : Ld512 :=
  ⟨arg16.view.readCov (kernelRun0_A.sl.HS1_1 c arg2 harg2 arg6 harg6 x1 x5) (Rect.unit (s := S2048x128) ![512, 0] S512x128.size inb_S2048x128_S512x128_512_0).toLoadRect,
    arg18.view.readCov (kernelRun0_A.sl.HS3_1 c arg3 harg3 x2) (Rect.unit (s := S2048x128) ![512, 0] S512x128.size inb_S2048x128_S512x128_512_0).toLoadRect,
    arg15.view.readCov (kernelRun0_A.sl.HS0_2 c arg1 harg1 arg5 harg5 x0 x4) (Rect.unit (s := S2x2048x128) ![1, 512, 0] S1x512x128.size inb_S2x2048x128_S1x512x128_1_512_0).toLoadRect,
    arg19.view.readCov (kernelRun0_A.sl.HS4_2 c arg8 harg8 x7) (Rect.unit (s := S2x2048x128) ![1, 512, 0] S1x512x128.size inb_S2x2048x128_S1x512x128_1_512_0).toLoadRect,
    View.readAt (Elt Ideal) arg4.view (Rect.unit (s := S2x1x2048) ![1, 0, 512] S1x1x512.size inb_S2x1x2048_S1x1x512_1_0_512).toLoadRect (harg4.unread x3),
    View.readAt (Elt Ideal) arg7.view (Rect.unit (s := S2x1x2048) ![1, 0, 512] S1x1x512.size inb_S2x1x2048_S1x1x512_1_0_512).toLoadRect (harg7.unread x6),
    arg24.view.readCov (kernelRun0_A.sl.HS9_8 c arg4 harg4 x3) (Rect.unit (s := S2x2048x1) ![1, 512, 0] S1x512x1.size inb_S2x2048x1_S1x512x1_1_512_0).toLoadRect,
    arg16.view.readCov (kernelRun0_A.sl.HS1_1 c arg2 harg2 arg6 harg6 x1 x5) (Rect.unit (s := S2048x128) ![0, 0] S512x128.size inb_S2048x128_S512x128_0_0).toLoadRect,
    arg18.view.readCov (kernelRun0_A.sl.HS3_1 c arg3 harg3 x2) (Rect.unit (s := S2048x128) ![0, 0] S512x128.size inb_S2048x128_S512x128_0_0).toLoadRect,
    arg24.view.readCov (kernelRun0_A.sl.HS9_8 c arg4 harg4 x3) (Rect.unit (s := S2x2048x1) ![1, 0, 0] S1x512x1.size inb_S2x2048x1_S1x512x1_1_0_0).toLoadRect⟩

theorem ld3_ok {c : Dev nD} {arg1 : Memref sig .tc .vmem S2048x128 .f32} {harg1 : arg1.IsWhole} {arg2 : Memref sig .tc .vmem S2048x128 .f32} {harg2 : arg2.IsWhole} {arg3 : Memref sig .tc .vmem S2048x128 .f32} {harg3 : arg3.IsWhole} {arg4 : Memref sig .tc .vmem S2x1x2048 .f32} {harg4 : arg4.IsWhole} {arg5 : Memref sig .tc .vmem S1x128 .f32} {harg5 : arg5.IsWhole} {arg6 : Memref sig .tc .vmem S1x128 .f32} {harg6 : arg6.IsWhole} {arg7 : Memref sig .tc .vmem S2x1x2048 .f32} {harg7 : arg7.IsWhole} {arg8 : Memref sig .tc .vmem S2048x128 .f32} {harg8 : arg8.IsWhole} {arg15 : Memref sig .tc .vmem S2x2048x128 .bf16} {arg16 : Memref sig .tc .vmem S2048x128 .bf16} {arg18 : Memref sig .tc .vmem S2048x128 .bf16} {arg19 : Memref sig .tc .vmem S2x2048x128 .bf16} {arg24 : Memref sig .tc .vmem S2x2048x1 .f32} {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {B : Blk} (h : In B x0 x1 x2 x3 x4 x5 x6 x7) :
    (ld3 c arg1 harg1 arg2 harg2 arg3 harg3 arg4 harg4 arg5 harg5 arg6 harg6 arg7 harg7 arg8 harg8 arg15 arg16 arg18 arg19 arg24 x0 x1 x2 x3 x4 x5 x6 x7).Ok B 3 :=
  ⟨(kb_held h).load (fun κ l => B.kn (512 + κ) l) fun _ _ _ _ => by simp only [Nat.zero_add],
    (vb_held h).load (fun κ l => B.v (512 + κ) l) fun _ _ _ _ => by simp only [Nat.zero_add],
    (qs_held h).load (fun r l => B.Q 1 (512 + r) l) fun _ _ _ _ => by simp only [Nat.zero_add],
    (do_held h).load (fun r l => B.D 1 (512 + r) l) fun _ _ _ _ => by simp only [Nat.zero_add],
    R3f.window harg4 h.c (fun _ r => B.c 1 (512 + r)) fun _ _ _ _ => rfl,
    R3f.window harg7 h.e (fun _ r => B.e 1 (512 + r)) fun _ _ _ _ => rfl,
    (cc_held h).load (fun κ _ => B.c 1 (512 + κ)) fun _ _ _ _ => rfl,
    (kb_held h).load (fun κ l => B.kn κ l) fun _ _ _ _ => by simp only [Nat.zero_add],
    (vb_held h).load (fun κ l => B.v κ l) fun _ _ _ _ => by simp only [Nat.zero_add],
    (cc_held h).load (fun κ _ => B.c 1 κ) fun _ _ _ _ => by simp only [Nat.zero_add]⟩

/-- The vectors of the half-step 4. -/
def ld4 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2x1x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2x1x2048 .f32) (harg7 : arg7.IsWhole) (arg8 : Memref sig .tc .vmem S2048x128 .f32) (harg8 : arg8.IsWhole) (arg15 : Memref sig .tc .vmem S2x2048x128 .bf16) (arg16 : Memref sig .tc .vmem S2048x128 .bf16) (arg18 : Memref sig .tc .vmem S2048x128 .bf16) (arg19 : Memref sig .tc .vmem S2x2048x128 .bf16) (arg24 : Memref sig .tc .vmem S2x2048x1 .f32) (x0 : Vec Ideal S2048x128 .f32) (x1 : Vec Ideal S2048x128 .f32) (x2 : Vec Ideal S2048x128 .f32) (x3 : Vec Ideal S2x1x2048 .f32) (x4 : Vec Ideal S1x128 .f32) (x5 : Vec Ideal S1x128 .f32) (x6 : Vec Ideal S2x1x2048 .f32) (x7 : Vec Ideal S2048x128 .f32) : Ld1024 :=
  ⟨arg16.view.readCov (kernelRun0_A.sl.HS1_1 c arg2 harg2 arg6 harg6 x1 x5) (Rect.unit (s := S2048x128) ![1024, 0] S512x128.size inb_S2048x128_S512x128_1024_0).toLoadRect,
    arg18.view.readCov (kernelRun0_A.sl.HS3_1 c arg3 harg3 x2) (Rect.unit (s := S2048x128) ![1024, 0] S512x128.size inb_S2048x128_S512x128_1024_0).toLoadRect,
    arg15.view.readCov (kernelRun0_A.sl.HS0_2 c arg1 harg1 arg5 harg5 x0 x4) (Rect.unit (s := S2x2048x128) ![0, 1024, 0] S1x512x128.size inb_S2x2048x128_S1x512x128_0_1024_0).toLoadRect,
    arg19.view.readCov (kernelRun0_A.sl.HS4_2 c arg8 harg8 x7) (Rect.unit (s := S2x2048x128) ![0, 1024, 0] S1x512x128.size inb_S2x2048x128_S1x512x128_0_1024_0).toLoadRect,
    View.readAt (Elt Ideal) arg4.view (Rect.unit (s := S2x1x2048) ![0, 0, 1024] S1x1x512.size inb_S2x1x2048_S1x1x512_0_0_1024).toLoadRect (harg4.unread x3),
    View.readAt (Elt Ideal) arg7.view (Rect.unit (s := S2x1x2048) ![0, 0, 1024] S1x1x512.size inb_S2x1x2048_S1x1x512_0_0_1024).toLoadRect (harg7.unread x6),
    arg24.view.readCov (kernelRun0_A.sl.HS9_8 c arg4 harg4 x3) (Rect.unit (s := S2x2048x1) ![0, 1024, 0] S1x512x1.size inb_S2x2048x1_S1x512x1_0_1024_0).toLoadRect,
    arg16.view.readCov (kernelRun0_A.sl.HS1_1 c arg2 harg2 arg6 harg6 x1 x5) (Rect.unit (s := S2048x128) ![0, 0] S1024x128.size inb_S2048x128_S1024x128_0_0).toLoadRect,
    arg18.view.readCov (kernelRun0_A.sl.HS3_1 c arg3 harg3 x2) (Rect.unit (s := S2048x128) ![0, 0] S1024x128.size inb_S2048x128_S1024x128_0_0).toLoadRect,
    arg24.view.readCov (kernelRun0_A.sl.HS9_8 c arg4 harg4 x3) (Rect.unit (s := S2x2048x1) ![0, 0, 0] S1x1024x1.size inb_S2x2048x1_S1x1024x1_0_0_0).toLoadRect⟩

theorem ld4_ok {c : Dev nD} {arg1 : Memref sig .tc .vmem S2048x128 .f32} {harg1 : arg1.IsWhole} {arg2 : Memref sig .tc .vmem S2048x128 .f32} {harg2 : arg2.IsWhole} {arg3 : Memref sig .tc .vmem S2048x128 .f32} {harg3 : arg3.IsWhole} {arg4 : Memref sig .tc .vmem S2x1x2048 .f32} {harg4 : arg4.IsWhole} {arg5 : Memref sig .tc .vmem S1x128 .f32} {harg5 : arg5.IsWhole} {arg6 : Memref sig .tc .vmem S1x128 .f32} {harg6 : arg6.IsWhole} {arg7 : Memref sig .tc .vmem S2x1x2048 .f32} {harg7 : arg7.IsWhole} {arg8 : Memref sig .tc .vmem S2048x128 .f32} {harg8 : arg8.IsWhole} {arg15 : Memref sig .tc .vmem S2x2048x128 .bf16} {arg16 : Memref sig .tc .vmem S2048x128 .bf16} {arg18 : Memref sig .tc .vmem S2048x128 .bf16} {arg19 : Memref sig .tc .vmem S2x2048x128 .bf16} {arg24 : Memref sig .tc .vmem S2x2048x1 .f32} {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {B : Blk} (h : In B x0 x1 x2 x3 x4 x5 x6 x7) :
    (ld4 c arg1 harg1 arg2 harg2 arg3 harg3 arg4 harg4 arg5 harg5 arg6 harg6 arg7 harg7 arg8 harg8 arg15 arg16 arg18 arg19 arg24 x0 x1 x2 x3 x4 x5 x6 x7).Ok B 4 :=
  ⟨(kb_held h).load (fun κ l => B.kn (1024 + κ) l) fun _ _ _ _ => by simp only [Nat.zero_add],
    (vb_held h).load (fun κ l => B.v (1024 + κ) l) fun _ _ _ _ => by simp only [Nat.zero_add],
    (qs_held h).load (fun r l => B.Q 0 (1024 + r) l) fun _ _ _ _ => by simp only [Nat.zero_add],
    (do_held h).load (fun r l => B.D 0 (1024 + r) l) fun _ _ _ _ => by simp only [Nat.zero_add],
    R3f.window harg4 h.c (fun _ r => B.c 0 (1024 + r)) fun _ _ _ _ => rfl,
    R3f.window harg7 h.e (fun _ r => B.e 0 (1024 + r)) fun _ _ _ _ => rfl,
    (cc_held h).load (fun κ _ => B.c 0 (1024 + κ)) fun _ _ _ _ => rfl,
    (kb_held h).load (fun κ l => B.kn κ l) fun _ _ _ _ => by simp only [Nat.zero_add],
    (vb_held h).load (fun κ l => B.v κ l) fun _ _ _ _ => by simp only [Nat.zero_add],
    (cc_held h).load (fun κ _ => B.c 0 κ) fun _ _ _ _ => by simp only [Nat.zero_add]⟩

/-- The vectors of the half-step 5. -/
def ld5 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2x1x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2x1x2048 .f32) (harg7 : arg7.IsWhole) (arg8 : Memref sig .tc .vmem S2048x128 .f32) (harg8 : arg8.IsWhole) (arg15 : Memref sig .tc .vmem S2x2048x128 .bf16) (arg16 : Memref sig .tc .vmem S2048x128 .bf16) (arg18 : Memref sig .tc .vmem S2048x128 .bf16) (arg19 : Memref sig .tc .vmem S2x2048x128 .bf16) (arg24 : Memref sig .tc .vmem S2x2048x1 .f32) (x0 : Vec Ideal S2048x128 .f32) (x1 : Vec Ideal S2048x128 .f32) (x2 : Vec Ideal S2048x128 .f32) (x3 : Vec Ideal S2x1x2048 .f32) (x4 : Vec Ideal S1x128 .f32) (x5 : Vec Ideal S1x128 .f32) (x6 : Vec Ideal S2x1x2048 .f32) (x7 : Vec Ideal S2048x128 .f32) : Ld1024 :=
  ⟨arg16.view.readCov (kernelRun0_A.sl.HS1_1 c arg2 harg2 arg6 harg6 x1 x5) (Rect.unit (s := S2048x128) ![1024, 0] S512x128.size inb_S2048x128_S512x128_1024_0).toLoadRect,
    arg18.view.readCov (kernelRun0_A.sl.HS3_1 c arg3 harg3 x2) (Rect.unit (s := S2048x128) ![1024, 0] S512x128.size inb_S2048x128_S512x128_1024_0).toLoadRect,
    arg15.view.readCov (kernelRun0_A.sl.HS0_2 c arg1 harg1 arg5 harg5 x0 x4) (Rect.unit (s := S2x2048x128) ![1, 1024, 0] S1x512x128.size inb_S2x2048x128_S1x512x128_1_1024_0).toLoadRect,
    arg19.view.readCov (kernelRun0_A.sl.HS4_2 c arg8 harg8 x7) (Rect.unit (s := S2x2048x128) ![1, 1024, 0] S1x512x128.size inb_S2x2048x128_S1x512x128_1_1024_0).toLoadRect,
    View.readAt (Elt Ideal) arg4.view (Rect.unit (s := S2x1x2048) ![1, 0, 1024] S1x1x512.size inb_S2x1x2048_S1x1x512_1_0_1024).toLoadRect (harg4.unread x3),
    View.readAt (Elt Ideal) arg7.view (Rect.unit (s := S2x1x2048) ![1, 0, 1024] S1x1x512.size inb_S2x1x2048_S1x1x512_1_0_1024).toLoadRect (harg7.unread x6),
    arg24.view.readCov (kernelRun0_A.sl.HS9_8 c arg4 harg4 x3) (Rect.unit (s := S2x2048x1) ![1, 1024, 0] S1x512x1.size inb_S2x2048x1_S1x512x1_1_1024_0).toLoadRect,
    arg16.view.readCov (kernelRun0_A.sl.HS1_1 c arg2 harg2 arg6 harg6 x1 x5) (Rect.unit (s := S2048x128) ![0, 0] S1024x128.size inb_S2048x128_S1024x128_0_0).toLoadRect,
    arg18.view.readCov (kernelRun0_A.sl.HS3_1 c arg3 harg3 x2) (Rect.unit (s := S2048x128) ![0, 0] S1024x128.size inb_S2048x128_S1024x128_0_0).toLoadRect,
    arg24.view.readCov (kernelRun0_A.sl.HS9_8 c arg4 harg4 x3) (Rect.unit (s := S2x2048x1) ![1, 0, 0] S1x1024x1.size inb_S2x2048x1_S1x1024x1_1_0_0).toLoadRect⟩

theorem ld5_ok {c : Dev nD} {arg1 : Memref sig .tc .vmem S2048x128 .f32} {harg1 : arg1.IsWhole} {arg2 : Memref sig .tc .vmem S2048x128 .f32} {harg2 : arg2.IsWhole} {arg3 : Memref sig .tc .vmem S2048x128 .f32} {harg3 : arg3.IsWhole} {arg4 : Memref sig .tc .vmem S2x1x2048 .f32} {harg4 : arg4.IsWhole} {arg5 : Memref sig .tc .vmem S1x128 .f32} {harg5 : arg5.IsWhole} {arg6 : Memref sig .tc .vmem S1x128 .f32} {harg6 : arg6.IsWhole} {arg7 : Memref sig .tc .vmem S2x1x2048 .f32} {harg7 : arg7.IsWhole} {arg8 : Memref sig .tc .vmem S2048x128 .f32} {harg8 : arg8.IsWhole} {arg15 : Memref sig .tc .vmem S2x2048x128 .bf16} {arg16 : Memref sig .tc .vmem S2048x128 .bf16} {arg18 : Memref sig .tc .vmem S2048x128 .bf16} {arg19 : Memref sig .tc .vmem S2x2048x128 .bf16} {arg24 : Memref sig .tc .vmem S2x2048x1 .f32} {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {B : Blk} (h : In B x0 x1 x2 x3 x4 x5 x6 x7) :
    (ld5 c arg1 harg1 arg2 harg2 arg3 harg3 arg4 harg4 arg5 harg5 arg6 harg6 arg7 harg7 arg8 harg8 arg15 arg16 arg18 arg19 arg24 x0 x1 x2 x3 x4 x5 x6 x7).Ok B 5 :=
  ⟨(kb_held h).load (fun κ l => B.kn (1024 + κ) l) fun _ _ _ _ => by simp only [Nat.zero_add],
    (vb_held h).load (fun κ l => B.v (1024 + κ) l) fun _ _ _ _ => by simp only [Nat.zero_add],
    (qs_held h).load (fun r l => B.Q 1 (1024 + r) l) fun _ _ _ _ => by simp only [Nat.zero_add],
    (do_held h).load (fun r l => B.D 1 (1024 + r) l) fun _ _ _ _ => by simp only [Nat.zero_add],
    R3f.window harg4 h.c (fun _ r => B.c 1 (1024 + r)) fun _ _ _ _ => rfl,
    R3f.window harg7 h.e (fun _ r => B.e 1 (1024 + r)) fun _ _ _ _ => rfl,
    (cc_held h).load (fun κ _ => B.c 1 (1024 + κ)) fun _ _ _ _ => rfl,
    (kb_held h).load (fun κ l => B.kn κ l) fun _ _ _ _ => by simp only [Nat.zero_add],
    (vb_held h).load (fun κ l => B.v κ l) fun _ _ _ _ => by simp only [Nat.zero_add],
    (cc_held h).load (fun κ _ => B.c 1 κ) fun _ _ _ _ => by simp only [Nat.zero_add]⟩

/-- The vectors of the half-step 6. -/
def ld6 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2x1x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2x1x2048 .f32) (harg7 : arg7.IsWhole) (arg8 : Memref sig .tc .vmem S2048x128 .f32) (harg8 : arg8.IsWhole) (arg15 : Memref sig .tc .vmem S2x2048x128 .bf16) (arg16 : Memref sig .tc .vmem S2048x128 .bf16) (arg18 : Memref sig .tc .vmem S2048x128 .bf16) (arg19 : Memref sig .tc .vmem S2x2048x128 .bf16) (arg24 : Memref sig .tc .vmem S2x2048x1 .f32) (x0 : Vec Ideal S2048x128 .f32) (x1 : Vec Ideal S2048x128 .f32) (x2 : Vec Ideal S2048x128 .f32) (x3 : Vec Ideal S2x1x2048 .f32) (x4 : Vec Ideal S1x128 .f32) (x5 : Vec Ideal S1x128 .f32) (x6 : Vec Ideal S2x1x2048 .f32) (x7 : Vec Ideal S2048x128 .f32) : Ld1536 :=
  ⟨arg16.view.readCov (kernelRun0_A.sl.HS1_1 c arg2 harg2 arg6 harg6 x1 x5) (Rect.unit (s := S2048x128) ![1536, 0] S512x128.size inb_S2048x128_S512x128_1536_0).toLoadRect,
    arg18.view.readCov (kernelRun0_A.sl.HS3_1 c arg3 harg3 x2) (Rect.unit (s := S2048x128) ![1536, 0] S512x128.size inb_S2048x128_S512x128_1536_0).toLoadRect,
    arg15.view.readCov (kernelRun0_A.sl.HS0_2 c arg1 harg1 arg5 harg5 x0 x4) (Rect.unit (s := S2x2048x128) ![0, 1536, 0] S1x512x128.size inb_S2x2048x128_S1x512x128_0_1536_0).toLoadRect,
    arg19.view.readCov (kernelRun0_A.sl.HS4_2 c arg8 harg8 x7) (Rect.unit (s := S2x2048x128) ![0, 1536, 0] S1x512x128.size inb_S2x2048x128_S1x512x128_0_1536_0).toLoadRect,
    View.readAt (Elt Ideal) arg4.view (Rect.unit (s := S2x1x2048) ![0, 0, 1536] S1x1x512.size inb_S2x1x2048_S1x1x512_0_0_1536).toLoadRect (harg4.unread x3),
    View.readAt (Elt Ideal) arg7.view (Rect.unit (s := S2x1x2048) ![0, 0, 1536] S1x1x512.size inb_S2x1x2048_S1x1x512_0_0_1536).toLoadRect (harg7.unread x6),
    arg24.view.readCov (kernelRun0_A.sl.HS9_8 c arg4 harg4 x3) (Rect.unit (s := S2x2048x1) ![0, 1536, 0] S1x512x1.size inb_S2x2048x1_S1x512x1_0_1536_0).toLoadRect,
    arg16.view.readCov (kernelRun0_A.sl.HS1_1 c arg2 harg2 arg6 harg6 x1 x5) (Rect.unit (s := S2048x128) ![0, 0] S1536x128.size inb_S2048x128_S1536x128_0_0).toLoadRect,
    arg18.view.readCov (kernelRun0_A.sl.HS3_1 c arg3 harg3 x2) (Rect.unit (s := S2048x128) ![0, 0] S1536x128.size inb_S2048x128_S1536x128_0_0).toLoadRect,
    arg24.view.readCov (kernelRun0_A.sl.HS9_8 c arg4 harg4 x3) (Rect.unit (s := S2x2048x1) ![0, 0, 0] S1x1536x1.size inb_S2x2048x1_S1x1536x1_0_0_0).toLoadRect⟩

theorem ld6_ok {c : Dev nD} {arg1 : Memref sig .tc .vmem S2048x128 .f32} {harg1 : arg1.IsWhole} {arg2 : Memref sig .tc .vmem S2048x128 .f32} {harg2 : arg2.IsWhole} {arg3 : Memref sig .tc .vmem S2048x128 .f32} {harg3 : arg3.IsWhole} {arg4 : Memref sig .tc .vmem S2x1x2048 .f32} {harg4 : arg4.IsWhole} {arg5 : Memref sig .tc .vmem S1x128 .f32} {harg5 : arg5.IsWhole} {arg6 : Memref sig .tc .vmem S1x128 .f32} {harg6 : arg6.IsWhole} {arg7 : Memref sig .tc .vmem S2x1x2048 .f32} {harg7 : arg7.IsWhole} {arg8 : Memref sig .tc .vmem S2048x128 .f32} {harg8 : arg8.IsWhole} {arg15 : Memref sig .tc .vmem S2x2048x128 .bf16} {arg16 : Memref sig .tc .vmem S2048x128 .bf16} {arg18 : Memref sig .tc .vmem S2048x128 .bf16} {arg19 : Memref sig .tc .vmem S2x2048x128 .bf16} {arg24 : Memref sig .tc .vmem S2x2048x1 .f32} {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {B : Blk} (h : In B x0 x1 x2 x3 x4 x5 x6 x7) :
    (ld6 c arg1 harg1 arg2 harg2 arg3 harg3 arg4 harg4 arg5 harg5 arg6 harg6 arg7 harg7 arg8 harg8 arg15 arg16 arg18 arg19 arg24 x0 x1 x2 x3 x4 x5 x6 x7).Ok B 6 :=
  ⟨(kb_held h).load (fun κ l => B.kn (1536 + κ) l) fun _ _ _ _ => by simp only [Nat.zero_add],
    (vb_held h).load (fun κ l => B.v (1536 + κ) l) fun _ _ _ _ => by simp only [Nat.zero_add],
    (qs_held h).load (fun r l => B.Q 0 (1536 + r) l) fun _ _ _ _ => by simp only [Nat.zero_add],
    (do_held h).load (fun r l => B.D 0 (1536 + r) l) fun _ _ _ _ => by simp only [Nat.zero_add],
    R3f.window harg4 h.c (fun _ r => B.c 0 (1536 + r)) fun _ _ _ _ => rfl,
    R3f.window harg7 h.e (fun _ r => B.e 0 (1536 + r)) fun _ _ _ _ => rfl,
    (cc_held h).load (fun κ _ => B.c 0 (1536 + κ)) fun _ _ _ _ => rfl,
    (kb_held h).load (fun κ l => B.kn κ l) fun _ _ _ _ => by simp only [Nat.zero_add],
    (vb_held h).load (fun κ l => B.v κ l) fun _ _ _ _ => by simp only [Nat.zero_add],
    (cc_held h).load (fun κ _ => B.c 0 κ) fun _ _ _ _ => by simp only [Nat.zero_add]⟩

/-- The vectors of the half-step 7. -/
def ld7 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2x1x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2x1x2048 .f32) (harg7 : arg7.IsWhole) (arg8 : Memref sig .tc .vmem S2048x128 .f32) (harg8 : arg8.IsWhole) (arg15 : Memref sig .tc .vmem S2x2048x128 .bf16) (arg16 : Memref sig .tc .vmem S2048x128 .bf16) (arg18 : Memref sig .tc .vmem S2048x128 .bf16) (arg19 : Memref sig .tc .vmem S2x2048x128 .bf16) (arg24 : Memref sig .tc .vmem S2x2048x1 .f32) (x0 : Vec Ideal S2048x128 .f32) (x1 : Vec Ideal S2048x128 .f32) (x2 : Vec Ideal S2048x128 .f32) (x3 : Vec Ideal S2x1x2048 .f32) (x4 : Vec Ideal S1x128 .f32) (x5 : Vec Ideal S1x128 .f32) (x6 : Vec Ideal S2x1x2048 .f32) (x7 : Vec Ideal S2048x128 .f32) : Ld1536 :=
  ⟨arg16.view.readCov (kernelRun0_A.sl.HS1_1 c arg2 harg2 arg6 harg6 x1 x5) (Rect.unit (s := S2048x128) ![1536, 0] S512x128.size inb_S2048x128_S512x128_1536_0).toLoadRect,
    arg18.view.readCov (kernelRun0_A.sl.HS3_1 c arg3 harg3 x2) (Rect.unit (s := S2048x128) ![1536, 0] S512x128.size inb_S2048x128_S512x128_1536_0).toLoadRect,
    arg15.view.readCov (kernelRun0_A.sl.HS0_2 c arg1 harg1 arg5 harg5 x0 x4) (Rect.unit (s := S2x2048x128) ![1, 1536, 0] S1x512x128.size inb_S2x2048x128_S1x512x128_1_1536_0).toLoadRect,
    arg19.view.readCov (kernelRun0_A.sl.HS4_2 c arg8 harg8 x7) (Rect.unit (s := S2x2048x128) ![1, 1536, 0] S1x512x128.size inb_S2x2048x128_S1x512x128_1_1536_0).toLoadRect,
    View.readAt (Elt Ideal) arg4.view (Rect.unit (s := S2x1x2048) ![1, 0, 1536] S1x1x512.size inb_S2x1x2048_S1x1x512_1_0_1536).toLoadRect (harg4.unread x3),
    View.readAt (Elt Ideal) arg7.view (Rect.unit (s := S2x1x2048) ![1, 0, 1536] S1x1x512.size inb_S2x1x2048_S1x1x512_1_0_1536).toLoadRect (harg7.unread x6),
    arg24.view.readCov (kernelRun0_A.sl.HS9_8 c arg4 harg4 x3) (Rect.unit (s := S2x2048x1) ![1, 1536, 0] S1x512x1.size inb_S2x2048x1_S1x512x1_1_1536_0).toLoadRect,
    arg16.view.readCov (kernelRun0_A.sl.HS1_1 c arg2 harg2 arg6 harg6 x1 x5) (Rect.unit (s := S2048x128) ![0, 0] S1536x128.size inb_S2048x128_S1536x128_0_0).toLoadRect,
    arg18.view.readCov (kernelRun0_A.sl.HS3_1 c arg3 harg3 x2) (Rect.unit (s := S2048x128) ![0, 0] S1536x128.size inb_S2048x128_S1536x128_0_0).toLoadRect,
    arg24.view.readCov (kernelRun0_A.sl.HS9_8 c arg4 harg4 x3) (Rect.unit (s := S2x2048x1) ![1, 0, 0] S1x1536x1.size inb_S2x2048x1_S1x1536x1_1_0_0).toLoadRect⟩

theorem ld7_ok {c : Dev nD} {arg1 : Memref sig .tc .vmem S2048x128 .f32} {harg1 : arg1.IsWhole} {arg2 : Memref sig .tc .vmem S2048x128 .f32} {harg2 : arg2.IsWhole} {arg3 : Memref sig .tc .vmem S2048x128 .f32} {harg3 : arg3.IsWhole} {arg4 : Memref sig .tc .vmem S2x1x2048 .f32} {harg4 : arg4.IsWhole} {arg5 : Memref sig .tc .vmem S1x128 .f32} {harg5 : arg5.IsWhole} {arg6 : Memref sig .tc .vmem S1x128 .f32} {harg6 : arg6.IsWhole} {arg7 : Memref sig .tc .vmem S2x1x2048 .f32} {harg7 : arg7.IsWhole} {arg8 : Memref sig .tc .vmem S2048x128 .f32} {harg8 : arg8.IsWhole} {arg15 : Memref sig .tc .vmem S2x2048x128 .bf16} {arg16 : Memref sig .tc .vmem S2048x128 .bf16} {arg18 : Memref sig .tc .vmem S2048x128 .bf16} {arg19 : Memref sig .tc .vmem S2x2048x128 .bf16} {arg24 : Memref sig .tc .vmem S2x2048x1 .f32} {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {B : Blk} (h : In B x0 x1 x2 x3 x4 x5 x6 x7) :
    (ld7 c arg1 harg1 arg2 harg2 arg3 harg3 arg4 harg4 arg5 harg5 arg6 harg6 arg7 harg7 arg8 harg8 arg15 arg16 arg18 arg19 arg24 x0 x1 x2 x3 x4 x5 x6 x7).Ok B 7 :=
  ⟨(kb_held h).load (fun κ l => B.kn (1536 + κ) l) fun _ _ _ _ => by simp only [Nat.zero_add],
    (vb_held h).load (fun κ l => B.v (1536 + κ) l) fun _ _ _ _ => by simp only [Nat.zero_add],
    (qs_held h).load (fun r l => B.Q 1 (1536 + r) l) fun _ _ _ _ => by simp only [Nat.zero_add],
    (do_held h).load (fun r l => B.D 1 (1536 + r) l) fun _ _ _ _ => by simp only [Nat.zero_add],
    R3f.window harg4 h.c (fun _ r => B.c 1 (1536 + r)) fun _ _ _ _ => rfl,
    R3f.window harg7 h.e (fun _ r => B.e 1 (1536 + r)) fun _ _ _ _ => rfl,
    (cc_held h).load (fun κ _ => B.c 1 (1536 + κ)) fun _ _ _ _ => rfl,
    (kb_held h).load (fun κ l => B.kn κ l) fun _ _ _ _ => by simp only [Nat.zero_add],
    (vb_held h).load (fun κ l => B.v κ l) fun _ _ _ _ => by simp only [Nat.zero_add],
    (cc_held h).load (fun κ _ => B.c 1 κ) fun _ _ _ _ => by simp only [Nat.zero_add]⟩

end Cert.Fox
-- ==== Proof.Fox.Step.lean ====
module

public import proofs.«01_k».proof.Proof.Fox.Loads

/-! The two stores of a half-step into a running sum: the rows of its own block, then the rows before them. -/

@[expose] public section

set_option maxRecDepth 16384

noncomputable section

namespace Cert.Fox

open Idealize.ShloMosaic Cert.KernelIdeal Cert.KernelIdeal.Gen

/-- A running sum `A` after the first store of the half-step `s`: its own block of rows from `n` on is done. -/
def mid (A : ℕ → ℕ → ℕ → ℝ) (n s κ l : ℕ) : ℝ := if n ≤ κ ∧ κ < n + 512 then A (s + 1) κ l else A s κ l

/-- A running sum by head after the first store of the half-step `s`. -/
def mid3 (A : ℕ → ℕ → ℕ → ℕ → ℝ) (n s a κ m : ℕ) : ℝ := if a = s % 2 ∧ n ≤ κ ∧ κ < n + 512 then A (s + 1) a κ m else A s a κ m

section

variable {A : ℕ → ℕ → ℕ → ℝ} {n m s : ℕ} {L : List (View.Piece (Elt Ideal) S2048x128 .f32)}

/-- The rows of the half-step's own block. -/
theorem own_load (h : H2 L r32 (A s)) {sig : RefSig} {κ : Kind} {sp : Space} {v : View sig κ sp S2048x128 .f32}
    {inb : ∀ a, (![n, 0] : Fin 2 → ℕ) a + (![512, 128] : Fin 2 → ℕ) a ≤ (![2048, 128] : Fin 2 → ℕ) a} :
    Is2 (n0 := 512) (n1 := 128) (v.readCov L (Rect.unit (s := S2048x128) ![n, 0] ![512, 128] inb).toLoadRect)
      (fun κ l => A s (n + κ) l) :=
  h.load (fun κ l => A s (n + κ) l) fun _ _ _ _ => by simp only [Nat.zero_add]

/-- The rows before the half-step's own block. -/
theorem old_load (h : H2 L r32 (mid A n s)) {sig : RefSig} {κ : Kind} {sp : Space} {v : View sig κ sp S2048x128 .f32}
    {inb : ∀ a, (![0, 0] : Fin 2 → ℕ) a + (![n, 128] : Fin 2 → ℕ) a ≤ (![2048, 128] : Fin 2 → ℕ) a} :
    Is2 (n0 := n) (n1 := 128) (v.readCov L (Rect.unit (s := S2048x128) ![0, 0] ![n, 128] inb).toLoadRect) (A s) :=
  h.load _ fun κ _ _ _ => by
    simp only [Nat.zero_add]
    exact if_neg (by omega)

theorem own_store (h : H2 L r32 (A s))
    {inb : ∀ a, (![n, 0] : Fin 2 → ℕ) a + (![512, 128] : Fin 2 → ℕ) a ≤ (![2048, 128] : Fin 2 → ℕ) a}
    {w : FVec Ideal S512x128 .f32} (hw : Is2 w (fun κ l => A (s + 1) (n + κ) l)) :
    H2 (⟨Rect.unit (s := S2048x128) ![n, 0] ![512, 128] inb, w⟩ :: L) r32 (mid A n s) :=
  h.cons hw.r32 _ (fun a b _ _ => by
      simp only [Nat.zero_add]
      exact (if_pos ⟨Nat.le_add_right _ _, by omega⟩).symm)
    fun a b _ hb hab => (if_neg fun hm => hab ⟨hm, ⟨Nat.zero_le _, by omega⟩⟩).symm

theorem old_store (h : H2 L r32 (mid A n s)) (h0 : ∀ κ l, l < 128 → n + 512 ≤ κ → A (s + 1) κ l = A s κ l)
    {inb : ∀ a, (![0, 0] : Fin 2 → ℕ) a + (![n, 128] : Fin 2 → ℕ) a ≤ (![2048, 128] : Fin 2 → ℕ) a}
    {w : (⟨2, ![n, 128]⟩ : Shape).Idx → Elt Ideal .f32} (hw : R2 r32 w (A (s + 1))) :
    H2 (⟨Rect.unit (s := S2048x128) ![0, 0] ![n, 128] inb, w⟩ :: L) r32 (A (s + 1)) :=
  h.cons hw _ (fun a b _ _ => by simp only [Nat.zero_add])
    fun a b _ hb hab => by
      unfold mid
      by_cases hm : n ≤ a ∧ a < n + 512
      · rw [if_pos hm]
      · rw [if_neg hm, h0 _ _ hb (by omega)]

/-- In the first block of rows there is one store. -/
theorem one_store (h : H2 L r32 (A s)) (h0 : ∀ κ l, l < 128 → 512 ≤ κ → A (s + 1) κ l = A s κ l)
    {inb : ∀ a, (![0, 0] : Fin 2 → ℕ) a + (![512, 128] : Fin 2 → ℕ) a ≤ (![2048, 128] : Fin 2 → ℕ) a}
    {w : FVec Ideal S512x128 .f32} (hw : Is2 w (A (s + 1))) :
    H2 (⟨Rect.unit (s := S2048x128) ![0, 0] ![512, 128] inb, w⟩ :: L) r32 (A (s + 1)) :=
  h.cons hw.r32 _ (fun a b _ _ => by simp only [Nat.zero_add])
    fun a b _ hb hab => (h0 _ _ hb (by omega)).symm

theorem one_load (h : H2 L r32 (A s)) {sig : RefSig} {κ : Kind} {sp : Space} {v : View sig κ sp S2048x128 .f32}
    {inb : ∀ a, (![0, 0] : Fin 2 → ℕ) a + (![512, 128] : Fin 2 → ℕ) a ≤ (![2048, 128] : Fin 2 → ℕ) a} :
    Is2 (n0 := 512) (n1 := 128) (v.readCov L (Rect.unit (s := S2048x128) ![0, 0] ![512, 128] inb).toLoadRect) (A s) :=
  h.load _ fun _ _ _ _ => by simp only [Nat.zero_add]

end

section

variable {A : ℕ → ℕ → ℕ → ℕ → ℝ} {a n m s : ℕ} {L : List (View.Piece (Elt Ideal) S2x2048x128 .f32)}

/-- The rows of the half-step's own block. -/
theorem own_load3 (h : H3 L r32 (A s)) {sig : RefSig} {κ : Kind} {sp : Space} {v : View sig κ sp S2x2048x128 .f32}
    {inb : ∀ i, (![a, n, 0] : Fin 3 → ℕ) i + (![1, 512, 128] : Fin 3 → ℕ) i ≤ (![2, 2048, 128] : Fin 3 → ℕ) i} :
    Is3 (n0 := 512) (n1 := 128) (v.readCov L (Rect.unit (s := S2x2048x128) ![a, n, 0] ![1, 512, 128] inb).toLoadRect)
      (fun κ l => A s a (n + κ) l) :=
  h.load (fun κ l => A s a (n + κ) l) fun _ _ _ _ => by simp only [Nat.zero_add]

/-- The rows before the half-step's own block. -/
theorem old_load3 (h : H3 L r32 (mid3 A n s)) {sig : RefSig} {κ : Kind} {sp : Space} {v : View sig κ sp S2x2048x128 .f32}
    {inb : ∀ i, (![a, 0, 0] : Fin 3 → ℕ) i + (![1, n, 128] : Fin 3 → ℕ) i ≤ (![2, 2048, 128] : Fin 3 → ℕ) i} :
    Is3 (n0 := n) (n1 := 128) (v.readCov L (Rect.unit (s := S2x2048x128) ![a, 0, 0] ![1, n, 128] inb).toLoadRect) (A s a) :=
  h.load _ fun κ _ _ _ => by
    simp only [Nat.zero_add]
    exact if_neg (by omega)

theorem own_store3 (h : H3 L r32 (A s)) (ha : s % 2 = a)
    {inb : ∀ i, (![a, n, 0] : Fin 3 → ℕ) i + (![1, 512, 128] : Fin 3 → ℕ) i ≤ (![2, 2048, 128] : Fin 3 → ℕ) i}
    {w : FVec Ideal S1x512x128 .f32} (hw : Is3 w (fun κ l => A (s + 1) a (n + κ) l)) :
    H3 (⟨Rect.unit (s := S2x2048x128) ![a, n, 0] ![1, 512, 128] inb, w⟩ :: L) r32 (mid3 A n s) :=
  h.cons hw.r32 _ (fun b m _ _ => by
      simp only [Nat.zero_add]
      exact (if_pos ⟨ha.symm, Nat.le_add_right _ _, by omega⟩).symm)
    fun b κ m _ _ hb hab => (if_neg fun hm => hab ⟨by omega, ⟨by omega, by omega⟩, ⟨Nat.zero_le _, by omega⟩⟩).symm

theorem old_store3 (h : H3 L r32 (mid3 A n s)) (ha : s % 2 = a) (h0 : ∀ κ l, l < 128 → n + 512 ≤ κ → A (s + 1) a κ l = A s a κ l)
    (h1 : ∀ b κ l, b ≠ a → A (s + 1) b κ l = A s b κ l)
    {inb : ∀ i, (![a, 0, 0] : Fin 3 → ℕ) i + (![1, n, 128] : Fin 3 → ℕ) i ≤ (![2, 2048, 128] : Fin 3 → ℕ) i}
    {w : (⟨3, ![1, n, 128]⟩ : Shape).Idx → Elt Ideal .f32} (hw : R3 r32 w (A (s + 1) a)) :
    H3 (⟨Rect.unit (s := S2x2048x128) ![a, 0, 0] ![1, n, 128] inb, w⟩ :: L) r32 (A (s + 1)) :=
  h.cons hw _ (fun b m _ _ => by simp only [Nat.zero_add])
    fun b κ m _ _ hb hab => by
      unfold mid3
      by_cases hm : b = s % 2 ∧ n ≤ κ ∧ κ < n + 512
      · rw [if_pos hm]
      · rw [if_neg hm]
        by_cases hba : b = a
        · subst hba
          exact (h0 _ _ hb (by omega)).symm
        · exact (h1 _ _ _ hba).symm

/-- In the first block of rows there is one store. -/
theorem one_store3 (h : H3 L r32 (A s)) (h0 : ∀ κ l, l < 128 → 512 ≤ κ → A (s + 1) a κ l = A s a κ l)
    (h1 : ∀ b κ l, b ≠ a → A (s + 1) b κ l = A s b κ l)
    {inb : ∀ i, (![a, 0, 0] : Fin 3 → ℕ) i + (![1, 512, 128] : Fin 3 → ℕ) i ≤ (![2, 2048, 128] : Fin 3 → ℕ) i}
    {w : FVec Ideal S1x512x128 .f32} (hw : Is3 w (A (s + 1) a)) :
    H3 (⟨Rect.unit (s := S2x2048x128) ![a, 0, 0] ![1, 512, 128] inb, w⟩ :: L) r32 (A (s + 1)) :=
  h.cons hw.r32 _ (fun b m _ _ => by simp only [Nat.zero_add])
    fun b κ m _ _ hb hab => by
      by_cases hba : b = a
      · subst hba
        exact (h0 _ _ hb (by omega)).symm
      · exact (h1 _ _ _ hba).symm

theorem one_load3 (h : H3 L r32 (A s)) {sig : RefSig} {κ : Kind} {sp : Space} {v : View sig κ sp S2x2048x128 .f32}
    {inb : ∀ i, (![a, 0, 0] : Fin 3 → ℕ) i + (![1, 512, 128] : Fin 3 → ℕ) i ≤ (![2, 2048, 128] : Fin 3 → ℕ) i} :
    Is3 (n0 := 512) (n1 := 128) (v.readCov L (Rect.unit (s := S2x2048x128) ![a, 0, 0] ![1, 512, 128] inb).toLoadRect) (A s a) :=
  h.load _ fun _ _ _ _ => by simp only [Nat.zero_add]

end

theorem dv_later (B : Blk) (s : ℕ) {n : ℕ} (hn : 512 * (s / 2) = n) (κ l : ℕ) (_ : l < 128) (h : n + 512 ≤ κ) :
    ac B.PP B.D (s + 1) κ l = ac B.PP B.D s κ l := by
  rw [ac_succ, tm_zero (fun a κ ρ => B.PP_zero) (by omega), add_zero]

theorem dk_later (B : Blk) (s : ℕ) {n : ℕ} (hn : 512 * (s / 2) = n) (κ l : ℕ) (_ : l < 128) (h : n + 512 ≤ κ) :
    ac B.DS B.Q (s + 1) κ l = ac B.DS B.Q s κ l := by
  rw [ac_succ, tm_zero (fun a κ ρ => B.DS_zero) (by omega), add_zero]

theorem dc_later (B : Blk) (s a : ℕ) {n : ℕ} (hn : 512 * (s / 2) = n) (κ l : ℕ) (hl : l < 128) (h : n + 512 ≤ κ) :
    B.cs (s + 1) a κ l = B.cs s a κ l := by
  rw [B.cs_succ, B.um_zero hl (by omega), ite_self, add_zero]

theorem dc_other (B : Blk) (s a : ℕ) (ha : s % 2 = a) (b κ l : ℕ) (h : b ≠ a) : B.cs (s + 1) b κ l = B.cs s b κ l := by
  rw [B.cs_succ, if_neg (by omega), add_zero]

end Cert.Fox
-- ==== Proof.Fox.Dv.lean ====
module

public import proofs.«01_k».proof.Proof.Fox.Step

/-! The gradient of the values, store by store. -/

@[expose] public section

set_option maxRecDepth 16384

noncomputable section

namespace Cert.Fox

open Idealize.ShloMosaic Cert.KernelIdeal Cert.KernelIdeal.Gen

variable {c : Dev nD}
  {arg1 : Memref sig .tc .vmem S2048x128 .f32} {harg1 : arg1.IsWhole}
  {arg2 : Memref sig .tc .vmem S2048x128 .f32} {harg2 : arg2.IsWhole}
  {arg3 : Memref sig .tc .vmem S2048x128 .f32} {harg3 : arg3.IsWhole}
  {arg4 : Memref sig .tc .vmem S2x1x2048 .f32} {harg4 : arg4.IsWhole}
  {arg5 : Memref sig .tc .vmem S1x128 .f32} {harg5 : arg5.IsWhole}
  {arg6 : Memref sig .tc .vmem S1x128 .f32} {harg6 : arg6.IsWhole}
  {arg7 : Memref sig .tc .vmem S2x1x2048 .f32} {harg7 : arg7.IsWhole}
  {arg8 : Memref sig .tc .vmem S2048x128 .f32} {harg8 : arg8.IsWhole}
  {arg15 : Memref sig .tc .vmem S2x2048x128 .bf16}
  {arg16 : Memref sig .tc .vmem S2048x128 .bf16}
  {arg17 : Memref sig .tc .vmem S2x128x2048 .bf16}
  {arg18 : Memref sig .tc .vmem S2048x128 .bf16}
  {arg19 : Memref sig .tc .vmem S2x2048x128 .bf16}
  {arg20 : Memref sig .tc .vmem S2048x128 .f32}
  {arg21 : Memref sig .tc .vmem S2048x128 .f32}
  {arg22 : Memref sig .tc .vmem S2048x128 .f32}
  {arg23 : Memref sig .tc .vmem S2x2048x128 .f32}
  {arg24 : Memref sig .tc .vmem S2x2048x1 .f32}
  {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {B : Blk}
variable (h : In B x0 x1 x2 x3 x4 x5 x6 x7)
include h

omit h in
theorem dv1 : H2 (kernelRun0_A.sl.HS7_1 ) r32 ((ac B.PP B.D) 0) := H2.whole zero2_is.r32

/-- After the half-step 0. -/
theorem dv2 : H2 (kernelRun0_A.sl.HS7_2 c arg1 harg1 arg2 harg2 arg4 harg4 arg5 harg5 arg6 harg6 arg7 harg7 arg8 harg8 arg15 arg16 arg19 arg22 arg24 x0 x1 x3 x4 x5 x6 x7) r32 ((ac B.PP B.D) 1) :=
  one_store (A := (ac B.PP B.D)) (s := 0) (dv1) (dv_later B 0 rfl) (Ld0.dvD_is (ld0_ok h (arg15 := arg15) (arg16 := arg16) (arg18 := arg16) (arg19 := arg19) (arg24 := arg24) (harg1 := harg1) (harg2 := harg2) (harg3 := harg1) (harg4 := harg4) (harg5 := harg5) (harg6 := harg6) (harg7 := harg7) (harg8 := harg8) (c := c)) rfl (one_load (A := (ac B.PP B.D)) (s := 0) (dv1)))

/-- After the half-step 1. -/
theorem dv3 : H2 (kernelRun0_A.sl.HS7_3 c arg1 harg1 arg2 harg2 arg4 harg4 arg5 harg5 arg6 harg6 arg7 harg7 arg8 harg8 arg15 arg16 arg19 arg22 arg24 x0 x1 x3 x4 x5 x6 x7) r32 ((ac B.PP B.D) 2) :=
  one_store (A := (ac B.PP B.D)) (s := 1) (dv2 h) (dv_later B 1 rfl) (Ld0.dvD_is (ld1_ok h (arg15 := arg15) (arg16 := arg16) (arg18 := arg16) (arg19 := arg19) (arg24 := arg24) (harg1 := harg1) (harg2 := harg2) (harg3 := harg1) (harg4 := harg4) (harg5 := harg5) (harg6 := harg6) (harg7 := harg7) (harg8 := harg8) (c := c)) rfl (one_load (A := (ac B.PP B.D)) (s := 1) (dv2 h)))

/-- Half-step 2: its own block of rows. -/
theorem dv4 : H2 (kernelRun0_A.sl.HS7_4 c arg1 harg1 arg2 harg2 arg4 harg4 arg5 harg5 arg6 harg6 arg7 harg7 arg8 harg8 arg15 arg16 arg19 arg22 arg24 x0 x1 x3 x4 x5 x6 x7) r32 (mid (ac B.PP B.D) 512 2) :=
  own_store (A := (ac B.PP B.D)) (s := 2) (n := 512) (dv3 h) (Ld512.dvD_is (ld2_ok h (arg15 := arg15) (arg16 := arg16) (arg18 := arg16) (arg19 := arg19) (arg24 := arg24) (harg1 := harg1) (harg2 := harg2) (harg3 := harg1) (harg4 := harg4) (harg5 := harg5) (harg6 := harg6) (harg7 := harg7) (harg8 := harg8) (c := c)) rfl (own_load (A := (ac B.PP B.D)) (s := 2) (n := 512) (dv3 h)))

/-- After the half-step 2. -/
theorem dv5 : H2 (kernelRun0_A.sl.HS7_5 c arg1 harg1 arg2 harg2 arg4 harg4 arg5 harg5 arg6 harg6 arg7 harg7 arg8 harg8 arg15 arg16 arg19 arg22 arg24 x0 x1 x3 x4 x5 x6 x7) r32 ((ac B.PP B.D) 3) :=
  old_store (A := (ac B.PP B.D)) (s := 2) (n := 512) (dv4 h) (dv_later B 2 rfl) (Ld512.dvO_is (ld2_ok h (arg15 := arg15) (arg16 := arg16) (arg18 := arg16) (arg19 := arg19) (arg24 := arg24) (harg1 := harg1) (harg2 := harg2) (harg3 := harg1) (harg4 := harg4) (harg5 := harg5) (harg6 := harg6) (harg7 := harg7) (harg8 := harg8) (c := c)) rfl (old_load (A := (ac B.PP B.D)) (s := 2) (n := 512) (dv4 h))).r32

/-- Half-step 3: its own block of rows. -/
theorem dv6 : H2 (kernelRun0_A.sl.HS7_6 c arg1 harg1 arg2 harg2 arg4 harg4 arg5 harg5 arg6 harg6 arg7 harg7 arg8 harg8 arg15 arg16 arg19 arg22 arg24 x0 x1 x3 x4 x5 x6 x7) r32 (mid (ac B.PP B.D) 512 3) :=
  own_store (A := (ac B.PP B.D)) (s := 3) (n := 512) (dv5 h) (Ld512.dvD_is (ld3_ok h (arg15 := arg15) (arg16 := arg16) (arg18 := arg16) (arg19 := arg19) (arg24 := arg24) (harg1 := harg1) (harg2 := harg2) (harg3 := harg1) (harg4 := harg4) (harg5 := harg5) (harg6 := harg6) (harg7 := harg7) (harg8 := harg8) (c := c)) rfl (own_load (A := (ac B.PP B.D)) (s := 3) (n := 512) (dv5 h)))

/-- After the half-step 3. -/
theorem dv7 : H2 (kernelRun0_A.sl.HS7_7 c arg1 harg1 arg2 harg2 arg4 harg4 arg5 harg5 arg6 harg6 arg7 harg7 arg8 harg8 arg15 arg16 arg19 arg22 arg24 x0 x1 x3 x4 x5 x6 x7) r32 ((ac B.PP B.D) 4) :=
  old_store (A := (ac B.PP B.D)) (s := 3) (n := 512) (dv6 h) (dv_later B 3 rfl) (Ld512.dvO_is (ld3_ok h (arg15 := arg15) (arg16 := arg16) (arg18 := arg16) (arg19 := arg19) (arg24 := arg24) (harg1 := harg1) (harg2 := harg2) (harg3 := harg1) (harg4 := harg4) (harg5 := harg5) (harg6 := harg6) (harg7 := harg7) (harg8 := harg8) (c := c)) rfl (old_load (A := (ac B.PP B.D)) (s := 3) (n := 512) (dv6 h))).r32

/-- Half-step 4: its own block of rows. -/
theorem dv8 : H2 (kernelRun0_A.sl.HS7_8 c arg1 harg1 arg2 harg2 arg4 harg4 arg5 harg5 arg6 harg6 arg7 harg7 arg8 harg8 arg15 arg16 arg19 arg22 arg24 x0 x1 x3 x4 x5 x6 x7) r32 (mid (ac B.PP B.D) 1024 4) :=
  own_store (A := (ac B.PP B.D)) (s := 4) (n := 1024) (dv7 h) (Ld1024.dvD_is (ld4_ok h (arg15 := arg15) (arg16 := arg16) (arg18 := arg16) (arg19 := arg19) (arg24 := arg24) (harg1 := harg1) (harg2 := harg2) (harg3 := harg1) (harg4 := harg4) (harg5 := harg5) (harg6 := harg6) (harg7 := harg7) (harg8 := harg8) (c := c)) rfl (own_load (A := (ac B.PP B.D)) (s := 4) (n := 1024) (dv7 h)))

/-- After the half-step 4. -/
theorem dv9 : H2 (kernelRun0_A.sl.HS7_9 c arg1 harg1 arg2 harg2 arg4 harg4 arg5 harg5 arg6 harg6 arg7 harg7 arg8 harg8 arg15 arg16 arg19 arg22 arg24 x0 x1 x3 x4 x5 x6 x7) r32 ((ac B.PP B.D) 5) :=
  old_store (A := (ac B.PP B.D)) (s := 4) (n := 1024) (dv8 h) (dv_later B 4 rfl) (Ld1024.dvO_is (ld4_ok h (arg15 := arg15) (arg16 := arg16) (arg18 := arg16) (arg19 := arg19) (arg24 := arg24) (harg1 := harg1) (harg2 := harg2) (harg3 := harg1) (harg4 := harg4) (harg5 := harg5) (harg6 := harg6) (harg7 := harg7) (harg8 := harg8) (c := c)) rfl (old_load (A := (ac B.PP B.D)) (s := 4) (n := 1024) (dv8 h))).r32

/-- Half-step 5: its own block of rows. -/
theorem dv10 : H2 (kernelRun0_A.sl.HS7_10 c arg1 harg1 arg2 harg2 arg4 harg4 arg5 harg5 arg6 harg6 arg7 harg7 arg8 harg8 arg15 arg16 arg19 arg22 arg24 x0 x1 x3 x4 x5 x6 x7) r32 (mid (ac B.PP B.D) 1024 5) :=
  own_store (A := (ac B.PP B.D)) (s := 5) (n := 1024) (dv9 h) (Ld1024.dvD_is (ld5_ok h (arg15 := arg15) (arg16 := arg16) (arg18 := arg16) (arg19 := arg19) (arg24 := arg24) (harg1 := harg1) (harg2 := harg2) (harg3 := harg1) (harg4 := harg4) (harg5 := harg5) (harg6 := harg6) (harg7 := harg7) (harg8 := harg8) (c := c)) rfl (own_load (A := (ac B.PP B.D)) (s := 5) (n := 1024) (dv9 h)))

/-- After the half-step 5. -/
theorem dv11 : H2 (kernelRun0_A.sl.HS7_11 c arg1 harg1 arg2 harg2 arg4 harg4 arg5 harg5 arg6 harg6 arg7 harg7 arg8 harg8 arg15 arg16 arg19 arg22 arg24 x0 x1 x3 x4 x5 x6 x7) r32 ((ac B.PP B.D) 6) :=
  old_store (A := (ac B.PP B.D)) (s := 5) (n := 1024) (dv10 h) (dv_later B 5 rfl) (Ld1024.dvO_is (ld5_ok h (arg15 := arg15) (arg16 := arg16) (arg18 := arg16) (arg19 := arg19) (arg24 := arg24) (harg1 := harg1) (harg2 := harg2) (harg3 := harg1) (harg4 := harg4) (harg5 := harg5) (harg6 := harg6) (harg7 := harg7) (harg8 := harg8) (c := c)) rfl (old_load (A := (ac B.PP B.D)) (s := 5) (n := 1024) (dv10 h))).r32

/-- Half-step 6: its own block of rows. -/
theorem dv12 : H2 (kernelRun0_A.sl.HS7_12 c arg1 harg1 arg2 harg2 arg4 harg4 arg5 harg5 arg6 harg6 arg7 harg7 arg8 harg8 arg15 arg16 arg19 arg22 arg24 x0 x1 x3 x4 x5 x6 x7) r32 (mid (ac B.PP B.D) 1536 6) :=
  own_store (A := (ac B.PP B.D)) (s := 6) (n := 1536) (dv11 h) (Ld1536.dvD_is (ld6_ok h (arg15 := arg15) (arg16 := arg16) (arg18 := arg16) (arg19 := arg19) (arg24 := arg24) (harg1 := harg1) (harg2 := harg2) (harg3 := harg1) (harg4 := harg4) (harg5 := harg5) (harg6 := harg6) (harg7 := harg7) (harg8 := harg8) (c := c)) rfl (own_load (A := (ac B.PP B.D)) (s := 6) (n := 1536) (dv11 h)))

/-- After the half-step 6. -/
theorem dv13 : H2 (kernelRun0_A.sl.HS7_13 c arg1 harg1 arg2 harg2 arg4 harg4 arg5 harg5 arg6 harg6 arg7 harg7 arg8 harg8 arg15 arg16 arg19 arg22 arg24 x0 x1 x3 x4 x5 x6 x7) r32 ((ac B.PP B.D) 7) :=
  old_store (A := (ac B.PP B.D)) (s := 6) (n := 1536) (dv12 h) (dv_later B 6 rfl) (Ld1536.dvO_is (ld6_ok h (arg15 := arg15) (arg16 := arg16) (arg18 := arg16) (arg19 := arg19) (arg24 := arg24) (harg1 := harg1) (harg2 := harg2) (harg3 := harg1) (harg4 := harg4) (harg5 := harg5) (harg6 := harg6) (harg7 := harg7) (harg8 := harg8) (c := c)) rfl (old_load (A := (ac B.PP B.D)) (s := 6) (n := 1536) (dv12 h))).r32

/-- Half-step 7: its own block of rows. -/
theorem dv14 : H2 (kernelRun0_A.sl.HS7_14 c arg1 harg1 arg2 harg2 arg4 harg4 arg5 harg5 arg6 harg6 arg7 harg7 arg8 harg8 arg15 arg16 arg19 arg22 arg24 x0 x1 x3 x4 x5 x6 x7) r32 (mid (ac B.PP B.D) 1536 7) :=
  own_store (A := (ac B.PP B.D)) (s := 7) (n := 1536) (dv13 h) (Ld1536.dvD_is (ld7_ok h (arg15 := arg15) (arg16 := arg16) (arg18 := arg16) (arg19 := arg19) (arg24 := arg24) (harg1 := harg1) (harg2 := harg2) (harg3 := harg1) (harg4 := harg4) (harg5 := harg5) (harg6 := harg6) (harg7 := harg7) (harg8 := harg8) (c := c)) rfl (own_load (A := (ac B.PP B.D)) (s := 7) (n := 1536) (dv13 h)))

/-- After the half-step 7. -/
theorem dv15 : H2 (kernelRun0_A.sl.HS7_15 c arg1 harg1 arg2 harg2 arg4 harg4 arg5 harg5 arg6 harg6 arg7 harg7 arg8 harg8 arg15 arg16 arg19 arg22 arg24 x0 x1 x3 x4 x5 x6 x7) r32 ((ac B.PP B.D) 8) :=
  old_store (A := (ac B.PP B.D)) (s := 7) (n := 1536) (dv14 h) (dv_later B 7 rfl) (Ld1536.dvO_is (ld7_ok h (arg15 := arg15) (arg16 := arg16) (arg18 := arg16) (arg19 := arg19) (arg24 := arg24) (harg1 := harg1) (harg2 := harg2) (harg3 := harg1) (harg4 := harg4) (harg5 := harg5) (harg6 := harg6) (harg7 := harg7) (harg8 := harg8) (c := c)) rfl (old_load (A := (ac B.PP B.D)) (s := 7) (n := 1536) (dv14 h))).r32

end Cert.Fox
-- ==== Proof.Fox.Dk.lean ====
module

public import proofs.«01_k».proof.Proof.Fox.Step

/-! The gradient of the normalised keys, store by store. -/

@[expose] public section

set_option maxRecDepth 16384
set_option maxHeartbeats 2000000

noncomputable section

namespace Cert.Fox

open Idealize.ShloMosaic Cert.KernelIdeal Cert.KernelIdeal.Gen

variable {c : Dev nD}
  {arg1 : Memref sig .tc .vmem S2048x128 .f32} {harg1 : arg1.IsWhole}
  {arg2 : Memref sig .tc .vmem S2048x128 .f32} {harg2 : arg2.IsWhole}
  {arg3 : Memref sig .tc .vmem S2048x128 .f32} {harg3 : arg3.IsWhole}
  {arg4 : Memref sig .tc .vmem S2x1x2048 .f32} {harg4 : arg4.IsWhole}
  {arg5 : Memref sig .tc .vmem S1x128 .f32} {harg5 : arg5.IsWhole}
  {arg6 : Memref sig .tc .vmem S1x128 .f32} {harg6 : arg6.IsWhole}
  {arg7 : Memref sig .tc .vmem S2x1x2048 .f32} {harg7 : arg7.IsWhole}
  {arg8 : Memref sig .tc .vmem S2048x128 .f32} {harg8 : arg8.IsWhole}
  {arg15 : Memref sig .tc .vmem S2x2048x128 .bf16}
  {arg16 : Memref sig .tc .vmem S2048x128 .bf16}
  {arg17 : Memref sig .tc .vmem S2x128x2048 .bf16}
  {arg18 : Memref sig .tc .vmem S2048x128 .bf16}
  {arg19 : Memref sig .tc .vmem S2x2048x128 .bf16}
  {arg20 : Memref sig .tc .vmem S2048x128 .f32}
  {arg21 : Memref sig .tc .vmem S2048x128 .f32}
  {arg22 : Memref sig .tc .vmem S2048x128 .f32}
  {arg23 : Memref sig .tc .vmem S2x2048x128 .f32}
  {arg24 : Memref sig .tc .vmem S2x2048x1 .f32}
  {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {B : Blk}
variable (h : In B x0 x1 x2 x3 x4 x5 x6 x7)
include h

omit h in
theorem dk1 : H2 (kernelRun0_A.sl.HS6_1 ) r32 ((ac B.DS B.Q) 0) := H2.whole zero2_is.r32

/-- After the half-step 0. -/
theorem dk2 : H2 (kernelRun0_A.sl.HS6_2 c arg1 harg1 arg2 harg2 arg3 harg3 arg4 harg4 arg5 harg5 arg6 harg6 arg7 harg7 arg8 harg8 arg15 arg16 arg18 arg19 arg21 arg24 x0 x1 x2 x3 x4 x5 x6 x7) r32 ((ac B.DS B.Q) 1) :=
  one_store (A := (ac B.DS B.Q)) (s := 0) (dk1) (dk_later B 0 rfl) (Ld0.dkD_is (ld0_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (one_load (A := (ac B.DS B.Q)) (s := 0) (dk1)))

/-- After the half-step 1. -/
theorem dk3 : H2 (kernelRun0_A.sl.HS6_3 c arg1 harg1 arg2 harg2 arg3 harg3 arg4 harg4 arg5 harg5 arg6 harg6 arg7 harg7 arg8 harg8 arg15 arg16 arg18 arg19 arg21 arg24 x0 x1 x2 x3 x4 x5 x6 x7) r32 ((ac B.DS B.Q) 2) :=
  one_store (A := (ac B.DS B.Q)) (s := 1) (dk2 h) (dk_later B 1 rfl) (Ld0.dkD_is (ld1_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (one_load (A := (ac B.DS B.Q)) (s := 1) (dk2 h)))

/-- Half-step 2: its own block of rows. -/
theorem dk4 : H2 (kernelRun0_A.sl.HS6_4 c arg1 harg1 arg2 harg2 arg3 harg3 arg4 harg4 arg5 harg5 arg6 harg6 arg7 harg7 arg8 harg8 arg15 arg16 arg18 arg19 arg21 arg24 x0 x1 x2 x3 x4 x5 x6 x7) r32 (mid (ac B.DS B.Q) 512 2) :=
  own_store (A := (ac B.DS B.Q)) (s := 2) (n := 512) (dk3 h) (Ld512.dkD_is (ld2_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (own_load (A := (ac B.DS B.Q)) (s := 2) (n := 512) (dk3 h)))

/-- After the half-step 2. -/
theorem dk5 : H2 (kernelRun0_A.sl.HS6_5 c arg1 harg1 arg2 harg2 arg3 harg3 arg4 harg4 arg5 harg5 arg6 harg6 arg7 harg7 arg8 harg8 arg15 arg16 arg18 arg19 arg21 arg24 x0 x1 x2 x3 x4 x5 x6 x7) r32 ((ac B.DS B.Q) 3) :=
  old_store (A := (ac B.DS B.Q)) (s := 2) (n := 512) (dk4 h) (dk_later B 2 rfl) (Ld512.dkO_is (ld2_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (old_load (A := (ac B.DS B.Q)) (s := 2) (n := 512) (dk4 h))).r32

/-- Half-step 3: its own block of rows. -/
theorem dk6 : H2 (kernelRun0_A.sl.HS6_6 c arg1 harg1 arg2 harg2 arg3 harg3 arg4 harg4 arg5 harg5 arg6 harg6 arg7 harg7 arg8 harg8 arg15 arg16 arg18 arg19 arg21 arg24 x0 x1 x2 x3 x4 x5 x6 x7) r32 (mid (ac B.DS B.Q) 512 3) :=
  own_store (A := (ac B.DS B.Q)) (s := 3) (n := 512) (dk5 h) (Ld512.dkD_is (ld3_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (own_load (A := (ac B.DS B.Q)) (s := 3) (n := 512) (dk5 h)))

/-- After the half-step 3. -/
theorem dk7 : H2 (kernelRun0_A.sl.HS6_7 c arg1 harg1 arg2 harg2 arg3 harg3 arg4 harg4 arg5 harg5 arg6 harg6 arg7 harg7 arg8 harg8 arg15 arg16 arg18 arg19 arg21 arg24 x0 x1 x2 x3 x4 x5 x6 x7) r32 ((ac B.DS B.Q) 4) :=
  old_store (A := (ac B.DS B.Q)) (s := 3) (n := 512) (dk6 h) (dk_later B 3 rfl) (Ld512.dkO_is (ld3_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (old_load (A := (ac B.DS B.Q)) (s := 3) (n := 512) (dk6 h))).r32

/-- Half-step 4: its own block of rows. -/
theorem dk8 : H2 (kernelRun0_A.sl.HS6_8 c arg1 harg1 arg2 harg2 arg3 harg3 arg4 harg4 arg5 harg5 arg6 harg6 arg7 harg7 arg8 harg8 arg15 arg16 arg18 arg19 arg21 arg24 x0 x1 x2 x3 x4 x5 x6 x7) r32 (mid (ac B.DS B.Q) 1024 4) :=
  own_store (A := (ac B.DS B.Q)) (s := 4) (n := 1024) (dk7 h) (Ld1024.dkD_is (ld4_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (own_load (A := (ac B.DS B.Q)) (s := 4) (n := 1024) (dk7 h)))

/-- After the half-step 4. -/
theorem dk9 : H2 (kernelRun0_A.sl.HS6_9 c arg1 harg1 arg2 harg2 arg3 harg3 arg4 harg4 arg5 harg5 arg6 harg6 arg7 harg7 arg8 harg8 arg15 arg16 arg18 arg19 arg21 arg24 x0 x1 x2 x3 x4 x5 x6 x7) r32 ((ac B.DS B.Q) 5) :=
  old_store (A := (ac B.DS B.Q)) (s := 4) (n := 1024) (dk8 h) (dk_later B 4 rfl) (Ld1024.dkO_is (ld4_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (old_load (A := (ac B.DS B.Q)) (s := 4) (n := 1024) (dk8 h))).r32

/-- Half-step 5: its own block of rows. -/
theorem dk10 : H2 (kernelRun0_A.sl.HS6_10 c arg1 harg1 arg2 harg2 arg3 harg3 arg4 harg4 arg5 harg5 arg6 harg6 arg7 harg7 arg8 harg8 arg15 arg16 arg18 arg19 arg21 arg24 x0 x1 x2 x3 x4 x5 x6 x7) r32 (mid (ac B.DS B.Q) 1024 5) :=
  own_store (A := (ac B.DS B.Q)) (s := 5) (n := 1024) (dk9 h) (Ld1024.dkD_is (ld5_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (own_load (A := (ac B.DS B.Q)) (s := 5) (n := 1024) (dk9 h)))

/-- After the half-step 5. -/
theorem dk11 : H2 (kernelRun0_A.sl.HS6_11 c arg1 harg1 arg2 harg2 arg3 harg3 arg4 harg4 arg5 harg5 arg6 harg6 arg7 harg7 arg8 harg8 arg15 arg16 arg18 arg19 arg21 arg24 x0 x1 x2 x3 x4 x5 x6 x7) r32 ((ac B.DS B.Q) 6) :=
  old_store (A := (ac B.DS B.Q)) (s := 5) (n := 1024) (dk10 h) (dk_later B 5 rfl) (Ld1024.dkO_is (ld5_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (old_load (A := (ac B.DS B.Q)) (s := 5) (n := 1024) (dk10 h))).r32

/-- Half-step 6: its own block of rows. -/
theorem dk12 : H2 (kernelRun0_A.sl.HS6_12 c arg1 harg1 arg2 harg2 arg3 harg3 arg4 harg4 arg5 harg5 arg6 harg6 arg7 harg7 arg8 harg8 arg15 arg16 arg18 arg19 arg21 arg24 x0 x1 x2 x3 x4 x5 x6 x7) r32 (mid (ac B.DS B.Q) 1536 6) :=
  own_store (A := (ac B.DS B.Q)) (s := 6) (n := 1536) (dk11 h) (Ld1536.dkD_is (ld6_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (own_load (A := (ac B.DS B.Q)) (s := 6) (n := 1536) (dk11 h)))

/-- After the half-step 6. -/
theorem dk13 : H2 (kernelRun0_A.sl.HS6_13 c arg1 harg1 arg2 harg2 arg3 harg3 arg4 harg4 arg5 harg5 arg6 harg6 arg7 harg7 arg8 harg8 arg15 arg16 arg18 arg19 arg21 arg24 x0 x1 x2 x3 x4 x5 x6 x7) r32 ((ac B.DS B.Q) 7) :=
  old_store (A := (ac B.DS B.Q)) (s := 6) (n := 1536) (dk12 h) (dk_later B 6 rfl) (Ld1536.dkO_is (ld6_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (old_load (A := (ac B.DS B.Q)) (s := 6) (n := 1536) (dk12 h))).r32

/-- Half-step 7: its own block of rows. -/
theorem dk14 : H2 (kernelRun0_A.sl.HS6_14 c arg1 harg1 arg2 harg2 arg3 harg3 arg4 harg4 arg5 harg5 arg6 harg6 arg7 harg7 arg8 harg8 arg15 arg16 arg18 arg19 arg21 arg24 x0 x1 x2 x3 x4 x5 x6 x7) r32 (mid (ac B.DS B.Q) 1536 7) :=
  own_store (A := (ac B.DS B.Q)) (s := 7) (n := 1536) (dk13 h) (Ld1536.dkD_is (ld7_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (own_load (A := (ac B.DS B.Q)) (s := 7) (n := 1536) (dk13 h)))

/-- After the half-step 7. -/
theorem dk15 : H2 (kernelRun0_A.sl.HS6_15 c arg1 harg1 arg2 harg2 arg3 harg3 arg4 harg4 arg5 harg5 arg6 harg6 arg7 harg7 arg8 harg8 arg15 arg16 arg18 arg19 arg21 arg24 x0 x1 x2 x3 x4 x5 x6 x7) r32 ((ac B.DS B.Q) 8) :=
  old_store (A := (ac B.DS B.Q)) (s := 7) (n := 1536) (dk14 h) (dk_later B 7 rfl) (Ld1536.dkO_is (ld7_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (old_load (A := (ac B.DS B.Q)) (s := 7) (n := 1536) (dk14 h))).r32

end Cert.Fox
-- ==== Proof.Fox.Dc.lean ====
module

public import proofs.«01_k».proof.Proof.Fox.Step

/-! The gradient of the gates, store by store. -/

@[expose] public section

set_option maxRecDepth 16384
set_option maxHeartbeats 2000000

noncomputable section

namespace Cert.Fox

open Idealize.ShloMosaic Cert.KernelIdeal Cert.KernelIdeal.Gen

variable {c : Dev nD}
  {arg1 : Memref sig .tc .vmem S2048x128 .f32} {harg1 : arg1.IsWhole}
  {arg2 : Memref sig .tc .vmem S2048x128 .f32} {harg2 : arg2.IsWhole}
  {arg3 : Memref sig .tc .vmem S2048x128 .f32} {harg3 : arg3.IsWhole}
  {arg4 : Memref sig .tc .vmem S2x1x2048 .f32} {harg4 : arg4.IsWhole}
  {arg5 : Memref sig .tc .vmem S1x128 .f32} {harg5 : arg5.IsWhole}
  {arg6 : Memref sig .tc .vmem S1x128 .f32} {harg6 : arg6.IsWhole}
  {arg7 : Memref sig .tc .vmem S2x1x2048 .f32} {harg7 : arg7.IsWhole}
  {arg8 : Memref sig .tc .vmem S2048x128 .f32} {harg8 : arg8.IsWhole}
  {arg15 : Memref sig .tc .vmem S2x2048x128 .bf16}
  {arg16 : Memref sig .tc .vmem S2048x128 .bf16}
  {arg17 : Memref sig .tc .vmem S2x128x2048 .bf16}
  {arg18 : Memref sig .tc .vmem S2048x128 .bf16}
  {arg19 : Memref sig .tc .vmem S2x2048x128 .bf16}
  {arg20 : Memref sig .tc .vmem S2048x128 .f32}
  {arg21 : Memref sig .tc .vmem S2048x128 .f32}
  {arg22 : Memref sig .tc .vmem S2048x128 .f32}
  {arg23 : Memref sig .tc .vmem S2x2048x128 .f32}
  {arg24 : Memref sig .tc .vmem S2x2048x1 .f32}
  {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {B : Blk}
variable (h : In B x0 x1 x2 x3 x4 x5 x6 x7)
include h

omit h in
theorem dc1 : H3 (kernelRun0_A.sl.HS8_1 ) r32 (B.cs 0) := H3.whole zero3_is

/-- After the half-step 0. -/
theorem dc2 : H3 (kernelRun0_A.sl.HS8_2 c arg1 harg1 arg2 harg2 arg3 harg3 arg4 harg4 arg5 harg5 arg6 harg6 arg7 harg7 arg8 harg8 arg15 arg16 arg18 arg19 arg23 arg24 x0 x1 x2 x3 x4 x5 x6 x7) r32 (B.cs 1) :=
  one_store3 (A := B.cs) (s := 0) (dc1) (dc_later B 0 0 rfl) (dc_other B 0 0 rfl) (Ld0.dcD_is (ld0_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (one_load3 (A := B.cs) (s := 0) (dc1)))

/-- After the half-step 1. -/
theorem dc3 : H3 (kernelRun0_A.sl.HS8_3 c arg1 harg1 arg2 harg2 arg3 harg3 arg4 harg4 arg5 harg5 arg6 harg6 arg7 harg7 arg8 harg8 arg15 arg16 arg18 arg19 arg23 arg24 x0 x1 x2 x3 x4 x5 x6 x7) r32 (B.cs 2) :=
  one_store3 (A := B.cs) (s := 1) (dc2 h) (dc_later B 1 1 rfl) (dc_other B 1 1 rfl) (Ld0.dcD_is (ld1_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (one_load3 (A := B.cs) (s := 1) (dc2 h)))

/-- Half-step 2: its own block of rows. -/
theorem dc4 : H3 (kernelRun0_A.sl.HS8_4 c arg1 harg1 arg2 harg2 arg3 harg3 arg4 harg4 arg5 harg5 arg6 harg6 arg7 harg7 arg8 harg8 arg15 arg16 arg18 arg19 arg23 arg24 x0 x1 x2 x3 x4 x5 x6 x7) r32 (mid3 B.cs 512 2) :=
  own_store3 (A := B.cs) (s := 2) (n := 512) (dc3 h) rfl (Ld512.dcD_is (ld2_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (own_load3 (A := B.cs) (s := 2) (n := 512) (dc3 h)))

/-- After the half-step 2. -/
theorem dc5 : H3 (kernelRun0_A.sl.HS8_5 c arg1 harg1 arg2 harg2 arg3 harg3 arg4 harg4 arg5 harg5 arg6 harg6 arg7 harg7 arg8 harg8 arg15 arg16 arg18 arg19 arg23 arg24 x0 x1 x2 x3 x4 x5 x6 x7) r32 (B.cs 3) :=
  old_store3 (A := B.cs) (s := 2) (n := 512) (dc4 h) rfl (dc_later B 2 0 rfl) (dc_other B 2 0 rfl) (Ld512.dcO_is (ld2_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (old_load3 (A := B.cs) (s := 2) (n := 512) (dc4 h))).r32

/-- Half-step 3: its own block of rows. -/
theorem dc6 : H3 (kernelRun0_A.sl.HS8_6 c arg1 harg1 arg2 harg2 arg3 harg3 arg4 harg4 arg5 harg5 arg6 harg6 arg7 harg7 arg8 harg8 arg15 arg16 arg18 arg19 arg23 arg24 x0 x1 x2 x3 x4 x5 x6 x7) r32 (mid3 B.cs 512 3) :=
  own_store3 (A := B.cs) (s := 3) (n := 512) (dc5 h) rfl (Ld512.dcD_is (ld3_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (own_load3 (A := B.cs) (s := 3) (n := 512) (dc5 h)))

/-- After the half-step 3. -/
theorem dc7 : H3 (kernelRun0_A.sl.HS8_7 c arg1 harg1 arg2 harg2 arg3 harg3 arg4 harg4 arg5 harg5 arg6 harg6 arg7 harg7 arg8 harg8 arg15 arg16 arg18 arg19 arg23 arg24 x0 x1 x2 x3 x4 x5 x6 x7) r32 (B.cs 4) :=
  old_store3 (A := B.cs) (s := 3) (n := 512) (dc6 h) rfl (dc_later B 3 1 rfl) (dc_other B 3 1 rfl) (Ld512.dcO_is (ld3_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (old_load3 (A := B.cs) (s := 3) (n := 512) (dc6 h))).r32

/-- Half-step 4: its own block of rows. -/
theorem dc8 : H3 (kernelRun0_A.sl.HS8_8 c arg1 harg1 arg2 harg2 arg3 harg3 arg4 harg4 arg5 harg5 arg6 harg6 arg7 harg7 arg8 harg8 arg15 arg16 arg18 arg19 arg23 arg24 x0 x1 x2 x3 x4 x5 x6 x7) r32 (mid3 B.cs 1024 4) :=
  own_store3 (A := B.cs) (s := 4) (n := 1024) (dc7 h) rfl (Ld1024.dcD_is (ld4_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (own_load3 (A := B.cs) (s := 4) (n := 1024) (dc7 h)))

/-- After the half-step 4. -/
theorem dc9 : H3 (kernelRun0_A.sl.HS8_9 c arg1 harg1 arg2 harg2 arg3 harg3 arg4 harg4 arg5 harg5 arg6 harg6 arg7 harg7 arg8 harg8 arg15 arg16 arg18 arg19 arg23 arg24 x0 x1 x2 x3 x4 x5 x6 x7) r32 (B.cs 5) :=
  old_store3 (A := B.cs) (s := 4) (n := 1024) (dc8 h) rfl (dc_later B 4 0 rfl) (dc_other B 4 0 rfl) (Ld1024.dcO_is (ld4_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (old_load3 (A := B.cs) (s := 4) (n := 1024) (dc8 h))).r32

/-- Half-step 5: its own block of rows. -/
theorem dc10 : H3 (kernelRun0_A.sl.HS8_10 c arg1 harg1 arg2 harg2 arg3 harg3 arg4 harg4 arg5 harg5 arg6 harg6 arg7 harg7 arg8 harg8 arg15 arg16 arg18 arg19 arg23 arg24 x0 x1 x2 x3 x4 x5 x6 x7) r32 (mid3 B.cs 1024 5) :=
  own_store3 (A := B.cs) (s := 5) (n := 1024) (dc9 h) rfl (Ld1024.dcD_is (ld5_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (own_load3 (A := B.cs) (s := 5) (n := 1024) (dc9 h)))

/-- After the half-step 5. -/
theorem dc11 : H3 (kernelRun0_A.sl.HS8_11 c arg1 harg1 arg2 harg2 arg3 harg3 arg4 harg4 arg5 harg5 arg6 harg6 arg7 harg7 arg8 harg8 arg15 arg16 arg18 arg19 arg23 arg24 x0 x1 x2 x3 x4 x5 x6 x7) r32 (B.cs 6) :=
  old_store3 (A := B.cs) (s := 5) (n := 1024) (dc10 h) rfl (dc_later B 5 1 rfl) (dc_other B 5 1 rfl) (Ld1024.dcO_is (ld5_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (old_load3 (A := B.cs) (s := 5) (n := 1024) (dc10 h))).r32

/-- Half-step 6: its own block of rows. -/
theorem dc12 : H3 (kernelRun0_A.sl.HS8_12 c arg1 harg1 arg2 harg2 arg3 harg3 arg4 harg4 arg5 harg5 arg6 harg6 arg7 harg7 arg8 harg8 arg15 arg16 arg18 arg19 arg23 arg24 x0 x1 x2 x3 x4 x5 x6 x7) r32 (mid3 B.cs 1536 6) :=
  own_store3 (A := B.cs) (s := 6) (n := 1536) (dc11 h) rfl (Ld1536.dcD_is (ld6_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (own_load3 (A := B.cs) (s := 6) (n := 1536) (dc11 h)))

/-- After the half-step 6. -/
theorem dc13 : H3 (kernelRun0_A.sl.HS8_13 c arg1 harg1 arg2 harg2 arg3 harg3 arg4 harg4 arg5 harg5 arg6 harg6 arg7 harg7 arg8 harg8 arg15 arg16 arg18 arg19 arg23 arg24 x0 x1 x2 x3 x4 x5 x6 x7) r32 (B.cs 7) :=
  old_store3 (A := B.cs) (s := 6) (n := 1536) (dc12 h) rfl (dc_later B 6 0 rfl) (dc_other B 6 0 rfl) (Ld1536.dcO_is (ld6_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (old_load3 (A := B.cs) (s := 6) (n := 1536) (dc12 h))).r32

/-- Half-step 7: its own block of rows. -/
theorem dc14 : H3 (kernelRun0_A.sl.HS8_14 c arg1 harg1 arg2 harg2 arg3 harg3 arg4 harg4 arg5 harg5 arg6 harg6 arg7 harg7 arg8 harg8 arg15 arg16 arg18 arg19 arg23 arg24 x0 x1 x2 x3 x4 x5 x6 x7) r32 (mid3 B.cs 1536 7) :=
  own_store3 (A := B.cs) (s := 7) (n := 1536) (dc13 h) rfl (Ld1536.dcD_is (ld7_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (own_load3 (A := B.cs) (s := 7) (n := 1536) (dc13 h)))

/-- After the half-step 7. -/
theorem dc15 : H3 (kernelRun0_A.sl.HS8_15 c arg1 harg1 arg2 harg2 arg3 harg3 arg4 harg4 arg5 harg5 arg6 harg6 arg7 harg7 arg8 harg8 arg15 arg16 arg18 arg19 arg23 arg24 x0 x1 x2 x3 x4 x5 x6 x7) r32 (B.cs 8) :=
  old_store3 (A := B.cs) (s := 7) (n := 1536) (dc14 h) rfl (dc_later B 7 1 rfl) (dc_other B 7 1 rfl) (Ld1536.dcO_is (ld7_ok h (arg15 := arg15) (arg16 := arg16) (arg18 := arg18) (arg19 := arg19) (arg24 := arg24) (harg1 := harg1) (harg2 := harg2) (harg3 := harg3) (harg4 := harg4) (harg5 := harg5) (harg6 := harg6) (harg7 := harg7) (harg8 := harg8) (c := c)) rfl (old_load3 (A := B.cs) (s := 7) (n := 1536) (dc14 h))).r32

end Cert.Fox
-- ==== Proof.Fox.Dq.lean ====
module

public import proofs.«01_k».proof.Proof.Fox.Step

/-! The gradient of the normalised queries: each block of rows is summed over both heads, transposed and stored. -/

@[expose] public section

set_option maxRecDepth 16384
set_option maxHeartbeats 1000000

noncomputable section

namespace Cert.Fox

open Idealize.ShloMosaic Cert.KernelIdeal Cert.KernelIdeal.Gen

/-- The gradient of the eighths of the normalised queries. -/
def Blk.dqs (B : Blk) (ρ l : ℕ) : ℝ := ∑ a ∈ Finset.range 2, ∑ κ : Fin 2048, B.KT a l κ * B.DS a κ ρ

/-- A block of 512 columns, transposed. -/
def tr (x : FVec Ideal S128x512 .f32) : FVec Ideal S512x128 .f32 :=
  shapeCast S512x128 (transpose S512x128 [1, 0] x transposes_S128x512_p1_0_S512x128) shapeCasts_S512x128_S512x128

theorem tr_is {x : FVec Ideal S128x512 .f32} {X : ℕ → ℕ → ℝ} (hx : Is2 x X) : Is2 (tr x) (fun r l => X l r) := by
  refine Is2.of fun r l => ?_
  unfold tr
  pointwise []
  exact hx _

theorem dqt_zero (B : Blk) (i : ℕ) : B.dqt i 0 = fun _ _ => 0 := rfl

variable {c : Dev nD}
  {arg1 : Memref sig .tc .vmem S2048x128 .f32} {harg1 : arg1.IsWhole}
  {arg2 : Memref sig .tc .vmem S2048x128 .f32} {harg2 : arg2.IsWhole}
  {arg3 : Memref sig .tc .vmem S2048x128 .f32} {harg3 : arg3.IsWhole}
  {arg4 : Memref sig .tc .vmem S2x1x2048 .f32} {harg4 : arg4.IsWhole}
  {arg5 : Memref sig .tc .vmem S1x128 .f32} {harg5 : arg5.IsWhole}
  {arg6 : Memref sig .tc .vmem S1x128 .f32} {harg6 : arg6.IsWhole}
  {arg7 : Memref sig .tc .vmem S2x1x2048 .f32} {harg7 : arg7.IsWhole}
  {arg8 : Memref sig .tc .vmem S2048x128 .f32} {harg8 : arg8.IsWhole}
  {arg15 : Memref sig .tc .vmem S2x2048x128 .bf16}
  {arg16 : Memref sig .tc .vmem S2048x128 .bf16}
  {arg17 : Memref sig .tc .vmem S2x128x2048 .bf16}
  {arg18 : Memref sig .tc .vmem S2048x128 .bf16}
  {arg19 : Memref sig .tc .vmem S2x2048x128 .bf16}
  {arg20 : Memref sig .tc .vmem S2048x128 .f32}
  {arg21 : Memref sig .tc .vmem S2048x128 .f32}
  {arg22 : Memref sig .tc .vmem S2048x128 .f32}
  {arg23 : Memref sig .tc .vmem S2x2048x128 .f32}
  {arg24 : Memref sig .tc .vmem S2x2048x1 .f32}
  {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {B : Blk}
theorem v260_is (h : In B x0 x1 x2 x3 x4 x5 x6 x7) : Is3 (kernelRun0_A.sl.v260 c arg2 harg2 arg6 harg6 arg17 x1 x5) (fun l κ => B.KT 0 l κ) :=
  H3.load (kt_held (c := c) (harg2 := harg2) (harg6 := harg6) h) (fun l κ => B.KT 0 l κ) fun _ _ _ _ => by simp only [Nat.zero_add]

theorem v324_is (h : In B x0 x1 x2 x3 x4 x5 x6 x7) : Is3 (kernelRun0_A.sl.v324 c arg2 harg2 arg6 harg6 arg17 x1 x5) (fun l κ => B.KT 1 l κ) :=
  H3.load (kt_held (c := c) (harg2 := harg2) (harg6 := harg6) h) (fun l κ => B.KT 1 l κ) fun _ _ _ _ => by simp only [Nat.zero_add]

theorem v410_is (h : In B x0 x1 x2 x3 x4 x5 x6 x7) : Is3 (kernelRun0_A.sl.v410 c arg2 harg2 arg6 harg6 arg17 x1 x5) (fun l κ => B.KT 0 l (512 + κ)) :=
  H3.load (kt_held (c := c) (harg2 := harg2) (harg6 := harg6) h) (fun l κ => B.KT 0 l (512 + κ)) fun _ _ _ _ => by simp only [Nat.zero_add]

theorem v527_is (h : In B x0 x1 x2 x3 x4 x5 x6 x7) : Is3 (kernelRun0_A.sl.v527 c arg2 harg2 arg6 harg6 arg17 x1 x5) (fun l κ => B.KT 1 l (512 + κ)) :=
  H3.load (kt_held (c := c) (harg2 := harg2) (harg6 := harg6) h) (fun l κ => B.KT 1 l (512 + κ)) fun _ _ _ _ => by simp only [Nat.zero_add]

theorem v649_is (h : In B x0 x1 x2 x3 x4 x5 x6 x7) : Is3 (kernelRun0_A.sl.v649 c arg2 harg2 arg6 harg6 arg17 x1 x5) (fun l κ => B.KT 0 l (1024 + κ)) :=
  H3.load (kt_held (c := c) (harg2 := harg2) (harg6 := harg6) h) (fun l κ => B.KT 0 l (1024 + κ)) fun _ _ _ _ => by simp only [Nat.zero_add]

theorem v685_is (h : In B x0 x1 x2 x3 x4 x5 x6 x7) : Is3 (kernelRun0_A.sl.v685 c arg2 harg2 arg6 harg6 arg17 x1 x5) (fun l κ => B.KT 0 l κ) :=
  H3.load (kt_held (c := c) (harg2 := harg2) (harg6 := harg6) h) (fun l κ => B.KT 0 l κ) fun _ _ _ _ => by simp only [Nat.zero_add]

theorem v766_is (h : In B x0 x1 x2 x3 x4 x5 x6 x7) : Is3 (kernelRun0_A.sl.v766 c arg2 harg2 arg6 harg6 arg17 x1 x5) (fun l κ => B.KT 1 l (1024 + κ)) :=
  H3.load (kt_held (c := c) (harg2 := harg2) (harg6 := harg6) h) (fun l κ => B.KT 1 l (1024 + κ)) fun _ _ _ _ => by simp only [Nat.zero_add]

theorem v802_is (h : In B x0 x1 x2 x3 x4 x5 x6 x7) : Is3 (kernelRun0_A.sl.v802 c arg2 harg2 arg6 harg6 arg17 x1 x5) (fun l κ => B.KT 1 l κ) :=
  H3.load (kt_held (c := c) (harg2 := harg2) (harg6 := harg6) h) (fun l κ => B.KT 1 l κ) fun _ _ _ _ => by simp only [Nat.zero_add]

theorem v888_is (h : In B x0 x1 x2 x3 x4 x5 x6 x7) : Is3 (kernelRun0_A.sl.v888 c arg2 harg2 arg6 harg6 arg17 x1 x5) (fun l κ => B.KT 0 l (1536 + κ)) :=
  H3.load (kt_held (c := c) (harg2 := harg2) (harg6 := harg6) h) (fun l κ => B.KT 0 l (1536 + κ)) fun _ _ _ _ => by simp only [Nat.zero_add]

theorem v924_is (h : In B x0 x1 x2 x3 x4 x5 x6 x7) : Is3 (kernelRun0_A.sl.v924 c arg2 harg2 arg6 harg6 arg17 x1 x5) (fun l κ => B.KT 0 l κ) :=
  H3.load (kt_held (c := c) (harg2 := harg2) (harg6 := harg6) h) (fun l κ => B.KT 0 l κ) fun _ _ _ _ => by simp only [Nat.zero_add]

theorem v1005_is (h : In B x0 x1 x2 x3 x4 x5 x6 x7) : Is3 (kernelRun0_A.sl.v1005 c arg2 harg2 arg6 harg6 arg17 x1 x5) (fun l κ => B.KT 1 l (1536 + κ)) :=
  H3.load (kt_held (c := c) (harg2 := harg2) (harg6 := harg6) h) (fun l κ => B.KT 1 l (1536 + κ)) fun _ _ _ _ => by simp only [Nat.zero_add]

theorem v1041_is (h : In B x0 x1 x2 x3 x4 x5 x6 x7) : Is3 (kernelRun0_A.sl.v1041 c arg2 harg2 arg6 harg6 arg17 x1 x5) (fun l κ => B.KT 1 l κ) :=
  H3.load (kt_held (c := c) (harg2 := harg2) (harg6 := harg6) h) (fun l κ => B.KT 1 l κ) fun _ _ _ _ => by simp only [Nat.zero_add]

theorem r_11_eq : kernelRun0_A.sl.r_11 c arg1 harg1 arg2 harg2 arg3 harg3 arg4 harg4 arg5 harg5 arg6 harg6 arg7 harg7 arg8 harg8 arg15 arg16 arg17 arg18 arg19 arg24 x0 x1 x2 x3 x4 x5 x6 x7 = dq512 (k0_pay32 (F := Ideal)) (kernelRun0_A.sl.v260 c arg2 harg2 arg6 harg6 arg17 x1 x5) (ld0 c arg1 harg1 arg2 harg2 arg3 harg3 arg4 harg4 arg5 harg5 arg6 harg6 arg7 harg7 arg8 harg8 arg15 arg16 arg18 arg19 arg24 x0 x1 x2 x3 x4 x5 x6 x7).sD := (rfl)

theorem r_28_eq : kernelRun0_A.sl.r_28 c arg1 harg1 arg2 harg2 arg3 harg3 arg4 harg4 arg5 harg5 arg6 harg6 arg7 harg7 arg8 harg8 arg15 arg16 arg17 arg18 arg19 arg24 x0 x1 x2 x3 x4 x5 x6 x7 = dq512 (k0_pay53 (F := Ideal)) (kernelRun0_A.sl.v410 c arg2 harg2 arg6 harg6 arg17 x1 x5) (ld2 c arg1 harg1 arg2 harg2 arg3 harg3 arg4 harg4 arg5 harg5 arg6 harg6 arg7 harg7 arg8 harg8 arg15 arg16 arg18 arg19 arg24 x0 x1 x2 x3 x4 x5 x6 x7).sD := (rfl)

theorem r_29_eq : kernelRun0_A.sl.r_29 c arg1 harg1 arg2 harg2 arg3 harg3 arg4 harg4 arg5 harg5 arg6 harg6 arg7 harg7 arg8 harg8 arg15 arg16 arg17 arg18 arg19 arg24 x0 x1 x2 x3 x4 x5 x6 x7 = dq512 (kernelRun0_A.sl.r_28 c arg1 harg1 arg2 harg2 arg3 harg3 arg4 harg4 arg5 harg5 arg6 harg6 arg7 harg7 arg8 harg8 arg15 arg16 arg17 arg18 arg19 arg24 x0 x1 x2 x3 x4 x5 x6 x7) (kernelRun0_A.sl.v260 c arg2 harg2 arg6 harg6 arg17 x1 x5) (ld2 c arg1 harg1 arg2 harg2 arg3 harg3 arg4 harg4 arg5 harg5 arg6 harg6 arg7 harg7 arg8 harg8 arg15 arg16 arg18 arg19 arg24 x0 x1 x2 x3 x4 x5 x6 x7).sO := (rfl)

theorem r_40_eq : kernelRun0_A.sl.r_40 c arg1 harg1 arg2 harg2 arg3 harg3 arg4 harg4 arg5 harg5 arg6 harg6 arg7 harg7 arg8 harg8 arg15 arg16 arg17 arg18 arg19 arg24 x0 x1 x2 x3 x4 x5 x6 x7 = dq512 (kernelRun0_A.sl.r_29 c arg1 harg1 arg2 harg2 arg3 harg3 arg4 harg4 arg5 harg5 arg6 harg6 arg7 harg7 arg8 harg8 arg15 arg16 arg17 arg18 arg19 arg24 x0 x1 x2 x3 x4 x5 x6 x7) (kernelRun0_A.sl.v527 c arg2 harg2 arg6 harg6 arg17 x1 x5) (ld3 c arg1 harg1 arg2 harg2 arg3 harg3 arg4 harg4 arg5 harg5 arg6 harg6 arg7 harg7 arg8 harg8 arg15 arg16 arg18 arg19 arg24 x0 x1 x2 x3 x4 x5 x6 x7).sD := (rfl)

theorem r_42_eq : kernelRun0_A.sl.r_42 c arg1 harg1 arg2 harg2 arg3 harg3 arg4 harg4 arg5 harg5 arg6 harg6 arg7 harg7 arg8 harg8 arg15 arg16 arg17 arg18 arg19 arg24 x0 x1 x2 x3 x4 x5 x6 x7 = dq512 (kernelRun0_A.sl.r_40 c arg1 harg1 arg2 harg2 arg3 harg3 arg4 harg4 arg5 harg5 arg6 harg6 arg7 harg7 arg8 harg8 arg15 arg16 arg17 arg18 arg19 arg24 x0 x1 x2 x3 x4 x5 x6 x7) (kernelRun0_A.sl.v324 c arg2 harg2 arg6 harg6 arg17 x1 x5) (ld3 c arg1 harg1 arg2 harg2 arg3 harg3 arg4 harg4 arg5 harg5 arg6 harg6 arg7 harg7 arg8 harg8 arg15 arg16 arg18 arg19 arg24 x0 x1 x2 x3 x4 x5 x6 x7).sO := (rfl)

theorem r_55_eq : kernelRun0_A.sl.r_55 c arg1 harg1 arg2 harg2 arg3 harg3 arg4 harg4 arg5 harg5 arg6 harg6 arg7 harg7 arg8 harg8 arg15 arg16 arg17 arg18 arg19 arg24 x0 x1 x2 x3 x4 x5 x6 x7 = dq512 (k0_pay99 (F := Ideal)) (kernelRun0_A.sl.v649 c arg2 harg2 arg6 harg6 arg17 x1 x5) (ld4 c arg1 harg1 arg2 harg2 arg3 harg3 arg4 harg4 arg5 harg5 arg6 harg6 arg7 harg7 arg8 harg8 arg15 arg16 arg18 arg19 arg24 x0 x1 x2 x3 x4 x5 x6 x7).sD := (rfl)

theorem r_59_eq : kernelRun0_A.sl.r_59 c arg1 harg1 arg2 harg2 arg3 harg3 arg4 harg4 arg5 harg5 arg6 harg6 arg7 harg7 arg8 harg8 arg15 arg16 arg17 arg18 arg19 arg24 x0 x1 x2 x3 x4 x5 x6 x7 = dq1024 (kernelRun0_A.sl.r_55 c arg1 harg1 arg2 harg2 arg3 harg3 arg4 harg4 arg5 harg5 arg6 harg6 arg7 harg7 arg8 harg8 arg15 arg16 arg17 arg18 arg19 arg24 x0 x1 x2 x3 x4 x5 x6 x7) (kernelRun0_A.sl.v685 c arg2 harg2 arg6 harg6 arg17 x1 x5) (ld4 c arg1 harg1 arg2 harg2 arg3 harg3 arg4 harg4 arg5 harg5 arg6 harg6 arg7 harg7 arg8 harg8 arg15 arg16 arg18 arg19 arg24 x0 x1 x2 x3 x4 x5 x6 x7).sO := (rfl)

theorem r_68_eq : kernelRun0_A.sl.r_68 c arg1 harg1 arg2 harg2 arg3 harg3 arg4 harg4 arg5 harg5 arg6 harg6 arg7 harg7 arg8 harg8 arg15 arg16 arg17 arg18 arg19 arg24 x0 x1 x2 x3 x4 x5 x6 x7 = dq512 (kernelRun0_A.sl.r_59 c arg1 harg1 arg2 harg2 arg3 harg3 arg4 harg4 arg5 harg5 arg6 harg6 arg7 harg7 arg8 harg8 arg15 arg16 arg17 arg18 arg19 arg24 x0 x1 x2 x3 x4 x5 x6 x7) (kernelRun0_A.sl.v766 c arg2 harg2 arg6 harg6 arg17 x1 x5) (ld5 c arg1 harg1 arg2 harg2 arg3 harg3 arg4 harg4 arg5 harg5 arg6 harg6 arg7 harg7 arg8 harg8 arg15 arg16 arg18 arg19 arg24 x0 x1 x2 x3 x4 x5 x6 x7).sD := (rfl)

theorem r_70_eq : kernelRun0_A.sl.r_70 c arg1 harg1 arg2 harg2 arg3 harg3 arg4 harg4 arg5 harg5 arg6 harg6 arg7 harg7 arg8 harg8 arg15 arg16 arg17 arg18 arg19 arg24 x0 x1 x2 x3 x4 x5 x6 x7 = dq1024 (kernelRun0_A.sl.r_68 c arg1 harg1 arg2 harg2 arg3 harg3 arg4 harg4 arg5 harg5 arg6 harg6 arg7 harg7 arg8 harg8 arg15 arg16 arg17 arg18 arg19 arg24 x0 x1 x2 x3 x4 x5 x6 x7) (kernelRun0_A.sl.v802 c arg2 harg2 arg6 harg6 arg17 x1 x5) (ld5 c arg1 harg1 arg2 harg2 arg3 harg3 arg4 harg4 arg5 harg5 arg6 harg6 arg7 harg7 arg8 harg8 arg15 arg16 arg18 arg19 arg24 x0 x1 x2 x3 x4 x5 x6 x7).sO := (rfl)

theorem r_84_eq : kernelRun0_A.sl.r_84 c arg1 harg1 arg2 harg2 arg3 harg3 arg4 harg4 arg5 harg5 arg6 harg6 arg7 harg7 arg8 harg8 arg15 arg16 arg17 arg18 arg19 arg24 x0 x1 x2 x3 x4 x5 x6 x7 = dq512 (k0_pay151 (F := Ideal)) (kernelRun0_A.sl.v888 c arg2 harg2 arg6 harg6 arg17 x1 x5) (ld6 c arg1 harg1 arg2 harg2 arg3 harg3 arg4 harg4 arg5 harg5 arg6 harg6 arg7 harg7 arg8 harg8 arg15 arg16 arg18 arg19 arg24 x0 x1 x2 x3 x4 x5 x6 x7).sD := (rfl)

theorem r_88_eq : kernelRun0_A.sl.r_88 c arg1 harg1 arg2 harg2 arg3 harg3 arg4 harg4 arg5 harg5 arg6 harg6 arg7 harg7 arg8 harg8 arg15 arg16 arg17 arg18 arg19 arg24 x0 x1 x2 x3 x4 x5 x6 x7 = dq1536 (kernelRun0_A.sl.r_84 c arg1 harg1 arg2 harg2 arg3 harg3 arg4 harg4 arg5 harg5 arg6 harg6 arg7 harg7 arg8 harg8 arg15 arg16 arg17 arg18 arg19 arg24 x0 x1 x2 x3 x4 x5 x6 x7) (kernelRun0_A.sl.v924 c arg2 harg2 arg6 harg6 arg17 x1 x5) (ld6 c arg1 harg1 arg2 harg2 arg3 harg3 arg4 harg4 arg5 harg5 arg6 harg6 arg7 harg7 arg8 harg8 arg15 arg16 arg18 arg19 arg24 x0 x1 x2 x3 x4 x5 x6 x7).sO := (rfl)

theorem r_101_eq : kernelRun0_A.sl.r_101 c arg1 harg1 arg2 harg2 arg3 harg3 arg4 harg4 arg5 harg5 arg6 harg6 arg7 harg7 arg8 harg8 arg15 arg16 arg17 arg18 arg19 arg24 x0 x1 x2 x3 x4 x5 x6 x7 = dq512 (kernelRun0_A.sl.r_88 c arg1 harg1 arg2 harg2 arg3 harg3 arg4 harg4 arg5 harg5 arg6 harg6 arg7 harg7 arg8 harg8 arg15 arg16 arg17 arg18 arg19 arg24 x0 x1 x2 x3 x4 x5 x6 x7) (kernelRun0_A.sl.v1005 c arg2 harg2 arg6 harg6 arg17 x1 x5) (ld7 c arg1 harg1 arg2 harg2 arg3 harg3 arg4 harg4 arg5 harg5 arg6 harg6 arg7 harg7 arg8 harg8 arg15 arg16 arg18 arg19 arg24 x0 x1 x2 x3 x4 x5 x6 x7).sD := (rfl)

/-- The block 0 of rows after head 0. -/
theorem dqh0 (h : In B x0 x1 x2 x3 x4 x5 x6 x7) : Is2 (kernelRun0_A.sl.r_11 c arg1 harg1 arg2 harg2 arg3 harg3 arg4 harg4 arg5 harg5 arg6 harg6 arg7 harg7 arg8 harg8 arg15 arg16 arg17 arg18 arg19 arg24 x0 x1 x2 x3 x4 x5 x6 x7) (B.dqt 0 1) := by
  rw [r_11_eq]
  exact Ld0.dq_is (s := 0) (ld0_ok h) (dqt_zero B 0 ▸ zdq_is : Is2 (k0_pay32 (F := Ideal)) (B.dqt 0 0)) (v260_is h)

/-- The block 0 of rows after head 1. -/
theorem dqh1 (h : In B x0 x1 x2 x3 x4 x5 x6 x7) : Is2 (dq512 (kernelRun0_A.sl.r_11 c arg1 harg1 arg2 harg2 arg3 harg3 arg4 harg4 arg5 harg5 arg6 harg6 arg7 harg7 arg8 harg8 arg15 arg16 arg17 arg18 arg19 arg24 x0 x1 x2 x3 x4 x5 x6 x7) (kernelRun0_A.sl.v324 c arg2 harg2 arg6 harg6 arg17 x1 x5) (ld1 c arg1 harg1 arg2 harg2 arg3 harg3 arg4 harg4 arg5 harg5 arg6 harg6 arg7 harg7 arg8 harg8 arg15 arg16 arg18 arg19 arg24 x0 x1 x2 x3 x4 x5 x6 x7).sD) (B.dqt 0 2) := by
  exact Ld0.dq_is (s := 1) (ld1_ok h) (dqh0 h) (v324_is h)

/-- The block 1 of rows after head 0. -/
theorem dqh2 (h : In B x0 x1 x2 x3 x4 x5 x6 x7) : Is2 (kernelRun0_A.sl.r_29 c arg1 harg1 arg2 harg2 arg3 harg3 arg4 harg4 arg5 harg5 arg6 harg6 arg7 harg7 arg8 harg8 arg15 arg16 arg17 arg18 arg19 arg24 x0 x1 x2 x3 x4 x5 x6 x7) (B.dqt 1 1) := by
  rw [r_29_eq, r_28_eq]
  exact Ld512.dq_is (s := 2) (ld2_ok h) (dqt_zero B 1 ▸ zdq_is : Is2 (k0_pay53 (F := Ideal)) (B.dqt 1 0)) (v410_is h) (v260_is h)

/-- The block 1 of rows after head 1. -/
theorem dqh3 (h : In B x0 x1 x2 x3 x4 x5 x6 x7) : Is2 (kernelRun0_A.sl.r_42 c arg1 harg1 arg2 harg2 arg3 harg3 arg4 harg4 arg5 harg5 arg6 harg6 arg7 harg7 arg8 harg8 arg15 arg16 arg17 arg18 arg19 arg24 x0 x1 x2 x3 x4 x5 x6 x7) (B.dqt 1 2) := by
  rw [r_42_eq, r_40_eq]
  exact Ld512.dq_is (s := 3) (ld3_ok h) (dqh2 h) (v527_is h) (v324_is h)

/-- The block 2 of rows after head 0. -/
theorem dqh4 (h : In B x0 x1 x2 x3 x4 x5 x6 x7) : Is2 (kernelRun0_A.sl.r_59 c arg1 harg1 arg2 harg2 arg3 harg3 arg4 harg4 arg5 harg5 arg6 harg6 arg7 harg7 arg8 harg8 arg15 arg16 arg17 arg18 arg19 arg24 x0 x1 x2 x3 x4 x5 x6 x7) (B.dqt 2 1) := by
  rw [r_59_eq, r_55_eq]
  exact Ld1024.dq_is (s := 4) (ld4_ok h) (dqt_zero B 2 ▸ zdq_is : Is2 (k0_pay99 (F := Ideal)) (B.dqt 2 0)) (v649_is h) (v685_is h)

/-- The block 2 of rows after head 1. -/
theorem dqh5 (h : In B x0 x1 x2 x3 x4 x5 x6 x7) : Is2 (kernelRun0_A.sl.r_70 c arg1 harg1 arg2 harg2 arg3 harg3 arg4 harg4 arg5 harg5 arg6 harg6 arg7 harg7 arg8 harg8 arg15 arg16 arg17 arg18 arg19 arg24 x0 x1 x2 x3 x4 x5 x6 x7) (B.dqt 2 2) := by
  rw [r_70_eq, r_68_eq]
  exact Ld1024.dq_is (s := 5) (ld5_ok h) (dqh4 h) (v766_is h) (v802_is h)

/-- The block 3 of rows after head 0. -/
theorem dqh6 (h : In B x0 x1 x2 x3 x4 x5 x6 x7) : Is2 (kernelRun0_A.sl.r_88 c arg1 harg1 arg2 harg2 arg3 harg3 arg4 harg4 arg5 harg5 arg6 harg6 arg7 harg7 arg8 harg8 arg15 arg16 arg17 arg18 arg19 arg24 x0 x1 x2 x3 x4 x5 x6 x7) (B.dqt 3 1) := by
  rw [r_88_eq, r_84_eq]
  exact Ld1536.dq_is (s := 6) (ld6_ok h) (dqt_zero B 3 ▸ zdq_is : Is2 (k0_pay151 (F := Ideal)) (B.dqt 3 0)) (v888_is h) (v924_is h)

/-- The block 3 of rows after head 1. -/
theorem dqh7 (h : In B x0 x1 x2 x3 x4 x5 x6 x7) : Is2 (dq1536 (kernelRun0_A.sl.r_101 c arg1 harg1 arg2 harg2 arg3 harg3 arg4 harg4 arg5 harg5 arg6 harg6 arg7 harg7 arg8 harg8 arg15 arg16 arg17 arg18 arg19 arg24 x0 x1 x2 x3 x4 x5 x6 x7) (kernelRun0_A.sl.v1041 c arg2 harg2 arg6 harg6 arg17 x1 x5) (ld7 c arg1 harg1 arg2 harg2 arg3 harg3 arg4 harg4 arg5 harg5 arg6 harg6 arg7 harg7 arg8 harg8 arg15 arg16 arg18 arg19 arg24 x0 x1 x2 x3 x4 x5 x6 x7).sO) (B.dqt 3 2) := by
  rw [r_101_eq]
  exact Ld1536.dq_is (s := 7) (ld7_ok h) (dqh6 h) (v1005_is h) (v1041_is h)

/-- The gradient of the eighths of the normalised queries, once all of its blocks are stored. -/
theorem dqs_held (h : In B x0 x1 x2 x3 x4 x5 x6 x7) : H2 (kernelRun0_A.sl.HS5_4 c arg1 harg1 arg2 harg2 arg3 harg3 arg4 harg4 arg5 harg5 arg6 harg6 arg7 harg7 arg8 harg8 arg15 arg16 arg17 arg18 arg19 arg24 x0 x1 x2 x3 x4 x5 x6 x7) r32 B.dqs :=
  ((((P2.nil.cons (tr_is (dqh1 h)).r32 fun _ _ _ _ => rfl).cons (tr_is (dqh3 h)).r32 fun _ _ _ _ => rfl).cons
    (tr_is (dqh5 h)).r32 fun _ _ _ _ => rfl).cons (tr_is (dqh7 h)).r32 fun _ _ _ _ => rfl).all fun a ha => by omega

end Cert.Fox
-- ==== Proof.Fox.Outs.lean ====
module

public import proofs.«01_k».proof.Proof.Fox.Lists
public import proofs.«01_k».proof.Proof.Fox.Fold
public import proofs.«01_k».proof.Proof.Fox.Res
public import proofs.«01_k».proof.Proof.Fox.Dv
public import proofs.«01_k».proof.Proof.Fox.Dk
public import proofs.«01_k».proof.Proof.Fox.Dc
public import proofs.«01_k».proof.Proof.Fox.Dq

/-! What the three cases of a grid point leave in their output blocks, as real functions of the entries of its blocks. -/

@[expose] public section

set_option maxRecDepth 16384

noncomputable section

namespace Cert.Fox

open Idealize.ShloMosaic Cert.KernelIdeal Cert.KernelIdeal.Gen

/-- A whole array read back after the stores. -/
theorem read2 {n0 n1 : ℕ} {e : EltTy} {r : ℝ → Elt Ideal e} {L L' : List (View.Piece (Elt Ideal) (⟨2, ![n0, n1]⟩ : Shape) e)}
    {f : ℕ → ℕ → ℝ} (h : H2 L r f) (hL : L' = L) {g : RefSig} {κ : Kind} {sp : Space} (v : View g κ sp (⟨2, ![n0, n1]⟩ : Shape) e) :
    R2 r (v.read (Elt Ideal) (v.writes (Elt Ideal) v.junk L')) f := fun j => by
  rw [View.read_writes_junk_eq_canon, hL, ValueIdx.eq_ix2 j]
  exact h _ _

/-- A whole array of three axes read back after the stores. -/
theorem read3 {n0 n1 n2 : ℕ} {e : EltTy} {r : ℝ → Elt Ideal e} {L L' : List (View.Piece (Elt Ideal) (⟨3, ![n0, n1, n2]⟩ : Shape) e)}
    {f : ℕ → ℕ → ℕ → ℝ} (h : H3 L r f) (hL : L' = L) {g : RefSig} {κ : Kind} {sp : Space} (v : View g κ sp (⟨3, ![n0, n1, n2]⟩ : Shape) e) :
    R3f r (v.read (Elt Ideal) (v.writes (Elt Ideal) v.junk L')) f := fun j => by
  rw [View.read_writes_junk_eq_canon, hL, ValueIdx.eq_ix3 j]
  exact h _ _ _

/-- The whole of a rank-2 array loaded after the stores. -/
theorem H2.loadAll {n0 n1 : ℕ} {e : EltTy} {r : ℝ → Elt Ideal e} {L : List (View.Piece (Elt Ideal) (⟨2, ![n0, n1]⟩ : Shape) e)} {f : ℕ → ℕ → ℝ}
    (h : H2 L r f) {g : RefSig} {κ : Kind} {sp : Space} (v : View g κ sp (⟨2, ![n0, n1]⟩ : Shape) e)
    {inb : ∀ a, (![0, 0] : Fin 2 → ℕ) a + (![n0, n1] : Fin 2 → ℕ) a ≤ (![n0, n1] : Fin 2 → ℕ) a} :
    R2 r (v.readCov L (Rect.unit (s := (⟨2, ![n0, n1]⟩ : Shape)) ![0, 0] ![n0, n1] inb).toLoadRect) f :=
  h.load f fun a b _ _ => by simp only [Nat.zero_add]

theorem R2.is2 {n0 n1 : ℕ} {x : FVec Ideal (⟨2, ![n0, n1]⟩ : Shape) .f32} {f : ℕ → ℕ → ℝ} (h : R2 r32 x f) : Is2 x f := h

theorem nar_is {x : FVec Ideal S2048x128 .f32} {X : ℕ → ℕ → ℝ} (hx : Is2 x X) : Is2 (nar x) X := fun j => hx j

theorem acc_is {x y : FVec Ideal S1x128 .f32} {X Y : ℕ → ℕ → ℝ} (hx : Is2 x X) (hy : Is2 y Y) :
    Is2 (acc x y) (fun a m => X a m + Y a m) := by
  refine Is2.of fun a m => ?_
  obtain rfl : a = 0 := Subsingleton.elim _ _
  unfold acc
  pointwise []
  rw [EReal.coe_add]
  exact congr_arg₂ (· + ·) (hx _) (hy _)

/-- Eight pieces of a row of 512 keys each. -/
theorem dcL_held {a0 a1 a2 a3 b0 b1 b2 b3 : FVec Ideal S1x512x128 .f32} {f : ℕ → ℕ → ℕ → ℝ}
    (ha0 : Is3 a0 fun κ m => f 0 κ m) (ha1 : Is3 a1 fun κ m => f 0 (512 + κ) m) (ha2 : Is3 a2 fun κ m => f 0 (1024 + κ) m)
    (ha3 : Is3 a3 fun κ m => f 0 (1536 + κ) m) (hb0 : Is3 b0 fun κ m => f 1 κ m) (hb1 : Is3 b1 fun κ m => f 1 (512 + κ) m)
    (hb2 : Is3 b2 fun κ m => f 1 (1024 + κ) m) (hb3 : Is3 b3 fun κ m => f 1 (1536 + κ) m) :
    H3 (dcL a0 a1 a2 a3 b0 b1 b2 b3) r32 (fun a _ κ => 0 - ∑ m : Fin 128, f a κ m) := by
  unfold dcL
  exact ((((((((P3.nil.cons (asrow_is ha0).r32 fun a b _ _ => by simp only [Nat.zero_add]).cons (asrow_is ha1).r32 fun a b _ _ => rfl).cons
    (asrow_is ha2).r32 fun a b _ _ => rfl).cons (asrow_is ha3).r32 fun a b _ _ => rfl).cons
    (asrow_is hb0).r32 fun a b _ _ => by simp only [Nat.zero_add]).cons (asrow_is hb1).r32 fun a b _ _ => rfl).cons
    (asrow_is hb2).r32 fun a b _ _ => rfl).cons (asrow_is hb3).r32 fun a b _ _ => rfl).all fun a b c ha hb hc => by omega

variable {c : Dev nD} {i : grid0.Coords}
  {arg1 : Memref sig .tc .vmem S2048x128 .f32} {harg1 : arg1.IsWhole}
  {arg2 : Memref sig .tc .vmem S2048x128 .f32} {harg2 : arg2.IsWhole}
  {arg3 : Memref sig .tc .vmem S2048x128 .f32} {harg3 : arg3.IsWhole}
  {arg4 : Memref sig .tc .vmem S2x1x2048 .f32} {harg4 : arg4.IsWhole}
  {arg5 : Memref sig .tc .vmem S1x128 .f32} {harg5 : arg5.IsWhole}
  {arg6 : Memref sig .tc .vmem S1x128 .f32} {harg6 : arg6.IsWhole}
  {arg7 : Memref sig .tc .vmem S2x1x2048 .f32} {harg7 : arg7.IsWhole}
  {arg8 : Memref sig .tc .vmem S2048x128 .f32} {harg8 : arg8.IsWhole}
  {arg9 : Memref sig .tc .vmem S2048x128 .bf16} {harg9 : arg9.IsWhole}
  {arg10 : Memref sig .tc .vmem S2048x128 .bf16} {harg10 : arg10.IsWhole}
  {arg11 : Memref sig .tc .vmem S2048x128 .bf16} {harg11 : arg11.IsWhole}
  {arg12 : Memref sig .tc .vmem S2x1x2048 .f32} {harg12 : arg12.IsWhole}
  {arg13 : Memref sig .tc .vmem S1x128 .f32} {harg13 : arg13.IsWhole}
  {arg14 : Memref sig .tc .vmem S1x128 .f32} {harg14 : arg14.IsWhole}
  {arg15 : Memref sig .tc .vmem S2x2048x128 .bf16} {harg15 : arg15.IsWhole}
  {arg16 : Memref sig .tc .vmem S2048x128 .bf16} {harg16 : arg16.IsWhole}
  {arg17 : Memref sig .tc .vmem S2x128x2048 .bf16} {harg17 : arg17.IsWhole}
  {arg18 : Memref sig .tc .vmem S2048x128 .bf16} {harg18 : arg18.IsWhole}
  {arg19 : Memref sig .tc .vmem S2x2048x128 .bf16} {harg19 : arg19.IsWhole}
  {arg20 : Memref sig .tc .vmem S2048x128 .f32} {harg20 : arg20.IsWhole}
  {arg21 : Memref sig .tc .vmem S2048x128 .f32} {harg21 : arg21.IsWhole}
  {arg22 : Memref sig .tc .vmem S2048x128 .f32} {harg22 : arg22.IsWhole}
  {arg23 : Memref sig .tc .vmem S2x2048x128 .f32} {harg23 : arg23.IsWhole}
  {arg24 : Memref sig .tc .vmem S2x2048x1 .f32} {harg24 : arg24.IsWhole}
  {x0 : Vec Ideal S2048x128 .f32} {x1 : Vec Ideal S2048x128 .f32} {x2 : Vec Ideal S2048x128 .f32} {x3 : Vec Ideal S2x1x2048 .f32} {x4 : Vec Ideal S1x128 .f32} {x5 : Vec Ideal S1x128 .f32} {x6 : Vec Ideal S2x1x2048 .f32} {x7 : Vec Ideal S2048x128 .f32} {xo12 xo13 : Vec Ideal S1x128 .f32} {B : Blk}

/-- The queries' gradient before the narrowing. -/
theorem q_held (h : In B x0 x1 x2 x3 x4 x5 x6 x7) : Is2 (eighth (kernelRun0_A.sl.v1069 c arg1 harg1 arg2 harg2 arg3 harg3 arg4 harg4 arg5 harg5 arg6 harg6 arg7 harg7 arg8 harg8 arg15 arg16 arg17 arg18 arg19 arg20 arg24 x0 x1 x2 x3 x4 x5 x6 x7)) (fun ρ l => B.qs ρ l * (1 / 8)) :=
  eighth_is (H2.loadAll (r := r32) (show H2 (kernelRun0_A.sl.HS5_4 c arg1 harg1 arg2 harg2 arg3 harg3 arg4 harg4 arg5 harg5 arg6 harg6 arg7 harg7 arg8 harg8 arg15 arg16 arg17 arg18 arg19 arg24 x0 x1 x2 x3 x4 x5 x6 x7) r32 B.qs from dqs_held h) _)

/-- The keys' gradient before the narrowing. -/
theorem k_held (h : In B x0 x1 x2 x3 x4 x5 x6 x7) : Is2 (kernelRun0_A.sl.v1138 c arg1 harg1 arg2 harg2 arg3 harg3 arg4 harg4 arg5 harg5 arg6 harg6 arg7 harg7 arg8 harg8 arg15 arg16 arg18 arg19 arg21 arg24 x0 x1 x2 x3 x4 x5 x6 x7) (ac B.DS B.Q 8) :=
  H2.loadAll (r := r32) (show H2 (kernelRun0_A.sl.HS6_15 c arg1 harg1 arg2 harg2 arg3 harg3 arg4 harg4 arg5 harg5 arg6 harg6 arg7 harg7 arg8 harg8 arg15 arg16 arg18 arg19 arg21 arg24 x0 x1 x2 x3 x4 x5 x6 x7) r32 (ac B.DS B.Q 8) from dk15 h) _

/-- A list of the queries' gradient. -/
theorem h8 (h : In B x0 x1 x2 x3 x4 x5 x6 x7) : H2 [⟨Rect.unit (s := S2048x128) ![0, 0] S2048x128.size inb_S2048x128_S2048x128_0_0, nbwd (View.readAt (Elt Ideal) arg1.view (Rect.unit ![0, 0] S2048x128.size inb_S2048x128_S2048x128_0_0).toLoadRect (harg1.unread x0)) (View.readAt (Elt Ideal) arg5.view (Rect.unit ![0, 0] S1x128.size inb_S1x128_S1x128_0_0).toLoadRect (harg5.unread x4)) (eighth (kernelRun0_A.sl.v1069 c arg1 harg1 arg2 harg2 arg3 harg3 arg4 harg4 arg5 harg5 arg6 harg6 arg7 harg7 arg8 harg8 arg15 arg16 arg17 arg18 arg19 arg20 arg24 x0 x1 x2 x3 x4 x5 x6 x7))⟩] r16 B.dqR :=
  H2.whole (nbwd_is (win_is harg1 h.q) (gain_is harg5 h.gq) (q_held h )).r16

theorem h9 (h : In B x0 x1 x2 x3 x4 x5 x6 x7) : H2 [⟨Rect.unit (s := S2048x128) ![0, 0] S2048x128.size inb_S2048x128_S2048x128_0_0, nbwd (View.readAt (Elt Ideal) arg2.view (Rect.unit ![0, 0] S2048x128.size inb_S2048x128_S2048x128_0_0).toLoadRect (harg2.unread x1)) (View.readAt (Elt Ideal) arg6.view (Rect.unit ![0, 0] S1x128.size inb_S1x128_S1x128_0_0).toLoadRect (harg6.unread x5)) (kernelRun0_A.sl.v1138 c arg1 harg1 arg2 harg2 arg3 harg3 arg4 harg4 arg5 harg5 arg6 harg6 arg7 harg7 arg8 harg8 arg15 arg16 arg18 arg19 arg21 arg24 x0 x1 x2 x3 x4 x5 x6 x7)⟩] r16 B.dkR :=
  H2.whole (nbwd_is (win_is harg2 h.k) (gain_is harg6 h.gk) (k_held h )).r16

theorem h10 (h : In B x0 x1 x2 x3 x4 x5 x6 x7) : H2 [⟨Rect.unit (s := S2048x128) ![0, 0] S2048x128.size inb_S2048x128_S2048x128_0_0, nar (kernelRun0_A.sl.v1202 c arg1 harg1 arg2 harg2 arg4 harg4 arg5 harg5 arg6 harg6 arg7 harg7 arg8 harg8 arg15 arg16 arg19 arg22 arg24 x0 x1 x3 x4 x5 x6 x7)⟩] r16 (ac B.PP B.D 8) :=
  H2.whole (nar_is (H2.loadAll (r := r32) (show H2 (kernelRun0_A.sl.HS7_15 c arg1 harg1 arg2 harg2 arg4 harg4 arg5 harg5 arg6 harg6 arg7 harg7 arg8 harg8 arg15 arg16 arg19 arg22 arg24 x0 x1 x3 x4 x5 x6 x7) r32 (ac B.PP B.D 8) from dv15 h) _)).r16

theorem c_v1205 (h : In B x0 x1 x2 x3 x4 x5 x6 x7) : Is3 (kernelRun0_A.sl.v1205 c arg1 harg1 arg2 harg2 arg3 harg3 arg4 harg4 arg5 harg5 arg6 harg6 arg7 harg7 arg8 harg8 arg15 arg16 arg18 arg19 arg23 arg24 x0 x1 x2 x3 x4 x5 x6 x7) (fun κ m => B.cs 8 0 κ m) :=
  H3.load (r := r32) (show H3 (kernelRun0_A.sl.HS8_15 c arg1 harg1 arg2 harg2 arg3 harg3 arg4 harg4 arg5 harg5 arg6 harg6 arg7 harg7 arg8 harg8 arg15 arg16 arg18 arg19 arg23 arg24 x0 x1 x2 x3 x4 x5 x6 x7) r32 (B.cs 8) from dc15 h) (fun κ m => B.cs 8 0 κ m) fun a b _ _ => by rw [Nat.zero_add, Nat.zero_add]

theorem c_v1218 (h : In B x0 x1 x2 x3 x4 x5 x6 x7) : Is3 (kernelRun0_A.sl.v1218 c arg1 harg1 arg2 harg2 arg3 harg3 arg4 harg4 arg5 harg5 arg6 harg6 arg7 harg7 arg8 harg8 arg15 arg16 arg18 arg19 arg23 arg24 x0 x1 x2 x3 x4 x5 x6 x7) (fun κ m => B.cs 8 0 (512 + κ) m) :=
  H3.load (r := r32) (show H3 (kernelRun0_A.sl.HS8_15 c arg1 harg1 arg2 harg2 arg3 harg3 arg4 harg4 arg5 harg5 arg6 harg6 arg7 harg7 arg8 harg8 arg15 arg16 arg18 arg19 arg23 arg24 x0 x1 x2 x3 x4 x5 x6 x7) r32 (B.cs 8) from dc15 h) (fun κ m => B.cs 8 0 (512 + κ) m) fun a b _ _ => by rw [Nat.zero_add]

theorem c_v1231 (h : In B x0 x1 x2 x3 x4 x5 x6 x7) : Is3 (kernelRun0_A.sl.v1231 c arg1 harg1 arg2 harg2 arg3 harg3 arg4 harg4 arg5 harg5 arg6 harg6 arg7 harg7 arg8 harg8 arg15 arg16 arg18 arg19 arg23 arg24 x0 x1 x2 x3 x4 x5 x6 x7) (fun κ m => B.cs 8 0 (1024 + κ) m) :=
  H3.load (r := r32) (show H3 (kernelRun0_A.sl.HS8_15 c arg1 harg1 arg2 harg2 arg3 harg3 arg4 harg4 arg5 harg5 arg6 harg6 arg7 harg7 arg8 harg8 arg15 arg16 arg18 arg19 arg23 arg24 x0 x1 x2 x3 x4 x5 x6 x7) r32 (B.cs 8) from dc15 h) (fun κ m => B.cs 8 0 (1024 + κ) m) fun a b _ _ => by rw [Nat.zero_add]

theorem c_v1244 (h : In B x0 x1 x2 x3 x4 x5 x6 x7) : Is3 (kernelRun0_A.sl.v1244 c arg1 harg1 arg2 harg2 arg3 harg3 arg4 harg4 arg5 harg5 arg6 harg6 arg7 harg7 arg8 harg8 arg15 arg16 arg18 arg19 arg23 arg24 x0 x1 x2 x3 x4 x5 x6 x7) (fun κ m => B.cs 8 0 (1536 + κ) m) :=
  H3.load (r := r32) (show H3 (kernelRun0_A.sl.HS8_15 c arg1 harg1 arg2 harg2 arg3 harg3 arg4 harg4 arg5 harg5 arg6 harg6 arg7 harg7 arg8 harg8 arg15 arg16 arg18 arg19 arg23 arg24 x0 x1 x2 x3 x4 x5 x6 x7) r32 (B.cs 8) from dc15 h) (fun κ m => B.cs 8 0 (1536 + κ) m) fun a b _ _ => by rw [Nat.zero_add]

theorem c_v1257 (h : In B x0 x1 x2 x3 x4 x5 x6 x7) : Is3 (kernelRun0_A.sl.v1257 c arg1 harg1 arg2 harg2 arg3 harg3 arg4 harg4 arg5 harg5 arg6 harg6 arg7 harg7 arg8 harg8 arg15 arg16 arg18 arg19 arg23 arg24 x0 x1 x2 x3 x4 x5 x6 x7) (fun κ m => B.cs 8 1 κ m) :=
  H3.load (r := r32) (show H3 (kernelRun0_A.sl.HS8_15 c arg1 harg1 arg2 harg2 arg3 harg3 arg4 harg4 arg5 harg5 arg6 harg6 arg7 harg7 arg8 harg8 arg15 arg16 arg18 arg19 arg23 arg24 x0 x1 x2 x3 x4 x5 x6 x7) r32 (B.cs 8) from dc15 h) (fun κ m => B.cs 8 1 κ m) fun a b _ _ => by rw [Nat.zero_add, Nat.zero_add]

theorem c_v1270 (h : In B x0 x1 x2 x3 x4 x5 x6 x7) : Is3 (kernelRun0_A.sl.v1270 c arg1 harg1 arg2 harg2 arg3 harg3 arg4 harg4 arg5 harg5 arg6 harg6 arg7 harg7 arg8 harg8 arg15 arg16 arg18 arg19 arg23 arg24 x0 x1 x2 x3 x4 x5 x6 x7) (fun κ m => B.cs 8 1 (512 + κ) m) :=
  H3.load (r := r32) (show H3 (kernelRun0_A.sl.HS8_15 c arg1 harg1 arg2 harg2 arg3 harg3 arg4 harg4 arg5 harg5 arg6 harg6 arg7 harg7 arg8 harg8 arg15 arg16 arg18 arg19 arg23 arg24 x0 x1 x2 x3 x4 x5 x6 x7) r32 (B.cs 8) from dc15 h) (fun κ m => B.cs 8 1 (512 + κ) m) fun a b _ _ => by rw [Nat.zero_add]

theorem c_v1283 (h : In B x0 x1 x2 x3 x4 x5 x6 x7) : Is3 (kernelRun0_A.sl.v1283 c arg1 harg1 arg2 harg2 arg3 harg3 arg4 harg4 arg5 harg5 arg6 harg6 arg7 harg7 arg8 harg8 arg15 arg16 arg18 arg19 arg23 arg24 x0 x1 x2 x3 x4 x5 x6 x7) (fun κ m => B.cs 8 1 (1024 + κ) m) :=
  H3.load (r := r32) (show H3 (kernelRun0_A.sl.HS8_15 c arg1 harg1 arg2 harg2 arg3 harg3 arg4 harg4 arg5 harg5 arg6 harg6 arg7 harg7 arg8 harg8 arg15 arg16 arg18 arg19 arg23 arg24 x0 x1 x2 x3 x4 x5 x6 x7) r32 (B.cs 8) from dc15 h) (fun κ m => B.cs 8 1 (1024 + κ) m) fun a b _ _ => by rw [Nat.zero_add]

theorem c_v1296 (h : In B x0 x1 x2 x3 x4 x5 x6 x7) : Is3 (kernelRun0_A.sl.v1296 c arg1 harg1 arg2 harg2 arg3 harg3 arg4 harg4 arg5 harg5 arg6 harg6 arg7 harg7 arg8 harg8 arg15 arg16 arg18 arg19 arg23 arg24 x0 x1 x2 x3 x4 x5 x6 x7) (fun κ m => B.cs 8 1 (1536 + κ) m) :=
  H3.load (r := r32) (show H3 (kernelRun0_A.sl.HS8_15 c arg1 harg1 arg2 harg2 arg3 harg3 arg4 harg4 arg5 harg5 arg6 harg6 arg7 harg7 arg8 harg8 arg15 arg16 arg18 arg19 arg23 arg24 x0 x1 x2 x3 x4 x5 x6 x7) r32 (B.cs 8) from dc15 h) (fun κ m => B.cs 8 1 (1536 + κ) m) fun a b _ _ => by rw [Nat.zero_add]

theorem h11 (h : In B x0 x1 x2 x3 x4 x5 x6 x7) : H3 (dcL (kernelRun0_A.sl.v1205 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1218 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1231 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1244 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1257 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1270 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1283 c arg1 harg1 arg2 harg2 arg3 harg3 arg4 harg4 arg5 harg5 arg6 harg6 arg7 harg7 arg8 harg8 arg15 arg16 arg18 arg19 arg23 arg24 x0 x1 x2 x3 x4 x5 x6 x7) (kernelRun0_A.sl.v1296 c arg1 harg1 arg2 harg2 arg3 harg3 arg4 harg4 arg5 harg5 arg6 harg6 arg7 harg7 arg8 harg8 arg15 arg16 arg18 arg19 arg23 arg24 x0 x1 x2 x3 x4 x5 x6 x7)) r32 (fun a _ κ => B.dcR a κ) :=
  dcL_held (f := B.cs 8) (c_v1205 h ) (c_v1218 h ) (c_v1231 h ) (c_v1244 h ) (c_v1257 h ) (c_v1270 h ) (c_v1283 h ) (c_v1296 h )

theorem g12 (h : In B x0 x1 x2 x3 x4 x5 x6 x7) : Is2 (gsum (View.readAt (Elt Ideal) arg1.view (Rect.unit ![0, 0] S2048x128.size inb_S2048x128_S2048x128_0_0).toLoadRect (harg1.unread x0)) (eighth (kernelRun0_A.sl.v1069 c arg1 harg1 arg2 harg2 arg3 harg3 arg4 harg4 arg5 harg5 arg6 harg6 arg7 harg7 arg8 harg8 arg15 arg16 arg17 arg18 arg19 arg20 arg24 x0 x1 x2 x3 x4 x5 x6 x7))) (fun _ m => B.gqR m) :=
  gsum_is (win_is harg1 h.q) (q_held h )

theorem g13 (h : In B x0 x1 x2 x3 x4 x5 x6 x7) : Is2 (gsum (View.readAt (Elt Ideal) arg2.view (Rect.unit ![0, 0] S2048x128.size inb_S2048x128_S2048x128_0_0).toLoadRect (harg2.unread x1)) (kernelRun0_A.sl.v1138 c arg1 harg1 arg2 harg2 arg3 harg3 arg4 harg4 arg5 harg5 arg6 harg6 arg7 harg7 arg8 harg8 arg15 arg16 arg18 arg19 arg21 arg24 x0 x1 x2 x3 x4 x5 x6 x7)) (fun _ m => B.gkR m) :=
  gsum_is (win_is harg2 h.k) (k_held h )

/-- A row added to the sum so far. -/
theorem a12 (h : In B x0 x1 x2 x3 x4 x5 x6 x7) {G : ℕ → ℕ → ℝ} (hG : Is2 xo12 G) : H2 [⟨Rect.unit (s := S1x128) ![0, 0] S1x128.size inb_S1x128_S1x128_0_0, acc (View.readAt (Elt Ideal) arg13.view (Rect.unit ![0, 0] S1x128.size inb_S1x128_S1x128_0_0).toLoadRect (harg13.unread xo12)) (gsum (View.readAt (Elt Ideal) arg1.view (Rect.unit ![0, 0] S2048x128.size inb_S2048x128_S2048x128_0_0).toLoadRect (harg1.unread x0)) (eighth (kernelRun0_A.sl.v1069 c arg1 harg1 arg2 harg2 arg3 harg3 arg4 harg4 arg5 harg5 arg6 harg6 arg7 harg7 arg8 harg8 arg15 arg16 arg17 arg18 arg19 arg20 arg24 x0 x1 x2 x3 x4 x5 x6 x7)))⟩] r32 (fun a m => G a m + B.gqR m) :=
  H2.whole (acc_is (gain_is harg13 hG) (g12 h )).r32

theorem f12 (h : In B x0 x1 x2 x3 x4 x5 x6 x7) {G : ℕ → ℕ → ℝ} (hG : Is2 xo12 G) :
    Is2 (k0_pay2 (F := Ideal) (arg13.view.readCov [⟨Rect.unit (s := S1x128) ![0, 0] S1x128.size inb_S1x128_S1x128_0_0, acc (View.readAt (Elt Ideal) arg13.view (Rect.unit ![0, 0] S1x128.size inb_S1x128_S1x128_0_0).toLoadRect (harg13.unread xo12)) (gsum (View.readAt (Elt Ideal) arg1.view (Rect.unit ![0, 0] S2048x128.size inb_S2048x128_S2048x128_0_0).toLoadRect (harg1.unread x0)) (eighth (kernelRun0_A.sl.v1069 c arg1 harg1 arg2 harg2 arg3 harg3 arg4 harg4 arg5 harg5 arg6 harg6 arg7 harg7 arg8 harg8 arg15 arg16 arg17 arg18 arg19 arg20 arg24 x0 x1 x2 x3 x4 x5 x6 x7)))⟩] (Rect.unit (s := S1x128) ![0, 0] S1x128.size inb_S1x128_S1x128_0_0).toLoadRect)) (fun _ m => (G 0 m + B.gqR m) + (G 0 (other m) + B.gqR (other m))) :=
  fold_is (R2.is2 (H2.loadAll (a12 (harg13 := harg13) h  hG) _))

/-- A row added to the sum so far. -/
theorem a13 (h : In B x0 x1 x2 x3 x4 x5 x6 x7) {G : ℕ → ℕ → ℝ} (hG : Is2 xo13 G) : H2 [⟨Rect.unit (s := S1x128) ![0, 0] S1x128.size inb_S1x128_S1x128_0_0, acc (View.readAt (Elt Ideal) arg14.view (Rect.unit ![0, 0] S1x128.size inb_S1x128_S1x128_0_0).toLoadRect (harg14.unread xo13)) (gsum (View.readAt (Elt Ideal) arg2.view (Rect.unit ![0, 0] S2048x128.size inb_S2048x128_S2048x128_0_0).toLoadRect (harg2.unread x1)) (kernelRun0_A.sl.v1138 c arg1 harg1 arg2 harg2 arg3 harg3 arg4 harg4 arg5 harg5 arg6 harg6 arg7 harg7 arg8 harg8 arg15 arg16 arg18 arg19 arg21 arg24 x0 x1 x2 x3 x4 x5 x6 x7))⟩] r32 (fun a m => G a m + B.gkR m) :=
  H2.whole (acc_is (gain_is harg14 hG) (g13 h )).r32

theorem f13 (h : In B x0 x1 x2 x3 x4 x5 x6 x7) {G : ℕ → ℕ → ℝ} (hG : Is2 xo13 G) :
    Is2 (k0_pay3 (F := Ideal) (arg14.view.readCov [⟨Rect.unit (s := S1x128) ![0, 0] S1x128.size inb_S1x128_S1x128_0_0, acc (View.readAt (Elt Ideal) arg14.view (Rect.unit ![0, 0] S1x128.size inb_S1x128_S1x128_0_0).toLoadRect (harg14.unread xo13)) (gsum (View.readAt (Elt Ideal) arg2.view (Rect.unit ![0, 0] S2048x128.size inb_S2048x128_S2048x128_0_0).toLoadRect (harg2.unread x1)) (kernelRun0_A.sl.v1138 c arg1 harg1 arg2 harg2 arg3 harg3 arg4 harg4 arg5 harg5 arg6 harg6 arg7 harg7 arg8 harg8 arg15 arg16 arg18 arg19 arg21 arg24 x0 x1 x2 x3 x4 x5 x6 x7))⟩] (Rect.unit (s := S1x128) ![0, 0] S1x128.size inb_S1x128_S1x128_0_0).toLoadRect)) (fun _ m => (G 0 m + B.gkR m) + (G 0 (other m) + B.gkR (other m))) :=
  fold'_is (R2.is2 (H2.loadAll (a13 (harg14 := harg14) h  hG) _))

/-- The gradient of the queries at a first point. -/
theorem out8_A (hc0 : cond0_0 i) (hc1 : ¬cond0_1 i) (hc2 : cond0_2 i) (hc3 : ¬cond0_3 i) (hc4 : ¬cond0_4 i) (h : In B x0 x1 x2 x3 x4 x5 x6 x7) :
    R2 r16 (out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7) B.dqR :=
  read2 (h8 h ) (list8_A hc0 hc1 hc2 hc3 hc4) VO0_8

/-- The gradient of the keys at a first point. -/
theorem out9_A (hc0 : cond0_0 i) (hc1 : ¬cond0_1 i) (hc2 : cond0_2 i) (hc3 : ¬cond0_3 i) (hc4 : ¬cond0_4 i) (h : In B x0 x1 x2 x3 x4 x5 x6 x7) :
    R2 r16 (out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7) B.dkR :=
  read2 (h9 h ) (list9_A hc0 hc1 hc2 hc3 hc4) VO0_9

/-- The gradient of the values at a first point. -/
theorem out10_A (hc0 : cond0_0 i) (hc1 : ¬cond0_1 i) (hc2 : cond0_2 i) (hc3 : ¬cond0_3 i) (hc4 : ¬cond0_4 i) (h : In B x0 x1 x2 x3 x4 x5 x6 x7) :
    R2 r16 (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7) (ac B.PP B.D 8) :=
  read2 (h10 h ) (list10_A hc0 hc1 hc2 hc3 hc4) VO0_10

/-- The gradient of the gates at a first point. -/
theorem out11_A (hc0 : cond0_0 i) (hc1 : ¬cond0_1 i) (hc2 : cond0_2 i) (hc3 : ¬cond0_3 i) (hc4 : ¬cond0_4 i) (h : In B x0 x1 x2 x3 x4 x5 x6 x7) :
    R3f r32 (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7) (fun a _ κ => B.dcR a κ) :=
  read3 (h11 h ) (list11_A hc0 hc1 hc2 hc3 hc4) VO0_11

/-- The gradient of the queries' gain at a first point. -/
theorem out12_A (hc0 : cond0_0 i) (hc1 : ¬cond0_1 i) (hc2 : cond0_2 i) (hc3 : ¬cond0_3 i) (hc4 : ¬cond0_4 i) (h : In B x0 x1 x2 x3 x4 x5 x6 x7) :
    R2 r32 (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7) (fun _ m => B.gqR m) :=
  read2 (H2.whole (g12 h ).r32) (list12_A hc0 hc1 hc2 hc3 hc4) VO0_12

/-- The gradient of the keys' gain at a first point. -/
theorem out13_A (hc0 : cond0_0 i) (hc1 : ¬cond0_1 i) (hc2 : cond0_2 i) (hc3 : ¬cond0_3 i) (hc4 : ¬cond0_4 i) (h : In B x0 x1 x2 x3 x4 x5 x6 x7) :
    R2 r32 (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7) (fun _ m => B.gkR m) :=
  read2 (H2.whole (g13 h ).r32) (list13_A hc0 hc1 hc2 hc3 hc4) VO0_13

/-- The gradient of the queries at a middle point. -/
theorem out8_B (hc0 : ¬cond0_0 i) (hc1 : cond0_1 i) (hc2 : ¬cond0_2 i) (hc3 : cond0_3 i) (hc4 : ¬cond0_4 i) (h : In B x0 x1 x2 x3 x4 x5 x6 x7) :
    R2 r16 (out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13) B.dqR :=
  read2 (h8 h ) (list8_B hc0 hc1 hc2 hc3 hc4) VO0_8

/-- The gradient of the keys at a middle point. -/
theorem out9_B (hc0 : ¬cond0_0 i) (hc1 : cond0_1 i) (hc2 : ¬cond0_2 i) (hc3 : cond0_3 i) (hc4 : ¬cond0_4 i) (h : In B x0 x1 x2 x3 x4 x5 x6 x7) :
    R2 r16 (out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13) B.dkR :=
  read2 (h9 h ) (list9_B hc0 hc1 hc2 hc3 hc4) VO0_9

/-- The gradient of the values at a middle point. -/
theorem out10_B (hc0 : ¬cond0_0 i) (hc1 : cond0_1 i) (hc2 : ¬cond0_2 i) (hc3 : cond0_3 i) (hc4 : ¬cond0_4 i) (h : In B x0 x1 x2 x3 x4 x5 x6 x7) :
    R2 r16 (out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13) (ac B.PP B.D 8) :=
  read2 (h10 h ) (list10_B hc0 hc1 hc2 hc3 hc4) VO0_10

/-- The gradient of the gates at a middle point. -/
theorem out11_B (hc0 : ¬cond0_0 i) (hc1 : cond0_1 i) (hc2 : ¬cond0_2 i) (hc3 : cond0_3 i) (hc4 : ¬cond0_4 i) (h : In B x0 x1 x2 x3 x4 x5 x6 x7) :
    R3f r32 (out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13) (fun a _ κ => B.dcR a κ) :=
  read3 (h11 h ) (list11_B hc0 hc1 hc2 hc3 hc4) VO0_11

/-- The gradient of the queries' gain at a middle point. -/
theorem out12_B (hc0 : ¬cond0_0 i) (hc1 : cond0_1 i) (hc2 : ¬cond0_2 i) (hc3 : cond0_3 i) (hc4 : ¬cond0_4 i) (h : In B x0 x1 x2 x3 x4 x5 x6 x7) {G : ℕ → ℕ → ℝ} (hG : Is2 xo12 G) :
    R2 r32 (out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13) (fun a m => G a m + B.gqR m) :=
  read2 (a12 h  hG) (list12_B hc0 hc1 hc2 hc3 hc4) VO0_12

/-- The gradient of the keys' gain at a middle point. -/
theorem out13_B (hc0 : ¬cond0_0 i) (hc1 : cond0_1 i) (hc2 : ¬cond0_2 i) (hc3 : cond0_3 i) (hc4 : ¬cond0_4 i) (h : In B x0 x1 x2 x3 x4 x5 x6 x7) {G : ℕ → ℕ → ℝ} (hG : Is2 xo13 G) :
    R2 r32 (out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13) (fun a m => G a m + B.gkR m) :=
  read2 (a13 h  hG) (list13_B hc0 hc1 hc2 hc3 hc4) VO0_13

/-- The gradient of the queries at a last point. -/
theorem out8_C (hc0 : ¬cond0_0 i) (hc1 : cond0_1 i) (hc2 : ¬cond0_2 i) (hc3 : cond0_3 i) (hc4 : cond0_4 i) (h : In B x0 x1 x2 x3 x4 x5 x6 x7) :
    R2 r16 (out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13) B.dqR :=
  read2 (h8 h ) (list8_C hc0 hc1 hc2 hc3 hc4) VO0_8

/-- The gradient of the keys at a last point. -/
theorem out9_C (hc0 : ¬cond0_0 i) (hc1 : cond0_1 i) (hc2 : ¬cond0_2 i) (hc3 : cond0_3 i) (hc4 : cond0_4 i) (h : In B x0 x1 x2 x3 x4 x5 x6 x7) :
    R2 r16 (out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13) B.dkR :=
  read2 (h9 h ) (list9_C hc0 hc1 hc2 hc3 hc4) VO0_9

/-- The gradient of the values at a last point. -/
theorem out10_C (hc0 : ¬cond0_0 i) (hc1 : cond0_1 i) (hc2 : ¬cond0_2 i) (hc3 : cond0_3 i) (hc4 : cond0_4 i) (h : In B x0 x1 x2 x3 x4 x5 x6 x7) :
    R2 r16 (out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13) (ac B.PP B.D 8) :=
  read2 (h10 h ) (list10_C hc0 hc1 hc2 hc3 hc4) VO0_10

/-- The gradient of the gates at a last point. -/
theorem out11_C (hc0 : ¬cond0_0 i) (hc1 : cond0_1 i) (hc2 : ¬cond0_2 i) (hc3 : cond0_3 i) (hc4 : cond0_4 i) (h : In B x0 x1 x2 x3 x4 x5 x6 x7) :
    R3f r32 (out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13) (fun a _ κ => B.dcR a κ) :=
  read3 (h11 h ) (list11_C hc0 hc1 hc2 hc3 hc4) VO0_11

/-- The gradient of the queries' gain at a last point. -/
theorem out12_C (hc0 : ¬cond0_0 i) (hc1 : cond0_1 i) (hc2 : ¬cond0_2 i) (hc3 : cond0_3 i) (hc4 : cond0_4 i) (h : In B x0 x1 x2 x3 x4 x5 x6 x7) {G : ℕ → ℕ → ℝ} (hG : Is2 xo12 G) :
    R2 r32 (out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13) (fun a m => (G 0 m + B.gqR m) + (G 0 (other m) + B.gqR (other m))) :=
  read2 (H2.whole (f12 h  hG).r32) (list12_C hc0 hc1 hc2 hc3 hc4) VO0_12

/-- The gradient of the keys' gain at a last point. -/
theorem out13_C (hc0 : ¬cond0_0 i) (hc1 : cond0_1 i) (hc2 : ¬cond0_2 i) (hc3 : cond0_3 i) (hc4 : cond0_4 i) (h : In B x0 x1 x2 x3 x4 x5 x6 x7) {G : ℕ → ℕ → ℝ} (hG : Is2 xo13 G) :
    R2 r32 (out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 hc3 hc4 x0 x1 x2 x3 x4 x5 x6 x7 xo12 xo13) (fun a m => (G 0 m + B.gkR m) + (G 0 (other m) + B.gkR (other m))) :=
  read2 (H2.whole (f13 h  hG).r32) (list13_C hc0 hc1 hc2 hc3 hc4) VO0_13

end Cert.Fox
-- ==== Proof.Fox.Points.lean ====
module

public import proofs.«01_k».proof.Proof.Fox.Loaded
public import proofs.«01_k».proof.Proof.Fox.Outs

/-! What each grid point leaves in its output blocks, in terms of the entries of the arguments. -/

@[expose] public section

set_option maxRecDepth 16384

noncomputable section

namespace Cert.Fox

open Idealize.ShloMosaic Idealize.ShloMosaic.TcCoe Cert.KernelIdeal Cert.KernelIdeal.Gen

variable {m : (ℓ : Loc nD τ sig) → Buf (Elt Ideal) ℓ} {c : Dev nD} {S : Src}

theorem R2.of_eq {n0 n1 : ℕ} {e : EltTy} {r : ℝ → Elt Ideal e} {x : (⟨2, ![n0, n1]⟩ : Shape).Idx → Elt Ideal e} {f g : ℕ → ℕ → ℝ}
    (h : R2 r x f) (hfg : ∀ a b, f a b = g a b) : R2 r x g := fun j => (h j).trans (congrArg r (hfg _ _))

/-- The gradient of the queries a grid point leaves. -/
theorem pt8 (h : Held m c S) (t : Fin cfg0.N) : R2 r16 (outsAt0 m c t.val t.isLt).1 (S.blk t.val).dqR := by
  have ht : t.val < 8 := t.isLt
  by_cases h0 : t.val % 8 = 0
  · have h1 : ¬1 ≤ t.val := by omega
    have h4 : ¬t.val % 8 = 7 := by omega
    simp only [outsAt0_A m c t h0 h1 h0 h1 h4]
    exact out8_A _ _ _ _ _ (in_blk h t)
  · have h1 : 1 ≤ t.val := by omega
    by_cases h4 : t.val % 8 = 7
    · simp only [outsAt0_C m c t h0 h1 h0 h1 h4]
      exact out8_C _ _ _ _ _ (in_blk h t)
    · simp only [outsAt0_B m c t h0 h1 h0 h1 h4]
      exact out8_B _ _ _ _ _ (in_blk h t)

/-- The gradient of the keys a grid point leaves. -/
theorem pt9 (h : Held m c S) (t : Fin cfg0.N) : R2 r16 (outsAt0 m c t.val t.isLt).2.1 (S.blk t.val).dkR := by
  have ht : t.val < 8 := t.isLt
  by_cases h0 : t.val % 8 = 0
  · have h1 : ¬1 ≤ t.val := by omega
    have h4 : ¬t.val % 8 = 7 := by omega
    simp only [outsAt0_A m c t h0 h1 h0 h1 h4]
    exact out9_A _ _ _ _ _ (in_blk h t)
  · have h1 : 1 ≤ t.val := by omega
    by_cases h4 : t.val % 8 = 7
    · simp only [outsAt0_C m c t h0 h1 h0 h1 h4]
      exact out9_C _ _ _ _ _ (in_blk h t)
    · simp only [outsAt0_B m c t h0 h1 h0 h1 h4]
      exact out9_B _ _ _ _ _ (in_blk h t)

/-- The gradient of the values a grid point leaves. -/
theorem pt10 (h : Held m c S) (t : Fin cfg0.N) : R2 r16 (outsAt0 m c t.val t.isLt).2.2.1 (ac (S.blk t.val).PP (S.blk t.val).D 8) := by
  have ht : t.val < 8 := t.isLt
  by_cases h0 : t.val % 8 = 0
  · have h1 : ¬1 ≤ t.val := by omega
    have h4 : ¬t.val % 8 = 7 := by omega
    simp only [outsAt0_A m c t h0 h1 h0 h1 h4]
    exact out10_A _ _ _ _ _ (in_blk h t)
  · have h1 : 1 ≤ t.val := by omega
    by_cases h4 : t.val % 8 = 7
    · simp only [outsAt0_C m c t h0 h1 h0 h1 h4]
      exact out10_C _ _ _ _ _ (in_blk h t)
    · simp only [outsAt0_B m c t h0 h1 h0 h1 h4]
      exact out10_B _ _ _ _ _ (in_blk h t)

/-- The gradient of the gates a grid point leaves. -/
theorem pt11 (h : Held m c S) (t : Fin cfg0.N) : R3f r32 (outsAt0 m c t.val t.isLt).2.2.2.1 (fun a _ κ => (S.blk t.val).dcR a κ) := by
  have ht : t.val < 8 := t.isLt
  by_cases h0 : t.val % 8 = 0
  · have h1 : ¬1 ≤ t.val := by omega
    have h4 : ¬t.val % 8 = 7 := by omega
    simp only [outsAt0_A m c t h0 h1 h0 h1 h4]
    exact out11_A _ _ _ _ _ (in_blk h t)
  · have h1 : 1 ≤ t.val := by omega
    by_cases h4 : t.val % 8 = 7
    · simp only [outsAt0_C m c t h0 h1 h0 h1 h4]
      exact out11_C _ _ _ _ _ (in_blk h t)
    · simp only [outsAt0_B m c t h0 h1 h0 h1 h4]
      exact out11_B _ _ _ _ _ (in_blk h t)

/-- The gradient of the queries' gain summed over the points so far. -/
theorem pt12 (h : Held m c S) (n : ℕ) (hn : n < cfg0.N) (h7 : n < 7) :
    R2 r32 (outsAt0 m c n hn).2.2.2.2.1 (fun _ l => ∑ p ∈ Finset.range (n + 1), (S.blk p).gqR l) := by
  induction n with
  | zero =>
    have z0 : 0 % 8 = 0 := by omega
    have z1 : ¬1 ≤ 0 := by omega
    have z4 : ¬0 % 8 = 7 := by omega
    simp only [outsAt0_A m c ⟨0, hn⟩ z0 z1 z0 z1 z4]
    exact R2.of_eq (out12_A _ _ _ _ _ (in_blk h ⟨0, hn⟩)) fun a l => by simp only [zero_add, Finset.sum_range_one]
  | succ n ih =>
    have e0 : ¬(n + 1) % 8 = 0 := by omega
    have e1 : 1 ≤ n + 1 := by omega
    have e4 : ¬(n + 1) % 8 = 7 := by omega
    simp only [outsAt0_B m c ⟨n + 1, hn⟩ e0 e1 e0 e1 e4]
    have i := ih (by omega) (by omega)
    exact R2.of_eq (out12_B _ _ _ _ _ (in_blk h ⟨n + 1, hn⟩) (R2.is2 i)) fun a l => (Finset.sum_range_succ _ (n + 1)).symm

/-- The gradient of the queries' gain the last point leaves: the sum over all points, the two heads of each lane added. -/
theorem last12 (h : Held m c S) (t : Fin cfg0.N) (h7 : t.val = 7) :
    R2 r32 (outsAt0 m c t.val t.isLt).2.2.2.2.1 (fun _ l => (∑ p ∈ Finset.range 8, (S.blk p).gqR l) + ∑ p ∈ Finset.range 8, (S.blk p).gqR (other l)) := by
  have e0 : ¬t.val % 8 = 0 := by omega
  have e1 : 1 ≤ t.val := by omega
  have e4 : t.val % 8 = 7 := by omega
  have e6 : t.val - 1 + 1 = 7 := by omega
  simp only [outsAt0_C m c t e0 e1 e0 e1 e4]
  have i := pt12 h (t.val - 1) (Nat.lt_of_le_of_lt (Nat.sub_le _ _) t.isLt) (by omega)
  exact R2.of_eq (out12_C _ _ _ _ _ (in_blk h t) (R2.is2 i)) fun a l => by
    rw [e6, h7]
    exact congrArg₂ (· + ·) (Finset.sum_range_succ _ 7).symm (Finset.sum_range_succ _ 7).symm

/-- The gradient of the keys' gain summed over the points so far. -/
theorem pt13 (h : Held m c S) (n : ℕ) (hn : n < cfg0.N) (h7 : n < 7) :
    R2 r32 (outsAt0 m c n hn).2.2.2.2.2 (fun _ l => ∑ p ∈ Finset.range (n + 1), (S.blk p).gkR l) := by
  induction n with
  | zero =>
    have z0 : 0 % 8 = 0 := by omega
    have z1 : ¬1 ≤ 0 := by omega
    have z4 : ¬0 % 8 = 7 := by omega
    simp only [outsAt0_A m c ⟨0, hn⟩ z0 z1 z0 z1 z4]
    exact R2.of_eq (out13_A _ _ _ _ _ (in_blk h ⟨0, hn⟩)) fun a l => by simp only [zero_add, Finset.sum_range_one]
  | succ n ih =>
    have e0 : ¬(n + 1) % 8 = 0 := by omega
    have e1 : 1 ≤ n + 1 := by omega
    have e4 : ¬(n + 1) % 8 = 7 := by omega
    simp only [outsAt0_B m c ⟨n + 1, hn⟩ e0 e1 e0 e1 e4]
    have i := ih (by omega) (by omega)
    exact R2.of_eq (out13_B _ _ _ _ _ (in_blk h ⟨n + 1, hn⟩) (R2.is2 i)) fun a l => (Finset.sum_range_succ _ (n + 1)).symm

/-- The gradient of the keys' gain the last point leaves: the sum over all points, the two heads of each lane added. -/
theorem last13 (h : Held m c S) (t : Fin cfg0.N) (h7 : t.val = 7) :
    R2 r32 (outsAt0 m c t.val t.isLt).2.2.2.2.2 (fun _ l => (∑ p ∈ Finset.range 8, (S.blk p).gkR l) + ∑ p ∈ Finset.range 8, (S.blk p).gkR (other l)) := by
  have e0 : ¬t.val % 8 = 0 := by omega
  have e1 : 1 ≤ t.val := by omega
  have e4 : t.val % 8 = 7 := by omega
  have e6 : t.val - 1 + 1 = 7 := by omega
  simp only [outsAt0_C m c t e0 e1 e0 e1 e4]
  have i := pt13 h (t.val - 1) (Nat.lt_of_le_of_lt (Nat.sub_le _ _) t.isLt) (by omega)
  exact R2.of_eq (out13_C _ _ _ _ _ (in_blk h t) (R2.is2 i)) fun a l => by
    rw [e6, h7]
    exact congrArg₂ (· + ·) (Finset.sum_range_succ _ 7).symm (Finset.sum_range_succ _ 7).symm

end Cert.Fox
-- ==== Proof.Fox.Arrays.lean ====
module

public import proofs.«01_k».proof.Proof.Fox.Points
public import Idealize.ShloMosaic.Lib.Pipeline.ValueKit

/-! The result arrays of the kernel hold the gradient's real functions of the arguments. -/

@[expose] public section

set_option maxRecDepth 16384

noncomputable section

namespace Cert.Fox

open Idealize.ShloMosaic Idealize.ShloMosaic.TcCoe Cert.KernelIdeal Cert.KernelIdeal.Gen

variable {m : (ℓ : Loc nD τ sig) → Buf (Elt Ideal) ℓ} {c : Dev nD} {S : Src}

theorem idxo : ∀ t : Fin cfg0.N,
    win0_8.index t = ![0, t.val] ∧ win0_9.index t = ![0, t.val] ∧ win0_10.index t = ![0, t.val] ∧
    win0_11.index t = ![t.val, 0, 0] ∧ win0_12.index t = ![0, 0] ∧ win0_13.index t = ![0, 0] :=
  (by decide +kernel : ∀ t : Fin grid0.N, _)

theorem flushed_last : ∀ t : Fin cfg0.N, ((cfg0.win 12).flush t = true → t.val = 7) ∧ ((cfg0.win 13).flush t = true → t.val = 7) :=
  (by decide +kernel : ∀ t : Fin grid0.N, _)

/-- A column of a block: its pair of heads, its head of the pair and its lane. -/
theorem col_of (l : ℕ) (hl : l < 128) : ∃ a d, a < 2 ∧ d < 64 ∧ l = 64 * a + d := ⟨l / 64, l % 64, by omega, by omega, by omega⟩

theorem split_col (p a d : ℕ) (hd : d < 64) : (p * 128 + (64 * a + d)) / 64 = 2 * p + a ∧ (p * 128 + (64 * a + d)) % 64 = d := by
  constructor <;> omega

theorem R2_at {n0 n1 : ℕ} {e : EltTy} {r : ℝ → Elt Ideal e} {x : (⟨2, ![n0, n1]⟩ : Shape).Idx → Elt Ideal e} {f : ℕ → ℕ → ℝ}
    (h : R2 r x f) (j : (⟨2, ![n0, n1]⟩ : Shape).Idx) : x j = r (f (j 0).val (j 1).val) := h j

theorem col8 (S : Src) (p : ℕ) {ρ l : ℕ} (hρ : ρ < 2048) (hl : l < 128) :
    (S.blk p).dqR ρ l = S.dq ρ ((p * 128 + l) / 64) ((p * 128 + l) % 64) := by
  obtain ⟨a, d, ha, hd, rfl⟩ := col_of l hl
  rw [S.blk_dq ha hρ hd, (split_col p a d hd).1, (split_col p a d hd).2]

theorem col9 (S : Src) (p ρ : ℕ) {l : ℕ} (hl : l < 128) :
    (S.blk p).dkR ρ l = S.dk ρ ((p * 128 + l) / 64) ((p * 128 + l) % 64) := by
  obtain ⟨a, d, ha, hd, rfl⟩ := col_of l hl
  rw [S.blk_dk ha ρ hd, (split_col p a d hd).1, (split_col p a d hd).2]

theorem col10 (S : Src) (p ρ : ℕ) {l : ℕ} (hl : l < 128) :
    ac (S.blk p).PP (S.blk p).D 8 ρ l = S.dv ρ ((p * 128 + l) / 64) ((p * 128 + l) % 64) := by
  obtain ⟨a, d, ha, hd, rfl⟩ := col_of l hl
  rw [S.blk_dv ha ρ hd, (split_col p a d hd).1, (split_col p a d hd).2]

theorem arr8 (h : Held m c S) : (dats m 0 c).arrAt 8 cfg0.N
    = fun i : S2048x1024.Idx => r16 (S.dq (i 0).val ((i 1).val / 64) ((i 1).val % 64)) := by
  refine (dats m 0 c).arrAt_eq_of_covers 8 _ (by decide +kernel) fun t _ y => ?_
  have e := (idxo t).1
  blk_simp [e]
  rw [after0_8]
  have h0 : (y 0).val < 2048 := (y 0).isLt
  have h1 : (y 1).val < 128 := (y 1).isLt
  exact (pt8 h t y).trans (congrArg r16 (col8 S t.val h0 h1))

theorem arr9 (h : Held m c S) : (dats m 0 c).arrAt 9 cfg0.N
    = fun i : S2048x1024.Idx => r16 (S.dk (i 0).val ((i 1).val / 64) ((i 1).val % 64)) := by
  refine (dats m 0 c).arrAt_eq_of_covers 9 _ (by decide +kernel) fun t _ y => ?_
  have e := (idxo t).2.1
  blk_simp [e]
  rw [after0_9]
  have h0 : (y 0).val < 2048 := (y 0).isLt
  have h1 : (y 1).val < 128 := (y 1).isLt
  exact (pt9 h t y).trans (congrArg r16 (col9 S t.val _ h1))

theorem arr10 (h : Held m c S) : (dats m 0 c).arrAt 10 cfg0.N
    = fun i : S2048x1024.Idx => r16 (S.dv (i 0).val ((i 1).val / 64) ((i 1).val % 64)) := by
  refine (dats m 0 c).arrAt_eq_of_covers 10 _ (by decide +kernel) fun t _ y => ?_
  have e := (idxo t).2.2.1
  blk_simp [e]
  rw [after0_10]
  have h0 : (y 0).val < 2048 := (y 0).isLt
  have h1 : (y 1).val < 128 := (y 1).isLt
  exact (pt10 h t y).trans (congrArg r16 (col10 S t.val _ h1))

theorem arr11 (h : Held m c S) : (dats m 0 c).arrAt 11 cfg0.N
    = fun i : S16x1x2048.Idx => r32 (S.dc (i 0).val (i 2).val) := by
  refine (dats m 0 c).arrAt_eq_of_covers 11 _ (by decide +kernel) fun t _ y => ?_
  have e := (idxo t).2.2.2.1
  blk_simp [e]
  rw [after0_11]
  have h0 : (y 0).val < 2 := (y 0).isLt
  have h2 : (y 2).val < 2048 := (y 2).isLt
  have e2 : t.val * 2 + (y 0).val = 2 * t.val + (y 0).val := by omega
  rw [e2]
  exact (pt11 h t y).trans (congrArg r32 (S.blk_dc h0 h2))

theorem sum12 (S : Src) {l : ℕ} (hl : l < 128) :
    (∑ p ∈ Finset.range 8, (S.blk p).gqR l) + (∑ p ∈ Finset.range 8, (S.blk p).gqR (other l)) = S.dgq (l % 64) := by
  have g := Src.gn_eq (R := fun p l => (S.blk p).gqR l) (fun p a d ha hd => S.blk_gq ha hd) hl
  exact g

theorem arr12 (h : Held m c S) : (dats m 0 c).arrAt 12 cfg0.N
    = fun i : S1x128.Idx => r32 (S.dgq ((i 1).val % 64)) := by
  refine (dats m 0 c).arrAt_eq_of_covers 12 _ (by decide +kernel) fun t hf y => ?_
  have e := (idxo t).2.2.2.2.1
  blk_simp [e]
  rw [after0_12]
  have h1 : (y 1).val < 128 := (y 1).isLt
  exact (R2_at (last12 h t ((flushed_last t).1 hf)) y).trans (congrArg r32 (sum12 S h1))

theorem sum13 (S : Src) {l : ℕ} (hl : l < 128) :
    (∑ p ∈ Finset.range 8, (S.blk p).gkR l) + (∑ p ∈ Finset.range 8, (S.blk p).gkR (other l)) = S.dgk (l % 64) := by
  have g := Src.gn_eq (R := fun p l => (S.blk p).gkR l) (fun p a d ha hd => S.blk_gk ha hd) hl
  exact g

theorem arr13 (h : Held m c S) : (dats m 0 c).arrAt 13 cfg0.N
    = fun i : S1x128.Idx => r32 (S.dgk ((i 1).val % 64)) := by
  refine (dats m 0 c).arrAt_eq_of_covers 13 _ (by decide +kernel) fun t hf y => ?_
  have e := (idxo t).2.2.2.2.2
  blk_simp [e]
  rw [after0_13]
  have h1 : (y 1).val < 128 := (y 1).isLt
  exact (R2_at (last13 h t ((flushed_last t).2 hf)) y).trans (congrArg r32 (sum13 S h1))

end Cert.Fox
-- ==== Proof.Fox.Finite.lean ====
module

public import proofs.«01_k».proof.Defs
public import proofs.«01_k».proof.Proof.Fox.Loaded
public import Idealize.ShloMosaic.Lib.ReduceAll
public import Idealize.ShloMosaic.Lib.KernelVsHost

/-! The precondition gives the real entries of the arguments. -/

@[expose] public section

set_option maxRecDepth 16384

noncomputable section

namespace Cert.Fox

open Idealize.ShloMosaic Idealize.ShloMosaic.TcCoe Cert.KernelIdeal Cert.KernelIdeal.Gen

/-- The shape relations the precondition takes. -/
theorem pre_facts : Cert.Pre_finite.Facts where
  bcast_S_S2048x3200 := by decide
  reducesTo_S2048x3200_S_d0_1 := by decide
  h_S_ := by decide
  bcast_S_S16x2048 := by decide
  reducesTo_S16x2048_S_d0_1 := by decide
  bcast_S_S64 := by decide
  reducesTo_S64_S_d0 := by decide
  bcast_S_S2048x1024 := by decide
  reducesTo_S2048x1024_S_d0_1 := by decide

/-- A value whose magnitude is below infinity is a real number. -/
theorem real_of_lt (x : Ideal .f32)
    (h : FloatOps.cmpf .olt (FloatOps.hostAbsf x) (FloatOps.ofBits (F := Ideal) .f32 0x7F800000#32) = 1#1) :
    (x : EReal) = (((x : EReal).toReal : ℝ) : EReal) := by
  rw [← Ideal.xori_weird_eq_hostAbsf_olt_inf] at h
  have k : ¬ ((x : EReal) = ⊤ ∨ (x : EReal) = ⊥) := fun k => by
    have e : (FloatOps.weird x : BitVec 1) = BitVec.ofBool (decide ((x : EReal) = ⊤ ∨ (x : EReal) = ⊥)) := rfl
    rw [e, decide_eq_true k] at h
    exact absurd h (by decide)
  push Not at k
  exact (EReal.coe_toReal k.1 k.2).symm

theorem sub_one : Subsingleton (Cert.Pre_finite.S_).Idx := ⟨fun a b => funext fun d => d.elim0⟩

theorem ands {a b : IVec Cert.Pre_finite.S_ 1} {j : (Cert.Pre_finite.S_).Idx} (h : andi a b j = 1#1) : a j = 1#1 ∧ b j = 1#1 :=
  IntOp.andi_eq_one.1 h

/-- One array of the precondition: every entry is real. -/
theorem real_all {s : Shape} {axes : List (Fin s.rank)} (x : FVec Ideal s .f32) (dims : Fin Cert.Pre_finite.S_.rank → Fin s.rank)
    (hb : Cert.Pre_finite.S_.BroadcastsInDim s dims)
    (hr : s.ReducesTo axes Cert.Pre_finite.S_) (hu : 0 < Cert.Pre_finite.S_.numel) (init : IVec Cert.Pre_finite.S_ 1)
    (j : (Cert.Pre_finite.S_).Idx)
    (h : Host.reduce IntOp.andi (cmpf .olt (Host.absf x) (broadcastInDim s dims hb (constant Cert.Pre_finite.S_ .f32 0x7F800000#32)))
      init hr hu j = 1#1) (i : s.Idx) : (x i : EReal) = (((x i : EReal).toReal : ℝ) : EReal) := by
  have := sub_one
  exact real_of_lt _ (Host.reduce_andi_all _ _ hr hu j h i)

/-- The entries of a device's arguments under the precondition. -/
theorem reals (hf : Cert.Pre_finite.Facts) (x0 : FVec Ideal Cert.Pre_finite.S2048x3200 .f32) (x1 : FVec Ideal Cert.Pre_finite.S16x2048 .f32)
    (x2 x3 : FVec Ideal Cert.Pre_finite.S64 .f32) (x4 : FVec Ideal Cert.Pre_finite.S2048x1024 .f32)
    (h : Cert.Pre_finite.fn (F := Ideal) x0 x1 x2 x3 x4 = fun _ => 1#1) :
    (∀ i, (x0 i : EReal) = (((x0 i : EReal).toReal : ℝ) : EReal)) ∧ (∀ i, (x1 i : EReal) = (((x1 i : EReal).toReal : ℝ) : EReal))
    ∧ (∀ i, (x2 i : EReal) = (((x2 i : EReal).toReal : ℝ) : EReal)) ∧ (∀ i, (x3 i : EReal) = (((x3 i : EReal).toReal : ℝ) : EReal))
    ∧ (∀ i, (x4 i : EReal) = (((x4 i : EReal).toReal : ℝ) : EReal)) := by
  have h := congrFun h (fun d => d.elim0)
  unfold Cert.Pre_finite.fn Cert.Pre_finite.fn_part1 at h
  obtain ⟨h, e4⟩ := ands h
  obtain ⟨h, e3⟩ := ands h
  obtain ⟨h, e2⟩ := ands h
  obtain ⟨e0, e1⟩ := ands h
  exact ⟨real_all x0 _ _ _ _ _ _ e0, real_all x1 _ _ _ _ _ _ e1, real_all x2 _ _ _ _ _ _ e2, real_all x3 _ _ _ _ _ _ e3,
    real_all x4 _ _ _ _ _ _ e4⟩

/-- The entry of a matrix at two numbers; zero outside. -/
def nat2 {a b : ℕ} (x : FVec Ideal ⟨2, ![a, b]⟩ .f32) (i j : ℕ) : ℝ :=
  if h : i < a ∧ j < b then (x (ValueIdx.ix2 ⟨i, h.1⟩ ⟨j, h.2⟩) : EReal).toReal else 0

theorem nat2_eq {a b : ℕ} (x : FVec Ideal ⟨2, ![a, b]⟩ .f32) (i : (⟨2, ![a, b]⟩ : Shape).Idx) :
    nat2 x (i 0).val (i 1).val = (x i : EReal).toReal := by
  have c : (i 0).val < a ∧ (i 1).val < b := ⟨(i 0).isLt, (i 1).isLt⟩
  unfold nat2
  rw [dif_pos c]
  exact congrArg (fun j => (x j : EReal).toReal) (ValueIdx.eq_ix2 i).symm

/-- The entry of a row at a number; zero outside. -/
def nat1 {a : ℕ} (x : FVec Ideal ⟨1, ![a]⟩ .f32) (i : ℕ) : ℝ :=
  if h : i < a then (x (ValueIdx.ix1 ⟨i, h⟩) : EReal).toReal else 0

theorem nat1_eq {a : ℕ} (x : FVec Ideal ⟨1, ![a]⟩ .f32) (i : (⟨1, ![a]⟩ : Shape).Idx) :
    nat1 x (i 0).val = (x i : EReal).toReal := by
  have c : (i 0).val < a := (i 0).isLt
  unfold nat1
  rw [dif_pos c]
  exact congrArg (fun j => (x j : EReal).toReal) (ValueIdx.eq_ix1 i).symm

/-- Under the precondition the arguments of a device hold the entries of some real source. -/
theorem held (hf : Cert.Pre_finite.Facts) (m : (ℓ : Loc nD τ sig) → Buf (Elt Ideal) ℓ) (hpre : Cert.Pre_KernelIdeal_finite m) (c : Dev nD) :
    ∃ S, Held m c S := by
  obtain ⟨h0, h1, h2, h3, h4⟩ := reals hf _ _ _ _ _ (hpre c)
  obtain ⟨M, k⟩ := okm (S := ⟨nat2 (m ((c : Thread nD τ).loc main_arg0)), nat2 (m ((c : Thread nD τ).loc main_arg1)),
      nat1 (m ((c : Thread nD τ).loc main_arg2)), nat1 (m ((c : Thread nD τ).loc main_arg3)),
      nat2 (m ((c : Thread nD τ).loc main_arg4)), fun _ _ => 0⟩)
    ⟨fun i => (h0 i).trans (congrArg _ (nat2_eq _ i).symm), fun i => (h1 i).trans (congrArg _ (nat2_eq _ i).symm),
     fun i => (h2 i).trans (congrArg _ (nat1_eq _ i).symm), fun i => (h3 i).trans (congrArg _ (nat1_eq _ i).symm),
     fun i => (h4 i).trans (congrArg _ (nat2_eq _ i).symm)⟩
  exact ⟨_, k⟩

end Cert.Fox

end
-- ==== Proof.Fox.Ref4.lean ====
module

public import proofs.«01_k».proof.Proof.Fox.Ref3
public import Idealize.ShloMosaic.Lib.IdealHost

/-! The reference: the gradients of the queries, keys and gains, and the results. -/

@[expose] public section

set_option maxRecDepth 16384

noncomputable section

namespace Cert.Fox

open Idealize.ShloMosaic Cert.ReferenceIdeal Cert.ReferenceIdeal.Gen Cert.ReferenceIdeal.Read

variable {S : Src} {x0 : (⟨S2048x3200, .f32⟩ : BufTy).Contents (Elt Ideal)} {x1 : (⟨S16x2048, .f32⟩ : BufTy).Contents (Elt Ideal)}
  {x2 x3 : (⟨S64, .f32⟩ : BufTy).Contents (Elt Ideal)} {x4 : (⟨S2048x1024, .f32⟩ : BufTy).Contents (Elt Ideal)}

/-- A vector of 64 entries put twice end to end. -/
theorem twice_is {y : (⟨S64, .f32⟩ : BufTy).Contents (Elt Ideal)} {f : ℕ → ℝ} (hy : ∀ j, (y j : EReal) = ((f (j 0).val : ℝ) : EReal))
    (i : S128.Idx) :
    (concatenate S128 0 [⟨S64, y⟩, ⟨S64, y⟩] concatenates_S64_S64_S128_d0 i : EReal) = ((f ((i 0).val % 64) : ℝ) : EReal) := by
  have h0 : (i 0).val < 128 := (i 0).isLt
  pointwise []
  split
  · exact (hy _).trans (co1 f (by show (i 0).val = (i 0).val % 64; omega))
  · exact (hy _).trans (co1 f (by show (i 0).val - 64 = (i 0).val % 64; omega))

theorem rf116 (h : Okm S x0 x1 x2 x3 x4) (i : S2048x16x64.Idx) :
    (val_main_v116 (F := Ideal) x0 x1 x2 x3 x4 i : EReal) = ((S.k (i 0).val (i 1).val (i 2).val * rse S.k (i 0).val (i 1).val * S.dkn (i 0).val (i 1).val (i 2).val : ℝ) : EReal) :=
  (val_main_v116_apply x0 x1 x2 x3 x4 i).trans (mul_co (rf33 h.ok i) (rf113 h i))

theorem rf117 (h : Okm S x0 x1 x2 x3 x4) (i : S64.Idx) :
    (val_main_v117 (F := Ideal) x0 x1 x2 x3 x4 i : EReal) = ((gne S.k S.dkn (i 0).val : ℝ) : EReal) := by
  unfold val_main_v117
  refine (ValueIdx.hostReduceAdd_apply _ _ _ _ i).trans ?_
  refine (sum_r3_a01 _ i _ _).trans ?_
  exact sum_co c0_co fun k0 => (Finset.sum_congr rfl fun k1 _ => rf116 h _).trans (coe_sum Finset.univ _)

theorem rf118 (h : Okm S x0 x1 x2 x3 x4) (i : S1x1x64.Idx) :
    (val_main_v118 (F := Ideal) x0 x1 x2 x3 x4 i : EReal) = ((gne S.k S.dkn (i 2).val : ℝ) : EReal) :=
  by
  have h0 : (i 0).val < 1 := (i 0).isLt; have h1 : (i 1).val < 1 := (i 1).isLt; have h2 : (i 2).val < 64 := (i 2).isLt
  exact (val_main_v118_apply x0 x1 x2 x3 x4 i).trans ((rf117 h _).trans (co1 (gne S.k S.dkn) (by show (((i 0).val * 1 + (i 1).val) * 64 + (i 2).val) = (i 2).val; omega)))

theorem rf119 (h : Okm S x0 x1 x2 x3 x4) (i : S2048x16x64.Idx) :
    (val_main_v119 (F := Ideal) x3 i : EReal) = ((S.Gk (i 2).val : ℝ) : EReal) :=
  (val_main_v119_apply x3 i).trans (rf34 h.ok _)

theorem rf120 (h : Okm S x0 x1 x2 x3 x4) (i : S2048x16x64.Idx) :
    (val_main_v120 (F := Ideal) x0 x1 x2 x3 x4 i : EReal) = ((S.dkn (i 0).val (i 1).val (i 2).val * S.Gk (i 2).val : ℝ) : EReal) :=
  (val_main_v120_apply x0 x1 x2 x3 x4 i).trans (mul_co (rf113 h i) (rf119 h i))

theorem rf121 (h : Okm S x0 x1 x2 x3 x4) (i : S64.Idx) :
    (val_main_v121 (F := Ideal) x0 x1 x2 x3 x4 i : EReal) = ((gne S.k S.dkn (i 0).val : ℝ) : EReal) := by
  unfold val_main_v121
  refine (ValueIdx.hostReduceAdd_apply _ _ _ _ i).trans ?_
  refine (sum_r3_a01 _ i _ _).trans ?_
  exact one_co c0_co fun k0 => (Fin.sum_univ_one _).trans (rf118 h _)

theorem rf122 (h : Okm S x0 x1 x2 x3 x4) (i : S2048x16x64.Idx) :
    (val_main_v122 (F := Ideal) x0 x1 x2 x3 x4 i : EReal) = ((S.k (i 0).val (i 1).val (i 2).val * (S.dkn (i 0).val (i 1).val (i 2).val * S.Gk (i 2).val) : ℝ) : EReal) :=
  (val_main_v122_apply x0 x1 x2 x3 x4 i).trans (mul_co (rf20 h.ok i) (rf120 h i))

theorem rf123 (h : Okm S x0 x1 x2 x3 x4) (i : S2048x16.Idx) :
    (val_main_v123 (F := Ideal) x0 x1 x2 x3 x4 i : EReal) = ((∑ d : Fin 64, S.k (i 0).val (i 1).val d * (S.dkn (i 0).val (i 1).val d * S.Gk d) : ℝ) : EReal) :=
  (val_main_v123_apply x0 x1 x2 x3 x4 i).trans (sum_co c0_co fun k => rf122 h _)

/-- A sum over the lanes of a head. -/
def tx_v123 (S : Src) (ρ h : ℕ) : ℝ := ∑ d : Fin 64, S.k ρ h d * (S.dkn ρ h d * S.Gk d)

theorem rf124 (h : Okm S x0 x1 x2 x3 x4) (i : S2048x16x1.Idx) :
    (val_main_v124 (F := Ideal) x0 x1 x2 x3 x4 i : EReal) = ((tx_v123 S (i 0).val (i 1).val : ℝ) : EReal) :=
  by
  have h0 : (i 0).val < 2048 := (i 0).isLt; have h1 : (i 1).val < 16 := (i 1).isLt; have h2 : (i 2).val < 1 := (i 2).isLt
  exact (val_main_v124_apply x0 x1 x2 x3 x4 i).trans ((rf123 h _).trans (co2 (tx_v123 S) (by show ((((i 0).val * 16 + (i 1).val) * 1 + (i 2).val) / 16) = (i 0).val; omega) (by show ((((i 0).val * 16 + (i 1).val) * 1 + (i 2).val) % 16) = (i 1).val; omega)))

theorem rf125 (h : Okm S x0 x1 x2 x3 x4) (i : S2048x16x64.Idx) :
    (val_main_v125 (F := Ideal) x0 i : EReal) = ((rse S.k (i 0).val (i 1).val : ℝ) : EReal) :=
  (val_main_v125_apply x0 i).trans (rf28 h.ok _)

theorem rf126 (h : Okm S x0 x1 x2 x3 x4) (i : S2048x16x64.Idx) :
    (val_main_v126 (F := Ideal) x0 x1 x2 x3 x4 i : EReal) = ((S.dkn (i 0).val (i 1).val (i 2).val * S.Gk (i 2).val * rse S.k (i 0).val (i 1).val : ℝ) : EReal) :=
  (val_main_v126_apply x0 x1 x2 x3 x4 i).trans (mul_co (rf120 h i) (rf125 h i))

theorem rf127 (h : Okm S x0 x1 x2 x3 x4) (i : S2048x16x1.Idx) :
    (val_main_v127 (F := Ideal) x0 x1 x2 x3 x4 i : EReal) = ((tx_v123 S (i 0).val (i 1).val * (-(1 / 2) * (rse S.k (i 0).val (i 1).val / mse S.k (i 0).val (i 1).val)) : ℝ) : EReal) :=
  (val_main_v127_apply x0 x1 x2 x3 x4 i).trans (mul_co (rf124 h i) (rf31 h.ok i))

theorem rf128 (h : Okm S x0 x1 x2 x3 x4) (i : S2048x16x1.Idx) :
    (val_main_v128 (F := Ideal) i : EReal) = ((64 : ℝ) : EReal) :=
  (val_main_v128_apply i).trans c64_eq

theorem rf129 (h : Okm S x0 x1 x2 x3 x4) (i : S2048x16x1.Idx) :
    (val_main_v129 (F := Ideal) x0 x1 x2 x3 x4 i : EReal) = ((tme S.k S.dkn S.Gk (i 0).val (i 1).val : ℝ) : EReal) :=
  (val_main_v129_apply x0 x1 x2 x3 x4 i).trans (div_co (by norm_num) (rf127 h i) (rf128 h i))

theorem rf130 (h : Okm S x0 x1 x2 x3 x4) (i : S2048x16.Idx) :
    (val_main_v130 (F := Ideal) x0 x1 x2 x3 x4 i : EReal) = ((tme S.k S.dkn S.Gk (i 0).val (i 1).val : ℝ) : EReal) :=
  (val_main_v130_apply x0 x1 x2 x3 x4 i).trans (one_co c0_co fun k => rf129 h _)

theorem rf131 (h : Okm S x0 x1 x2 x3 x4) (i : S2048x16x64.Idx) :
    (val_main_v131 (F := Ideal) x0 x1 x2 x3 x4 i : EReal) = ((tme S.k S.dkn S.Gk (i 0).val (i 1).val : ℝ) : EReal) :=
  (val_main_v131_apply x0 x1 x2 x3 x4 i).trans (rf130 h _)

theorem rf132 (h : Okm S x0 x1 x2 x3 x4) (i : S2048x16x64.Idx) :
    (val_main_v132 (F := Ideal) x0 x1 x2 x3 x4 i : EReal) = ((S.k (i 0).val (i 1).val (i 2).val * tme S.k S.dkn S.Gk (i 0).val (i 1).val : ℝ) : EReal) :=
  (val_main_v132_apply x0 x1 x2 x3 x4 i).trans (mul_co (rf20 h.ok i) (rf131 h i))

theorem rf133 (h : Okm S x0 x1 x2 x3 x4) (i : S2048x16x64.Idx) :
    (val_main_v133 (F := Ideal) x0 x1 x2 x3 x4 i : EReal) = ((S.dkn (i 0).val (i 1).val (i 2).val * S.Gk (i 2).val * rse S.k (i 0).val (i 1).val + S.k (i 0).val (i 1).val (i 2).val * tme S.k S.dkn S.Gk (i 0).val (i 1).val : ℝ) : EReal) :=
  (val_main_v133_apply x0 x1 x2 x3 x4 i).trans (add_co (rf126 h i) (rf132 h i))

theorem rf134 (h : Okm S x0 x1 x2 x3 x4) (i : S2048x16x64.Idx) :
    (val_main_v134 (F := Ideal) x0 x1 x2 x3 x4 i : EReal) = ((tme S.k S.dkn S.Gk (i 0).val (i 1).val * S.k (i 0).val (i 1).val (i 2).val : ℝ) : EReal) :=
  (val_main_v134_apply x0 x1 x2 x3 x4 i).trans (mul_co (rf131 h i) (rf20 h.ok i))

theorem rf135 (h : Okm S x0 x1 x2 x3 x4) (i : S2048x16x64.Idx) :
    (val_main_v135 (F := Ideal) x0 x1 x2 x3 x4 i : EReal) = ((S.dk (i 0).val (i 1).val (i 2).val : ℝ) : EReal) :=
  (val_main_v135_apply x0 x1 x2 x3 x4 i).trans (add_co (rf133 h i) (rf134 h i))

theorem rf136 (h : Okm S x0 x1 x2 x3 x4) (i : S2048x1024.Idx) :
    (val_main_v136 (F := Ideal) x0 x1 x2 x3 x4 i : EReal) = ((S.dk (i 0).val ((i 1).val / 64) ((i 1).val % 64) : ℝ) : EReal) :=
  by
  have h0 : (i 0).val < 2048 := (i 0).isLt; have h1 : (i 1).val < 1024 := (i 1).isLt
  exact (val_main_v136_apply x0 x1 x2 x3 x4 i).trans ((rf135 h _).trans (co3 S.dk (by show (((i 0).val * 1024 + (i 1).val) / 1024) = (i 0).val; omega) (by show (((i 0).val * 1024 + (i 1).val) / 64 % 16) = (i 1).val / 64; omega) (by show (((i 0).val * 1024 + (i 1).val) % 64) = (i 1).val % 64; omega)))

theorem rf137 (h : Okm S x0 x1 x2 x3 x4) (i : S2048x16x64.Idx) :
    (val_main_v137 (F := Ideal) x0 x1 x2 x3 x4 i : EReal) = ((S.q (i 0).val (i 1).val (i 2).val * rse S.q (i 0).val (i 1).val * S.dqn (i 0).val (i 1).val (i 2).val : ℝ) : EReal) :=
  (val_main_v137_apply x0 x1 x2 x3 x4 i).trans (mul_co (rf16 h.ok i) (rf115 h i))

theorem rf138 (h : Okm S x0 x1 x2 x3 x4) (i : S64.Idx) :
    (val_main_v138 (F := Ideal) x0 x1 x2 x3 x4 i : EReal) = ((gne S.q S.dqn (i 0).val : ℝ) : EReal) := by
  unfold val_main_v138
  refine (ValueIdx.hostReduceAdd_apply _ _ _ _ i).trans ?_
  refine (sum_r3_a01 _ i _ _).trans ?_
  exact sum_co c0_co fun k0 => (Finset.sum_congr rfl fun k1 _ => rf137 h _).trans (coe_sum Finset.univ _)

theorem rf139 (h : Okm S x0 x1 x2 x3 x4) (i : S1x1x64.Idx) :
    (val_main_v139 (F := Ideal) x0 x1 x2 x3 x4 i : EReal) = ((gne S.q S.dqn (i 2).val : ℝ) : EReal) :=
  by
  have h0 : (i 0).val < 1 := (i 0).isLt; have h1 : (i 1).val < 1 := (i 1).isLt; have h2 : (i 2).val < 64 := (i 2).isLt
  exact (val_main_v139_apply x0 x1 x2 x3 x4 i).trans ((rf138 h _).trans (co1 (gne S.q S.dqn) (by show (((i 0).val * 1 + (i 1).val) * 64 + (i 2).val) = (i 2).val; omega)))

theorem rf140 (h : Okm S x0 x1 x2 x3 x4) (i : S2048x16x64.Idx) :
    (val_main_v140 (F := Ideal) x2 i : EReal) = ((S.Gq (i 2).val : ℝ) : EReal) :=
  (val_main_v140_apply x2 i).trans (rf17 h.ok _)

theorem rf141 (h : Okm S x0 x1 x2 x3 x4) (i : S2048x16x64.Idx) :
    (val_main_v141 (F := Ideal) x0 x1 x2 x3 x4 i : EReal) = ((S.dqn (i 0).val (i 1).val (i 2).val * S.Gq (i 2).val : ℝ) : EReal) :=
  (val_main_v141_apply x0 x1 x2 x3 x4 i).trans (mul_co (rf115 h i) (rf140 h i))

theorem rf142 (h : Okm S x0 x1 x2 x3 x4) (i : S64.Idx) :
    (val_main_v142 (F := Ideal) x0 x1 x2 x3 x4 i : EReal) = ((gne S.q S.dqn (i 0).val : ℝ) : EReal) := by
  unfold val_main_v142
  refine (ValueIdx.hostReduceAdd_apply _ _ _ _ i).trans ?_
  refine (sum_r3_a01 _ i _ _).trans ?_
  exact one_co c0_co fun k0 => (Fin.sum_univ_one _).trans (rf139 h _)

theorem rf143 (h : Okm S x0 x1 x2 x3 x4) (i : S2048x16x64.Idx) :
    (val_main_v143 (F := Ideal) x0 x1 x2 x3 x4 i : EReal) = ((S.q (i 0).val (i 1).val (i 2).val * (S.dqn (i 0).val (i 1).val (i 2).val * S.Gq (i 2).val) : ℝ) : EReal) :=
  (val_main_v143_apply x0 x1 x2 x3 x4 i).trans (mul_co (rf3 h.ok i) (rf141 h i))

theorem rf144 (h : Okm S x0 x1 x2 x3 x4) (i : S2048x16.Idx) :
    (val_main_v144 (F := Ideal) x0 x1 x2 x3 x4 i : EReal) = ((∑ d : Fin 64, S.q (i 0).val (i 1).val d * (S.dqn (i 0).val (i 1).val d * S.Gq d) : ℝ) : EReal) :=
  (val_main_v144_apply x0 x1 x2 x3 x4 i).trans (sum_co c0_co fun k => rf143 h _)

/-- A sum over the lanes of a head. -/
def tx_v144 (S : Src) (ρ h : ℕ) : ℝ := ∑ d : Fin 64, S.q ρ h d * (S.dqn ρ h d * S.Gq d)

theorem rf145 (h : Okm S x0 x1 x2 x3 x4) (i : S2048x16x1.Idx) :
    (val_main_v145 (F := Ideal) x0 x1 x2 x3 x4 i : EReal) = ((tx_v144 S (i 0).val (i 1).val : ℝ) : EReal) :=
  by
  have h0 : (i 0).val < 2048 := (i 0).isLt; have h1 : (i 1).val < 16 := (i 1).isLt; have h2 : (i 2).val < 1 := (i 2).isLt
  exact (val_main_v145_apply x0 x1 x2 x3 x4 i).trans ((rf144 h _).trans (co2 (tx_v144 S) (by show ((((i 0).val * 16 + (i 1).val) * 1 + (i 2).val) / 16) = (i 0).val; omega) (by show ((((i 0).val * 16 + (i 1).val) * 1 + (i 2).val) % 16) = (i 1).val; omega)))

theorem rf146 (h : Okm S x0 x1 x2 x3 x4) (i : S2048x16x64.Idx) :
    (val_main_v146 (F := Ideal) x0 i : EReal) = ((rse S.q (i 0).val (i 1).val : ℝ) : EReal) :=
  (val_main_v146_apply x0 i).trans (rf11 h.ok _)

theorem rf147 (h : Okm S x0 x1 x2 x3 x4) (i : S2048x16x64.Idx) :
    (val_main_v147 (F := Ideal) x0 x1 x2 x3 x4 i : EReal) = ((S.dqn (i 0).val (i 1).val (i 2).val * S.Gq (i 2).val * rse S.q (i 0).val (i 1).val : ℝ) : EReal) :=
  (val_main_v147_apply x0 x1 x2 x3 x4 i).trans (mul_co (rf141 h i) (rf146 h i))

theorem rf148 (h : Okm S x0 x1 x2 x3 x4) (i : S2048x16x1.Idx) :
    (val_main_v148 (F := Ideal) x0 x1 x2 x3 x4 i : EReal) = ((tx_v144 S (i 0).val (i 1).val * (-(1 / 2) * (rse S.q (i 0).val (i 1).val / mse S.q (i 0).val (i 1).val)) : ℝ) : EReal) :=
  (val_main_v148_apply x0 x1 x2 x3 x4 i).trans (mul_co (rf145 h i) (rf14 h.ok i))

theorem rf149 (h : Okm S x0 x1 x2 x3 x4) (i : S2048x16x1.Idx) :
    (val_main_v149 (F := Ideal) i : EReal) = ((64 : ℝ) : EReal) :=
  (val_main_v149_apply i).trans c64_eq

theorem rf150 (h : Okm S x0 x1 x2 x3 x4) (i : S2048x16x1.Idx) :
    (val_main_v150 (F := Ideal) x0 x1 x2 x3 x4 i : EReal) = ((tme S.q S.dqn S.Gq (i 0).val (i 1).val : ℝ) : EReal) :=
  (val_main_v150_apply x0 x1 x2 x3 x4 i).trans (div_co (by norm_num) (rf148 h i) (rf149 h i))

theorem rf151 (h : Okm S x0 x1 x2 x3 x4) (i : S2048x16.Idx) :
    (val_main_v151 (F := Ideal) x0 x1 x2 x3 x4 i : EReal) = ((tme S.q S.dqn S.Gq (i 0).val (i 1).val : ℝ) : EReal) :=
  (val_main_v151_apply x0 x1 x2 x3 x4 i).trans (one_co c0_co fun k => rf150 h _)

theorem rf152 (h : Okm S x0 x1 x2 x3 x4) (i : S2048x16x64.Idx) :
    (val_main_v152 (F := Ideal) x0 x1 x2 x3 x4 i : EReal) = ((tme S.q S.dqn S.Gq (i 0).val (i 1).val : ℝ) : EReal) :=
  (val_main_v152_apply x0 x1 x2 x3 x4 i).trans (rf151 h _)

theorem rf153 (h : Okm S x0 x1 x2 x3 x4) (i : S2048x16x64.Idx) :
    (val_main_v153 (F := Ideal) x0 x1 x2 x3 x4 i : EReal) = ((S.q (i 0).val (i 1).val (i 2).val * tme S.q S.dqn S.Gq (i 0).val (i 1).val : ℝ) : EReal) :=
  (val_main_v153_apply x0 x1 x2 x3 x4 i).trans (mul_co (rf3 h.ok i) (rf152 h i))

theorem rf154 (h : Okm S x0 x1 x2 x3 x4) (i : S2048x16x64.Idx) :
    (val_main_v154 (F := Ideal) x0 x1 x2 x3 x4 i : EReal) = ((S.dqn (i 0).val (i 1).val (i 2).val * S.Gq (i 2).val * rse S.q (i 0).val (i 1).val + S.q (i 0).val (i 1).val (i 2).val * tme S.q S.dqn S.Gq (i 0).val (i 1).val : ℝ) : EReal) :=
  (val_main_v154_apply x0 x1 x2 x3 x4 i).trans (add_co (rf147 h i) (rf153 h i))

theorem rf155 (h : Okm S x0 x1 x2 x3 x4) (i : S2048x16x64.Idx) :
    (val_main_v155 (F := Ideal) x0 x1 x2 x3 x4 i : EReal) = ((tme S.q S.dqn S.Gq (i 0).val (i 1).val * S.q (i 0).val (i 1).val (i 2).val : ℝ) : EReal) :=
  (val_main_v155_apply x0 x1 x2 x3 x4 i).trans (mul_co (rf152 h i) (rf3 h.ok i))

theorem rf156 (h : Okm S x0 x1 x2 x3 x4) (i : S2048x16x64.Idx) :
    (val_main_v156 (F := Ideal) x0 x1 x2 x3 x4 i : EReal) = ((S.dq (i 0).val (i 1).val (i 2).val : ℝ) : EReal) :=
  (val_main_v156_apply x0 x1 x2 x3 x4 i).trans (add_co (rf154 h i) (rf155 h i))

theorem rf157 (h : Okm S x0 x1 x2 x3 x4) (i : S2048x1024.Idx) :
    (val_main_v157 (F := Ideal) x0 x1 x2 x3 x4 i : EReal) = ((S.dq (i 0).val ((i 1).val / 64) ((i 1).val % 64) : ℝ) : EReal) :=
  by
  have h0 : (i 0).val < 2048 := (i 0).isLt; have h1 : (i 1).val < 1024 := (i 1).isLt
  exact (val_main_v157_apply x0 x1 x2 x3 x4 i).trans ((rf156 h _).trans (co3 S.dq (by show (((i 0).val * 1024 + (i 1).val) / 1024) = (i 0).val; omega) (by show (((i 0).val * 1024 + (i 1).val) / 64 % 16) = (i 1).val / 64; omega) (by show (((i 0).val * 1024 + (i 1).val) % 64) = (i 1).val % 64; omega)))

theorem rf158 (h : Okm S x0 x1 x2 x3 x4) (i : S2048x1024.Idx) :
    (val_main_v158 (F := Ideal) x0 x1 x2 x3 x4 i : EReal) = ((S.dq (i 0).val ((i 1).val / 64) ((i 1).val % 64) : ℝ) : EReal) :=
  (val_main_v158_apply x0 x1 x2 x3 x4 i).trans (rf157 h i)

theorem rf159 (h : Okm S x0 x1 x2 x3 x4) (i : S2048x1024.Idx) :
    (val_main_v159 (F := Ideal) x0 x1 x2 x3 x4 i : EReal) = ((S.dk (i 0).val ((i 1).val / 64) ((i 1).val % 64) : ℝ) : EReal) :=
  (val_main_v159_apply x0 x1 x2 x3 x4 i).trans (rf136 h i)

theorem rf160 (h : Okm S x0 x1 x2 x3 x4) (i : S2048x1024.Idx) :
    (val_main_v160 (F := Ideal) x0 x1 x2 x3 x4 i : EReal) = ((S.dv (i 0).val ((i 1).val / 64) ((i 1).val % 64) : ℝ) : EReal) :=
  (val_main_v160_apply x0 x1 x2 x3 x4 i).trans (rf88 h i)

theorem rf161 (h : Okm S x0 x1 x2 x3 x4) (i : S16x1x2048.Idx) :
    (val_main_v161 (F := Ideal) x0 x1 x2 x3 x4 i : EReal) = ((S.dc (i 0).val (i 2).val : ℝ) : EReal) :=
  by
  have h0 : (i 0).val < 16 := (i 0).isLt; have h1 : (i 1).val < 1 := (i 1).isLt; have h2 : (i 2).val < 2048 := (i 2).isLt
  exact (val_main_v161_apply x0 x1 x2 x3 x4 i).trans ((rf109 h _).trans (co2 S.dc (by show ((((i 0).val * 1 + (i 1).val) * 2048 + (i 2).val) / 2048) = (i 0).val; omega) (by show ((((i 0).val * 1 + (i 1).val) * 2048 + (i 2).val) % 2048) = (i 2).val; omega)))

theorem rf162 (h : Okm S x0 x1 x2 x3 x4) (i : S128.Idx) :
    (val_main_v162 (F := Ideal) x0 x1 x2 x3 x4 i : EReal) = ((S.dgq ((i 0).val % 64) : ℝ) : EReal) := by
  unfold val_main_v162
  generalize e : val_main_v142 (F := Ideal) x0 x1 x2 x3 x4 = y
  have hy : ∀ j : S64.Idx, (y j : EReal) = ((S.dgq (j 0).val : ℝ) : EReal) := fun j => by rw [← e]; exact rf142 h j
  exact twice_is hy i

theorem rf163 (h : Okm S x0 x1 x2 x3 x4) (i : S1x128.Idx) :
    (val_main_v163 (F := Ideal) x0 x1 x2 x3 x4 i : EReal) = ((S.dgq ((i 1).val % 64) : ℝ) : EReal) :=
  by
  have h0 : (i 0).val < 1 := (i 0).isLt; have h1 : (i 1).val < 128 := (i 1).isLt
  exact (val_main_v163_apply x0 x1 x2 x3 x4 i).trans ((rf162 h _).trans (co1 S.dgq (by show (((i 0).val * 128 + (i 1).val)) % 64 = (i 1).val % 64; omega)))

theorem rf164 (h : Okm S x0 x1 x2 x3 x4) (i : S128.Idx) :
    (val_main_v164 (F := Ideal) x0 x1 x2 x3 x4 i : EReal) = ((S.dgk ((i 0).val % 64) : ℝ) : EReal) := by
  unfold val_main_v164
  generalize e : val_main_v121 (F := Ideal) x0 x1 x2 x3 x4 = y
  have hy : ∀ j : S64.Idx, (y j : EReal) = ((S.dgk (j 0).val : ℝ) : EReal) := fun j => by rw [← e]; exact rf121 h j
  exact twice_is hy i

theorem rf165 (h : Okm S x0 x1 x2 x3 x4) (i : S1x128.Idx) :
    (val_main_v165 (F := Ideal) x0 x1 x2 x3 x4 i : EReal) = ((S.dgk ((i 1).val % 64) : ℝ) : EReal) :=
  by
  have h0 : (i 0).val < 1 := (i 0).isLt; have h1 : (i 1).val < 128 := (i 1).isLt
  exact (val_main_v165_apply x0 x1 x2 x3 x4 i).trans ((rf164 h _).trans (co1 S.dgk (by show (((i 0).val * 128 + (i 1).val)) % 64 = (i 1).val % 64; omega)))

end Cert.Fox
-- ==== Proof.Fox.Values.lean ====
module

public import proofs.«01_k».proof.Defs
public import proofs.«01_k».proof.Proof.Fox.Arrays
public import proofs.«01_k».proof.Proof.Fox.Finite
public import proofs.«01_k».proof.Proof.Fox.Ref4
public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim

/-! The six results of the kernel are the six of the reference. -/

@[expose] public section

set_option maxRecDepth 16384

noncomputable section

namespace Cert.Fox

open Idealize.ShloMosaic Idealize.ShloMosaic.TcCoe Idealize.SL.Sem Cert.KernelIdeal Cert.KernelIdeal.Gen

attribute [local instance] pre_facts

variable (m : (ℓ : Loc nD τ sig) → Buf (Elt Ideal) ℓ) (c : Dev nD)

/-- Result 0: the gradient of the queries. -/
theorem val0 (h : Cert.Pre_KernelIdeal_finite m) : Cert.ReferenceIdeal.Read.val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = (dats m 0 c).arrAt 8 cfg0.N := by
  obtain ⟨S, h⟩ := held pre_facts m h c
  rw [arr8 h]
  funext i
  exact rf158 h i

/-- Result 1: the gradient of the keys. -/
theorem val1 (h : Cert.Pre_KernelIdeal_finite m) : Cert.ReferenceIdeal.Read.val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = (dats m 0 c).arrAt 9 cfg0.N := by
  obtain ⟨S, h⟩ := held pre_facts m h c
  rw [arr9 h]
  funext i
  exact rf159 h i

/-- Result 2: the gradient of the values. -/
theorem val2 (h : Cert.Pre_KernelIdeal_finite m) : Cert.ReferenceIdeal.Read.val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = (dats m 0 c).arrAt 10 cfg0.N := by
  obtain ⟨S, h⟩ := held pre_facts m h c
  rw [arr10 h]
  funext i
  exact rf160 h i

/-- Result 3: the gradient of the cumulative gate. -/
theorem val3 (h : Cert.Pre_KernelIdeal_finite m) : Cert.ReferenceIdeal.Read.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = (dats m 0 c).arrAt 11 cfg0.N := by
  obtain ⟨S, h⟩ := held pre_facts m h c
  rw [arr11 h]
  funext i
  exact rf161 h i

/-- Result 4: the gradient of the query norm's gain. -/
theorem val4 (h : Cert.Pre_KernelIdeal_finite m) : Cert.ReferenceIdeal.Read.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = (dats m 0 c).arrAt 12 cfg0.N := by
  obtain ⟨S, h⟩ := held pre_facts m h c
  rw [arr12 h]
  funext i
  exact rf163 h i

/-- Result 5: the gradient of the key norm's gain. -/
theorem val5 (h : Cert.Pre_KernelIdeal_finite m) : Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = (dats m 0 c).arrAt 13 cfg0.N := by
  obtain ⟨S, h⟩ := held pre_facts m h c
  rw [arr13 h]
  funext i
  exact rf165 h i

/-- Where the arguments are finite the two programs leave the same six results. -/
theorem algebraic : Cert.algebraic_KernelIdeal_ReferenceIdeal_pre_finite := by
  pair_intro
  · run_from Cert.KernelIdeal.Value.run_blocks m g
  · refine θ_run_mono (Cert.ReferenceIdeal.Value.run m' g') ?_
    intro r hr c
    obtain ⟨h0, h1, h2, h3, h4, h5, ha⟩ := hr c
    refine ⟨h0.trans ?_, h1.trans ?_, h2.trans ?_, h3.trans ?_, h4.trans ?_, h5.trans ?_, ha⟩
    · refine (Cert.ReferenceIdeal.Read.val_main_v158_eq _).trans ?_
      simp only [StableHlo.launchContents_devRef, hagree c]
      exact val0 m c hpre
    · refine (Cert.ReferenceIdeal.Read.val_main_v159_eq _).trans ?_
      simp only [StableHlo.launchContents_devRef, hagree c]
      exact val1 m c hpre
    · refine (Cert.ReferenceIdeal.Read.val_main_v160_eq _).trans ?_
      simp only [StableHlo.launchContents_devRef, hagree c]
      exact val2 m c hpre
    · refine (Cert.ReferenceIdeal.Read.val_main_v161_eq _).trans ?_
      simp only [StableHlo.launchContents_devRef, hagree c]
      exact val3 m c hpre
    · refine (Cert.ReferenceIdeal.Read.val_main_v163_eq _).trans ?_
      simp only [StableHlo.launchContents_devRef, hagree c]
      exact val4 m c hpre
    · refine (Cert.ReferenceIdeal.Read.val_main_v165_eq _).trans ?_
      simp only [StableHlo.launchContents_devRef, hagree c]
      exact val5 m c hpre

end Cert.Fox

end
-- ==== Proof.Mlp.Dots.lean ====
module

public import Idealize.ShloMosaic.Lib.StableHlo
public import Idealize.ShloMosaic.Lib.KernelVsHost
public import Idealize.ShloMosaic.Lib.Pipeline.ValueKit
public import Idealize.ShloMosaic.PureOps

/-! Products of matrices into a zero accumulator, entry by entry, and indices by their coordinates. -/

@[expose] public section

noncomputable section

namespace Cert.Mlp

open Idealize.ShloMosaic

/-- An index of a matrix is the one with its coordinates. -/
theorem eq_ix2_of {a b : ℕ} (i : (⟨2, ![a, b]⟩ : Shape).Idx) (p : Fin a) (q : Fin b) (h0 : (i 0).val = p.val) (h1 : (i 1).val = q.val) :
    i = ValueIdx.ix2 p q := by
  funext x
  refine Fin.ext ?_
  match x with
  | ⟨0, _⟩ => exact h0
  | ⟨1, _⟩ => exact h1

/-- An index of a stack of matrices is the one with its coordinates. -/
theorem eq_ix3_of {a b d : ℕ} (i : (⟨3, ![a, b, d]⟩ : Shape).Idx) (p : Fin a) (q : Fin b) (r : Fin d) (h0 : (i 0).val = p.val)
    (h1 : (i 1).val = q.val) (h2 : (i 2).val = r.val) : i = ValueIdx.ix3 p q r := by
  funext x
  refine Fin.ext ?_
  match x with
  | ⟨0, _⟩ => exact h0
  | ⟨1, _⟩ => exact h1
  | ⟨2, _⟩ => exact h2

/-- A product into zeros is the sum over the contracted axis. -/
theorem mat_apply {sl sr so : Shape} {φ₁ φ₂ : FTy} (d : DotDims sl sr so) (K : ℕ) (h1 : d.contr.rank = 1) (h2 : d.contr.size ⟨0, by omega⟩ = K)
    (x : FVec Ideal sl φ₁) (y : FVec Ideal sr φ₂) (i : so.Idx) (l : Fin K → sl.Idx) (r : Fin K → sr.Idx)
    (hl : ∀ (q : d.contr.Idx) (k : Fin K), (q ⟨0, by omega⟩).val = k.val → d.lhsIdx i q = l k)
    (hr : ∀ (q : d.contr.Idx) (k : Fin K), (q ⟨0, by omega⟩).val = k.val → d.rhsIdx i q = r k) :
    (matmul d none x y (constant so .f32 0x00000000#32) i : EReal) = ∑ k : Fin K, (x (l k) : EReal) * (y (r k) : EReal) := by
  rw [matmul_zero_eq_dotGeneral]
  simp only [Host.dotGeneral]
  rw [Ideal.dotGeneral_apply, ← Equiv.sum_comp (ValueIdx.contrEquiv1 d K h1 h2).symm]
  refine Finset.sum_congr rfl fun k _ => ?_
  have hk := ValueIdx.contrEquiv1_symm_val d K h1 h2 k
  rw [hl _ k hk, hr _ k hk]

variable {M K N : ℕ} {φ₁ φ₂ : FTy}

/-- Rows by rows: `M×K` times the transpose of `N×K`. -/
theorem nt (w : DotDims.WF ⟨2, ![M, K]⟩ ⟨2, ![N, K]⟩ ⟨2, ![M, N]⟩ [1] [1] [0] [0] [] []) (x : FVec Ideal ⟨2, ![M, K]⟩ φ₁)
    (y : FVec Ideal ⟨2, ![N, K]⟩ φ₂) (p : Fin M) (q : Fin N) :
    (matmul ⟨[1], [1], [0], [0], [], [], w⟩ none x y (constant ⟨2, ![M, N]⟩ .f32 0x00000000#32) (ValueIdx.ix2 p q) : EReal)
      = ∑ k : Fin K, (x (ValueIdx.ix2 p k) : EReal) * (y (ValueIdx.ix2 q k) : EReal) := by
  refine mat_apply _ K rfl rfl x y _ (fun k => ValueIdx.ix2 p k) (fun k => ValueIdx.ix2 q k) (fun j k hk => eq_ix2_of _ _ _ ?_ ?_)
    (fun j k hk => eq_ix2_of _ _ _ ?_ ?_)
  · rfl
  · exact (DotDims.lhsIdx_val_of_single ⟨[1], [1], [0], [0], [], [], w⟩ rfl _ j).trans hk
  · rfl
  · exact (DotDims.rhsIdx_val_of_single ⟨[1], [1], [0], [0], [], [], w⟩ rfl _ j).trans hk

/-- Columns by columns: the transpose of `K×M` times `K×N`. -/
theorem tn (w : DotDims.WF ⟨2, ![K, M]⟩ ⟨2, ![K, N]⟩ ⟨2, ![M, N]⟩ [0] [0] [1] [1] [] []) (x : FVec Ideal ⟨2, ![K, M]⟩ φ₁)
    (y : FVec Ideal ⟨2, ![K, N]⟩ φ₂) (p : Fin M) (q : Fin N) :
    (matmul ⟨[0], [0], [1], [1], [], [], w⟩ none x y (constant ⟨2, ![M, N]⟩ .f32 0x00000000#32) (ValueIdx.ix2 p q) : EReal)
      = ∑ k : Fin K, (x (ValueIdx.ix2 k p) : EReal) * (y (ValueIdx.ix2 k q) : EReal) := by
  refine mat_apply _ K rfl rfl x y _ (fun k => ValueIdx.ix2 k p) (fun k => ValueIdx.ix2 k q) (fun j k hk => eq_ix2_of _ _ _ ?_ ?_)
    (fun j k hk => eq_ix2_of _ _ _ ?_ ?_)
  · exact (DotDims.lhsIdx_val_of_single ⟨[0], [0], [1], [1], [], [], w⟩ rfl _ j).trans hk
  · rfl
  · exact (DotDims.rhsIdx_val_of_single ⟨[0], [0], [1], [1], [], [], w⟩ rfl _ j).trans hk
  · rfl

/-- Rows by columns: `M×K` times `K×N`. -/
theorem nn (w : DotDims.WF ⟨2, ![M, K]⟩ ⟨2, ![K, N]⟩ ⟨2, ![M, N]⟩ [1] [0] [0] [1] [] []) (x : FVec Ideal ⟨2, ![M, K]⟩ φ₁)
    (y : FVec Ideal ⟨2, ![K, N]⟩ φ₂) (p : Fin M) (q : Fin N) :
    (matmul ⟨[1], [0], [0], [1], [], [], w⟩ none x y (constant ⟨2, ![M, N]⟩ .f32 0x00000000#32) (ValueIdx.ix2 p q) : EReal)
      = ∑ k : Fin K, (x (ValueIdx.ix2 p k) : EReal) * (y (ValueIdx.ix2 k q) : EReal) := by
  refine mat_apply _ K rfl rfl x y _ (fun k => ValueIdx.ix2 p k) (fun k => ValueIdx.ix2 k q) (fun j k hk => eq_ix2_of _ _ _ ?_ ?_)
    (fun j k hk => eq_ix2_of _ _ _ ?_ ?_)
  · rfl
  · exact (DotDims.lhsIdx_val_of_single ⟨[1], [0], [0], [1], [], [], w⟩ rfl _ j).trans hk
  · exact (DotDims.rhsIdx_val_of_single ⟨[1], [0], [0], [1], [], [], w⟩ rfl _ j).trans hk
  · rfl

end Cert.Mlp

end
-- ==== Proof.Mlp.Du.lean ====
module

public import proofs.«01_k».proof.Proof.Mlp.Dots
public import proofs.«01_k».proof.Proof.Gen.Kernel2Ideal.Frame
public import proofs.«01_k».proof.Proof.Gen.Reference2Ideal.Read
public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Claim

/-! The gradient of the squared-ReLU layer's first product: what each grid point writes is its block of the reference's result. -/

@[expose] public section

set_option maxRecDepth 16384

noncomputable section

namespace Cert.Mlp.Du

open Idealize.SL.Sem Idealize.ShloMosaic Idealize.ShloMosaic.TcCoe Cert.Kernel2Ideal Cert.Kernel2Ideal.Gen

/-- The entry of the product of one row with another. -/
theorem dot (x : FVec Ideal S2048x1024 .bf16) (y : FVec Ideal S512x1024 .bf16) (i : S2048x512.Idx) :
    (matmul dot_S2048x1024_S512x1024_S2048x512_1_1_0_0_n_n none x y (constant S2048x512 .f32 0x00000000#32) i : EReal)
      = ∑ k : Fin 1024, (x (ValueIdx.ix2 (i 0) k) : EReal) * (y (ValueIdx.ix2 (i 1) k) : EReal) := by
  refine mat_apply _ 1024 rfl rfl x y i (fun k => ValueIdx.ix2 (i 0) k) (fun k => ValueIdx.ix2 (i 1) k) (fun q k hk => ?_) (fun q k hk => ?_)
  · funext a
    refine Fin.ext ?_
    match a with
    | ⟨0, _⟩ =>
      show (dot_S2048x1024_S512x1024_S2048x512_1_1_0_0_n_n.lhsIdx i q 0).val = (i 0).val
      unfold DotDims.lhsIdx
      rw [dif_neg (by decide), dif_pos (by decide)]
      rfl
    | ⟨1, _⟩ => exact (dot_S2048x1024_S512x1024_S2048x512_1_1_0_0_n_n.lhsIdx_val_of_single rfl i q).trans hk
  · funext a
    refine Fin.ext ?_
    match a with
    | ⟨0, _⟩ =>
      show (dot_S2048x1024_S512x1024_S2048x512_1_1_0_0_n_n.rhsIdx i q 0).val = (i 1).val
      unfold DotDims.rhsIdx
      rw [dif_neg (by decide), dif_pos (by decide)]
      rfl
    | ⟨1, _⟩ => exact (dot_S2048x1024_S512x1024_S2048x512_1_1_0_0_n_n.rhsIdx_val_of_single rfl i q).trans hk

/-- The body's result at one entry of its block. -/
theorem pay (x : Vec Ideal S2048x1024 .bf16) (y : Vec Ideal S512x1024 .bf16) (u : Vec Ideal S2048x512 .f32) (i : S2048x512.Idx) :
    (k0_pay1 (F := Ideal) x y u i : EReal) = (∑ k : Fin 1024, (x (ValueIdx.ix2 (i 0) k) : EReal) * (y (ValueIdx.ix2 (i 1) k) : EReal))
      * (Ideal.ofBits .f32 0x40000000#32 * max (u i : EReal) (Ideal.ofBits .f32 0x00000000#32)) := by
  rw [← dot]
  rfl

/-- The reference's result at one entry. -/
theorem ref (x0 : (⟨S2048x1024, .bf16⟩ : BufTy).Contents (Elt Ideal)) (x1 : (⟨S4096x1024, .bf16⟩ : BufTy).Contents (Elt Ideal))
    (x2 : (⟨S2048x4096, .f32⟩ : BufTy).Contents (Elt Ideal)) (i : S2048x4096.Idx) :
    (Cert.Reference2Ideal.Read.val_main_v14 (F := Ideal) x0 x1 x2 i : EReal)
      = (∑ k : Fin 1024, (x0 (ValueIdx.ix2 (i 0) k) : EReal) * (x1 (ValueIdx.ix2 (i 1) k) : EReal))
        * (Ideal.ofBits .f32 0x40000000#32 * max (x2 i : EReal) (Ideal.ofBits .f32 0x00000000#32)) := by
  have e : (Cert.Reference2Ideal.Read.val_main_v10 (F := Ideal) x0 x1 i : EReal)
      = ∑ k : Fin 1024, (x0 (ValueIdx.ix2 (i 0) k) : EReal) * (x1 (ValueIdx.ix2 (i 1) k) : EReal) := by
    rw [Cert.Reference2Ideal.Read.val_main_v10_apply]
    refine Finset.sum_congr rfl fun k _ => ?_
    refine congrArg₂ (· * ·) (congrArg x0 ?_) (congrArg x1 ?_) <;> (funext a; match a with | ⟨0, _⟩ => rfl | ⟨1, _⟩ => rfl)
  have z : Ideal.ofBits .f32 0x00000000#32 = 0 := by simp [Ideal.ofBits, Ideal.ieee]
  have h : (Cert.Reference2Ideal.Read.val_main_v14 (F := Ideal) x0 x1 x2 i : EReal)
      = if Ideal.cmp .ogt (x2 i) (Ideal.ofBits .f32 0x00000000#32) = 1#1 then
          (Cert.Reference2Ideal.Read.val_main_v10 (F := Ideal) x0 x1 i : EReal)
            * (Ideal.ofBits .f32 0x40000000#32 * max (x2 i : EReal) (Ideal.ofBits .f32 0x00000000#32))
        else Ideal.ofBits .f32 0x00000000#32 := by
    rw [Cert.Reference2Ideal.Read.val_main_v14_apply, Cert.Reference2Ideal.Read.val_main_v13_apply]
    rw [Cert.Reference2Ideal.Read.val_main_v2_apply, Cert.Reference2Ideal.Read.val_main_v11_apply, Cert.Reference2Ideal.Read.val_main_v6_apply,
      Cert.Reference2Ideal.Read.val_main_v0_apply, Cert.Reference2Ideal.Read.val_main_v1_apply, Cert.Reference2Ideal.Read.val_main_v5_apply,
      Cert.Reference2Ideal.Read.val_main_v12_apply, Cert.Reference2Ideal.Read.val_main_call0_v0_apply]
    rfl
  rw [h, e, z]
  unfold Ideal.cmp
  by_cases c : (0 : EReal) < x2 i
  · simp [c]
  · rw [max_eq_right (not_lt.1 c)]
    simp [c]

variable (m : (ℓ : Loc nD τ sig) → Buf (Elt Ideal) ℓ) (c : Dev nD)

theorem idx : ∀ t : Fin cfg0.N,
    win0_0.index t = ![0, 0] ∧ win0_1.index t = ![t.val, 0] ∧ win0_2.index t = ![0, t.val] ∧ win0_3.index t = ![0, t.val] :=
  (by decide +kernel : ∀ t : Fin grid0.N, _)

theorem blk0 (t : Fin cfg0.N) (ρ : Fin 2048) (k : Fin 1024) :
    iblk m c 0 t (ValueIdx.ix2 ρ k) = m ((c : Thread nD τ).loc main_arg0) (ValueIdx.ix2 ρ k) := by
  have e := (idx t).1
  blk_ext [iblk, V, e]

theorem blk1 (t : Fin cfg0.N) (j : Fin 512) (k : Fin 1024) (h : t.val * 512 + j.val < 4096) :
    iblk m c 1 t (ValueIdx.ix2 j k) = m ((c : Thread nD τ).loc main_arg1) (ValueIdx.ix2 ⟨t.val * 512 + j.val, h⟩ k) := by
  have e := (idx t).2.1
  blk_ext [iblk, V, e]

theorem blk2 (t : Fin cfg0.N) (ρ : Fin 2048) (j : Fin 512) (h : t.val * 512 + j.val < 4096) :
    iblk m c 2 t (ValueIdx.ix2 ρ j) = m ((c : Thread nD τ).loc main_arg2) (ValueIdx.ix2 ρ ⟨t.val * 512 + j.val, h⟩) := by
  have e := (idx t).2.2.1
  blk_ext [iblk, V, e]

/-- What point `t` leaves in its block: the reference's entries there. -/
theorem point (t : Fin cfg0.N) (ρ : Fin 2048) (j : Fin 512) (h : t.val * 512 + j.val < 4096) :
    out0_3 (iblk m c 0 t) (iblk m c 1 t) (iblk m c 2 t) (ValueIdx.ix2 ρ j)
      = Cert.Reference2Ideal.Read.val_main_v14 (F := Ideal) (m ((c : Thread nD τ).loc main_arg0)) (m ((c : Thread nD τ).loc main_arg1))
          (m ((c : Thread nD τ).loc main_arg2)) (ValueIdx.ix2 ρ ⟨t.val * 512 + j.val, h⟩) := by
  unfold out0_3
  frame_out
  refine (pay _ _ _ _).trans ((ref _ _ _ _).trans ?_).symm
  refine congrArg₂ (· * ·) (Finset.sum_congr rfl fun k _ => ?_) ?_
  · exact congrArg₂ (· * ·) (blk0 m c t ρ k).symm (blk1 m c t j k h).symm
  · rw [blk2 m c t ρ j h]

/-- The array after the run is the reference's result. -/
theorem final : (dats m 0 c).arrAt 3 cfg0.N
    = Cert.Reference2Ideal.Read.val_main_v14 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  have e := (idx t).2.2.2
  blk_simp [e]
  rw [after0_3]
  have h0 : (y 0).val < 2048 := (y 0).isLt
  have h1 : (y 1).val < 512 := (y 1).isLt
  have ht : t.val < 8 := t.isLt
  have q : (win0_3.blk t).view.emb y = ValueIdx.ix2 (⟨(y 0).val, h0⟩ : Fin 2048) ⟨t.val * 512 + (y 1).val, by omega⟩ := by
    funext a
    refine Fin.ext ?_
    match a with
    | ⟨0, _⟩ =>
      show win0_3.index t 0 * 2048 + 1 * (y 0).val = (y 0).val
      rw [e]
      simp
    | ⟨1, _⟩ =>
      show win0_3.index t 1 * 512 + 1 * (y 1).val = t.val * 512 + (y 1).val
      rw [e]
      simp
  rw [q, ← point m c t ⟨(y 0).val, h0⟩ ⟨(y 1).val, h1⟩ (by show t.val * 512 + (y 1).val < 4096; omega)]
  refine congrArg _ ?_
  funext a
  match a with
  | ⟨0, _⟩ => rfl
  | ⟨1, _⟩ => rfl

/-- The kernel and the reference leave the same arrays. -/
theorem algebraic : Cert.algebraic_Kernel2Ideal_Reference2Ideal := by
  pair_intro
  · run_from Cert.Kernel2Ideal.Value.run_blocks m g
  · refine θ_run_mono (Cert.Reference2Ideal.Value.run m' g') ?_
    intro r hr c
    obtain ⟨h0, ha⟩ := hr c
    refine ⟨h0.trans ?_, ha⟩
    obtain ⟨e0, e1, e2⟩ := hagree c
    refine (Cert.Reference2Ideal.Read.val_main_v14_eq _ _ _).trans ?_
    rw [e0, e1, e2]
    exact (final m c).symm

end Cert.Mlp.Du

end
-- ==== Proof.Mlp.DwDown.lean ====
module

public import proofs.«01_k».proof.Defs
public import proofs.«01_k».proof.Proof.Mlp.Dots
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Claim

/-! The gradient of the second product's weights: what each grid point writes is its block of the reference's result. -/

@[expose] public section

set_option maxRecDepth 16384

noncomputable section

namespace Cert.Mlp.DwDown

open Idealize.SL.Sem Idealize.ShloMosaic Idealize.ShloMosaic.TcCoe Cert.Kernel3Ideal Cert.Kernel3Ideal.Gen

/-- The entry of the product of two columns. -/
theorem dot (x : FVec Ideal S2048x1024 .bf16) (y : FVec Ideal S2048x1024 .bf16) (i : S1024x1024.Idx) :
    (matmul dot_S2048x1024_S2048x1024_S1024x1024_0_0_1_1_n_n none x y (constant S1024x1024 .f32 0x00000000#32) i : EReal)
      = ∑ k : Fin 2048, (x (ValueIdx.ix2 k (i 0)) : EReal) * (y (ValueIdx.ix2 k (i 1)) : EReal) := by
  refine mat_apply _ 2048 rfl rfl x y i (fun k => ValueIdx.ix2 k (i 0)) (fun k => ValueIdx.ix2 k (i 1)) (fun q k hk => ?_) (fun q k hk => ?_)
  · funext a
    refine Fin.ext ?_
    match a with
    | ⟨0, _⟩ => exact (dot_S2048x1024_S2048x1024_S1024x1024_0_0_1_1_n_n.lhsIdx_val_of_single rfl i q).trans hk
    | ⟨1, _⟩ =>
      show (dot_S2048x1024_S2048x1024_S1024x1024_0_0_1_1_n_n.lhsIdx i q 1).val = (i 0).val
      unfold DotDims.lhsIdx
      rw [dif_neg (by decide), dif_pos (by decide)]
      rfl
  · funext a
    refine Fin.ext ?_
    match a with
    | ⟨0, _⟩ => exact (dot_S2048x1024_S2048x1024_S1024x1024_0_0_1_1_n_n.rhsIdx_val_of_single rfl i q).trans hk
    | ⟨1, _⟩ =>
      show (dot_S2048x1024_S2048x1024_S1024x1024_0_0_1_1_n_n.rhsIdx i q 1).val = (i 1).val
      unfold DotDims.rhsIdx
      rw [dif_neg (by decide), dif_pos (by decide)]
      rfl

/-- The body's result at one entry of its block. -/
theorem pay (x y : Vec Ideal S2048x1024 .bf16) (z : Fin 1) (p q : Fin 1024) :
    (k0_pay1 (F := Ideal) x y (ValueIdx.ix3 z p q) : EReal)
      = ∑ k : Fin 2048, (x (ValueIdx.ix2 k p) : EReal) * (y (ValueIdx.ix2 k q) : EReal) := by
  refine Eq.trans ?_ (dot x y (ValueIdx.ix2 p q))
  unfold k0_pay1
  refine (shapeCast_addUnit_apply ![1024, 1024] _ _ _).trans ?_
  refine congrArg (matmul (F := Ideal) _ none x y (constant S1024x1024 .f32 0x00000000#32)) ?_
  funext a
  match a with
  | ⟨0, _⟩ => rfl
  | ⟨1, _⟩ => rfl

/-- The reference's result at one entry. -/
theorem ref (x0 : (⟨S2048x4096, .bf16⟩ : BufTy).Contents (Elt Ideal)) (x1 : (⟨S2048x1024, .bf16⟩ : BufTy).Contents (Elt Ideal))
    (s : Fin 4) (p q : Fin 1024) (h : s.val * 1024 + p.val < 4096) :
    (Cert.Reference3Ideal.Read.val_main_v7 (F := Ideal) x0 x1 (ValueIdx.ix3 s p q) : EReal)
      = ∑ k : Fin 2048, (x0 (ValueIdx.ix2 k ⟨s.val * 1024 + p.val, h⟩) : EReal) * (x1 (ValueIdx.ix2 k q) : EReal) := by
  rw [Cert.Reference3Ideal.Read.val_main_v7_apply, Cert.Reference3Ideal.Read.val_main_v6_apply, Cert.Reference3Ideal.Read.val_main_v5_apply]
  refine Eq.trans (Cert.Reference3Ideal.Read.val_main_v4_apply x0 x1 (Cert.Reference3Ideal.Read.idx_main_v5 (Cert.Reference3Ideal.Read.idx_main_v6 (ValueIdx.ix3 s p q)))) ?_
  refine Finset.sum_congr rfl fun k _ => ?_
  have hs := s.isLt
  have hp := p.isLt
  have hq := q.isLt
  rw [mul_comm]
  refine congrArg₂ (fun a b : EReal => a * b) (congrArg x0 ?_) (congrArg x1 ?_)
  · funext a
    refine Fin.ext ?_
    match a with
    | ⟨0, _⟩ => rfl
    | ⟨1, _⟩ =>
      show (((s.val * 1024 + p.val) * 1024 + q.val) / 1024) = s.val * 1024 + p.val
      omega
  · funext a
    refine Fin.ext ?_
    match a with
    | ⟨0, _⟩ => rfl
    | ⟨1, _⟩ =>
      show (((s.val * 1024 + p.val) * 1024 + q.val) % 1024) = q.val
      omega

variable (m : (ℓ : Loc nD τ sig) → Buf (Elt Ideal) ℓ) (c : Dev nD)

theorem idx : ∀ t : Fin cfg0.N,
    win0_0.index t = ![0, t.val] ∧ win0_1.index t = ![0, 0] ∧ win0_2.index t = ![t.val, 0, 0] :=
  (by decide +kernel : ∀ t : Fin grid0.N, _)

theorem blk0 (t : Fin cfg0.N) (k : Fin 2048) (p : Fin 1024) (h : t.val * 1024 + p.val < 4096) :
    iblk m c 0 t (ValueIdx.ix2 k p) = m ((c : Thread nD τ).loc main_arg0) (ValueIdx.ix2 k ⟨t.val * 1024 + p.val, h⟩) := by
  have e := (idx t).1
  blk_ext [iblk, V, e]

theorem blk1 (t : Fin cfg0.N) (k : Fin 2048) (q : Fin 1024) :
    iblk m c 1 t (ValueIdx.ix2 k q) = m ((c : Thread nD τ).loc main_arg1) (ValueIdx.ix2 k q) := by
  have e := (idx t).2.1
  blk_ext [iblk, V, e]

/-- What point `t` leaves in its block: the reference's entries there. -/
theorem point (t : Fin cfg0.N) (z : Fin 1) (p q : Fin 1024) (ht : t.val < 4) :
    out0_2 (iblk m c 0 t) (iblk m c 1 t) (ValueIdx.ix3 z p q)
      = Cert.Reference3Ideal.Read.val_main_v7 (F := Ideal) (m ((c : Thread nD τ).loc main_arg0)) (m ((c : Thread nD τ).loc main_arg1))
          (ValueIdx.ix3 ⟨t.val, ht⟩ p q) := by
  have hp := p.isLt
  unfold out0_2
  frame_out
  refine (pay _ _ _ _ _).trans ((ref _ _ _ _ _ (by show t.val * 1024 + p.val < 4096; omega)).trans ?_).symm
  refine Finset.sum_congr rfl fun k _ => ?_
  exact congrArg₂ (fun a b : EReal => a * b) (blk0 m c t k p (by omega)).symm (blk1 m c t k q).symm

/-- The array after the run is the reference's result. -/
theorem final : (dats m 0 c).arrAt 2 cfg0.N
    = Cert.Reference3Ideal.Read.val_main_v7 (F := Ideal) (m ((c : Thread nD τ).loc main_arg0)) (m ((c : Thread nD τ).loc main_arg1)) := by
  refine (dats m 0 c).arrAt_eq_of_covers 2 _ (by decide +kernel) fun t _ y => ?_
  have e := (idx t).2.2
  blk_simp [e]
  rw [after0_2]
  have h0 : (y 0).val < 1 := (y 0).isLt
  have h1 : (y 1).val < 1024 := (y 1).isLt
  have h2 : (y 2).val < 1024 := (y 2).isLt
  have ht : t.val < 4 := t.isLt
  have q : (win0_2.blk t).view.emb y = ValueIdx.ix3 (⟨t.val, ht⟩ : Fin 4) (⟨(y 1).val, h1⟩ : Fin 1024) (⟨(y 2).val, h2⟩ : Fin 1024) := by
    funext a
    refine Fin.ext ?_
    match a with
    | ⟨0, _⟩ =>
      show win0_2.index t 0 * 1 + 1 * (y 0).val = t.val
      rw [e]
      simp
    | ⟨1, _⟩ =>
      show win0_2.index t 1 * 1024 + 1 * (y 1).val = (y 1).val
      rw [e]
      simp
    | ⟨2, _⟩ =>
      show win0_2.index t 2 * 1024 + 1 * (y 2).val = (y 2).val
      rw [e]
      simp
  rw [q]
  refine Eq.trans (congrArg _ ?_) (point m c t ⟨(y 0).val, h0⟩ ⟨(y 1).val, h1⟩ ⟨(y 2).val, h2⟩ ht)
  funext a
  match a with
  | ⟨0, _⟩ => rfl
  | ⟨1, _⟩ => rfl
  | ⟨2, _⟩ => rfl

/-- The kernel and the reference leave the same arrays. -/
theorem algebraic : Cert.algebraic_Kernel3Ideal_Reference3Ideal := by
  pair_intro
  · run_from Cert.Kernel3Ideal.Value.run_blocks m g
  · refine θ_run_mono (Cert.Reference3Ideal.Value.run m' g') ?_
    intro r hr c
    obtain ⟨h0, ha⟩ := hr c
    refine ⟨h0.trans ?_, ha⟩
    obtain ⟨e0, e1⟩ := hagree c
    refine (Cert.Reference3Ideal.Read.val_main_v7_eq _ _).trans ?_
    rw [e0, e1]
    exact (final m c).symm

end Cert.Mlp.DwDown

end
-- ==== Proof.Mlp.DwUp.lean ====
module

public import proofs.«01_k».proof.Defs
public import proofs.«01_k».proof.Proof.Mlp.Dots
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Claim

/-! The gradient of the first product's weights: what each grid point writes is its block of the reference's result. -/

@[expose] public section

set_option maxRecDepth 16384

noncomputable section

namespace Cert.Mlp.DwUp

open Idealize.SL.Sem Idealize.ShloMosaic Idealize.ShloMosaic.TcCoe Cert.Kernel4Ideal Cert.Kernel4Ideal.Gen

/-- The entry of the product of two columns. -/
theorem dot (x : FVec Ideal S2048x1024 .bf16) (y : FVec Ideal S2048x512 .bf16) (i : S1024x512.Idx) :
    (matmul dot_S2048x1024_S2048x512_S1024x512_0_0_1_1_n_n none x y (constant S1024x512 .f32 0x00000000#32) i : EReal)
      = ∑ k : Fin 2048, (x (ValueIdx.ix2 k (i 0)) : EReal) * (y (ValueIdx.ix2 k (i 1)) : EReal) := by
  refine mat_apply _ 2048 rfl rfl x y i (fun k => ValueIdx.ix2 k (i 0)) (fun k => ValueIdx.ix2 k (i 1)) (fun q k hk => ?_) (fun q k hk => ?_)
  · funext a
    refine Fin.ext ?_
    match a with
    | ⟨0, _⟩ => exact (dot_S2048x1024_S2048x512_S1024x512_0_0_1_1_n_n.lhsIdx_val_of_single rfl i q).trans hk
    | ⟨1, _⟩ =>
      show (dot_S2048x1024_S2048x512_S1024x512_0_0_1_1_n_n.lhsIdx i q 1).val = (i 0).val
      unfold DotDims.lhsIdx
      rw [dif_neg (by decide), dif_pos (by decide)]
      rfl
  · funext a
    refine Fin.ext ?_
    match a with
    | ⟨0, _⟩ => exact (dot_S2048x1024_S2048x512_S1024x512_0_0_1_1_n_n.rhsIdx_val_of_single rfl i q).trans hk
    | ⟨1, _⟩ =>
      show (dot_S2048x1024_S2048x512_S1024x512_0_0_1_1_n_n.rhsIdx i q 1).val = (i 1).val
      unfold DotDims.rhsIdx
      rw [dif_neg (by decide), dif_pos (by decide)]
      rfl

/-- The body's result at one entry of its block. -/
theorem pay (x : Vec Ideal S2048x1024 .bf16) (y : Vec Ideal S2048x512 .bf16) (z : Fin 1) (p : Fin 1024) (q : Fin 512) :
    (k0_pay1 (F := Ideal) x y (ValueIdx.ix3 z p q) : EReal)
      = ∑ k : Fin 2048, (x (ValueIdx.ix2 k p) : EReal) * (y (ValueIdx.ix2 k q) : EReal) := by
  refine Eq.trans ?_ (dot x y (ValueIdx.ix2 p q))
  unfold k0_pay1
  refine (shapeCast_addUnit_apply ![1024, 512] _ _ _).trans ?_
  refine congrArg (matmul (F := Ideal) _ none x y (constant S1024x512 .f32 0x00000000#32)) ?_
  funext a
  match a with
  | ⟨0, _⟩ => rfl
  | ⟨1, _⟩ => rfl

/-- The reference's result at one entry. -/
theorem ref (x0 : (⟨S2048x1024, .bf16⟩ : BufTy).Contents (Elt Ideal)) (x1 : (⟨S2048x4096, .bf16⟩ : BufTy).Contents (Elt Ideal))
    (s : Fin 4) (p q : Fin 1024) (h : s.val * 1024 + q.val < 4096) :
    (Cert.Reference4Ideal.Read.val_main_v8 (F := Ideal) x0 x1 (ValueIdx.ix3 s p q) : EReal)
      = ∑ k : Fin 2048, (x0 (ValueIdx.ix2 k p) : EReal) * (x1 (ValueIdx.ix2 k ⟨s.val * 1024 + q.val, h⟩) : EReal) := by
  rw [Cert.Reference4Ideal.Read.val_main_v8_apply, Cert.Reference4Ideal.Read.val_main_v7_apply, Cert.Reference4Ideal.Read.val_main_v6_apply, Cert.Reference4Ideal.Read.val_main_v5_apply]
  refine Eq.trans (Cert.Reference4Ideal.Read.val_main_v4_apply x0 x1 (Cert.Reference4Ideal.Read.idx_main_v5 (Cert.Reference4Ideal.Read.idx_main_v6 (Cert.Reference4Ideal.Read.idx_main_v7 (ValueIdx.ix3 s p q))))) ?_
  refine Finset.sum_congr rfl fun k _ => ?_
  have hs := s.isLt
  have hp := p.isLt
  have hq := q.isLt
  rw [mul_comm]
  refine congrArg₂ (fun a b : EReal => a * b) (congrArg x0 ?_) (congrArg x1 ?_)
  · funext a
    refine Fin.ext ?_
    match a with
    | ⟨0, _⟩ => rfl
    | ⟨1, _⟩ =>
      show (((p.val * 4 + s.val) * 1024 + q.val) / 4096) = p.val
      omega
  · funext a
    refine Fin.ext ?_
    match a with
    | ⟨0, _⟩ => rfl
    | ⟨1, _⟩ =>
      show (((p.val * 4 + s.val) * 1024 + q.val) % 4096) = s.val * 1024 + q.val
      omega

variable (m : (ℓ : Loc nD τ sig) → Buf (Elt Ideal) ℓ) (c : Dev nD)

theorem idx : ∀ t : Fin cfg0.N,
    win0_0.index t = ![0, 0] ∧ win0_1.index t = ![0, t.val] ∧ win0_2.index t = ![t.val / 2, 0, t.val % 2] :=
  (by decide +kernel : ∀ t : Fin grid0.N, _)

theorem blk0 (t : Fin cfg0.N) (k : Fin 2048) (p : Fin 1024) :
    iblk m c 0 t (ValueIdx.ix2 k p) = m ((c : Thread nD τ).loc main_arg0) (ValueIdx.ix2 k p) := by
  have e := (idx t).1
  blk_ext [iblk, V, e]

theorem blk1 (t : Fin cfg0.N) (k : Fin 2048) (q : Fin 512) (h : t.val * 512 + q.val < 4096) :
    iblk m c 1 t (ValueIdx.ix2 k q) = m ((c : Thread nD τ).loc main_arg1) (ValueIdx.ix2 k ⟨t.val * 512 + q.val, h⟩) := by
  have e := (idx t).2.1
  blk_ext [iblk, V, e]

/-- What point `t` leaves in its block: the reference's entries there. -/
theorem point (t : Fin cfg0.N) (z : Fin 1) (p : Fin 1024) (q : Fin 512) (ht : t.val / 2 < 4) (hq : t.val % 2 * 512 + q.val < 1024) :
    out0_2 (iblk m c 0 t) (iblk m c 1 t) (ValueIdx.ix3 z p q)
      = Cert.Reference4Ideal.Read.val_main_v8 (F := Ideal) (m ((c : Thread nD τ).loc main_arg0)) (m ((c : Thread nD τ).loc main_arg1))
          (ValueIdx.ix3 ⟨t.val / 2, ht⟩ p ⟨t.val % 2 * 512 + q.val, hq⟩) := by
  have h : t.val / 2 * 1024 + (t.val % 2 * 512 + q.val) < 4096 := by omega
  unfold out0_2
  frame_out
  refine (pay _ _ _ _ _).trans ((ref _ _ ⟨t.val / 2, ht⟩ p ⟨t.val % 2 * 512 + q.val, hq⟩ h).trans ?_).symm
  refine Finset.sum_congr rfl fun k _ => ?_
  refine congrArg₂ (fun a b : EReal => a * b) (blk0 m c t k p).symm (Eq.trans (congrArg _ ?_) (blk1 m c t k q (by omega)).symm)
  refine congrArg (ValueIdx.ix2 k) (Fin.ext ?_)
  show t.val / 2 * 1024 + (t.val % 2 * 512 + q.val) = t.val * 512 + q.val
  omega

/-- The array after the run is the reference's result. -/
theorem final : (dats m 0 c).arrAt 2 cfg0.N
    = Cert.Reference4Ideal.Read.val_main_v8 (F := Ideal) (m ((c : Thread nD τ).loc main_arg0)) (m ((c : Thread nD τ).loc main_arg1)) := by
  refine (dats m 0 c).arrAt_eq_of_covers 2 _ (by decide +kernel) fun t _ y => ?_
  have e := (idx t).2.2
  blk_simp [e]
  rw [after0_2]
  have h0 : (y 0).val < 1 := (y 0).isLt
  have h1 : (y 1).val < 1024 := (y 1).isLt
  have h2 : (y 2).val < 512 := (y 2).isLt
  have ht : t.val < 8 := t.isLt
  have q : (win0_2.blk t).view.emb y = ValueIdx.ix3 (⟨t.val / 2, by omega⟩ : Fin 4) (⟨(y 1).val, h1⟩ : Fin 1024) (⟨t.val % 2 * 512 + (y 2).val, by omega⟩ : Fin 1024) := by
    funext a
    refine Fin.ext ?_
    match a with
    | ⟨0, _⟩ =>
      show win0_2.index t 0 * 1 + 1 * (y 0).val = t.val / 2
      rw [e]
      simp
    | ⟨1, _⟩ =>
      show win0_2.index t 1 * 1024 + 1 * (y 1).val = (y 1).val
      rw [e]
      simp
    | ⟨2, _⟩ =>
      show win0_2.index t 2 * 512 + 1 * (y 2).val = t.val % 2 * 512 + (y 2).val
      rw [e]
      simp
  rw [q]
  refine Eq.trans (congrArg _ ?_) (point m c t ⟨(y 0).val, h0⟩ ⟨(y 1).val, h1⟩ ⟨(y 2).val, h2⟩ (by omega) (by show t.val % 2 * 512 + (y 2).val < 1024; omega))
  funext a
  match a with
  | ⟨0, _⟩ => rfl
  | ⟨1, _⟩ => rfl
  | ⟨2, _⟩ => rfl

/-- The kernel and the reference leave the same arrays. -/
theorem algebraic : Cert.algebraic_Kernel4Ideal_Reference4Ideal := by
  pair_intro
  · run_from Cert.Kernel4Ideal.Value.run_blocks m g
  · refine θ_run_mono (Cert.Reference4Ideal.Value.run m' g') ?_
    intro r hr c
    obtain ⟨h0, ha⟩ := hr c
    refine ⟨h0.trans ?_, ha⟩
    obtain ⟨e0, e1⟩ := hagree c
    refine (Cert.Reference4Ideal.Read.val_main_v8_eq _ _).trans ?_
    rw [e0, e1]
    exact (final m c).symm

end Cert.Mlp.DwUp

end
-- ==== Proof.Mlp.Up.lean ====
module

public import proofs.«01_k».proof.Defs
public import proofs.«01_k».proof.Proof.Mlp.Dots
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Claim

/-! The squared-ReLU layer's first product and its squared ReLU. -/

@[expose] public section

set_option maxRecDepth 16384

noncomputable section

namespace Cert.Mlp.Up

open Idealize.SL.Sem Idealize.ShloMosaic Idealize.ShloMosaic.TcCoe Cert.Kernel5Ideal Cert.Kernel5Ideal.Gen

/-- The product at one entry of its block. -/
theorem pay (x : Vec Ideal S2048x1024 .bf16) (y : Vec Ideal S1x1024x512 .bf16) (p : Fin 2048) (q : Fin 512) :
    (k0_pay1 (F := Ideal) x y (ValueIdx.ix2 p q) : EReal)
      = ∑ k : Fin 1024, (x (ValueIdx.ix2 p k) : EReal) * (y (ValueIdx.ix3 (0 : Fin 1) k q) : EReal) := by
  refine (nn (φ₁ := .bf16) (φ₂ := .bf16) _ x (shapeCast S1024x512 y shapeCasts_S1x1024x512_S1024x512) p q).trans ?_
  refine Finset.sum_congr rfl fun k _ => congrArg (fun b : EReal => (x (ValueIdx.ix2 p k) : EReal) * b) ?_
  exact (shapeCast_dropUnit_apply ![1024, 512] y _ _).trans (congrArg y (eq_ix3_of _ _ _ _ rfl rfl rfl))

/-- The squared ReLU of the product at one entry of its block. -/
theorem pay2 (x : Vec Ideal S2048x1024 .bf16) (y : Vec Ideal S1x1024x512 .bf16) (i : S2048x512.Idx) :
    (k0_pay2 (F := Ideal) x y i : EReal) = max (k0_pay1 (F := Ideal) x y i : EReal) (Ideal.ofBits .f32 0x00000000#32)
      * max (k0_pay1 (F := Ideal) x y i : EReal) (Ideal.ofBits .f32 0x00000000#32) := rfl

variable (x0 : (⟨S2048x1024, .bf16⟩ : BufTy).Contents (Elt Ideal)) (x1 : (⟨S4x1024x1024, .bf16⟩ : BufTy).Contents (Elt Ideal))

/-- The reference's product at one entry: the weights are read part by part. -/
theorem ref (p : Fin 2048) (s : Fin 4) (q : Fin 1024) (c : Fin 4096) (h : c.val = s.val * 1024 + q.val) :
    (Cert.Reference5Ideal.Read.val_main_v4 (F := Ideal) x0 x1 (ValueIdx.ix2 p c) : EReal)
      = ∑ k : Fin 1024, (x0 (ValueIdx.ix2 p k) : EReal) * (x1 (ValueIdx.ix3 s k q) : EReal) := by
  refine Eq.trans (Cert.Reference5Ideal.Read.val_main_v4_apply x0 x1 _) ?_
  refine Finset.sum_congr rfl fun k _ => ?_
  rw [Cert.Reference5Ideal.Read.val_main_v3_apply, Cert.Reference5Ideal.Read.val_main_v2_apply]
  have hk := k.isLt
  have hq := q.isLt
  have hs := s.isLt
  refine congrArg₂ (fun a b : EReal => a * b) (congrArg x0 (eq_ix2_of _ _ _ rfl rfl)) (congrArg x1 (eq_ix3_of _ _ _ _ ?_ ?_ ?_))
  · show (k.val * 4096 + c.val) / 1024 % 4 = s.val
    omega
  · show (k.val * 4096 + c.val) / 4096 = k.val
    omega
  · show (k.val * 4096 + c.val) % 1024 = q.val
    omega

/-- The reference's squared ReLU at one entry. -/
theorem ref2 (i : S2048x4096.Idx) : (Cert.Reference5Ideal.Read.val_main_v7 (F := Ideal) x0 x1 i : EReal)
    = max (Cert.Reference5Ideal.Read.val_main_v4 (F := Ideal) x0 x1 i : EReal) (Ideal.ofBits .f32 0x00000000#32)
      * max (Cert.Reference5Ideal.Read.val_main_v4 (F := Ideal) x0 x1 i : EReal) (Ideal.ofBits .f32 0x00000000#32) := by
  rw [Cert.Reference5Ideal.Read.val_main_v7_apply, Cert.Reference5Ideal.Read.val_main_v6_apply, Cert.Reference5Ideal.Read.val_main_v5_apply,
    Cert.Reference5Ideal.Read.val_main_call0_v0_apply]
  rfl

variable (m : (ℓ : Loc nD τ sig) → Buf (Elt Ideal) ℓ) (c : Dev nD)

theorem idx : ∀ t : Fin cfg0.N, win0_0.index t = ![0, 0] ∧ win0_1.index t = ![t.val / 2, 0, t.val % 2] ∧ win0_2.index t = ![0, t.val]
    ∧ win0_3.index t = ![0, t.val] :=
  (by decide +kernel : ∀ t : Fin grid0.N, _)

theorem blk0 (t : Fin cfg0.N) (p : Fin 2048) (q : Fin 1024) :
    iblk m c 0 t (ValueIdx.ix2 p q) = m ((c : Thread nD τ).loc main_arg0) (ValueIdx.ix2 p q) := by
  have e := (idx t).1
  blk_ext [iblk, V, e]

theorem blk1 (t : Fin cfg0.N) (z : Fin 1) (k : Fin 1024) (q : Fin 512) (h0 : t.val / 2 < 4) (h : t.val % 2 * 512 + q.val < 1024) :
    iblk m c 1 t (ValueIdx.ix3 z k q) = m ((c : Thread nD τ).loc main_arg1) (ValueIdx.ix3 ⟨t.val / 2, h0⟩ k ⟨t.val % 2 * 512 + q.val, h⟩) := by
  have e := (idx t).2.1
  blk_ext [iblk, V, e]

/-- The product at one entry of point `t`'s block: the reference's there. -/
theorem prod (t : Fin cfg0.N) (p : Fin 2048) (q : Fin 512) (ht : t.val < 8) (h : t.val * 512 + q.val < 4096) :
    (k0_pay1 (F := Ideal) (iblk m c 0 t) (iblk m c 1 t) (ValueIdx.ix2 p q) : EReal)
      = Cert.Reference5Ideal.Read.val_main_v4 (F := Ideal) (m ((c : Thread nD τ).loc main_arg0)) (m ((c : Thread nD τ).loc main_arg1))
          (ValueIdx.ix2 p ⟨t.val * 512 + q.val, h⟩) := by
  have hq := q.isLt
  have h0 : t.val / 2 < 4 := by omega
  have h1 : t.val % 2 * 512 + q.val < 1024 := by omega
  refine (pay _ _ _ _).trans ((ref _ _ p ⟨t.val / 2, h0⟩ ⟨t.val % 2 * 512 + q.val, h1⟩ _ ?_).trans ?_).symm
  · show t.val * 512 + q.val = t.val / 2 * 1024 + (t.val % 2 * 512 + q.val)
    omega
  refine Finset.sum_congr rfl fun k _ => ?_
  exact congrArg₂ (fun a b : EReal => a * b) (blk0 m c t p k).symm (blk1 m c t 0 k q h0 h1).symm

theorem point2 (t : Fin cfg0.N) (p : Fin 2048) (q : Fin 512) (ht : t.val < 8) (h : t.val * 512 + q.val < 4096) :
    out0_2 (iblk m c 0 t) (iblk m c 1 t) (ValueIdx.ix2 p q)
      = Cert.Reference5Ideal.Read.val_main_v4 (F := Ideal) (m ((c : Thread nD τ).loc main_arg0)) (m ((c : Thread nD τ).loc main_arg1))
          (ValueIdx.ix2 p ⟨t.val * 512 + q.val, h⟩) := by
  unfold out0_2
  frame_out
  exact prod m c t p q ht h

theorem point3 (t : Fin cfg0.N) (p : Fin 2048) (q : Fin 512) (ht : t.val < 8) (h : t.val * 512 + q.val < 4096) :
    out0_3 (iblk m c 0 t) (iblk m c 1 t) (ValueIdx.ix2 p q)
      = Cert.Reference5Ideal.Read.val_main_v7 (F := Ideal) (m ((c : Thread nD τ).loc main_arg0)) (m ((c : Thread nD τ).loc main_arg1))
          (ValueIdx.ix2 p ⟨t.val * 512 + q.val, h⟩) := by
  unfold out0_3
  frame_out
  refine (pay2 _ _ _).trans (Eq.trans ?_ (ref2 _ _ _).symm)
  rw [prod m c t p q ht h]

/-- The array of products after the run is the reference's. -/
theorem final2 : (dats m 0 c).arrAt 2 cfg0.N
    = Cert.Reference5Ideal.Read.val_main_v4 (F := Ideal) (m ((c : Thread nD τ).loc main_arg0)) (m ((c : Thread nD τ).loc main_arg1)) := by
  refine (dats m 0 c).arrAt_eq_of_covers 2 _ (by decide +kernel) fun t _ y => ?_
  have e := (idx t).2.2.1
  blk_simp [e]
  rw [after0_2]
  have h0 : (y 0).val < 2048 := (y 0).isLt
  have h1 : (y 1).val < 512 := (y 1).isLt
  have ht : t.val < 8 := t.isLt
  have q : (win0_2.blk t).view.emb y = ValueIdx.ix2 (⟨(y 0).val, h0⟩ : Fin 2048) (⟨t.val * 512 + (y 1).val, by omega⟩ : Fin 4096) := by
    refine eq_ix2_of _ _ _ ?_ ?_
    · show win0_2.index t 0 * 2048 + 1 * (y 0).val = (y 0).val
      rw [e]
      simp
    · show win0_2.index t 1 * 512 + 1 * (y 1).val = t.val * 512 + (y 1).val
      rw [e]
      simp
  rw [q]
  exact (congrArg _ (eq_ix2_of y ⟨(y 0).val, h0⟩ ⟨(y 1).val, h1⟩ rfl rfl)).trans (point2 m c t ⟨(y 0).val, h0⟩ ⟨(y 1).val, h1⟩ ht _)

/-- The array of squared ReLUs after the run is the reference's. -/
theorem final3 : (dats m 0 c).arrAt 3 cfg0.N
    = Cert.Reference5Ideal.Read.val_main_v7 (F := Ideal) (m ((c : Thread nD τ).loc main_arg0)) (m ((c : Thread nD τ).loc main_arg1)) := by
  refine (dats m 0 c).arrAt_eq_of_covers 3 _ (by decide +kernel) fun t _ y => ?_
  have e := (idx t).2.2.2
  blk_simp [e]
  rw [after0_3]
  have h0 : (y 0).val < 2048 := (y 0).isLt
  have h1 : (y 1).val < 512 := (y 1).isLt
  have ht : t.val < 8 := t.isLt
  have q : (win0_3.blk t).view.emb y = ValueIdx.ix2 (⟨(y 0).val, h0⟩ : Fin 2048) (⟨t.val * 512 + (y 1).val, by omega⟩ : Fin 4096) := by
    refine eq_ix2_of _ _ _ ?_ ?_
    · show win0_3.index t 0 * 2048 + 1 * (y 0).val = (y 0).val
      rw [e]
      simp
    · show win0_3.index t 1 * 512 + 1 * (y 1).val = t.val * 512 + (y 1).val
      rw [e]
      simp
  rw [q]
  exact (congrArg _ (eq_ix2_of y ⟨(y 0).val, h0⟩ ⟨(y 1).val, h1⟩ rfl rfl)).trans (point3 m c t ⟨(y 0).val, h0⟩ ⟨(y 1).val, h1⟩ ht _)

/-- The kernel and the reference leave the same arrays. -/
theorem algebraic : Cert.algebraic_Kernel5Ideal_Reference5Ideal := by
  pair_intro
  · run_from Cert.Kernel5Ideal.Value.run_blocks m g
  · refine θ_run_mono (Cert.Reference5Ideal.Value.run m' g') ?_
    intro r hr c
    obtain ⟨h0, h1, ha⟩ := hr c
    obtain ⟨e0, e1⟩ := hagree c
    refine ⟨h0.trans ?_, h1.trans ?_, ha⟩
    · refine (Cert.Reference5Ideal.Read.val_main_v4_eq _ _).trans ?_
      rw [e0, e1]
      exact (final2 m c).symm
    · refine (Cert.Reference5Ideal.Read.val_main_v7_eq _ _).trans ?_
      rw [e0, e1]
      exact (final3 m c).symm

end Cert.Mlp.Up

end
-- ==== Proof.Mlp.ProjIn.lean ====
module

public import proofs.«01_k».proof.Defs
public import proofs.«01_k».proof.Proof.Mlp.Dots
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Claim

/-! The first projection of the attention with forget gates. -/

@[expose] public section

set_option maxRecDepth 16384

noncomputable section

namespace Cert.Mlp.ProjIn

open Idealize.SL.Sem Idealize.ShloMosaic Idealize.ShloMosaic.TcCoe Cert.Kernel6Ideal Cert.Kernel6Ideal.Gen

/-- The body's result at one entry of its block. -/
theorem pay (x : Vec Ideal S2048x1024 .bf16) (y : Vec Ideal S640x1024 .bf16) (p : Fin 2048) (q : Fin 640) :
    (k0_pay1 (F := Ideal) x y (ValueIdx.ix2 p q) : EReal) = ∑ k : Fin 1024, (x (ValueIdx.ix2 p k) : EReal) * (y (ValueIdx.ix2 q k) : EReal) :=
  nt (φ₁ := .bf16) (φ₂ := .bf16) _ x y p q

/-- The reference's result at one entry. -/
theorem ref (x0 : (⟨S2048x1024, .bf16⟩ : BufTy).Contents (Elt Ideal)) (x1 : (⟨S3200x1024, .bf16⟩ : BufTy).Contents (Elt Ideal))
    (p : Fin 2048) (q : Fin 3200) :
    (Cert.Reference6Ideal.Read.val_main_v3 (F := Ideal) x0 x1 (ValueIdx.ix2 p q) : EReal)
      = ∑ k : Fin 1024, (x0 (ValueIdx.ix2 p k) : EReal) * (x1 (ValueIdx.ix2 q k) : EReal) := by
  refine Eq.trans (Cert.Reference6Ideal.Read.val_main_v3_apply x0 x1 _) ?_
  refine Finset.sum_congr rfl fun k _ => ?_
  refine congrArg₂ (fun a b : EReal => a * b) (congrArg x0 (eq_ix2_of _ _ _ rfl rfl)) (congrArg x1 (eq_ix2_of _ _ _ rfl rfl))

variable (m : (ℓ : Loc nD τ sig) → Buf (Elt Ideal) ℓ) (c : Dev nD)

theorem idx : ∀ t : Fin cfg0.N, win0_0.index t = ![0, 0] ∧ win0_1.index t = ![t.val, 0] ∧ win0_2.index t = ![0, t.val] :=
  (by decide +kernel : ∀ t : Fin grid0.N, _)

theorem blk0 (t : Fin cfg0.N) (p : Fin 2048) (q : Fin 1024) :
    iblk m c 0 t (ValueIdx.ix2 p q) = m ((c : Thread nD τ).loc main_arg0) (ValueIdx.ix2 p q) := by
  have e := (idx t).1
  blk_ext [iblk, V, e]

theorem blk1 (t : Fin cfg0.N) (p : Fin 640) (q : Fin 1024) (h : t.val * 640 + p.val < 3200) :
    iblk m c 1 t (ValueIdx.ix2 p q) = m ((c : Thread nD τ).loc main_arg1) (ValueIdx.ix2 ⟨t.val * 640 + p.val, h⟩ q) := by
  have e := (idx t).2.1
  blk_ext [iblk, V, e]

/-- What point `t` leaves in its block: the reference's entries there. -/
theorem point (t : Fin cfg0.N) (p : Fin 2048) (q : Fin 640) (h : t.val * 640 + q.val < 3200) :
    out0_2 (iblk m c 0 t) (iblk m c 1 t) (ValueIdx.ix2 p q)
      = Cert.Reference6Ideal.Read.val_main_v3 (F := Ideal) (m ((c : Thread nD τ).loc main_arg0)) (m ((c : Thread nD τ).loc main_arg1))
          (ValueIdx.ix2 p ⟨t.val * 640 + q.val, h⟩) := by
  unfold out0_2
  frame_out
  refine (pay _ _ _ _).trans ((ref _ _ _ _).trans ?_).symm
  refine Finset.sum_congr rfl fun k _ => ?_
  exact congrArg₂ (fun a b : EReal => a * b) (blk0 m c t p k).symm (blk1 m c t q k h).symm

/-- The array after the run is the reference's result. -/
theorem final : (dats m 0 c).arrAt 2 cfg0.N
    = Cert.Reference6Ideal.Read.val_main_v3 (F := Ideal) (m ((c : Thread nD τ).loc main_arg0)) (m ((c : Thread nD τ).loc main_arg1)) := by
  refine (dats m 0 c).arrAt_eq_of_covers 2 _ (by decide +kernel) fun t _ y => ?_
  have e := (idx t).2.2
  blk_simp [e]
  rw [after0_2]
  have h0 : (y 0).val < 2048 := (y 0).isLt
  have h1 : (y 1).val < 640 := (y 1).isLt
  have ht : t.val < 5 := t.isLt
  have q : (win0_2.blk t).view.emb y = ValueIdx.ix2 (⟨(y 0).val, h0⟩ : Fin 2048) (⟨t.val * 640 + (y 1).val, by omega⟩ : Fin 3200) := by
    refine eq_ix2_of _ _ _ ?_ ?_
    · show win0_2.index t 0 * 2048 + 1 * (y 0).val = (y 0).val
      rw [e]
      simp
    · show win0_2.index t 1 * 640 + 1 * (y 1).val = t.val * 640 + (y 1).val
      rw [e]
      simp
  rw [q]
  exact (congrArg _ (eq_ix2_of y ⟨(y 0).val, h0⟩ ⟨(y 1).val, h1⟩ rfl rfl)).trans (point m c t ⟨(y 0).val, h0⟩ ⟨(y 1).val, h1⟩ (by show t.val * 640 + (y 1).val < 3200; omega))

/-- The kernel and the reference leave the same arrays. -/
theorem algebraic : Cert.algebraic_Kernel6Ideal_Reference6Ideal := by
  pair_intro
  · run_from Cert.Kernel6Ideal.Value.run_blocks m g
  · refine θ_run_mono (Cert.Reference6Ideal.Value.run m' g') ?_
    intro r hr c
    obtain ⟨h0, ha⟩ := hr c
    refine ⟨h0.trans ?_, ha⟩
    obtain ⟨e0, e1⟩ := hagree c
    refine (Cert.Reference6Ideal.Read.val_main_v3_eq _ _).trans ?_
    rw [e0, e1]
    exact (final m c).symm

end Cert.Mlp.ProjIn

end
-- ==== Proof.Mlp.DwIn.lean ====
module

public import proofs.«01_k».proof.Defs
public import proofs.«01_k».proof.Proof.Mlp.Dots
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Claim

/-! The gradient of the first projection's weights. -/

@[expose] public section

set_option maxRecDepth 16384

noncomputable section

namespace Cert.Mlp.DwIn

open Idealize.SL.Sem Idealize.ShloMosaic Idealize.ShloMosaic.TcCoe Cert.Kernel7Ideal Cert.Kernel7Ideal.Gen

/-- The body's result at one entry of its block. -/
theorem pay (x : Vec Ideal S2048x640 .bf16) (y : Vec Ideal S2048x1024 .bf16) (p : Fin 640) (q : Fin 1024) :
    (k0_pay1 (F := Ideal) x y (ValueIdx.ix2 p q) : EReal) = ∑ k : Fin 2048, (x (ValueIdx.ix2 k p) : EReal) * (y (ValueIdx.ix2 k q) : EReal) :=
  tn (φ₁ := .bf16) (φ₂ := .bf16) _ x y p q

/-- The reference's result at one entry. -/
theorem ref (x0 : (⟨S2048x3200, .bf16⟩ : BufTy).Contents (Elt Ideal)) (x1 : (⟨S2048x1024, .bf16⟩ : BufTy).Contents (Elt Ideal))
    (p : Fin 3200) (q : Fin 1024) :
    (Cert.Reference7Ideal.Read.val_main_v7 (F := Ideal) x0 x1 (ValueIdx.ix2 p q) : EReal)
      = ∑ k : Fin 2048, (x0 (ValueIdx.ix2 k p) : EReal) * (x1 (ValueIdx.ix2 k q) : EReal) := by
  rw [Cert.Reference7Ideal.Read.val_main_v7_apply, Cert.Reference7Ideal.Read.val_main_v6_apply, Cert.Reference7Ideal.Read.val_main_v5_apply]
  refine Eq.trans (Cert.Reference7Ideal.Read.val_main_v4_apply x0 x1 _) ?_
  refine Finset.sum_congr rfl fun k _ => ?_
  refine congrArg₂ (fun a b : EReal => a * b) (congrArg x0 (eq_ix2_of _ _ _ rfl rfl)) (congrArg x1 (eq_ix2_of _ _ _ rfl rfl))

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] :=
  (by decide +kernel : ∀ t : Fin grid0.N, _)

theorem blk0 (t : Fin cfg0.N) (p : Fin 2048) (q : Fin 640) (h : t.val * 640 + q.val < 3200) :
    iblk m c 0 t (ValueIdx.ix2 p q) = m ((c : Thread nD τ).loc main_arg0) (ValueIdx.ix2 p ⟨t.val * 640 + q.val, h⟩) := by
  have e := (idx t).1
  blk_ext [iblk, V, e]

theorem blk1 (t : Fin cfg0.N) (p : Fin 2048) (q : Fin 1024) :
    iblk m c 1 t (ValueIdx.ix2 p q) = m ((c : Thread nD τ).loc main_arg1) (ValueIdx.ix2 p q) := by
  have e := (idx t).2.1
  blk_ext [iblk, V, e]

/-- What point `t` leaves in its block: the reference's entries there. -/
theorem point (t : Fin cfg0.N) (p : Fin 640) (q : Fin 1024) (h : t.val * 640 + p.val < 3200) :
    out0_2 (iblk m c 0 t) (iblk m c 1 t) (ValueIdx.ix2 p q)
      = Cert.Reference7Ideal.Read.val_main_v7 (F := Ideal) (m ((c : Thread nD τ).loc main_arg0)) (m ((c : Thread nD τ).loc main_arg1))
          (ValueIdx.ix2 ⟨t.val * 640 + p.val, h⟩ q) := by
  unfold out0_2
  frame_out
  refine (pay _ _ _ _).trans ((ref _ _ _ _).trans ?_).symm
  refine Finset.sum_congr rfl fun k _ => ?_
  exact congrArg₂ (fun a b : EReal => a * b) (blk0 m c t k p h).symm (blk1 m c t k q).symm

/-- The array after the run is the reference's result. -/
theorem final : (dats m 0 c).arrAt 2 cfg0.N
    = Cert.Reference7Ideal.Read.val_main_v7 (F := Ideal) (m ((c : Thread nD τ).loc main_arg0)) (m ((c : Thread nD τ).loc main_arg1)) := by
  refine (dats m 0 c).arrAt_eq_of_covers 2 _ (by decide +kernel) fun t _ y => ?_
  have e := (idx t).2.2
  blk_simp [e]
  rw [after0_2]
  have h0 : (y 0).val < 640 := (y 0).isLt
  have h1 : (y 1).val < 1024 := (y 1).isLt
  have ht : t.val < 5 := t.isLt
  have q : (win0_2.blk t).view.emb y = ValueIdx.ix2 (⟨t.val * 640 + (y 0).val, by omega⟩ : Fin 3200) (⟨(y 1).val, h1⟩ : Fin 1024) := by
    refine eq_ix2_of _ _ _ ?_ ?_
    · show win0_2.index t 0 * 640 + 1 * (y 0).val = t.val * 640 + (y 0).val
      rw [e]
      simp
    · show win0_2.index t 1 * 1024 + 1 * (y 1).val = (y 1).val
      rw [e]
      simp
  rw [q]
  exact (congrArg _ (eq_ix2_of y ⟨(y 0).val, h0⟩ ⟨(y 1).val, h1⟩ rfl rfl)).trans (point m c t ⟨(y 0).val, h0⟩ ⟨(y 1).val, h1⟩ (by show t.val * 640 + (y 0).val < 3200; omega))

/-- The kernel and the reference leave the same arrays. -/
theorem algebraic : Cert.algebraic_Kernel7Ideal_Reference7Ideal := by
  pair_intro
  · run_from Cert.Kernel7Ideal.Value.run_blocks m g
  · refine θ_run_mono (Cert.Reference7Ideal.Value.run m' g') ?_
    intro r hr c
    obtain ⟨h0, ha⟩ := hr c
    refine ⟨h0.trans ?_, ha⟩
    obtain ⟨e0, e1⟩ := hagree c
    refine (Cert.Reference7Ideal.Read.val_main_v7_eq _ _).trans ?_
    rw [e0, e1]
    exact (final m c).symm

end Cert.Mlp.DwIn

end
-- ==== Proof.Mlp.Dn2.lean ====
module

public import proofs.«01_k».proof.Defs
public import proofs.«01_k».proof.Proof.Mlp.Dots
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Claim

/-! The gradient of the input of the second attention's query projection. -/

@[expose] public section

set_option maxRecDepth 16384

noncomputable section

namespace Cert.Mlp.Dn2

open Idealize.SL.Sem Idealize.ShloMosaic Idealize.ShloMosaic.TcCoe Cert.Kernel8Ideal Cert.Kernel8Ideal.Gen

/-- The body's result at one entry of its block. -/
theorem pay (x : Vec Ideal S1024x1024 .bf16) (y : Vec Ideal S1024x1024 .bf16) (p : Fin 1024) (q : Fin 1024) :
    (k0_pay1 (F := Ideal) x y (ValueIdx.ix2 p q) : EReal) = ∑ k : Fin 1024, (x (ValueIdx.ix2 p k) : EReal) * (y (ValueIdx.ix2 q k) : EReal) :=
  nt (φ₁ := .bf16) (φ₂ := .bf16) _ x y p q

/-- The reference's result at one entry. -/
theorem ref (x0 : (⟨S2048x1024, .bf16⟩ : BufTy).Contents (Elt Ideal)) (x1 : (⟨S1024x1024, .bf16⟩ : BufTy).Contents (Elt Ideal))
    (p : Fin 2048) (q : Fin 1024) :
    (Cert.Reference8Ideal.Read.val_main_v4 (F := Ideal) x0 x1 (ValueIdx.ix2 p q) : EReal)
      = ∑ k : Fin 1024, (x0 (ValueIdx.ix2 p k) : EReal) * (x1 (ValueIdx.ix2 q k) : EReal) := by
  refine Eq.trans (Cert.Reference8Ideal.Read.val_main_v4_apply x0 x1 _) ?_
  refine Finset.sum_congr rfl fun k _ => ?_
  refine congrArg₂ (fun a b : EReal => a * b) (congrArg x0 (eq_ix2_of _ _ _ rfl rfl)) (congrArg x1 (eq_ix2_of _ _ _ rfl rfl))

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem blk0 (t : Fin cfg0.N) (p : Fin 1024) (q : Fin 1024) (h : t.val * 1024 + p.val < 2048) :
    iblk m c 0 t (ValueIdx.ix2 p q) = m ((c : Thread nD τ).loc main_arg0) (ValueIdx.ix2 ⟨t.val * 1024 + p.val, h⟩ q) := by
  have e := (idx t).1
  blk_ext [iblk, V, e]

theorem blk1 (t : Fin cfg0.N) (p : Fin 1024) (q : Fin 1024) :
    iblk m c 1 t (ValueIdx.ix2 p q) = m ((c : Thread nD τ).loc main_arg1) (ValueIdx.ix2 p q) := by
  have e := (idx t).2.1
  blk_ext [iblk, V, e]

/-- What point `t` leaves in its block: the reference's entries there. -/
theorem point (t : Fin cfg0.N) (p : Fin 1024) (q : Fin 1024) (h : t.val * 1024 + p.val < 2048) :
    out0_2 (iblk m c 0 t) (iblk m c 1 t) (ValueIdx.ix2 p q)
      = Cert.Reference8Ideal.Read.val_main_v4 (F := Ideal) (m ((c : Thread nD τ).loc main_arg0)) (m ((c : Thread nD τ).loc main_arg1))
          (ValueIdx.ix2 ⟨t.val * 1024 + p.val, h⟩ q) := by
  unfold out0_2
  frame_out
  refine (pay _ _ _ _).trans ((ref _ _ _ _).trans ?_).symm
  refine Finset.sum_congr rfl fun k _ => ?_
  exact congrArg₂ (fun a b : EReal => a * b) (blk0 m c t p k h).symm (blk1 m c t q k).symm

/-- The array after the run is the reference's result. -/
theorem final : (dats m 0 c).arrAt 2 cfg0.N
    = Cert.Reference8Ideal.Read.val_main_v4 (F := Ideal) (m ((c : Thread nD τ).loc main_arg0)) (m ((c : Thread nD τ).loc main_arg1)) := by
  refine (dats m 0 c).arrAt_eq_of_covers 2 _ (by decide +kernel) fun t _ y => ?_
  have e := (idx t).2.2
  blk_simp [e]
  rw [after0_2]
  have h0 : (y 0).val < 1024 := (y 0).isLt
  have h1 : (y 1).val < 1024 := (y 1).isLt
  have ht : t.val < 2 := t.isLt
  have q : (win0_2.blk t).view.emb y = ValueIdx.ix2 (⟨t.val * 1024 + (y 0).val, by omega⟩ : Fin 2048) (⟨(y 1).val, h1⟩ : Fin 1024) := by
    refine eq_ix2_of _ _ _ ?_ ?_
    · show win0_2.index t 0 * 1024 + 1 * (y 0).val = t.val * 1024 + (y 0).val
      rw [e]
      simp
    · show win0_2.index t 1 * 1024 + 1 * (y 1).val = (y 1).val
      rw [e]
      simp
  rw [q]
  exact (congrArg _ (eq_ix2_of y ⟨(y 0).val, h0⟩ ⟨(y 1).val, h1⟩ rfl rfl)).trans (point m c t ⟨(y 0).val, h0⟩ ⟨(y 1).val, h1⟩ (by show t.val * 1024 + (y 0).val < 2048; omega))

/-- The kernel and the reference leave the same arrays. -/
theorem algebraic : Cert.algebraic_Kernel8Ideal_Reference8Ideal := by
  pair_intro
  · run_from Cert.Kernel8Ideal.Value.run_blocks m g
  · refine θ_run_mono (Cert.Reference8Ideal.Value.run m' g') ?_
    intro r hr c
    obtain ⟨h0, ha⟩ := hr c
    refine ⟨h0.trans ?_, ha⟩
    obtain ⟨e0, e1⟩ := hagree c
    refine (Cert.Reference8Ideal.Read.val_main_v4_eq _ _).trans ?_
    rw [e0, e1]
    exact (final m c).symm

end Cert.Mlp.Dn2

end
-- ==== Proof.Mlp.DwQ.lean ====
module

public import proofs.«01_k».proof.Defs
public import proofs.«01_k».proof.Proof.Mlp.Dots
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Claim

/-! The gradient of the second attention's query weights. -/

@[expose] public section

set_option maxRecDepth 16384

noncomputable section

namespace Cert.Mlp.DwQ

open Idealize.SL.Sem Idealize.ShloMosaic Idealize.ShloMosaic.TcCoe Cert.Kernel9Ideal Cert.Kernel9Ideal.Gen

/-- The body's result at one entry of its block. -/
theorem pay (x : Vec Ideal S2048x1024 .bf16) (y : Vec Ideal S2048x1024 .bf16) (p : Fin 1024) (q : Fin 1024) :
    (k0_pay1 (F := Ideal) x y (ValueIdx.ix2 p q) : EReal) = ∑ k : Fin 2048, (x (ValueIdx.ix2 k p) : EReal) * (y (ValueIdx.ix2 k q) : EReal) :=
  tn (φ₁ := .bf16) (φ₂ := .bf16) _ x y p q

/-- The reference's result at one entry. -/
theorem ref (x0 : (⟨S2048x1024, .bf16⟩ : BufTy).Contents (Elt Ideal)) (x1 : (⟨S2048x1024, .bf16⟩ : BufTy).Contents (Elt Ideal))
    (p : Fin 1024) (q : Fin 1024) :
    (Cert.Reference9Ideal.Read.val_main_v6 (F := Ideal) x0 x1 (ValueIdx.ix2 p q) : EReal)
      = ∑ k : Fin 2048, (x0 (ValueIdx.ix2 k p) : EReal) * (x1 (ValueIdx.ix2 k q) : EReal) := by
  rw [Cert.Reference9Ideal.Read.val_main_v6_apply, Cert.Reference9Ideal.Read.val_main_v5_apply]
  refine Eq.trans (Cert.Reference9Ideal.Read.val_main_v4_apply x0 x1 _) ?_
  refine Finset.sum_congr rfl fun k _ => ?_
  rw [mul_comm]
  refine congrArg₂ (fun a b : EReal => a * b) (congrArg x0 (eq_ix2_of _ _ _ rfl rfl)) (congrArg x1 (eq_ix2_of _ _ _ rfl rfl))

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

theorem blk0 (t : Fin cfg0.N) (p : Fin 2048) (q : Fin 1024) :
    iblk m c 0 t (ValueIdx.ix2 p q) = m ((c : Thread nD τ).loc main_arg0) (ValueIdx.ix2 p q) := by
  have e := (idx t).1
  blk_ext [iblk, V, e]

theorem blk1 (t : Fin cfg0.N) (p : Fin 2048) (q : Fin 1024) :
    iblk m c 1 t (ValueIdx.ix2 p q) = m ((c : Thread nD τ).loc main_arg1) (ValueIdx.ix2 p q) := by
  have e := (idx t).2.1
  blk_ext [iblk, V, e]

/-- What point `t` leaves in its block: the reference's entries there. -/
theorem point (t : Fin cfg0.N) (p : Fin 1024) (q : Fin 1024) :
    out0_2 (iblk m c 0 t) (iblk m c 1 t) (ValueIdx.ix2 p q)
      = Cert.Reference9Ideal.Read.val_main_v6 (F := Ideal) (m ((c : Thread nD τ).loc main_arg0)) (m ((c : Thread nD τ).loc main_arg1))
          (ValueIdx.ix2 p q) := by
  unfold out0_2
  frame_out
  refine (pay _ _ _ _).trans ((ref _ _ _ _).trans ?_).symm
  refine Finset.sum_congr rfl fun k _ => ?_
  exact congrArg₂ (fun a b : EReal => a * b) (blk0 m c t k p).symm (blk1 m c t k q).symm

/-- The array after the run is the reference's result. -/
theorem final : (dats m 0 c).arrAt 2 cfg0.N
    = Cert.Reference9Ideal.Read.val_main_v6 (F := Ideal) (m ((c : Thread nD τ).loc main_arg0)) (m ((c : Thread nD τ).loc main_arg1)) := by
  refine (dats m 0 c).arrAt_eq_of_covers 2 _ (by decide +kernel) fun t _ y => ?_
  have e := (idx t).2.2
  blk_simp [e]
  rw [after0_2]
  have h0 : (y 0).val < 1024 := (y 0).isLt
  have h1 : (y 1).val < 1024 := (y 1).isLt
  have ht : t.val < 1 := t.isLt
  have q : (win0_2.blk t).view.emb y = ValueIdx.ix2 (⟨(y 0).val, h0⟩ : Fin 1024) (⟨(y 1).val, h1⟩ : Fin 1024) := by
    refine eq_ix2_of _ _ _ ?_ ?_
    · show win0_2.index t 0 * 1024 + 1 * (y 0).val = (y 0).val
      rw [e]
      simp
    · show win0_2.index t 1 * 1024 + 1 * (y 1).val = (y 1).val
      rw [e]
      simp
  rw [q]
  exact (congrArg _ (eq_ix2_of y ⟨(y 0).val, h0⟩ ⟨(y 1).val, h1⟩ rfl rfl)).trans (point m c t ⟨(y 0).val, h0⟩ ⟨(y 1).val, h1⟩)

/-- The kernel and the reference leave the same arrays. -/
theorem algebraic : Cert.algebraic_Kernel9Ideal_Reference9Ideal := by
  pair_intro
  · run_from Cert.Kernel9Ideal.Value.run_blocks m g
  · refine θ_run_mono (Cert.Reference9Ideal.Value.run m' g') ?_
    intro r hr c
    obtain ⟨h0, ha⟩ := hr c
    refine ⟨h0.trans ?_, ha⟩
    obtain ⟨e0, e1⟩ := hagree c
    refine (Cert.Reference9Ideal.Read.val_main_v6_eq _ _).trans ?_
    rw [e0, e1]
    exact (final m c).symm

end Cert.Mlp.DwQ

end
-- ==== Proof.Mlp.ProjQ.lean ====
module

public import proofs.«01_k».proof.Defs
public import proofs.«01_k».proof.Proof.Mlp.Dots
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Claim

/-! The second attention's query projection. -/

@[expose] public section

set_option maxRecDepth 16384

noncomputable section

namespace Cert.Mlp.ProjQ

open Idealize.SL.Sem Idealize.ShloMosaic Idealize.ShloMosaic.TcCoe Cert.Kernel10Ideal Cert.Kernel10Ideal.Gen

/-- The body's result at one entry of its block. -/
theorem pay (x : Vec Ideal S1024x1024 .bf16) (y : Vec Ideal S1024x1024 .bf16) (p : Fin 1024) (q : Fin 1024) :
    (k0_pay1 (F := Ideal) x y (ValueIdx.ix2 p q) : EReal) = ∑ k : Fin 1024, (x (ValueIdx.ix2 p k) : EReal) * (y (ValueIdx.ix2 k q) : EReal) :=
  nn (φ₁ := .bf16) (φ₂ := .bf16) _ x y p q

/-- The reference's result at one entry. -/
theorem ref (x0 : (⟨S2048x1024, .bf16⟩ : BufTy).Contents (Elt Ideal)) (x1 : (⟨S1024x1024, .bf16⟩ : BufTy).Contents (Elt Ideal))
    (p : Fin 2048) (q : Fin 1024) :
    (Cert.Reference10Ideal.Read.val_main_v2 (F := Ideal) x0 x1 (ValueIdx.ix2 p q) : EReal)
      = ∑ k : Fin 1024, (x0 (ValueIdx.ix2 p k) : EReal) * (x1 (ValueIdx.ix2 k q) : EReal) := by
  refine Eq.trans (Cert.Reference10Ideal.Read.val_main_v2_apply x0 x1 _) ?_
  refine Finset.sum_congr rfl fun k _ => ?_
  refine congrArg₂ (fun a b : EReal => a * b) (congrArg x0 (eq_ix2_of _ _ _ rfl rfl)) (congrArg x1 (eq_ix2_of _ _ _ rfl rfl))

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem blk0 (t : Fin cfg0.N) (p : Fin 1024) (q : Fin 1024) (h : t.val * 1024 + p.val < 2048) :
    iblk m c 0 t (ValueIdx.ix2 p q) = m ((c : Thread nD τ).loc main_arg0) (ValueIdx.ix2 ⟨t.val * 1024 + p.val, h⟩ q) := by
  have e := (idx t).1
  blk_ext [iblk, V, e]

theorem blk1 (t : Fin cfg0.N) (p : Fin 1024) (q : Fin 1024) :
    iblk m c 1 t (ValueIdx.ix2 p q) = m ((c : Thread nD τ).loc main_arg1) (ValueIdx.ix2 p q) := by
  have e := (idx t).2.1
  blk_ext [iblk, V, e]

/-- What point `t` leaves in its block: the reference's entries there. -/
theorem point (t : Fin cfg0.N) (p : Fin 1024) (q : Fin 1024) (h : t.val * 1024 + p.val < 2048) :
    out0_2 (iblk m c 0 t) (iblk m c 1 t) (ValueIdx.ix2 p q)
      = Cert.Reference10Ideal.Read.val_main_v2 (F := Ideal) (m ((c : Thread nD τ).loc main_arg0)) (m ((c : Thread nD τ).loc main_arg1))
          (ValueIdx.ix2 ⟨t.val * 1024 + p.val, h⟩ q) := by
  unfold out0_2
  frame_out
  refine (pay _ _ _ _).trans ((ref _ _ _ _).trans ?_).symm
  refine Finset.sum_congr rfl fun k _ => ?_
  exact congrArg₂ (fun a b : EReal => a * b) (blk0 m c t p k h).symm (blk1 m c t k q).symm

/-- The array after the run is the reference's result. -/
theorem final : (dats m 0 c).arrAt 2 cfg0.N
    = Cert.Reference10Ideal.Read.val_main_v2 (F := Ideal) (m ((c : Thread nD τ).loc main_arg0)) (m ((c : Thread nD τ).loc main_arg1)) := by
  refine (dats m 0 c).arrAt_eq_of_covers 2 _ (by decide +kernel) fun t _ y => ?_
  have e := (idx t).2.2
  blk_simp [e]
  rw [after0_2]
  have h0 : (y 0).val < 1024 := (y 0).isLt
  have h1 : (y 1).val < 1024 := (y 1).isLt
  have ht : t.val < 2 := t.isLt
  have q : (win0_2.blk t).view.emb y = ValueIdx.ix2 (⟨t.val * 1024 + (y 0).val, by omega⟩ : Fin 2048) (⟨(y 1).val, h1⟩ : Fin 1024) := by
    refine eq_ix2_of _ _ _ ?_ ?_
    · show win0_2.index t 0 * 1024 + 1 * (y 0).val = t.val * 1024 + (y 0).val
      rw [e]
      simp
    · show win0_2.index t 1 * 1024 + 1 * (y 1).val = (y 1).val
      rw [e]
      simp
  rw [q]
  exact (congrArg _ (eq_ix2_of y ⟨(y 0).val, h0⟩ ⟨(y 1).val, h1⟩ rfl rfl)).trans (point m c t ⟨(y 0).val, h0⟩ ⟨(y 1).val, h1⟩ (by show t.val * 1024 + (y 0).val < 2048; omega))

/-- The kernel and the reference leave the same arrays. -/
theorem algebraic : Cert.algebraic_Kernel10Ideal_Reference10Ideal := by
  pair_intro
  · run_from Cert.Kernel10Ideal.Value.run_blocks m g
  · refine θ_run_mono (Cert.Reference10Ideal.Value.run m' g') ?_
    intro r hr c
    obtain ⟨h0, ha⟩ := hr c
    refine ⟨h0.trans ?_, ha⟩
    obtain ⟨e0, e1⟩ := hagree c
    refine (Cert.Reference10Ideal.Read.val_main_v2_eq _ _).trans ?_
    rw [e0, e1]
    exact (final m c).symm

end Cert.Mlp.ProjQ

end
-- ==== Proof.Mlp.Do.lean ====
module

public import proofs.«01_k».proof.Defs
public import proofs.«01_k».proof.Proof.Mlp.Dots
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Claim

/-! The gradient of an attention's output, before its projection. -/

@[expose] public section

set_option maxRecDepth 16384

noncomputable section

namespace Cert.Mlp.Do

open Idealize.SL.Sem Idealize.ShloMosaic Idealize.ShloMosaic.TcCoe Cert.Kernel11Ideal Cert.Kernel11Ideal.Gen

/-- The body's result at one entry of its block. -/
theorem pay (x : Vec Ideal S1024x1024 .bf16) (y : Vec Ideal S1024x1024 .bf16) (p : Fin 1024) (q : Fin 1024) :
    (k0_pay1 (F := Ideal) x y (ValueIdx.ix2 p q) : EReal) = ∑ k : Fin 1024, (x (ValueIdx.ix2 p k) : EReal) * (y (ValueIdx.ix2 q k) : EReal) :=
  nt (φ₁ := .bf16) (φ₂ := .bf16) _ x y p q

/-- The reference's result at one entry. -/
theorem ref (x0 : (⟨S2048x1024, .bf16⟩ : BufTy).Contents (Elt Ideal)) (x1 : (⟨S1024x1024, .bf16⟩ : BufTy).Contents (Elt Ideal))
    (p : Fin 2048) (q : Fin 1024) :
    (Cert.Reference11Ideal.Read.val_main_v4 (F := Ideal) x0 x1 (ValueIdx.ix2 p q) : EReal)
      = ∑ k : Fin 1024, (x0 (ValueIdx.ix2 p k) : EReal) * (x1 (ValueIdx.ix2 q k) : EReal) := by
  refine Eq.trans (Cert.Reference11Ideal.Read.val_main_v4_apply x0 x1 _) ?_
  refine Finset.sum_congr rfl fun k _ => ?_
  refine congrArg₂ (fun a b : EReal => a * b) (congrArg x0 (eq_ix2_of _ _ _ rfl rfl)) (congrArg x1 (eq_ix2_of _ _ _ rfl rfl))

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem blk0 (t : Fin cfg0.N) (p : Fin 1024) (q : Fin 1024) (h : t.val * 1024 + p.val < 2048) :
    iblk m c 0 t (ValueIdx.ix2 p q) = m ((c : Thread nD τ).loc main_arg0) (ValueIdx.ix2 ⟨t.val * 1024 + p.val, h⟩ q) := by
  have e := (idx t).1
  blk_ext [iblk, V, e]

theorem blk1 (t : Fin cfg0.N) (p : Fin 1024) (q : Fin 1024) :
    iblk m c 1 t (ValueIdx.ix2 p q) = m ((c : Thread nD τ).loc main_arg1) (ValueIdx.ix2 p q) := by
  have e := (idx t).2.1
  blk_ext [iblk, V, e]

/-- What point `t` leaves in its block: the reference's entries there. -/
theorem point (t : Fin cfg0.N) (p : Fin 1024) (q : Fin 1024) (h : t.val * 1024 + p.val < 2048) :
    outsAt0 m c t (ValueIdx.ix2 p q)
      = Cert.Reference11Ideal.Read.val_main_v4 (F := Ideal) (m ((c : Thread nD τ).loc main_arg0)) (m ((c : Thread nD τ).loc main_arg1))
          (ValueIdx.ix2 ⟨t.val * 1024 + p.val, h⟩ q) := by
  unfold outsAt0
  frame_out
  refine (pay _ _ _ _).trans ((ref _ _ _ _).trans ?_).symm
  refine Finset.sum_congr rfl fun k _ => ?_
  exact congrArg₂ (fun a b : EReal => a * b) (blk0 m c t p k h).symm (blk1 m c t q k).symm

/-- The array after the run is the reference's result. -/
theorem final : (dats m 0 c).arrAt 2 cfg0.N
    = Cert.Reference11Ideal.Read.val_main_v4 (F := Ideal) (m ((c : Thread nD τ).loc main_arg0)) (m ((c : Thread nD τ).loc main_arg1)) := by
  refine (dats m 0 c).arrAt_eq_of_covers 2 _ (by decide +kernel) fun t _ y => ?_
  have e := (idx t).2.2
  blk_simp [e]
  rw [after0_2]
  have h0 : (y 0).val < 1024 := (y 0).isLt
  have h1 : (y 1).val < 1024 := (y 1).isLt
  have ht : t.val < 2 := t.isLt
  have q : (win0_2.blk t).view.emb y = ValueIdx.ix2 (⟨t.val * 1024 + (y 0).val, by omega⟩ : Fin 2048) (⟨(y 1).val, h1⟩ : Fin 1024) := by
    refine eq_ix2_of _ _ _ ?_ ?_
    · show win0_2.index t 0 * 1024 + 1 * (y 0).val = t.val * 1024 + (y 0).val
      rw [e]
      simp
    · show win0_2.index t 1 * 1024 + 1 * (y 1).val = (y 1).val
      rw [e]
      simp
  rw [q]
  exact (congrArg _ (eq_ix2_of y ⟨(y 0).val, h0⟩ ⟨(y 1).val, h1⟩ rfl rfl)).trans (point m c t ⟨(y 0).val, h0⟩ ⟨(y 1).val, h1⟩ (by show t.val * 1024 + (y 0).val < 2048; omega))

/-- The kernel and the reference leave the same arrays. -/
theorem algebraic : Cert.algebraic_Kernel11Ideal_Reference11Ideal := by
  pair_intro
  · run_from Cert.Kernel11Ideal.Value.run_blocks m g
  · refine θ_run_mono (Cert.Reference11Ideal.Value.run m' g') ?_
    intro r hr c
    obtain ⟨h0, ha⟩ := hr c
    refine ⟨h0.trans ?_, ha⟩
    obtain ⟨e0, e1, _⟩ := hagree c
    refine (Cert.Reference11Ideal.Read.val_main_v4_eq _ _).trans ?_
    rw [e0, e1]
    exact (final m c).symm

end Cert.Mlp.Do

end
-- ==== Proof.Mlp.DwOut.lean ====
module

public import proofs.«01_k».proof.Defs
public import proofs.«01_k».proof.Proof.Mlp.Dots
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Claim

/-! The gradient of an attention's output weights. -/

@[expose] public section

set_option maxRecDepth 16384

noncomputable section

namespace Cert.Mlp.DwOut

open Idealize.SL.Sem Idealize.ShloMosaic Idealize.ShloMosaic.TcCoe Cert.Kernel12Ideal Cert.Kernel12Ideal.Gen

/-- The body's result at one entry of its block. -/
theorem pay (x : Vec Ideal S2048x1024 .bf16) (y : Vec Ideal S2048x1024 .bf16) (p : Fin 1024) (q : Fin 1024) :
    (k0_pay1 (F := Ideal) x y (ValueIdx.ix2 p q) : EReal) = ∑ k : Fin 2048, (x (ValueIdx.ix2 k p) : EReal) * (y (ValueIdx.ix2 k q) : EReal) :=
  tn (φ₁ := .bf16) (φ₂ := .bf16) _ x y p q

/-- The reference's result at one entry. -/
theorem ref (x0 : (⟨S2048x1024, .bf16⟩ : BufTy).Contents (Elt Ideal)) (x1 : (⟨S2048x1024, .bf16⟩ : BufTy).Contents (Elt Ideal))
    (p : Fin 1024) (q : Fin 1024) :
    (Cert.Reference12Ideal.Read.val_main_v6 (F := Ideal) x0 x1 (ValueIdx.ix2 p q) : EReal)
      = ∑ k : Fin 2048, (x0 (ValueIdx.ix2 k p) : EReal) * (x1 (ValueIdx.ix2 k q) : EReal) := by
  rw [Cert.Reference12Ideal.Read.val_main_v6_apply, Cert.Reference12Ideal.Read.val_main_v5_apply]
  refine Eq.trans (Cert.Reference12Ideal.Read.val_main_v4_apply x0 x1 _) ?_
  refine Finset.sum_congr rfl fun k _ => ?_
  rw [mul_comm]
  refine congrArg₂ (fun a b : EReal => a * b) (congrArg x0 (eq_ix2_of _ _ _ rfl rfl)) (congrArg x1 (eq_ix2_of _ _ _ rfl rfl))

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

theorem blk0 (t : Fin cfg0.N) (p : Fin 2048) (q : Fin 1024) :
    iblk m c 0 t (ValueIdx.ix2 p q) = m ((c : Thread nD τ).loc main_arg0) (ValueIdx.ix2 p q) := by
  have e := (idx t).1
  blk_ext [iblk, V, e]

theorem blk1 (t : Fin cfg0.N) (p : Fin 2048) (q : Fin 1024) :
    iblk m c 1 t (ValueIdx.ix2 p q) = m ((c : Thread nD τ).loc main_arg1) (ValueIdx.ix2 p q) := by
  have e := (idx t).2.1
  blk_ext [iblk, V, e]

/-- What point `t` leaves in its block: the reference's entries there. -/
theorem point (t : Fin cfg0.N) (p : Fin 1024) (q : Fin 1024) :
    outsAt0 m c t (ValueIdx.ix2 p q)
      = Cert.Reference12Ideal.Read.val_main_v6 (F := Ideal) (m ((c : Thread nD τ).loc main_arg0)) (m ((c : Thread nD τ).loc main_arg1))
          (ValueIdx.ix2 p q) := by
  unfold outsAt0
  frame_out
  refine (pay _ _ _ _).trans ((ref _ _ _ _).trans ?_).symm
  refine Finset.sum_congr rfl fun k _ => ?_
  exact congrArg₂ (fun a b : EReal => a * b) (blk0 m c t k p).symm (blk1 m c t k q).symm

/-- The array after the run is the reference's result. -/
theorem final : (dats m 0 c).arrAt 2 cfg0.N
    = Cert.Reference12Ideal.Read.val_main_v6 (F := Ideal) (m ((c : Thread nD τ).loc main_arg0)) (m ((c : Thread nD τ).loc main_arg1)) := by
  refine (dats m 0 c).arrAt_eq_of_covers 2 _ (by decide +kernel) fun t _ y => ?_
  have e := (idx t).2.2
  blk_simp [e]
  rw [after0_2]
  have h0 : (y 0).val < 1024 := (y 0).isLt
  have h1 : (y 1).val < 1024 := (y 1).isLt
  have ht : t.val < 1 := t.isLt
  have q : (win0_2.blk t).view.emb y = ValueIdx.ix2 (⟨(y 0).val, h0⟩ : Fin 1024) (⟨(y 1).val, h1⟩ : Fin 1024) := by
    refine eq_ix2_of _ _ _ ?_ ?_
    · show win0_2.index t 0 * 1024 + 1 * (y 0).val = (y 0).val
      rw [e]
      simp
    · show win0_2.index t 1 * 1024 + 1 * (y 1).val = (y 1).val
      rw [e]
      simp
  rw [q]
  exact (congrArg _ (eq_ix2_of y ⟨(y 0).val, h0⟩ ⟨(y 1).val, h1⟩ rfl rfl)).trans (point m c t ⟨(y 0).val, h0⟩ ⟨(y 1).val, h1⟩)

/-- The kernel and the reference leave the same arrays. -/
theorem algebraic : Cert.algebraic_Kernel12Ideal_Reference12Ideal := by
  pair_intro
  · run_from Cert.Kernel12Ideal.Value.run_blocks m g
  · refine θ_run_mono (Cert.Reference12Ideal.Value.run m' g') ?_
    intro r hr c
    obtain ⟨h0, ha⟩ := hr c
    refine ⟨h0.trans ?_, ha⟩
    obtain ⟨e0, e1, _⟩ := hagree c
    refine (Cert.Reference12Ideal.Read.val_main_v6_eq _ _).trans ?_
    rw [e0, e1]
    exact (final m c).symm

end Cert.Mlp.DwOut

end
-- ==== Proof.Mlp.Norm.lean ====
module

public import proofs.«01_k».proof.Proof.Mlp.Dots
public import Idealize.ShloMosaic.Lib.ValueLayout
public import Idealize.ShloMosaic.Lib.ValueLayoutCasts

/-! A row divided by its root mean square, entry by entry. -/

@[expose] public section

set_option maxRecDepth 16384

noncomputable section

namespace Cert.Mlp

open Idealize.ShloMosaic

/-- A row's reciprocal root mean square. -/
def rinv (h : Fin 1024 → EReal) : EReal :=
  Ideal.rsqrt (Ideal.div (∑ k : Fin 1024, h k * h k) (Ideal.ofBits .f32 0x44800000#32) + Ideal.ofBits .f32 0x358637BD#32)

/-- One entry of a row times the row's reciprocal root mean square and a scale. -/
def normed (h : Fin 1024 → EReal) (g : EReal) (q : Fin 1024) : EReal := h q * rinv h * g

/-- One column broadcast over many. -/
theorem column_apply (w : FVec Ideal ⟨2, ![1024, 1]⟩ .f32) (hb : (⟨2, ![1024, 1]⟩ : Shape).Broadcasts ⟨2, ![1024, 1024]⟩) (p q : Fin 1024) :
    broadcastTo ⟨2, ![1024, 1024]⟩ w hb (ValueIdx.ix2 p q) = w (ValueIdx.ix2 p (0 : Fin 1)) := by
  refine broadcastTo_apply w hb _ _ fun ax => ?_
  match ax with
  | ⟨0, _⟩ => exact (if_neg (by decide : ¬(1024 : ℕ) = 1)).symm
  | ⟨1, _⟩ => rfl

/-- The sum of a row. -/
theorem rowSum_apply (x : FVec Ideal ⟨2, ![1024, 1024]⟩ .f32) (hr : (⟨2, ![1024, 1024]⟩ : Shape).Reduces [1] ⟨1, ![1024]⟩)
    (hφ : FKind.Formats .f32) (hacc : 0x00000000#32 = FKind.add.neutral .f32 hφ) (p : Fin 1024) :
    (multiReduction .add [1] ⟨1, ![1024]⟩ x 0x00000000#32 hr hφ hacc (ValueIdx.ix1 p) : EReal) = ∑ k : Fin 1024, (x (ValueIdx.ix2 p k) : EReal) := by
  refine (Ideal.multiReduction_add_single x _ hr hφ hacc _).trans ?_
  refine Finset.sum_congr rfl fun k _ => congrArg x (eq_ix2_of _ p k ?_ ?_)
  · rfl
  · rfl

/-- The kernel's scaled rows, entry by entry. -/
theorem scaled_apply (y : FVec Ideal ⟨2, ![1024, 1024]⟩ .f32) (hr : (⟨2, ![1024, 1024]⟩ : Shape).Reduces [1] ⟨1, ![1024]⟩)
    (hφ : FKind.Formats .f32) (hacc : 0x00000000#32 = FKind.add.neutral .f32 hφ) (hc : (⟨1, ![1024]⟩ : Shape).ShapeCasts ⟨2, ![1024, 1]⟩)
    (hb : (⟨2, ![1024, 1]⟩ : Shape).Broadcasts ⟨2, ![1024, 1024]⟩) (p q : Fin 1024) :
    (mulf y (broadcastTo ⟨2, ![1024, 1024]⟩ (rsqrt (addf (divf (shapeCast ⟨2, ![1024, 1]⟩ (multiReduction .add [1] ⟨1, ![1024]⟩ (mulf y y) 0x00000000#32 hr hφ hacc) hc)
        (broadcast ⟨2, ![1024, 1]⟩ (Scalar.ofBits (F := Ideal) .f32 0x44800000#32))) (broadcast ⟨2, ![1024, 1]⟩ (Scalar.ofBits (F := Ideal) .f32 0x358637BD#32)))) hb)
        (ValueIdx.ix2 p q) : EReal)
      = (y (ValueIdx.ix2 p q) : EReal) * rinv fun k => y (ValueIdx.ix2 p k) := by
  refine congrArg (fun b : EReal => (y (ValueIdx.ix2 p q) : EReal) * b) ((column_apply _ hb p q).trans ?_)
  refine congrArg (fun b : EReal => Ideal.rsqrt (Ideal.div b (Ideal.ofBits .f32 0x44800000#32) + Ideal.ofBits .f32 0x358637BD#32)) ?_
  exact (ValueIdx.shapeCast_a_a1_apply _ hc p 0).trans (rowSum_apply _ hr hφ hacc p)

end Cert.Mlp

end
-- ==== Proof.Mlp.Out.lean ====
module

public import proofs.«01_k».proof.Defs
public import proofs.«01_k».proof.Proof.Mlp.Norm
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Claim

/-! An attention layer's output product with its residual, and the next norm of it. -/

@[expose] public section

set_option maxRecDepth 16384

noncomputable section

namespace Cert.Mlp.Out

open Idealize.SL.Sem Idealize.ShloMosaic Idealize.ShloMosaic.TcCoe Cert.Kernel13Ideal Cert.Kernel13Ideal.Gen

/-- The residual plus the product at one entry of its block. -/
theorem pay (x : Vec Ideal S1024x1024 .bf16) (y : Vec Ideal S1024x1024 .bf16) (h : Vec Ideal S1024x1024 .f32) (p q : Fin 1024) :
    (k0_pay1 (F := Ideal) x y h (ValueIdx.ix2 p q) : EReal)
      = (h (ValueIdx.ix2 p q) : EReal) + ∑ k : Fin 1024, (x (ValueIdx.ix2 p k) : EReal) * (y (ValueIdx.ix2 k q) : EReal) :=
  congrArg (fun b : EReal => (h (ValueIdx.ix2 p q) : EReal) + b) (nn (φ₁ := .bf16) (φ₂ := .bf16) _ x y p q)

/-- The norm at one entry of its block. -/
theorem pay2 (x : Vec Ideal S1024x1024 .bf16) (y : Vec Ideal S1024x1024 .bf16) (h : Vec Ideal S1024x1024 .f32) (g : Vec Ideal S1x1024 .f32) (p q : Fin 1024) :
    (k0_pay2 (F := Ideal) x y h g (ValueIdx.ix2 p q) : EReal)
      = normed (fun k => k0_pay1 (F := Ideal) x y h (ValueIdx.ix2 p k)) (g (ValueIdx.ix2 (0 : Fin 1) q)) q := by
  refine congrArg₂ (fun a b : EReal => a * b) ?_ ?_
  · exact scaled_apply (k0_pay1 (F := Ideal) x y h) reduces_S1024x1024_S1024 (.inl rfl) rfl shapeCasts_S1024_S1024x1 broadcasts_S1024x1_S1024x1024 p q
  · exact ValueIdx.broadcastTo_1b_ab_apply g broadcasts_S1x1024_S1024x1024 p q

variable (x0 : (⟨S2048x1024, .bf16⟩ : BufTy).Contents (Elt Ideal)) (x1 : (⟨S1024x1024, .bf16⟩ : BufTy).Contents (Elt Ideal))
  (x2 : (⟨S2048x1024, .f32⟩ : BufTy).Contents (Elt Ideal)) (x3 : (⟨S1x1024, .f32⟩ : BufTy).Contents (Elt Ideal))

/-- The reference's residual plus its product at one entry. -/
theorem ref (p : Fin 2048) (q : Fin 1024) :
    (Cert.Reference13Ideal.Read.val_main_v3 (F := Ideal) x0 x1 x2 (ValueIdx.ix2 p q) : EReal)
      = (x2 (ValueIdx.ix2 p q) : EReal) + ∑ k : Fin 1024, (x0 (ValueIdx.ix2 p k) : EReal) * (x1 (ValueIdx.ix2 k q) : EReal) := by
  rw [Cert.Reference13Ideal.Read.val_main_v3_apply]
  refine congrArg (fun b : EReal => (x2 (ValueIdx.ix2 p q) : EReal) + b) (Eq.trans (Cert.Reference13Ideal.Read.val_main_v2_apply x0 x1 _) ?_)
  refine Finset.sum_congr rfl fun k _ => ?_
  exact congrArg₂ (fun a b : EReal => a * b) (congrArg x0 (eq_ix2_of _ _ _ rfl rfl)) (congrArg x1 (eq_ix2_of _ _ _ rfl rfl))

/-- The reference's sum of a row's squares. -/
theorem refSum (p : Fin 2048) (i : Cert.Reference13Ideal.S2048.Idx) (hi : (i 0).val = p.val) :
    (Cert.Reference13Ideal.Read.val_main_v6 (F := Ideal) x0 x1 x2 i : EReal)
      = ∑ k : Fin 1024, (Cert.Reference13Ideal.Read.val_main_v3 (F := Ideal) x0 x1 x2 (ValueIdx.ix2 p k) : EReal)
          * (Cert.Reference13Ideal.Read.val_main_v3 (F := Ideal) x0 x1 x2 (ValueIdx.ix2 p k) : EReal) := by
  refine Eq.trans (Cert.Reference13Ideal.Read.val_main_v6_apply x0 x1 x2 i) ?_
  refine Eq.trans (congrArg (fun a : EReal => a + _) (show Ideal.ofBits .f32 0x00000000#32 = (0 : EReal) by simp [Ideal.ofBits, Ideal.ieee])) ?_
  refine (zero_add _).trans (Finset.sum_congr rfl fun k _ => ?_)
  refine Eq.trans (Cert.Reference13Ideal.Read.val_main_v5_apply x0 x1 x2 _) ?_
  rw [show Cert.Reference13Ideal.Read.idx_main_v6 i k = ValueIdx.ix2 p k from eq_ix2_of _ _ _ hi rfl]
  rfl

/-- The reference's norm at one entry. -/
theorem ref2 (p : Fin 2048) (q : Fin 1024) :
    (Cert.Reference13Ideal.Read.val_main_v18 (F := Ideal) x0 x1 x2 x3 (ValueIdx.ix2 p q) : EReal)
      = normed (fun k => Cert.Reference13Ideal.Read.val_main_v3 (F := Ideal) x0 x1 x2 (ValueIdx.ix2 p k)) (x3 (ValueIdx.ix2 (0 : Fin 1) q)) q := by
  rw [Cert.Reference13Ideal.Read.val_main_v18_apply, Cert.Reference13Ideal.Read.val_main_v17_apply, Cert.Reference13Ideal.Read.val_main_v14_apply,
    Cert.Reference13Ideal.Read.val_main_v13_apply, Cert.Reference13Ideal.Read.val_main_v12_apply, Cert.Reference13Ideal.Read.val_main_v11_apply,
    Cert.Reference13Ideal.Read.val_main_v10_apply, Cert.Reference13Ideal.Read.val_main_v9_apply, Cert.Reference13Ideal.Read.val_main_v8_apply,
    Cert.Reference13Ideal.Read.val_main_v7_apply, Cert.Reference13Ideal.Read.val_main_v16_apply, Cert.Reference13Ideal.Read.val_main_v15_apply,
    Cert.Reference13Ideal.Read.val_main_v4_apply]
  refine congrArg₂ (fun a b : EReal => a * b) ?_ (congrArg x3 (eq_ix2_of _ _ _ rfl (Nat.mod_eq_of_lt q.isLt)))
  refine congrArg (fun b : EReal => (Cert.Reference13Ideal.Read.val_main_v3 (F := Ideal) x0 x1 x2 (ValueIdx.ix2 p q) : EReal) * b) ?_
  refine congrArg (fun b : EReal => Ideal.rsqrt (Ideal.div b (Ideal.ofBits .f32 0x44800000#32) + Ideal.ofBits .f32 0x358637BD#32)) ?_
  exact refSum x0 x1 x2 p _ rfl

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

theorem blk0 (t : Fin cfg0.N) (p k : Fin 1024) (h : t.val * 1024 + p.val < 2048) :
    iblk m c 0 t (ValueIdx.ix2 p k) = m ((c : Thread nD τ).loc main_arg0) (ValueIdx.ix2 ⟨t.val * 1024 + p.val, h⟩ k) := by
  have e := (idx t).1
  blk_ext [iblk, V, e]

theorem blk1 (t : Fin cfg0.N) (k q : Fin 1024) :
    iblk m c 1 t (ValueIdx.ix2 k q) = m ((c : Thread nD τ).loc main_arg1) (ValueIdx.ix2 k q) := by
  have e := (idx t).2.1
  blk_ext [iblk, V, e]

theorem blk2 (t : Fin cfg0.N) (p k : Fin 1024) (h : t.val * 1024 + p.val < 2048) :
    iblk m c 2 t (ValueIdx.ix2 p k) = m ((c : Thread nD τ).loc main_arg2) (ValueIdx.ix2 ⟨t.val * 1024 + p.val, h⟩ k) := by
  have e := (idx t).2.2.1
  blk_ext [iblk, V, e]

theorem blk3 (t : Fin cfg0.N) (z : Fin 1) (q : Fin 1024) :
    iblk m c 3 t (ValueIdx.ix2 z q) = m ((c : Thread nD τ).loc main_arg3) (ValueIdx.ix2 z q) := by
  have e := (idx t).2.2.2.1
  blk_ext [iblk, V, e]

/-- The residual plus the product at one entry of point `t`'s block: the reference's there. -/
theorem prod (t : Fin cfg0.N) (p q : Fin 1024) (h : t.val * 1024 + p.val < 2048) :
    (k0_pay1 (F := Ideal) (iblk m c 0 t) (iblk m c 1 t) (iblk m c 2 t) (ValueIdx.ix2 p q) : EReal)
      = Cert.Reference13Ideal.Read.val_main_v3 (F := Ideal) (m ((c : Thread nD τ).loc main_arg0)) (m ((c : Thread nD τ).loc main_arg1))
          (m ((c : Thread nD τ).loc main_arg2)) (ValueIdx.ix2 ⟨t.val * 1024 + p.val, h⟩ q) := by
  refine (pay _ _ _ _ _).trans ((ref _ _ _ _ _).trans ?_).symm
  refine congrArg₂ (fun a b : EReal => a + b) (blk2 m c t p q h).symm (Finset.sum_congr rfl fun k _ => ?_)
  exact congrArg₂ (fun a b : EReal => a * b) (blk0 m c t p k h).symm (blk1 m c t k q).symm

theorem point4 (t : Fin cfg0.N) (p q : Fin 1024) (h : t.val * 1024 + p.val < 2048) :
    out0_4 (iblk m c 0 t) (iblk m c 1 t) (iblk m c 2 t) (iblk m c 3 t) (ValueIdx.ix2 p q)
      = Cert.Reference13Ideal.Read.val_main_v3 (F := Ideal) (m ((c : Thread nD τ).loc main_arg0)) (m ((c : Thread nD τ).loc main_arg1))
          (m ((c : Thread nD τ).loc main_arg2)) (ValueIdx.ix2 ⟨t.val * 1024 + p.val, h⟩ q) := by
  unfold out0_4
  frame_out
  exact prod m c t p q h

theorem point5 (t : Fin cfg0.N) (p q : Fin 1024) (h : t.val * 1024 + p.val < 2048) :
    out0_5 (iblk m c 0 t) (iblk m c 1 t) (iblk m c 2 t) (iblk m c 3 t) (ValueIdx.ix2 p q)
      = Cert.Reference13Ideal.Read.val_main_v18 (F := Ideal) (m ((c : Thread nD τ).loc main_arg0)) (m ((c : Thread nD τ).loc main_arg1))
          (m ((c : Thread nD τ).loc main_arg2)) (m ((c : Thread nD τ).loc main_arg3)) (ValueIdx.ix2 ⟨t.val * 1024 + p.val, h⟩ q) := by
  unfold out0_5
  frame_out
  refine (pay2 _ _ _ _ _ _).trans (Eq.trans ?_ (ref2 _ _ _ _ _ _).symm)
  exact congrArg₂ (fun (u : Fin 1024 → EReal) (g : EReal) => normed u g q) (funext fun k => prod m c t p k h) (blk3 m c t 0 q)

/-- The array of sums after the run is the reference's. -/
theorem final4 : (dats m 0 c).arrAt 4 cfg0.N
    = Cert.Reference13Ideal.Read.val_main_v3 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  have e := (idx t).2.2.2.2.1
  blk_simp [e]
  rw [after0_4]
  have h0 : (y 0).val < 1024 := (y 0).isLt
  have h1 : (y 1).val < 1024 := (y 1).isLt
  have ht : t.val < 2 := t.isLt
  have q : (win0_4.blk t).view.emb y = ValueIdx.ix2 (⟨t.val * 1024 + (y 0).val, by omega⟩ : Fin 2048) (⟨(y 1).val, h1⟩ : Fin 1024) := by
    refine eq_ix2_of _ _ _ ?_ ?_
    · show win0_4.index t 0 * 1024 + 1 * (y 0).val = t.val * 1024 + (y 0).val
      rw [e]
      simp
    · show win0_4.index t 1 * 1024 + 1 * (y 1).val = (y 1).val
      rw [e]
      simp
  rw [q]
  exact (congrArg _ (eq_ix2_of y ⟨(y 0).val, h0⟩ ⟨(y 1).val, h1⟩ rfl rfl)).trans (point4 m c t ⟨(y 0).val, h0⟩ ⟨(y 1).val, h1⟩ _)

/-- The array of norms after the run is the reference's. -/
theorem final5 : (dats m 0 c).arrAt 5 cfg0.N
    = Cert.Reference13Ideal.Read.val_main_v18 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  have e := (idx t).2.2.2.2.2
  blk_simp [e]
  rw [after0_5]
  have h0 : (y 0).val < 1024 := (y 0).isLt
  have h1 : (y 1).val < 1024 := (y 1).isLt
  have ht : t.val < 2 := t.isLt
  have q : (win0_5.blk t).view.emb y = ValueIdx.ix2 (⟨t.val * 1024 + (y 0).val, by omega⟩ : Fin 2048) (⟨(y 1).val, h1⟩ : Fin 1024) := by
    refine eq_ix2_of _ _ _ ?_ ?_
    · show win0_5.index t 0 * 1024 + 1 * (y 0).val = t.val * 1024 + (y 0).val
      rw [e]
      simp
    · show win0_5.index t 1 * 1024 + 1 * (y 1).val = (y 1).val
      rw [e]
      simp
  rw [q]
  exact (congrArg _ (eq_ix2_of y ⟨(y 0).val, h0⟩ ⟨(y 1).val, h1⟩ rfl rfl)).trans (point5 m c t ⟨(y 0).val, h0⟩ ⟨(y 1).val, h1⟩ _)

/-- The kernel and the reference leave the same arrays. -/
theorem algebraic : Cert.algebraic_Kernel13Ideal_Reference13Ideal := by
  pair_intro
  · run_from Cert.Kernel13Ideal.Value.run_blocks m g
  · refine θ_run_mono (Cert.Reference13Ideal.Value.run m' g') ?_
    intro r hr c
    obtain ⟨h0, h1, ha⟩ := hr c
    obtain ⟨e0, e1, e2, e3⟩ := hagree c
    refine ⟨h0.trans ?_, h1.trans ?_, ha⟩
    · refine (Cert.Reference13Ideal.Read.val_main_v3_eq _ _ _).trans ?_
      rw [e0, e1, e2]
      exact (final4 m c).symm
    · refine (Cert.Reference13Ideal.Read.val_main_v18_eq _ _ _ _).trans ?_
      rw [e0, e1, e2, e3]
      exact (final5 m c).symm

end Cert.Mlp.Out

end
-- ==== Proof.Mlp.Parts.lean ====
module

public import proofs.«01_k».proof.Proof.Mlp.Dots

/-! A sum of 4096 terms, part by part. -/

@[expose] public section

set_option maxRecDepth 16384

noncomputable section

namespace Cert.Mlp

open Idealize.ShloMosaic

/-- Part `s` of a sum of 4096 terms. -/
def part (f : Fin 4096 → EReal) (s : Fin 4) : EReal :=
  ∑ k : Fin 1024, f ⟨s.val * 1024 + k.val, by have h := s.isLt; have h' := k.isLt; omega⟩

/-- The sum is its four parts, added one after another. -/
theorem sum_parts (f : Fin 4096 → EReal) : ∑ k : Fin 4096, f k = part f 0 + part f 1 + part f 2 + part f 3 := by
  have e : ∑ x : Fin 4 × Fin 1024, f (finProdFinEquiv x) = ∑ k : Fin 4096, f k := Equiv.sum_comp (finProdFinEquiv (m := 4) (n := 1024)) f
  rw [← e, Fintype.sum_prod_type, Fin.sum_univ_four]
  have p : ∀ s : Fin 4, ∑ k : Fin 1024, f (finProdFinEquiv (s, k)) = part f s := fun s =>
    Finset.sum_congr rfl fun k _ => congrArg f (Fin.ext (by
      show k.val + 1024 * s.val = s.val * 1024 + k.val
      omega))
  rw [p, p, p, p]

end Cert.Mlp

end
-- ==== Proof.Mlp.Down1.lean ====
module

public import proofs.«01_k».proof.Defs
public import proofs.«01_k».proof.Proof.Mlp.Parts
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Claim

/-! The last squared-ReLU layer's second product with its residual, added up over four parts of the contracted axis. -/

@[expose] public section

set_option maxRecDepth 16384

noncomputable section

namespace Cert.Mlp.Down1

open Idealize.SL.Sem Idealize.ShloMosaic Idealize.ShloMosaic.TcCoe Cert.Kernel14Ideal Cert.Kernel14Ideal.Gen

/-- One part's product at one entry of its block. -/
theorem pay (x : Vec Ideal S1024x1024 .bf16) (y : Vec Ideal S1024x1024 .bf16) (p q : Fin 1024) :
    (k0_pay1 (F := Ideal) x y (ValueIdx.ix2 p q) : EReal) = ∑ k : Fin 1024, (x (ValueIdx.ix2 p k) : EReal) * (y (ValueIdx.ix2 k q) : EReal) :=
  nn (φ₁ := .bf16) (φ₂ := .bf16) _ x y p q

/-- A cast to the same shape reads at the same index. -/
theorem same (v : Vec Ideal S1024x1024 .f32) (h : S1024x1024.ShapeCasts S1024x1024) (i : S1024x1024.Idx) : shapeCast S1024x1024 v h i = v i :=
  shapeCast_apply v h i i rfl

variable (x0 : (⟨S2048x4096, .bf16⟩ : BufTy).Contents (Elt Ideal)) (x1 : (⟨S4096x1024, .bf16⟩ : BufTy).Contents (Elt Ideal))
  (x2 : (⟨S2048x1024, .f32⟩ : BufTy).Contents (Elt Ideal))

/-- The terms of the whole product at one entry. -/
def term (p : Fin 2048) (q : Fin 1024) (k : Fin 4096) : EReal := (x0 (ValueIdx.ix2 p k) : EReal) * (x1 (ValueIdx.ix2 k q) : EReal)

/-- The reference at one entry. -/
theorem ref (p : Fin 2048) (q : Fin 1024) :
    (Cert.Reference14Ideal.Read.val_main_v3 (F := Ideal) x0 x1 x2 (ValueIdx.ix2 p q) : EReal)
      = (x2 (ValueIdx.ix2 p q) : EReal) + ∑ k : Fin 4096, term x0 x1 p q k := by
  rw [Cert.Reference14Ideal.Read.val_main_v3_apply]
  refine congrArg (fun b : EReal => (x2 (ValueIdx.ix2 p q) : EReal) + b) (Eq.trans (Cert.Reference14Ideal.Read.val_main_v2_apply x0 x1 _) ?_)
  refine Finset.sum_congr rfl fun k _ => ?_
  exact congrArg₂ (fun a b : EReal => a * b) (congrArg x0 (eq_ix2_of _ _ _ rfl rfl)) (congrArg x1 (eq_ix2_of _ _ _ rfl rfl))

variable (m : (ℓ : Loc nD τ sig) → Buf (Elt Ideal) ℓ) (c : Dev nD)

theorem idx : ∀ t : Fin cfg0.N, win0_0.index t = ![t.val / 4, t.val % 4] ∧ win0_1.index t = ![t.val % 4, 0] ∧ win0_2.index t = ![t.val / 4, 0]
    ∧ win0_3.index t = ![t.val / 4, 0] :=
  (by decide +kernel : ∀ t : Fin grid0.N, _)

theorem blk0 (t : Fin cfg0.N) (p k : Fin 1024) (h : t.val / 4 * 1024 + p.val < 2048) (hk : t.val % 4 * 1024 + k.val < 4096) :
    iblk m c 0 t (ValueIdx.ix2 p k) = m ((c : Thread nD τ).loc main_arg0) (ValueIdx.ix2 ⟨t.val / 4 * 1024 + p.val, h⟩ ⟨t.val % 4 * 1024 + k.val, hk⟩) := by
  have e := (idx t).1
  blk_ext [iblk, V, e]

theorem blk1 (t : Fin cfg0.N) (k q : Fin 1024) (hk : t.val % 4 * 1024 + k.val < 4096) :
    iblk m c 1 t (ValueIdx.ix2 k q) = m ((c : Thread nD τ).loc main_arg1) (ValueIdx.ix2 ⟨t.val % 4 * 1024 + k.val, hk⟩ q) := by
  have e := (idx t).2.1
  blk_ext [iblk, V, e]

theorem blk2 (t : Fin cfg0.N) (p k : Fin 1024) (h : t.val / 4 * 1024 + p.val < 2048) :
    iblk m c 2 t (ValueIdx.ix2 p k) = m ((c : Thread nD τ).loc main_arg2) (ValueIdx.ix2 ⟨t.val / 4 * 1024 + p.val, h⟩ k) := by
  have e := (idx t).2.2.1
  blk_ext [iblk, V, e]

/-- Point `t`'s product is one part of the whole. -/
theorem prod (t : Fin cfg0.N) (p q : Fin 1024) (r : Fin 2048) (s : Fin 4) (hs : t.val % 4 = s.val) (hr : r.val = t.val / 4 * 1024 + p.val) :
    (k0_pay1 (F := Ideal) (iblk m c 0 t) (iblk m c 1 t) (ValueIdx.ix2 p q) : EReal)
      = part (term (m ((c : Thread nD τ).loc main_arg0)) (m ((c : Thread nD τ).loc main_arg1)) r q) s := by
  obtain rfl : s = ⟨t.val % 4, Nat.mod_lt _ (by decide)⟩ := Fin.ext hs.symm
  have h : t.val / 4 * 1024 + p.val < 2048 := hr ▸ r.isLt
  obtain rfl : r = ⟨t.val / 4 * 1024 + p.val, h⟩ := Fin.ext hr
  refine (pay _ _ _ _).trans (Finset.sum_congr rfl fun k _ => ?_)
  exact congrArg₂ (fun a b : EReal => a * b) (blk0 m c t p k h _) (blk1 m c t k q _)

/-- The first point of a run leaves its product. -/
theorem left0 (t : Fin cfg0.N) (h : t.val % 4 = 0) (i : S1024x1024.Idx) :
    ((outsAt0 m c t.val t.isLt).2 i : EReal) = k0_pay1 (F := Ideal) (iblk m c 0 t) (iblk m c 1 t) i := by
  rw [outsAt0_A m c t h (by omega) (by omega)]
  dsimp only
  unfold sout0_A_0
  frame_out
  exact same (k0_pay1 (F := Ideal) (iblk m c 0 t) (iblk m c 1 t)) _ i

/-- The two points after it add theirs. -/
theorem left1 (t : Fin cfg0.N) (h : 1 ≤ t.val % 4 ∧ t.val % 4 ≤ 2) (i : S1024x1024.Idx) :
    ((outsAt0 m c t.val t.isLt).2 i : EReal)
      = ((outsAt0 m c (t.val - 1) (Nat.lt_of_le_of_lt (Nat.sub_le _ _) t.isLt)).2 i : EReal) + k0_pay1 (F := Ideal) (iblk m c 0 t) (iblk m c 1 t) i := by
  rw [outsAt0_B m c t (by omega) h (by omega)]
  dsimp only
  unfold sout0_B_0
  frame_out
  unfold k0_pay3
  refine (same _ _ i).trans ?_
  exact congrArg (fun a : EReal => a + k0_pay1 (F := Ideal) (iblk m c 0 t) (iblk m c 1 t) i) (congrFun ((Memref.isWhole_whole cc0_scratch0).read_unread _) i)

/-- Point `t`'s block of the residual. -/
def resid (t : Fin cfg0.N) (i : S1024x1024.Idx) : EReal := iblk m c 2 t i

/-- The last point of a run writes the residual plus the whole sum. -/
theorem left2 (t : Fin cfg0.N) (h : t.val % 4 = 3) (i : S1024x1024.Idx) :
    ((outsAt0 m c t.val t.isLt).1 i : EReal)
      = resid m c t i + (((outsAt0 m c (t.val - 1) (Nat.lt_of_le_of_lt (Nat.sub_le _ _) t.isLt)).2 i : EReal)
          + k0_pay1 (F := Ideal) (iblk m c 0 t) (iblk m c 1 t) i) := by
  rw [outsAt0_C m c t (by omega) (by omega) h]
  dsimp only
  unfold out0_C_3
  frame_out
  exact congrArg (fun a : EReal => resid m c t i + (a + k0_pay1 (F := Ideal) (iblk m c 0 t) (iblk m c 1 t) i))
    (congrFun ((Memref.isWhole_whole cc0_scratch0).read_unread _) i)

theorem point (t : Fin cfg0.N) (p q : Fin 1024) (hf : t.val % 4 = 3) (h : t.val / 4 * 1024 + p.val < 2048) :
    (outsAt0 m c t.val t.isLt).1 (ValueIdx.ix2 p q)
      = Cert.Reference14Ideal.Read.val_main_v3 (F := Ideal) (m ((c : Thread nD τ).loc main_arg0)) (m ((c : Thread nD τ).loc main_arg1))
          (m ((c : Thread nD τ).loc main_arg2)) (ValueIdx.ix2 ⟨t.val / 4 * 1024 + p.val, h⟩ q) := by
  have ht := t.isLt
  have l2 : t.val - 1 < cfg0.N := by omega
  have l1 : t.val - 1 - 1 < cfg0.N := by omega
  have l0 : t.val - 1 - 1 - 1 < cfg0.N := by omega
  refine (left2 m c t hf _).trans ((ref _ _ _ _ _).trans ?_).symm
  rw [sum_parts]
  refine congrArg₂ (fun a b : EReal => a + b) (blk2 m c t p q h).symm ?_
  refine congrArg₂ (fun a b : EReal => a + b) ?_ (prod m c t p q _ 3 hf rfl).symm
  refine ((left1 m c ⟨t.val - 1, l2⟩ (by show 1 ≤ (t.val - 1) % 4 ∧ (t.val - 1) % 4 ≤ 2; omega) _).trans ?_).symm
  refine congrArg₂ (fun a b : EReal => a + b) ?_ (prod m c ⟨t.val - 1, l2⟩ p q _ 2 (by show (t.val - 1) % 4 = 2; omega)
    (by show t.val / 4 * 1024 + p.val = (t.val - 1) / 4 * 1024 + p.val; omega))
  refine (left1 m c ⟨t.val - 1 - 1, l1⟩ (by show 1 ≤ (t.val - 1 - 1) % 4 ∧ (t.val - 1 - 1) % 4 ≤ 2; omega) _).trans ?_
  refine congrArg₂ (fun a b : EReal => a + b) ?_ (prod m c ⟨t.val - 1 - 1, l1⟩ p q _ 1 (by show (t.val - 1 - 1) % 4 = 1; omega)
    (by show t.val / 4 * 1024 + p.val = (t.val - 1 - 1) / 4 * 1024 + p.val; omega))
  refine (left0 m c ⟨t.val - 1 - 1 - 1, l0⟩ (by show (t.val - 1 - 1 - 1) % 4 = 0; omega) _).trans ?_
  exact prod m c ⟨t.val - 1 - 1 - 1, l0⟩ p q _ 0 (by show (t.val - 1 - 1 - 1) % 4 = 0; omega)
    (by show t.val / 4 * 1024 + p.val = (t.val - 1 - 1 - 1) / 4 * 1024 + p.val; omega)

/-- The array after the run is the reference's. -/
theorem final : (dats m 0 c).arrAt 3 cfg0.N
    = Cert.Reference14Ideal.Read.val_main_v3 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  have hm : t.val % 4 = 3 := (flush0_3 t).mp hf
  have e := (idx t).2.2.2
  blk_simp [e]
  rw [after0_3]
  have h0 : (y 0).val < 1024 := (y 0).isLt
  have h1 : (y 1).val < 1024 := (y 1).isLt
  have ht : t.val < 8 := t.isLt
  have q : (win0_3.blk t).view.emb y = ValueIdx.ix2 (⟨t.val / 4 * 1024 + (y 0).val, by omega⟩ : Fin 2048) (⟨(y 1).val, h1⟩ : Fin 1024) := by
    refine eq_ix2_of _ _ _ ?_ ?_
    · show win0_3.index t 0 * 1024 + 1 * (y 0).val = t.val / 4 * 1024 + (y 0).val
      rw [e]
      simp
    · show win0_3.index t 1 * 1024 + 1 * (y 1).val = (y 1).val
      rw [e]
      simp
  rw [q]
  exact (congrArg _ (eq_ix2_of y ⟨(y 0).val, h0⟩ ⟨(y 1).val, h1⟩ rfl rfl)).trans (point m c t ⟨(y 0).val, h0⟩ ⟨(y 1).val, h1⟩ hm _)

/-- The kernel and the reference leave the same array. -/
theorem algebraic : Cert.algebraic_Kernel14Ideal_Reference14Ideal := by
  pair_intro
  · run_from Cert.Kernel14Ideal.Value.run_blocks m g
  · refine θ_run_mono (Cert.Reference14Ideal.Value.run m' g') ?_
    intro r hr c
    obtain ⟨h0, ha⟩ := hr c
    obtain ⟨e0, e1, e2⟩ := hagree c
    refine ⟨h0.trans ?_, ha⟩
    refine (Cert.Reference14Ideal.Read.val_main_v3_eq _ _ _).trans ?_
    rw [e0, e1, e2]
    exact (final m c).symm

end Cert.Mlp.Down1

end
-- ==== Proof.Mlp.Down0.lean ====
module

public import proofs.«01_k».proof.Defs
public import proofs.«01_k».proof.Proof.Mlp.Parts
public import proofs.«01_k».proof.Proof.Mlp.Norm
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Claim

/-! The first squared-ReLU layer's second product with its residual, added up over four parts of the contracted axis, and the two next norms of it. -/

@[expose] public section

set_option maxRecDepth 16384

noncomputable section

namespace Cert.Mlp.Down0

open Idealize.SL.Sem Idealize.ShloMosaic Idealize.ShloMosaic.TcCoe Cert.Kernel15Ideal Cert.Kernel15Ideal.Gen

/-- One part's product at one entry of its block. -/
theorem pay (x : Vec Ideal S1024x1024 .bf16) (y : Vec Ideal S1024x1024 .bf16) (p q : Fin 1024) :
    (k0_pay1 (F := Ideal) x y (ValueIdx.ix2 p q) : EReal) = ∑ k : Fin 1024, (x (ValueIdx.ix2 p k) : EReal) * (y (ValueIdx.ix2 k q) : EReal) :=
  nn (φ₁ := .bf16) (φ₂ := .bf16) _ x y p q

/-- The norms at one entry of their blocks. -/
theorem pay6 (x : Vec Ideal S1024x1024 .bf16) (y : Vec Ideal S1024x1024 .bf16) (u h : Vec Ideal S1024x1024 .f32) (g : Vec Ideal S1x1024 .f32) (p q : Fin 1024) :
    (k0_pay6 (F := Ideal) x y u h g (ValueIdx.ix2 p q) : EReal)
      = normed (fun k => k0_pay4 (F := Ideal) x y u h (ValueIdx.ix2 p k)) (g (ValueIdx.ix2 (0 : Fin 1) q)) q := by
  refine congrArg₂ (fun a b : EReal => a * b) ?_ ?_
  · exact scaled_apply (k0_pay4 (F := Ideal) x y u h) reduces_S1024x1024_S1024 (.inl rfl) rfl shapeCasts_S1024_S1024x1 broadcasts_S1024x1_S1024x1024 p q
  · exact ValueIdx.broadcastTo_1b_ab_apply g broadcasts_S1x1024_S1024x1024 p q

theorem pay7 (x : Vec Ideal S1024x1024 .bf16) (y : Vec Ideal S1024x1024 .bf16) (u h : Vec Ideal S1024x1024 .f32) (g : Vec Ideal S1x1024 .f32) (p q : Fin 1024) :
    (k0_pay7 (F := Ideal) x y u h g (ValueIdx.ix2 p q) : EReal)
      = normed (fun k => k0_pay4 (F := Ideal) x y u h (ValueIdx.ix2 p k)) (g (ValueIdx.ix2 (0 : Fin 1) q)) q :=
  pay6 x y u h g p q

/-- A cast to the same shape reads at the same index. -/
theorem same (v : Vec Ideal S1024x1024 .f32) (h : S1024x1024.ShapeCasts S1024x1024) (i : S1024x1024.Idx) : shapeCast S1024x1024 v h i = v i :=
  shapeCast_apply v h i i rfl

variable (x0 : (⟨S2048x4096, .bf16⟩ : BufTy).Contents (Elt Ideal)) (x1 : (⟨S4096x1024, .bf16⟩ : BufTy).Contents (Elt Ideal))
  (x2 : (⟨S2048x1024, .f32⟩ : BufTy).Contents (Elt Ideal)) (x3 x4 : (⟨S1x1024, .f32⟩ : BufTy).Contents (Elt Ideal))

/-- The terms of the whole product at one entry. -/
def term (p : Fin 2048) (q : Fin 1024) (k : Fin 4096) : EReal := (x0 (ValueIdx.ix2 p k) : EReal) * (x1 (ValueIdx.ix2 k q) : EReal)

/-- The reference at one entry. -/
theorem ref (p : Fin 2048) (q : Fin 1024) :
    (Cert.Reference15Ideal.Read.val_main_v3 (F := Ideal) x0 x1 x2 (ValueIdx.ix2 p q) : EReal)
      = (x2 (ValueIdx.ix2 p q) : EReal) + ∑ k : Fin 4096, term x0 x1 p q k := by
  rw [Cert.Reference15Ideal.Read.val_main_v3_apply]
  refine congrArg (fun b : EReal => (x2 (ValueIdx.ix2 p q) : EReal) + b) (Eq.trans (Cert.Reference15Ideal.Read.val_main_v2_apply x0 x1 _) ?_)
  refine Finset.sum_congr rfl fun k _ => ?_
  exact congrArg₂ (fun a b : EReal => a * b) (congrArg x0 (eq_ix2_of _ _ _ rfl rfl)) (congrArg x1 (eq_ix2_of _ _ _ rfl rfl))

/-- The reference's sum of a row's squares. -/
theorem refSum0 (p : Fin 2048) (i : Cert.Reference15Ideal.S2048.Idx) (hi : (i 0).val = p.val) :
    (Cert.Reference15Ideal.Read.val_main_v6 (F := Ideal) x0 x1 x2 i : EReal)
      = ∑ k : Fin 1024, (Cert.Reference15Ideal.Read.val_main_v3 (F := Ideal) x0 x1 x2 (ValueIdx.ix2 p k) : EReal)
          * (Cert.Reference15Ideal.Read.val_main_v3 (F := Ideal) x0 x1 x2 (ValueIdx.ix2 p k) : EReal) := by
  refine Eq.trans (Cert.Reference15Ideal.Read.val_main_v6_apply x0 x1 x2 i) ?_
  refine Eq.trans (congrArg (fun a : EReal => a + _) (show Ideal.ofBits .f32 0x00000000#32 = (0 : EReal) by simp [Ideal.ofBits, Ideal.ieee])) ?_
  refine (zero_add _).trans (Finset.sum_congr rfl fun k _ => ?_)
  refine Eq.trans (Cert.Reference15Ideal.Read.val_main_v5_apply x0 x1 x2 _) ?_
  rw [show Cert.Reference15Ideal.Read.idx_main_v6 i k = ValueIdx.ix2 p k from eq_ix2_of _ _ _ hi rfl]
  rfl

/-- The reference's sum of a row's squares. -/
theorem refSum1 (p : Fin 2048) (i : Cert.Reference15Ideal.S2048.Idx) (hi : (i 0).val = p.val) :
    (Cert.Reference15Ideal.Read.val_main_v21 (F := Ideal) x0 x1 x2 i : EReal)
      = ∑ k : Fin 1024, (Cert.Reference15Ideal.Read.val_main_v3 (F := Ideal) x0 x1 x2 (ValueIdx.ix2 p k) : EReal)
          * (Cert.Reference15Ideal.Read.val_main_v3 (F := Ideal) x0 x1 x2 (ValueIdx.ix2 p k) : EReal) := by
  refine Eq.trans (Cert.Reference15Ideal.Read.val_main_v21_apply x0 x1 x2 i) ?_
  refine Eq.trans (congrArg (fun a : EReal => a + _) (show Ideal.ofBits .f32 0x00000000#32 = (0 : EReal) by simp [Ideal.ofBits, Ideal.ieee])) ?_
  refine (zero_add _).trans (Finset.sum_congr rfl fun k _ => ?_)
  refine Eq.trans (Cert.Reference15Ideal.Read.val_main_v20_apply x0 x1 x2 _) ?_
  rw [show Cert.Reference15Ideal.Read.idx_main_v21 i k = ValueIdx.ix2 p k from eq_ix2_of _ _ _ hi rfl]
  rfl

/-- The reference's norm at one entry. -/
theorem refNorm0 (p : Fin 2048) (q : Fin 1024) :
    (Cert.Reference15Ideal.Read.val_main_v18 (F := Ideal) x0 x1 x2 x3 (ValueIdx.ix2 p q) : EReal)
      = normed (fun k => Cert.Reference15Ideal.Read.val_main_v3 (F := Ideal) x0 x1 x2 (ValueIdx.ix2 p k)) (x3 (ValueIdx.ix2 (0 : Fin 1) q)) q := by
  rw [Cert.Reference15Ideal.Read.val_main_v18_apply, Cert.Reference15Ideal.Read.val_main_v17_apply, Cert.Reference15Ideal.Read.val_main_v14_apply, Cert.Reference15Ideal.Read.val_main_v13_apply, Cert.Reference15Ideal.Read.val_main_v12_apply, Cert.Reference15Ideal.Read.val_main_v11_apply, Cert.Reference15Ideal.Read.val_main_v10_apply, Cert.Reference15Ideal.Read.val_main_v9_apply, Cert.Reference15Ideal.Read.val_main_v8_apply, Cert.Reference15Ideal.Read.val_main_v7_apply, Cert.Reference15Ideal.Read.val_main_v16_apply, Cert.Reference15Ideal.Read.val_main_v15_apply, Cert.Reference15Ideal.Read.val_main_v4_apply]
  refine congrArg₂ (fun a b : EReal => a * b) ?_ (congrArg x3 (eq_ix2_of _ _ _ rfl (Nat.mod_eq_of_lt q.isLt)))
  refine congrArg (fun b : EReal => (Cert.Reference15Ideal.Read.val_main_v3 (F := Ideal) x0 x1 x2 (ValueIdx.ix2 p q) : EReal) * b) ?_
  refine congrArg (fun b : EReal => Ideal.rsqrt (Ideal.div b (Ideal.ofBits .f32 0x44800000#32) + Ideal.ofBits .f32 0x358637BD#32)) ?_
  exact refSum0 x0 x1 x2 p _ rfl

/-- The reference's norm at one entry. -/
theorem refNorm1 (p : Fin 2048) (q : Fin 1024) :
    (Cert.Reference15Ideal.Read.val_main_v33 (F := Ideal) x0 x1 x2 x4 (ValueIdx.ix2 p q) : EReal)
      = normed (fun k => Cert.Reference15Ideal.Read.val_main_v3 (F := Ideal) x0 x1 x2 (ValueIdx.ix2 p k)) (x4 (ValueIdx.ix2 (0 : Fin 1) q)) q := by
  rw [Cert.Reference15Ideal.Read.val_main_v33_apply, Cert.Reference15Ideal.Read.val_main_v32_apply, Cert.Reference15Ideal.Read.val_main_v29_apply, Cert.Reference15Ideal.Read.val_main_v28_apply, Cert.Reference15Ideal.Read.val_main_v27_apply, Cert.Reference15Ideal.Read.val_main_v26_apply, Cert.Reference15Ideal.Read.val_main_v25_apply, Cert.Reference15Ideal.Read.val_main_v24_apply, Cert.Reference15Ideal.Read.val_main_v23_apply, Cert.Reference15Ideal.Read.val_main_v22_apply, Cert.Reference15Ideal.Read.val_main_v31_apply, Cert.Reference15Ideal.Read.val_main_v30_apply, Cert.Reference15Ideal.Read.val_main_v19_apply]
  refine congrArg₂ (fun a b : EReal => a * b) ?_ (congrArg x4 (eq_ix2_of _ _ _ rfl (Nat.mod_eq_of_lt q.isLt)))
  refine congrArg (fun b : EReal => (Cert.Reference15Ideal.Read.val_main_v3 (F := Ideal) x0 x1 x2 (ValueIdx.ix2 p q) : EReal) * b) ?_
  refine congrArg (fun b : EReal => Ideal.rsqrt (Ideal.div b (Ideal.ofBits .f32 0x44800000#32) + Ideal.ofBits .f32 0x358637BD#32)) ?_
  exact refSum1 x0 x1 x2 p _ rfl

variable (m : (ℓ : Loc nD τ sig) → Buf (Elt Ideal) ℓ) (c : Dev nD)

theorem idx : ∀ t : Fin cfg0.N, win0_0.index t = ![t.val / 4, t.val % 4] ∧ win0_1.index t = ![t.val % 4, 0] ∧ win0_2.index t = ![t.val / 4, 0]
    ∧ win0_3.index t = ![0, 0] ∧ win0_4.index t = ![0, 0] ∧ win0_5.index t = ![t.val / 4, 0] ∧ win0_6.index t = ![t.val / 4, 0]
    ∧ win0_7.index t = ![t.val / 4, 0] :=
  (by decide +kernel : ∀ t : Fin grid0.N, _)

theorem blk0 (t : Fin cfg0.N) (p k : Fin 1024) (h : t.val / 4 * 1024 + p.val < 2048) (hk : t.val % 4 * 1024 + k.val < 4096) :
    iblk m c 0 t (ValueIdx.ix2 p k) = m ((c : Thread nD τ).loc main_arg0) (ValueIdx.ix2 ⟨t.val / 4 * 1024 + p.val, h⟩ ⟨t.val % 4 * 1024 + k.val, hk⟩) := by
  have e := (idx t).1
  blk_ext [iblk, V, e]

theorem blk1 (t : Fin cfg0.N) (k q : Fin 1024) (hk : t.val % 4 * 1024 + k.val < 4096) :
    iblk m c 1 t (ValueIdx.ix2 k q) = m ((c : Thread nD τ).loc main_arg1) (ValueIdx.ix2 ⟨t.val % 4 * 1024 + k.val, hk⟩ q) := by
  have e := (idx t).2.1
  blk_ext [iblk, V, e]

theorem blk2 (t : Fin cfg0.N) (p k : Fin 1024) (h : t.val / 4 * 1024 + p.val < 2048) :
    iblk m c 2 t (ValueIdx.ix2 p k) = m ((c : Thread nD τ).loc main_arg2) (ValueIdx.ix2 ⟨t.val / 4 * 1024 + p.val, h⟩ k) := by
  have e := (idx t).2.2.1
  blk_ext [iblk, V, e]

theorem blk3 (t : Fin cfg0.N) (z : Fin 1) (q : Fin 1024) :
    iblk m c 3 t (ValueIdx.ix2 z q) = m ((c : Thread nD τ).loc main_arg3) (ValueIdx.ix2 z q) := by
  have e := (idx t).2.2.2.1
  blk_ext [iblk, V, e]

theorem blk4 (t : Fin cfg0.N) (z : Fin 1) (q : Fin 1024) :
    iblk m c 4 t (ValueIdx.ix2 z q) = m ((c : Thread nD τ).loc main_arg4) (ValueIdx.ix2 z q) := by
  have e := (idx t).2.2.2.2.1
  blk_ext [iblk, V, e]

/-- Point `t`'s product is one part of the whole. -/
theorem prod (t : Fin cfg0.N) (p q : Fin 1024) (r : Fin 2048) (s : Fin 4) (hs : t.val % 4 = s.val) (hr : r.val = t.val / 4 * 1024 + p.val) :
    (k0_pay1 (F := Ideal) (iblk m c 0 t) (iblk m c 1 t) (ValueIdx.ix2 p q) : EReal)
      = part (term (m ((c : Thread nD τ).loc main_arg0)) (m ((c : Thread nD τ).loc main_arg1)) r q) s := by
  obtain rfl : s = ⟨t.val % 4, Nat.mod_lt _ (by decide)⟩ := Fin.ext hs.symm
  have h : t.val / 4 * 1024 + p.val < 2048 := hr ▸ r.isLt
  obtain rfl : r = ⟨t.val / 4 * 1024 + p.val, h⟩ := Fin.ext hr
  refine (pay _ _ _ _).trans (Finset.sum_congr rfl fun k _ => ?_)
  exact congrArg₂ (fun a b : EReal => a * b) (blk0 m c t p k h _) (blk1 m c t k q _)

/-- The first point of a run leaves its product. -/
theorem left0 (t : Fin cfg0.N) (h : t.val % 4 = 0) (i : S1024x1024.Idx) :
    ((outsAt0 m c t.val t.isLt).2.2.2 i : EReal) = k0_pay1 (F := Ideal) (iblk m c 0 t) (iblk m c 1 t) i := by
  rw [outsAt0_A m c t h (by omega) (by omega)]
  dsimp only
  unfold sout0_A_0
  frame_out
  exact same (k0_pay1 (F := Ideal) (iblk m c 0 t) (iblk m c 1 t)) _ i

/-- The two points after it add theirs. -/
theorem left1 (t : Fin cfg0.N) (h : 1 ≤ t.val % 4 ∧ t.val % 4 ≤ 2) (i : S1024x1024.Idx) :
    ((outsAt0 m c t.val t.isLt).2.2.2 i : EReal)
      = ((outsAt0 m c (t.val - 1) (Nat.lt_of_le_of_lt (Nat.sub_le _ _) t.isLt)).2.2.2 i : EReal) + k0_pay1 (F := Ideal) (iblk m c 0 t) (iblk m c 1 t) i := by
  rw [outsAt0_B m c t (by omega) h (by omega)]
  dsimp only
  unfold sout0_B_0
  frame_out
  unfold k0_pay3
  refine (same _ _ i).trans ?_
  exact congrArg (fun a : EReal => a + k0_pay1 (F := Ideal) (iblk m c 0 t) (iblk m c 1 t) i) (congrFun ((Memref.isWhole_whole cc0_scratch0).read_unread _) i)

/-- What the point before `t` left of the running sum. -/
def prev (t : Fin cfg0.N) : Vec Ideal S1024x1024 .f32 := (outsAt0 m c (t.val - 1) (Nat.lt_of_le_of_lt (Nat.sub_le _ _) t.isLt)).2.2.2

/-- The last point of a run writes the residual plus the whole sum, and its norms. -/
theorem left5 (t : Fin cfg0.N) (h : t.val % 4 = 3) :
    (outsAt0 m c t.val t.isLt).1 = k0_pay4 (F := Ideal) (iblk m c 0 t) (iblk m c 1 t) (prev m c t) (iblk m c 2 t) := by
  rw [outsAt0_C m c t (by omega) (by omega) h]
  dsimp only
  unfold out0_C_5
  frame_out
  exact congrArg (fun a => k0_pay4 (F := Ideal) (iblk m c 0 t) (iblk m c 1 t) a (iblk m c 2 t)) ((Memref.isWhole_whole cc0_scratch0).read_unread _)

theorem left6 (t : Fin cfg0.N) (h : t.val % 4 = 3) :
    (outsAt0 m c t.val t.isLt).2.1 = k0_pay6 (F := Ideal) (iblk m c 0 t) (iblk m c 1 t) (prev m c t) (iblk m c 2 t) (iblk m c 3 t) := by
  rw [outsAt0_C m c t (by omega) (by omega) h]
  dsimp only
  unfold out0_C_6
  frame_out
  exact congrArg (fun a => k0_pay6 (F := Ideal) (iblk m c 0 t) (iblk m c 1 t) a (iblk m c 2 t) (iblk m c 3 t)) ((Memref.isWhole_whole cc0_scratch0).read_unread _)

theorem left7 (t : Fin cfg0.N) (h : t.val % 4 = 3) :
    (outsAt0 m c t.val t.isLt).2.2.1 = k0_pay7 (F := Ideal) (iblk m c 0 t) (iblk m c 1 t) (prev m c t) (iblk m c 2 t) (iblk m c 4 t) := by
  rw [outsAt0_C m c t (by omega) (by omega) h]
  dsimp only
  unfold out0_C_7
  frame_out
  exact congrArg (fun a => k0_pay7 (F := Ideal) (iblk m c 0 t) (iblk m c 1 t) a (iblk m c 2 t) (iblk m c 4 t)) ((Memref.isWhole_whole cc0_scratch0).read_unread _)

/-- The residual plus the whole sum at one entry: the reference's there. -/
theorem point (t : Fin cfg0.N) (p q : Fin 1024) (hf : t.val % 4 = 3) (h : t.val / 4 * 1024 + p.val < 2048) :
    (k0_pay4 (F := Ideal) (iblk m c 0 t) (iblk m c 1 t) (prev m c t) (iblk m c 2 t) (ValueIdx.ix2 p q) : EReal)
      = Cert.Reference15Ideal.Read.val_main_v3 (F := Ideal) (m ((c : Thread nD τ).loc main_arg0)) (m ((c : Thread nD τ).loc main_arg1))
          (m ((c : Thread nD τ).loc main_arg2)) (ValueIdx.ix2 ⟨t.val / 4 * 1024 + p.val, h⟩ q) := by
  have ht := t.isLt
  have l2 : t.val - 1 < cfg0.N := by omega
  have l1 : t.val - 1 - 1 < cfg0.N := by omega
  have l0 : t.val - 1 - 1 - 1 < cfg0.N := by omega
  refine ((ref _ _ _ _ _).trans ?_).symm
  rw [sum_parts]
  refine congrArg₂ (fun a b : EReal => a + b) (blk2 m c t p q h).symm ?_
  refine congrArg₂ (fun a b : EReal => a + b) ?_ (prod m c t p q _ 3 hf rfl).symm
  refine ((left1 m c ⟨t.val - 1, l2⟩ (by show 1 ≤ (t.val - 1) % 4 ∧ (t.val - 1) % 4 ≤ 2; omega) _).trans ?_).symm
  refine congrArg₂ (fun a b : EReal => a + b) ?_ (prod m c ⟨t.val - 1, l2⟩ p q _ 2 (by show (t.val - 1) % 4 = 2; omega)
    (by show t.val / 4 * 1024 + p.val = (t.val - 1) / 4 * 1024 + p.val; omega))
  refine (left1 m c ⟨t.val - 1 - 1, l1⟩ (by show 1 ≤ (t.val - 1 - 1) % 4 ∧ (t.val - 1 - 1) % 4 ≤ 2; omega) _).trans ?_
  refine congrArg₂ (fun a b : EReal => a + b) ?_ (prod m c ⟨t.val - 1 - 1, l1⟩ p q _ 1 (by show (t.val - 1 - 1) % 4 = 1; omega)
    (by show t.val / 4 * 1024 + p.val = (t.val - 1 - 1) / 4 * 1024 + p.val; omega))
  refine (left0 m c ⟨t.val - 1 - 1 - 1, l0⟩ (by show (t.val - 1 - 1 - 1) % 4 = 0; omega) _).trans ?_
  exact prod m c ⟨t.val - 1 - 1 - 1, l0⟩ p q _ 0 (by show (t.val - 1 - 1 - 1) % 4 = 0; omega)
    (by show t.val / 4 * 1024 + p.val = (t.val - 1 - 1 - 1) / 4 * 1024 + p.val; omega)

theorem point5 (t : Fin cfg0.N) (p q : Fin 1024) (hf : t.val % 4 = 3) (h : t.val / 4 * 1024 + p.val < 2048) :
    (outsAt0 m c t.val t.isLt).1 (ValueIdx.ix2 p q)
      = Cert.Reference15Ideal.Read.val_main_v3 (F := Ideal) (m ((c : Thread nD τ).loc main_arg0)) (m ((c : Thread nD τ).loc main_arg1))
          (m ((c : Thread nD τ).loc main_arg2)) (ValueIdx.ix2 ⟨t.val / 4 * 1024 + p.val, h⟩ q) := by
  rw [left5 m c t hf]
  exact point m c t p q hf h

theorem point6 (t : Fin cfg0.N) (p q : Fin 1024) (hf : t.val % 4 = 3) (h : t.val / 4 * 1024 + p.val < 2048) :
    (outsAt0 m c t.val t.isLt).2.1 (ValueIdx.ix2 p q)
      = Cert.Reference15Ideal.Read.val_main_v18 (F := Ideal) (m ((c : Thread nD τ).loc main_arg0)) (m ((c : Thread nD τ).loc main_arg1))
          (m ((c : Thread nD τ).loc main_arg2)) (m ((c : Thread nD τ).loc main_arg3)) (ValueIdx.ix2 ⟨t.val / 4 * 1024 + p.val, h⟩ q) := by
  rw [left6 m c t hf]
  refine (pay6 _ _ _ _ _ _ _).trans (Eq.trans ?_ (refNorm0 _ _ _ _ _ _).symm)
  exact congrArg₂ (fun (u : Fin 1024 → EReal) (g : EReal) => normed u g q) (funext fun k => point m c t p k hf h) (blk3 m c t 0 q)

theorem point7 (t : Fin cfg0.N) (p q : Fin 1024) (hf : t.val % 4 = 3) (h : t.val / 4 * 1024 + p.val < 2048) :
    (outsAt0 m c t.val t.isLt).2.2.1 (ValueIdx.ix2 p q)
      = Cert.Reference15Ideal.Read.val_main_v33 (F := Ideal) (m ((c : Thread nD τ).loc main_arg0)) (m ((c : Thread nD τ).loc main_arg1))
          (m ((c : Thread nD τ).loc main_arg2)) (m ((c : Thread nD τ).loc main_arg4)) (ValueIdx.ix2 ⟨t.val / 4 * 1024 + p.val, h⟩ q) := by
  rw [left7 m c t hf]
  refine (pay7 _ _ _ _ _ _ _).trans (Eq.trans ?_ (refNorm1 _ _ _ _ _ _).symm)
  exact congrArg₂ (fun (u : Fin 1024 → EReal) (g : EReal) => normed u g q) (funext fun k => point m c t p k hf h) (blk4 m c t 0 q)

/-- The array after the run is the reference's. -/
theorem final5 : (dats m 0 c).arrAt 5 cfg0.N
    = Cert.Reference15Ideal.Read.val_main_v3 (F := Ideal) (m ((c : Thread nD τ).loc main_arg0)) (m ((c : Thread nD τ).loc main_arg1))
        (m ((c : Thread nD τ).loc main_arg2)) := by
  refine (dats m 0 c).arrAt_eq_of_covers 5 _ (by decide +kernel) fun t hf y => ?_
  have hm : t.val % 4 = 3 := (flush0_5 t).mp hf
  have e := (idx t).2.2.2.2.2.1
  blk_simp [e]
  rw [after0_5]
  have h0 : (y 0).val < 1024 := (y 0).isLt
  have h1 : (y 1).val < 1024 := (y 1).isLt
  have ht : t.val < 8 := t.isLt
  have q : (win0_5.blk t).view.emb y = ValueIdx.ix2 (⟨t.val / 4 * 1024 + (y 0).val, by omega⟩ : Fin 2048) (⟨(y 1).val, h1⟩ : Fin 1024) := by
    refine eq_ix2_of _ _ _ ?_ ?_
    · show win0_5.index t 0 * 1024 + 1 * (y 0).val = t.val / 4 * 1024 + (y 0).val
      rw [e]
      simp
    · show win0_5.index t 1 * 1024 + 1 * (y 1).val = (y 1).val
      rw [e]
      simp
  rw [q]
  exact (congrArg _ (eq_ix2_of y ⟨(y 0).val, h0⟩ ⟨(y 1).val, h1⟩ rfl rfl)).trans (point5 m c t ⟨(y 0).val, h0⟩ ⟨(y 1).val, h1⟩ hm _)

/-- The array after the run is the reference's. -/
theorem final6 : (dats m 0 c).arrAt 6 cfg0.N
    = Cert.Reference15Ideal.Read.val_main_v18 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  have hm : t.val % 4 = 3 := (flush0_6 t).mp hf
  have e := (idx t).2.2.2.2.2.2.1
  blk_simp [e]
  rw [after0_6]
  have h0 : (y 0).val < 1024 := (y 0).isLt
  have h1 : (y 1).val < 1024 := (y 1).isLt
  have ht : t.val < 8 := t.isLt
  have q : (win0_6.blk t).view.emb y = ValueIdx.ix2 (⟨t.val / 4 * 1024 + (y 0).val, by omega⟩ : Fin 2048) (⟨(y 1).val, h1⟩ : Fin 1024) := by
    refine eq_ix2_of _ _ _ ?_ ?_
    · show win0_6.index t 0 * 1024 + 1 * (y 0).val = t.val / 4 * 1024 + (y 0).val
      rw [e]
      simp
    · show win0_6.index t 1 * 1024 + 1 * (y 1).val = (y 1).val
      rw [e]
      simp
  rw [q]
  exact (congrArg _ (eq_ix2_of y ⟨(y 0).val, h0⟩ ⟨(y 1).val, h1⟩ rfl rfl)).trans (point6 m c t ⟨(y 0).val, h0⟩ ⟨(y 1).val, h1⟩ hm _)

/-- The array after the run is the reference's. -/
theorem final7 : (dats m 0 c).arrAt 7 cfg0.N
    = Cert.Reference15Ideal.Read.val_main_v33 (F := Ideal) (m ((c : Thread nD τ).loc main_arg0)) (m ((c : Thread nD τ).loc main_arg1))
        (m ((c : Thread nD τ).loc main_arg2)) (m ((c : Thread nD τ).loc main_arg4)) := by
  refine (dats m 0 c).arrAt_eq_of_covers 7 _ (by decide +kernel) fun t hf y => ?_
  have hm : t.val % 4 = 3 := (flush0_7 t).mp hf
  have e := (idx t).2.2.2.2.2.2.2
  blk_simp [e]
  rw [after0_7]
  have h0 : (y 0).val < 1024 := (y 0).isLt
  have h1 : (y 1).val < 1024 := (y 1).isLt
  have ht : t.val < 8 := t.isLt
  have q : (win0_7.blk t).view.emb y = ValueIdx.ix2 (⟨t.val / 4 * 1024 + (y 0).val, by omega⟩ : Fin 2048) (⟨(y 1).val, h1⟩ : Fin 1024) := by
    refine eq_ix2_of _ _ _ ?_ ?_
    · show win0_7.index t 0 * 1024 + 1 * (y 0).val = t.val / 4 * 1024 + (y 0).val
      rw [e]
      simp
    · show win0_7.index t 1 * 1024 + 1 * (y 1).val = (y 1).val
      rw [e]
      simp
  rw [q]
  exact (congrArg _ (eq_ix2_of y ⟨(y 0).val, h0⟩ ⟨(y 1).val, h1⟩ rfl rfl)).trans (point7 m c t ⟨(y 0).val, h0⟩ ⟨(y 1).val, h1⟩ hm _)

/-- The kernel and the reference leave the same arrays. -/
theorem algebraic : Cert.algebraic_Kernel15Ideal_Reference15Ideal := by
  pair_intro
  · run_from Cert.Kernel15Ideal.Value.run_blocks m g
  · refine θ_run_mono (Cert.Reference15Ideal.Value.run m' g') ?_
    intro r hr c
    obtain ⟨h0, h1, h2, ha⟩ := hr c
    obtain ⟨e0, e1, e2, e3, e4⟩ := hagree c
    refine ⟨h0.trans ?_, h1.trans ?_, h2.trans ?_, ha⟩
    · refine (Cert.Reference15Ideal.Read.val_main_v3_eq _ _ _).trans ?_
      rw [e0, e1, e2]
      exact (final5 m c).symm
    · refine (Cert.Reference15Ideal.Read.val_main_v18_eq _ _ _ _).trans ?_
      rw [e0, e1, e2, e3]
      exact (final6 m c).symm
    · refine (Cert.Reference15Ideal.Read.val_main_v33_eq _ _ _ _).trans ?_
      rw [e0, e1, e2, e4]
      exact (final7 m c).symm

end Cert.Mlp.Down0

end
-- ==== Proof.Mlp.ProjKv.lean ====
module

public import proofs.«01_k».proof.Defs
public import proofs.«01_k».proof.Proof.Mlp.Dots
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Claim

/-! The second attention's projection of keys and values. -/

@[expose] public section

set_option maxRecDepth 16384

noncomputable section

namespace Cert.Mlp.ProjKv

open Idealize.SL.Sem Idealize.ShloMosaic Idealize.ShloMosaic.TcCoe Cert.Kernel16Ideal Cert.Kernel16Ideal.Gen

/-- The body's result at one entry of its block. -/
theorem pay (x : Vec Ideal S2048x1024 .bf16) (y : Vec Ideal S1024x256 .bf16) (p : Fin 2048) (q : Fin 256) :
    (k0_pay1 (F := Ideal) x y (ValueIdx.ix2 p q) : EReal) = ∑ k : Fin 1024, (x (ValueIdx.ix2 p k) : EReal) * (y (ValueIdx.ix2 k q) : EReal) :=
  nn (φ₁ := .bf16) (φ₂ := .bf16) _ x y p q

/-- The reference's result at one entry. -/
theorem ref (x0 : (⟨S2048x1024, .bf16⟩ : BufTy).Contents (Elt Ideal)) (x1 : (⟨S1024x256, .bf16⟩ : BufTy).Contents (Elt Ideal))
    (p : Fin 2048) (q : Fin 256) :
    (Cert.Reference16Ideal.Read.val_main_v2 (F := Ideal) x0 x1 (ValueIdx.ix2 p q) : EReal)
      = ∑ k : Fin 1024, (x0 (ValueIdx.ix2 p k) : EReal) * (x1 (ValueIdx.ix2 k q) : EReal) := by
  refine Eq.trans (Cert.Reference16Ideal.Read.val_main_v2_apply x0 x1 _) ?_
  refine Finset.sum_congr rfl fun k _ => ?_
  refine congrArg₂ (fun a b : EReal => a * b) (congrArg x0 (eq_ix2_of _ _ _ rfl rfl)) (congrArg x1 (eq_ix2_of _ _ _ rfl rfl))

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

theorem blk0 (t : Fin cfg0.N) (p : Fin 2048) (q : Fin 1024) :
    iblk m c 0 t (ValueIdx.ix2 p q) = m ((c : Thread nD τ).loc main_arg0) (ValueIdx.ix2 p q) := by
  have e := (idx t).1
  blk_ext [iblk, V, e]

theorem blk1 (t : Fin cfg0.N) (p : Fin 1024) (q : Fin 256) :
    iblk m c 1 t (ValueIdx.ix2 p q) = m ((c : Thread nD τ).loc main_arg1) (ValueIdx.ix2 p q) := by
  have e := (idx t).2.1
  blk_ext [iblk, V, e]

/-- What point `t` leaves in its block: the reference's entries there. -/
theorem point (t : Fin cfg0.N) (p : Fin 2048) (q : Fin 256) :
    out0_2 (iblk m c 0 t) (iblk m c 1 t) (ValueIdx.ix2 p q)
      = Cert.Reference16Ideal.Read.val_main_v2 (F := Ideal) (m ((c : Thread nD τ).loc main_arg0)) (m ((c : Thread nD τ).loc main_arg1))
          (ValueIdx.ix2 p q) := by
  unfold out0_2
  frame_out
  refine (pay _ _ _ _).trans ((ref _ _ _ _).trans ?_).symm
  refine Finset.sum_congr rfl fun k _ => ?_
  exact congrArg₂ (fun a b : EReal => a * b) (blk0 m c t p k).symm (blk1 m c t k q).symm

/-- The array after the run is the reference's result. -/
theorem final : (dats m 0 c).arrAt 2 cfg0.N
    = Cert.Reference16Ideal.Read.val_main_v2 (F := Ideal) (m ((c : Thread nD τ).loc main_arg0)) (m ((c : Thread nD τ).loc main_arg1)) := by
  refine (dats m 0 c).arrAt_eq_of_covers 2 _ (by decide +kernel) fun t _ y => ?_
  have e := (idx t).2.2
  blk_simp [e]
  rw [after0_2]
  have h0 : (y 0).val < 2048 := (y 0).isLt
  have h1 : (y 1).val < 256 := (y 1).isLt
  have ht : t.val < 1 := t.isLt
  have q : (win0_2.blk t).view.emb y = ValueIdx.ix2 (⟨(y 0).val, h0⟩ : Fin 2048) (⟨(y 1).val, h1⟩ : Fin 256) := by
    refine eq_ix2_of _ _ _ ?_ ?_
    · show win0_2.index t 0 * 2048 + 1 * (y 0).val = (y 0).val
      rw [e]
      simp
    · show win0_2.index t 1 * 256 + 1 * (y 1).val = (y 1).val
      rw [e]
      simp
  rw [q]
  exact (congrArg _ (eq_ix2_of y ⟨(y 0).val, h0⟩ ⟨(y 1).val, h1⟩ rfl rfl)).trans (point m c t ⟨(y 0).val, h0⟩ ⟨(y 1).val, h1⟩)

/-- The kernel and the reference leave the same arrays. -/
theorem algebraic : Cert.algebraic_Kernel16Ideal_Reference16Ideal := by
  pair_intro
  · run_from Cert.Kernel16Ideal.Value.run_blocks m g
  · refine θ_run_mono (Cert.Reference16Ideal.Value.run m' g') ?_
    intro r hr c
    obtain ⟨h0, ha⟩ := hr c
    refine ⟨h0.trans ?_, ha⟩
    obtain ⟨e0, e1⟩ := hagree c
    refine (Cert.Reference16Ideal.Read.val_main_v2_eq _ _).trans ?_
    rw [e0, e1]
    exact (final m c).symm

end Cert.Mlp.ProjKv

end
-- ==== Proof.Mlp.DwKv.lean ====
module

public import proofs.«01_k».proof.Defs
public import proofs.«01_k».proof.Proof.Mlp.Dots
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Claim

/-! The gradient of the second attention's key and value weights. -/

@[expose] public section

set_option maxRecDepth 16384

noncomputable section

namespace Cert.Mlp.DwKv

open Idealize.SL.Sem Idealize.ShloMosaic Idealize.ShloMosaic.TcCoe Cert.Kernel17Ideal Cert.Kernel17Ideal.Gen

/-- The body's result at one entry of its block. -/
theorem pay (x : Vec Ideal S2048x1024 .bf16) (y : Vec Ideal S2048x256 .bf16) (p : Fin 1024) (q : Fin 256) :
    (k0_pay1 (F := Ideal) x y (ValueIdx.ix2 p q) : EReal) = ∑ k : Fin 2048, (x (ValueIdx.ix2 k p) : EReal) * (y (ValueIdx.ix2 k q) : EReal) :=
  tn (φ₁ := .bf16) (φ₂ := .bf16) _ x y p q

/-- The reference's result at one entry. -/
theorem ref (x0 : (⟨S2048x1024, .bf16⟩ : BufTy).Contents (Elt Ideal)) (x1 : (⟨S2048x256, .bf16⟩ : BufTy).Contents (Elt Ideal))
    (p : Fin 1024) (q : Fin 256) :
    (Cert.Reference17Ideal.Read.val_main_v6 (F := Ideal) x0 x1 (ValueIdx.ix2 p q) : EReal)
      = ∑ k : Fin 2048, (x0 (ValueIdx.ix2 k p) : EReal) * (x1 (ValueIdx.ix2 k q) : EReal) := by
  rw [Cert.Reference17Ideal.Read.val_main_v6_apply, Cert.Reference17Ideal.Read.val_main_v5_apply]
  refine Eq.trans (Cert.Reference17Ideal.Read.val_main_v4_apply x0 x1 _) ?_
  refine Finset.sum_congr rfl fun k _ => ?_
  rw [mul_comm]
  refine congrArg₂ (fun a b : EReal => a * b) (congrArg x0 (eq_ix2_of _ _ _ rfl rfl)) (congrArg x1 (eq_ix2_of _ _ _ rfl rfl))

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

theorem blk0 (t : Fin cfg0.N) (p : Fin 2048) (q : Fin 1024) :
    iblk m c 0 t (ValueIdx.ix2 p q) = m ((c : Thread nD τ).loc main_arg0) (ValueIdx.ix2 p q) := by
  have e := (idx t).1
  blk_ext [iblk, V, e]

theorem blk1 (t : Fin cfg0.N) (p : Fin 2048) (q : Fin 256) :
    iblk m c 1 t (ValueIdx.ix2 p q) = m ((c : Thread nD τ).loc main_arg1) (ValueIdx.ix2 p q) := by
  have e := (idx t).2.1
  blk_ext [iblk, V, e]

/-- What point `t` leaves in its block: the reference's entries there. -/
theorem point (t : Fin cfg0.N) (p : Fin 1024) (q : Fin 256) :
    out0_2 (iblk m c 0 t) (iblk m c 1 t) (ValueIdx.ix2 p q)
      = Cert.Reference17Ideal.Read.val_main_v6 (F := Ideal) (m ((c : Thread nD τ).loc main_arg0)) (m ((c : Thread nD τ).loc main_arg1))
          (ValueIdx.ix2 p q) := by
  unfold out0_2
  frame_out
  refine (pay _ _ _ _).trans ((ref _ _ _ _).trans ?_).symm
  refine Finset.sum_congr rfl fun k _ => ?_
  exact congrArg₂ (fun a b : EReal => a * b) (blk0 m c t k p).symm (blk1 m c t k q).symm

/-- The array after the run is the reference's result. -/
theorem final : (dats m 0 c).arrAt 2 cfg0.N
    = Cert.Reference17Ideal.Read.val_main_v6 (F := Ideal) (m ((c : Thread nD τ).loc main_arg0)) (m ((c : Thread nD τ).loc main_arg1)) := by
  refine (dats m 0 c).arrAt_eq_of_covers 2 _ (by decide +kernel) fun t _ y => ?_
  have e := (idx t).2.2
  blk_simp [e]
  rw [after0_2]
  have h0 : (y 0).val < 1024 := (y 0).isLt
  have h1 : (y 1).val < 256 := (y 1).isLt
  have ht : t.val < 1 := t.isLt
  have q : (win0_2.blk t).view.emb y = ValueIdx.ix2 (⟨(y 0).val, h0⟩ : Fin 1024) (⟨(y 1).val, h1⟩ : Fin 256) := by
    refine eq_ix2_of _ _ _ ?_ ?_
    · show win0_2.index t 0 * 1024 + 1 * (y 0).val = (y 0).val
      rw [e]
      simp
    · show win0_2.index t 1 * 256 + 1 * (y 1).val = (y 1).val
      rw [e]
      simp
  rw [q]
  exact (congrArg _ (eq_ix2_of y ⟨(y 0).val, h0⟩ ⟨(y 1).val, h1⟩ rfl rfl)).trans (point m c t ⟨(y 0).val, h0⟩ ⟨(y 1).val, h1⟩)

/-- The kernel and the reference leave the same arrays. -/
theorem algebraic : Cert.algebraic_Kernel17Ideal_Reference17Ideal := by
  pair_intro
  · run_from Cert.Kernel17Ideal.Value.run_blocks m g
  · refine θ_run_mono (Cert.Reference17Ideal.Value.run m' g') ?_
    intro r hr c
    obtain ⟨h0, ha⟩ := hr c
    refine ⟨h0.trans ?_, ha⟩
    obtain ⟨e0, e1⟩ := hagree c
    refine (Cert.Reference17Ideal.Read.val_main_v6_eq _ _).trans ?_
    rw [e0, e1]
    exact (final m c).symm

end Cert.Mlp.DwKv

end
-- ==== Proof.Mlp.DnKv.lean ====
module

public import proofs.«01_k».proof.Defs
public import proofs.«01_k».proof.Proof.Mlp.Dots
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Claim

/-! The gradient of the input of the second attention's key and value projection. -/

@[expose] public section

set_option maxRecDepth 16384

noncomputable section

namespace Cert.Mlp.DnKv

open Idealize.SL.Sem Idealize.ShloMosaic Idealize.ShloMosaic.TcCoe Cert.Kernel18Ideal Cert.Kernel18Ideal.Gen

/-- The body's result at one entry of its block. -/
theorem pay (x : Vec Ideal S1024x256 .bf16) (y : Vec Ideal S1024x256 .bf16) (p : Fin 1024) (q : Fin 1024) :
    (k0_pay1 (F := Ideal) x y (ValueIdx.ix2 p q) : EReal) = ∑ k : Fin 256, (x (ValueIdx.ix2 p k) : EReal) * (y (ValueIdx.ix2 q k) : EReal) :=
  nt (φ₁ := .bf16) (φ₂ := .bf16) _ x y p q

/-- The reference's result at one entry. -/
theorem ref (x0 : (⟨S2048x256, .bf16⟩ : BufTy).Contents (Elt Ideal)) (x1 : (⟨S1024x256, .bf16⟩ : BufTy).Contents (Elt Ideal))
    (p : Fin 2048) (q : Fin 1024) :
    (Cert.Reference18Ideal.Read.val_main_v4 (F := Ideal) x0 x1 (ValueIdx.ix2 p q) : EReal)
      = ∑ k : Fin 256, (x0 (ValueIdx.ix2 p k) : EReal) * (x1 (ValueIdx.ix2 q k) : EReal) := by
  refine Eq.trans (Cert.Reference18Ideal.Read.val_main_v4_apply x0 x1 _) ?_
  refine Finset.sum_congr rfl fun k _ => ?_
  refine congrArg₂ (fun a b : EReal => a * b) (congrArg x0 (eq_ix2_of _ _ _ rfl rfl)) (congrArg x1 (eq_ix2_of _ _ _ rfl rfl))

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem blk0 (t : Fin cfg0.N) (p : Fin 1024) (q : Fin 256) (h : t.val * 1024 + p.val < 2048) :
    iblk m c 0 t (ValueIdx.ix2 p q) = m ((c : Thread nD τ).loc main_arg0) (ValueIdx.ix2 ⟨t.val * 1024 + p.val, h⟩ q) := by
  have e := (idx t).1
  blk_ext [iblk, V, e]

theorem blk1 (t : Fin cfg0.N) (p : Fin 1024) (q : Fin 256) :
    iblk m c 1 t (ValueIdx.ix2 p q) = m ((c : Thread nD τ).loc main_arg1) (ValueIdx.ix2 p q) := by
  have e := (idx t).2.1
  blk_ext [iblk, V, e]

/-- What point `t` leaves in its block: the reference's entries there. -/
theorem point (t : Fin cfg0.N) (p : Fin 1024) (q : Fin 1024) (h : t.val * 1024 + p.val < 2048) :
    out0_2 (iblk m c 0 t) (iblk m c 1 t) (ValueIdx.ix2 p q)
      = Cert.Reference18Ideal.Read.val_main_v4 (F := Ideal) (m ((c : Thread nD τ).loc main_arg0)) (m ((c : Thread nD τ).loc main_arg1))
          (ValueIdx.ix2 ⟨t.val * 1024 + p.val, h⟩ q) := by
  unfold out0_2
  frame_out
  refine (pay _ _ _ _).trans ((ref _ _ _ _).trans ?_).symm
  refine Finset.sum_congr rfl fun k _ => ?_
  exact congrArg₂ (fun a b : EReal => a * b) (blk0 m c t p k h).symm (blk1 m c t q k).symm

/-- The array after the run is the reference's result. -/
theorem final : (dats m 0 c).arrAt 2 cfg0.N
    = Cert.Reference18Ideal.Read.val_main_v4 (F := Ideal) (m ((c : Thread nD τ).loc main_arg0)) (m ((c : Thread nD τ).loc main_arg1)) := by
  refine (dats m 0 c).arrAt_eq_of_covers 2 _ (by decide +kernel) fun t _ y => ?_
  have e := (idx t).2.2
  blk_simp [e]
  rw [after0_2]
  have h0 : (y 0).val < 1024 := (y 0).isLt
  have h1 : (y 1).val < 1024 := (y 1).isLt
  have ht : t.val < 2 := t.isLt
  have q : (win0_2.blk t).view.emb y = ValueIdx.ix2 (⟨t.val * 1024 + (y 0).val, by omega⟩ : Fin 2048) (⟨(y 1).val, h1⟩ : Fin 1024) := by
    refine eq_ix2_of _ _ _ ?_ ?_
    · show win0_2.index t 0 * 1024 + 1 * (y 0).val = t.val * 1024 + (y 0).val
      rw [e]
      simp
    · show win0_2.index t 1 * 1024 + 1 * (y 1).val = (y 1).val
      rw [e]
      simp
  rw [q]
  exact (congrArg _ (eq_ix2_of y ⟨(y 0).val, h0⟩ ⟨(y 1).val, h1⟩ rfl rfl)).trans (point m c t ⟨(y 0).val, h0⟩ ⟨(y 1).val, h1⟩ (by show t.val * 1024 + (y 0).val < 2048; omega))

/-- The kernel and the reference leave the same arrays. -/
theorem algebraic : Cert.algebraic_Kernel18Ideal_Reference18Ideal := by
  pair_intro
  · run_from Cert.Kernel18Ideal.Value.run_blocks m g
  · refine θ_run_mono (Cert.Reference18Ideal.Value.run m' g') ?_
    intro r hr c
    obtain ⟨h0, ha⟩ := hr c
    refine ⟨h0.trans ?_, ha⟩
    obtain ⟨e0, e1⟩ := hagree c
    refine (Cert.Reference18Ideal.Read.val_main_v4_eq _ _).trans ?_
    rw [e0, e1]
    exact (final m c).symm

end Cert.Mlp.DnKv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Fox.Values
public import proofs.«01_k».proof.Proof.Mlp.Du
public import proofs.«01_k».proof.Proof.Mlp.DwDown
public import proofs.«01_k».proof.Proof.Mlp.DwUp
public import proofs.«01_k».proof.Proof.Mlp.Up
public import proofs.«01_k».proof.Proof.Mlp.ProjIn
public import proofs.«01_k».proof.Proof.Mlp.DwIn
public import proofs.«01_k».proof.Proof.Mlp.Dn2
public import proofs.«01_k».proof.Proof.Mlp.DwQ
public import proofs.«01_k».proof.Proof.Mlp.ProjQ
public import proofs.«01_k».proof.Proof.Mlp.Do
public import proofs.«01_k».proof.Proof.Mlp.DwOut
public import proofs.«01_k».proof.Proof.Mlp.Out
public import proofs.«01_k».proof.Proof.Mlp.Down1
public import proofs.«01_k».proof.Proof.Mlp.Down0
public import proofs.«01_k».proof.Proof.Mlp.ProjKv
public import proofs.«01_k».proof.Proof.Mlp.DwKv
public import proofs.«01_k».proof.Proof.Mlp.DnKv
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem Cert.Kernel

/-- The reference ends with its arguments as they were and every counter at zero. -/
theorem reference_frame : Cert.quiescent_ReferenceIdeal := fun m g _ =>
  (θ_run _ _ _).mono (fun r h => And.intro (fun c => (h c).2.2.2.2.2.2)
    (sem_eq_zero_of_no_sems rfl r.2)) (Cert.ReferenceIdeal.Value.run m g)

theorem reference2_frame : Cert.quiescent_Reference2Ideal := fun m g _ =>
  (θ_run _ _ _).mono (fun r h => And.intro (fun c => (h c).2)
    (sem_eq_zero_of_no_sems rfl r.2)) (Cert.Reference2Ideal.Value.run m g)

theorem reference3_frame : Cert.quiescent_Reference3Ideal := fun m g _ =>
  (θ_run _ _ _).mono (fun r h => And.intro (fun c => (h c).2)
    (sem_eq_zero_of_no_sems rfl r.2)) (Cert.Reference3Ideal.Value.run m g)

theorem reference4_frame : Cert.quiescent_Reference4Ideal := fun m g _ =>
  (θ_run _ _ _).mono (fun r h => And.intro (fun c => (h c).2)
    (sem_eq_zero_of_no_sems rfl r.2)) (Cert.Reference4Ideal.Value.run m g)

theorem reference5_frame : Cert.quiescent_Reference5Ideal := fun m g _ =>
  (θ_run _ _ _).mono (fun r h => And.intro (fun c => (h c).2.2)
    (sem_eq_zero_of_no_sems rfl r.2)) (Cert.Reference5Ideal.Value.run m g)

theorem reference6_frame : Cert.quiescent_Reference6Ideal := fun m g _ =>
  (θ_run _ _ _).mono (fun r h => And.intro (fun c => (h c).2)
    (sem_eq_zero_of_no_sems rfl r.2)) (Cert.Reference6Ideal.Value.run m g)

theorem reference7_frame : Cert.quiescent_Reference7Ideal := fun m g _ =>
  (θ_run _ _ _).mono (fun r h => And.intro (fun c => (h c).2)
    (sem_eq_zero_of_no_sems rfl r.2)) (Cert.Reference7Ideal.Value.run m g)

theorem reference8_frame : Cert.quiescent_Reference8Ideal := fun m g _ =>
  (θ_run _ _ _).mono (fun r h => And.intro (fun c => (h c).2)
    (sem_eq_zero_of_no_sems rfl r.2)) (Cert.Reference8Ideal.Value.run m g)

theorem reference9_frame : Cert.quiescent_Reference9Ideal := fun m g _ =>
  (θ_run _ _ _).mono (fun r h => And.intro (fun c => (h c).2)
    (sem_eq_zero_of_no_sems rfl r.2)) (Cert.Reference9Ideal.Value.run m g)

theorem reference10_frame : Cert.quiescent_Reference10Ideal := fun m g _ =>
  (θ_run _ _ _).mono (fun r h => And.intro (fun c => (h c).2)
    (sem_eq_zero_of_no_sems rfl r.2)) (Cert.Reference10Ideal.Value.run m g)

theorem reference11_frame : Cert.quiescent_Reference11Ideal := fun m g _ =>
  (θ_run _ _ _).mono (fun r h => And.intro (fun c => (h c).2)
    (sem_eq_zero_of_no_sems rfl r.2)) (Cert.Reference11Ideal.Value.run m g)

theorem reference12_frame : Cert.quiescent_Reference12Ideal := fun m g _ =>
  (θ_run _ _ _).mono (fun r h => And.intro (fun c => (h c).2)
    (sem_eq_zero_of_no_sems rfl r.2)) (Cert.Reference12Ideal.Value.run m g)

theorem reference13_frame : Cert.quiescent_Reference13Ideal := fun m g _ =>
  (θ_run _ _ _).mono (fun r h => And.intro (fun c => (h c).2.2)
    (sem_eq_zero_of_no_sems rfl r.2)) (Cert.Reference13Ideal.Value.run m g)

theorem reference14_frame : Cert.quiescent_Reference14Ideal := fun m g _ =>
  (θ_run _ _ _).mono (fun r h => And.intro (fun c => (h c).2)
    (sem_eq_zero_of_no_sems rfl r.2)) (Cert.Reference14Ideal.Value.run m g)

theorem reference15_frame : Cert.quiescent_Reference15Ideal := fun m g _ =>
  (θ_run _ _ _).mono (fun r h => And.intro (fun c => (h c).2.2.2)
    (sem_eq_zero_of_no_sems rfl r.2)) (Cert.Reference15Ideal.Value.run m g)

theorem reference16_frame : Cert.quiescent_Reference16Ideal := fun m g _ =>
  (θ_run _ _ _).mono (fun r h => And.intro (fun c => (h c).2)
    (sem_eq_zero_of_no_sems rfl r.2)) (Cert.Reference16Ideal.Value.run m g)

theorem reference17_frame : Cert.quiescent_Reference17Ideal := fun m g _ =>
  (θ_run _ _ _).mono (fun r h => And.intro (fun c => (h c).2)
    (sem_eq_zero_of_no_sems rfl r.2)) (Cert.Reference17Ideal.Value.run m g)

theorem reference18_frame : Cert.quiescent_Reference18Ideal := fun m g _ =>
  (θ_run _ _ _).mono (fun r h => And.intro (fun c => (h c).2)
    (sem_eq_zero_of_no_sems rfl r.2)) (Cert.Reference18Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Fox.pre_facts,
  fun m ρ _ => Cert.Kernel.Gen.frame m ρ,
  fun m ρ _ => Cert.KernelIdeal.Gen.frame m ρ,
  fun m ρ _ => Cert.KernelIdeal.Gen.frame m ρ,
  reference_frame,
  fun m g _ => reference_frame m g trivial,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  reference6_frame,
  fun m ρ _ => Cert.Kernel7.Gen.frame m ρ,
  fun m ρ _ => Cert.Kernel7Ideal.Gen.frame m ρ,
  reference7_frame,
  fun m ρ _ => Cert.Kernel8.Gen.frame m ρ,
  fun m ρ _ => Cert.Kernel8Ideal.Gen.frame m ρ,
  reference8_frame,
  fun m ρ _ => Cert.Kernel9.Gen.frame m ρ,
  fun m ρ _ => Cert.Kernel9Ideal.Gen.frame m ρ,
  reference9_frame,
  fun m ρ _ => Cert.Kernel10.Gen.frame m ρ,
  fun m ρ _ => Cert.Kernel10Ideal.Gen.frame m ρ,
  reference10_frame,
  fun m ρ _ => Cert.Kernel11.Gen.frame m ρ,
  fun m ρ _ => Cert.Kernel11Ideal.Gen.frame m ρ,
  reference11_frame,
  fun m ρ _ => Cert.Kernel12.Gen.frame m ρ,
  fun m ρ _ => Cert.Kernel12Ideal.Gen.frame m ρ,
  reference12_frame,
  fun m ρ _ => Cert.Kernel13.Gen.frame m ρ,
  fun m ρ _ => Cert.Kernel13Ideal.Gen.frame m ρ,
  reference13_frame,
  fun m ρ _ => Cert.Kernel14.Gen.frame m ρ,
  fun m ρ _ => Cert.Kernel14Ideal.Gen.frame m ρ,
  reference14_frame,
  fun m ρ _ => Cert.Kernel15.Gen.frame m ρ,
  fun m ρ _ => Cert.Kernel15Ideal.Gen.frame m ρ,
  reference15_frame,
  fun m ρ _ => Cert.Kernel16.Gen.frame m ρ,
  fun m ρ _ => Cert.Kernel16Ideal.Gen.frame m ρ,
  reference16_frame,
  fun m ρ _ => Cert.Kernel17.Gen.frame m ρ,
  fun m ρ _ => Cert.Kernel17Ideal.Gen.frame m ρ,
  reference17_frame,
  fun m ρ _ => Cert.Kernel18.Gen.frame m ρ,
  fun m ρ _ => Cert.Kernel18Ideal.Gen.frame m ρ,
  reference18_frame,
  trivial,
  Cert.Fox.algebraic,
  trivial,
  Cert.Mlp.Du.algebraic,
  trivial,
  Cert.Mlp.DwDown.algebraic,
  trivial,
  Cert.Mlp.DwUp.algebraic,
  trivial,
  Cert.Mlp.Up.algebraic,
  trivial,
  Cert.Mlp.ProjIn.algebraic,
  trivial,
  Cert.Mlp.DwIn.algebraic,
  trivial,
  Cert.Mlp.Dn2.algebraic,
  trivial,
  Cert.Mlp.DwQ.algebraic,
  trivial,
  Cert.Mlp.ProjQ.algebraic,
  trivial,
  Cert.Mlp.Do.algebraic,
  trivial,
  Cert.Mlp.DwOut.algebraic,
  trivial,
  Cert.Mlp.Out.algebraic,
  trivial,
  Cert.Mlp.Down1.algebraic,
  trivial,
  Cert.Mlp.Down0.algebraic,
  trivial,
  Cert.Mlp.ProjKv.algebraic,
  trivial,
  Cert.Mlp.DwKv.algebraic,
  trivial,
  Cert.Mlp.DnKv.algebraic⟩

end Cert.Proof

end
